-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_and_finite [hPre_sorted_and_finite : Cert.Pre_sorted_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_and_finite [hPre_sorted_and_finite : Cert.Pre_sorted_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_sorted_and_finite [hKernelIdeal : Cert.KernelIdeal.Facts] [hPre_sorted_and_finite : Cert.Pre_sorted_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_sorted_and_finite [hReferenceIdeal : Cert.ReferenceIdeal.Facts] [hPre_sorted_and_finite : Cert.Pre_sorted_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_sorted_and_finite [hKernelIdeal : Cert.KernelIdeal.Facts] [hReferenceIdeal : Cert.ReferenceIdeal.Facts] [hPre_sorted_and_finite : Cert.Pre_sorted_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_sorted_and_finite : Cert.Pre_sorted_and_finite.Facts),
    quiescent_Kernel (hKernel := hKernel)
    ∧ quiescent_KernelIdeal (hKernelIdeal := hKernelIdeal)
    ∧ quiescent_KernelIdeal_pre_sorted_and_finite (hKernelIdeal := hKernelIdeal) (hPre_sorted_and_finite := hPre_sorted_and_finite)
    ∧ quiescent_ReferenceIdeal (hReferenceIdeal := hReferenceIdeal)
    ∧ quiescent_ReferenceIdeal_pre_sorted_and_finite (hReferenceIdeal := hReferenceIdeal) (hPre_sorted_and_finite := hPre_sorted_and_finite)
    ∧ preserves_Kernel_KernelIdeal
    ∧ algebraic_KernelIdeal_ReferenceIdeal_pre_sorted_and_finite (hKernelIdeal := hKernelIdeal) (hReferenceIdeal := hReferenceIdeal) (hPre_sorted_and_finite := hPre_sorted_and_finite)
-- ==== Pre_sorted_and_finite.lean ====
abbrev S640000x4 : Shape := ⟨2, ![640000, 4]⟩
abbrev S640000x3 : Shape := ⟨2, ![640000, 3]⟩
abbrev S640000 : Shape := ⟨1, ![640000]⟩
abbrev S10000 : Shape := ⟨1, ![10000]⟩
abbrev S7x64 : Shape := ⟨2, ![7, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S639999 : Shape := ⟨1, ![639999]⟩
abbrev S_ : Shape := ⟨0, ![]⟩

class Facts : Prop where
  slices_S640000_S639999_1 : S640000.Slices ![1] S639999
  slices_S640000_S639999_0 : S640000.Slices ![0] S639999
  bcast_S_S640000x4 : S_.BroadcastsInDim S640000x4 (![] : Fin 0 → Fin S640000x4.rank)
  reducesTo_S640000x4_S_d0_1 : S640000x4.ReducesTo [0, 1] S_
  h_S_ : 0 < S_.numel
  bcast_S_S640000x3 : S_.BroadcastsInDim S640000x3 (![] : Fin 0 → Fin S640000x3.rank)
  reducesTo_S640000x3_S_d0_1 : S640000x3.ReducesTo [0, 1] S_
  bcast_S_S7x64 : S_.BroadcastsInDim S7x64 (![] : Fin 0 → Fin S7x64.rank)
  reducesTo_S7x64_S_d0_1 : S7x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64x64 .f32) (main_arg7 : FVec F S64 .f32) (main_v2 : IVec S639999 1) (main_v6 : IVec S_ 1) (main_v10 : IVec S_ 1) (main_v14 : IVec S_ 1) (main_v15 : FVec F S64 .f32) (main_v16 : FVec F S64 .f32) : IVec S639999 1 × IVec S_ 1 × IVec S_ 1 × IVec S_ 1 × IVec S_ 1 × IVec S_ 1 × IVec S_ 1 :=
  let main_v17 : IVec S64 1 := cmpf .olt main_v15 main_v16
  let main_c_5 : IVec S_ 1 := constantI S_ 1 1#1
  let main_v18 : IVec S_ 1 := (fun x v => Host.reduce IntOp.andi x v reducesTo_S64_S_d0 h_S_) main_v17 main_c_5
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : FVec F S64 .f32 := Host.absf main_arg7
  let main_cst_8 : FVec F S_ .f32 := constant S_ .f32 0x7F800000#32
  let main_v24 : FVec F S64 .f32 := broadcastInDim S64 ![] bcast_S_S64 main_cst_8
  let main_v25 : IVec S64 1 := cmpf .olt main_v23 main_v24
  let main_c_9 : IVec S_ 1 := constantI S_ 1 1#1
  let main_v26 : IVec S_ 1 := (fun x v => Host.reduce IntOp.andi x v reducesTo_S64_S_d0 h_S_) main_v25 main_c_9
  (main_v2, main_v6, main_v10, main_v14, main_v18, main_v22, main_v26)

def fn {F : FTy → Type} [FloatOps F] (main_arg0 : FVec F S640000x4 .f32) (main_arg1 : FVec F S640000x3 .f32) (main_arg2 : IVec S640000 32) (main_arg3 : IVec S10000 32) (main_arg4 : FVec F S7x64 .f32) (main_arg5 : FVec F S64 .f32) (main_arg6 : FVec F S64x64 .f32) (main_arg7 : FVec F S64 .f32) (main_arg8 : FVec F S64x4 .f32) (main_arg9 : FVec F S4 .f32) : IVec S639999 1 × IVec S_ 1 × IVec S_ 1 × IVec S_ 1 × IVec S_ 1 × IVec S_ 1 × IVec S_ 1 :=
  let main_v0 : IVec S639999 32 := (extractStridedSlice S639999 ![1] · slices_S640000_S639999_1) main_arg2
  let main_v1 : IVec S639999 32 := (extractStridedSlice S639999 ![0] · slices_S640000_S639999_0) main_arg2
  let main_v2 : IVec S639999 1 := cmpi .sge main_v0 main_v1
  let main_v3 : FVec F S640000x4 .f32 := Host.absf main_arg0
  let main_cst : FVec F S_ .f32 := constant S_ .f32 0x7F800000#32
  let main_v4 : FVec F S640000x4 .f32 := broadcastInDim S640000x4 ![] bcast_S_S640000x4 main_cst
  let main_v5 : IVec S640000x4 1 := cmpf .olt main_v3 main_v4
  let main_c : IVec S_ 1 := constantI S_ 1 1#1
  let main_v6 : IVec S_ 1 := (fun x v => Host.reduce IntOp.andi x v reducesTo_S640000x4_S_d0_1 h_S_) main_v5 main_c
  let main_v7 : FVec F S640000x3 .f32 := Host.absf main_arg1
  let main_cst_0 : FVec F S_ .f32 := constant S_ .f32 0x7F800000#32
  let main_v8 : FVec F S640000x3 .f32 := broadcastInDim S640000x3 ![] bcast_S_S640000x3 main_cst_0
  let main_v9 : IVec S640000x3 1 := cmpf .olt main_v7 main_v8
  let main_c_1 : IVec S_ 1 := constantI S_ 1 1#1
  let main_v10 : IVec S_ 1 := (fun x v => Host.reduce IntOp.andi x v reducesTo_S640000x3_S_d0_1 h_S_) main_v9 main_c_1
  let main_v11 : FVec F S7x64 .f32 := Host.absf main_arg4
  let main_cst_2 : FVec F S_ .f32 := constant S_ .f32 0x7F800000#32
  let main_v12 : FVec F S7x64 .f32 := broadcastInDim S7x64 ![] bcast_S_S7x64 main_cst_2
  let main_v13 : IVec S7x64 1 := cmpf .olt main_v11 main_v12
  let main_c_3 : IVec S_ 1 := constantI S_ 1 1#1
  let main_v14 : IVec S_ 1 := (fun x v => Host.reduce IntOp.andi x v reducesTo_S7x64_S_d0_1 h_S_) main_v13 main_c_3
  let main_v15 : FVec F S64 .f32 := Host.absf main_arg5
  let main_cst_4 : FVec F S_ .f32 := constant S_ .f32 0x7F800000#32
  let main_v16 : FVec F S64 .f32 := broadcastInDim S64 ![] bcast_S_S64 main_cst_4
  fn_part1 (F := F) main_arg6 main_arg7 main_v2 main_v6 main_v10 main_v14 main_v15 main_v16
-- ==== Kernel.lean ====
abbrev S640000x4 : Shape := ⟨2, ![640000, 4]⟩
abbrev S640000x3 : Shape := ⟨2, ![640000, 3]⟩
abbrev S640000 : Shape := ⟨1, ![640000]⟩
abbrev S10000 : Shape := ⟨1, ![10000]⟩
abbrev S7x64 : Shape := ⟨2, ![7, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S33 : Shape := ⟨1, ![33]⟩
abbrev S_ : Shape := ⟨0, ![]⟩
abbrev S1x33 : Shape := ⟨2, ![1, 33]⟩
abbrev S640000x1 : Shape := ⟨2, ![640000, 1]⟩
abbrev S640000x33 : Shape := ⟨2, ![640000, 33]⟩
abbrev S48 : Shape := ⟨1, ![48]⟩
abbrev S4x640000 : Shape := ⟨2, ![4, 640000]⟩
abbrev S3x640000 : Shape := ⟨2, ![3, 640000]⟩
abbrev S7x640000 : Shape := ⟨2, ![7, 640000]⟩
abbrev S1x64 : Shape := ⟨2, ![1, 64]⟩
abbrev S8x64 : Shape := ⟨2, ![8, 64]⟩
abbrev S64x8 : Shape := ⟨2, ![64, 8]⟩
abbrev S8 : Shape := ⟨1, ![8]⟩
abbrev S1x8 : Shape := ⟨2, ![1, 8]⟩
abbrev S8x8 : Shape := ⟨2, ![8, 8]⟩
abbrev S240 : Shape := ⟨1, ![240]⟩
abbrev S10240 : Shape := ⟨1, ![10240]⟩
abbrev S1x10240 : Shape := ⟨2, ![1, 10240]⟩
abbrev S8x10240 : Shape := ⟨2, ![8, 10240]⟩
abbrev S640000x64 : Shape := ⟨2, ![640000, 64]⟩
abbrev S7x5120 : Shape := ⟨2, ![7, 5120]⟩
abbrev S5120x64 : Shape := ⟨2, ![5120, 64]⟩
abbrev S10240x64 : Shape := ⟨2, ![10240, 64]⟩
abbrev S512 : Shape := ⟨1, ![512]⟩
abbrev S512x64 : Shape := ⟨2, ![512, 64]⟩
abbrev S336x64 : Shape := ⟨2, ![336, 64]⟩
abbrev S16 : Shape := ⟨1, ![16]⟩
abbrev S1 : Shape := ⟨1, ![1]⟩
abbrev S1x16 : Shape := ⟨2, ![1, 16]⟩
abbrev S320x64 : Shape := ⟨2, ![320, 64]⟩
abbrev S16x4 : Shape := ⟨2, ![16, 4]⟩
abbrev S10240x8 : Shape := ⟨2, ![10240, 8]⟩
abbrev S16x10240 : Shape := ⟨2, ![16, 10240]⟩
abbrev S16x8 : Shape := ⟨2, ![16, 8]⟩
abbrev S16x1 : Shape := ⟨2, ![16, 1]⟩

abbrev nBuf : Table → Nat
  | .hbm => 54
  | .local .tc .vmem => 13
  | .local .scVector .vmem => 5
  | _ => 0

abbrev bufTy : (tb : Table) → Fin (nBuf tb) → BufTy
  | .hbm, ⟨0, _⟩ => ⟨S640000x4, .f32⟩
  | .hbm, ⟨1, _⟩ => ⟨S640000x3, .f32⟩
  | .hbm, ⟨2, _⟩ => ⟨S640000, .i32⟩
  | .hbm, ⟨3, _⟩ => ⟨S10000, .i32⟩
  | .hbm, ⟨4, _⟩ => ⟨S7x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x4, .f32⟩
  | .hbm, ⟨9, _⟩ => ⟨S4, .f32⟩
  | .hbm, ⟨10, _⟩ => ⟨S33, .i32⟩
  | .hbm, ⟨11, _⟩ => ⟨S_, .i32⟩
  | .hbm, ⟨12, _⟩ => ⟨S33, .i32⟩
  | .hbm, ⟨13, _⟩ => ⟨S33, .i32⟩
  | .hbm, ⟨14, _⟩ => ⟨S_, .i32⟩
  | .hbm, ⟨15, _⟩ => ⟨S33, .i32⟩
  | .hbm, ⟨16, _⟩ => ⟨S33, .i32⟩
  | .hbm, ⟨17, _⟩ => ⟨S1x33, .i32⟩
  | .hbm, ⟨18, _⟩ => ⟨S640000x1, .i32⟩
  | .hbm, ⟨19, _⟩ => ⟨S640000x33, .i32⟩
  | .hbm, ⟨20, _⟩ => ⟨S640000x33, .i32⟩
  | .hbm, ⟨21, _⟩ => ⟨S640000x33, .i1⟩
  | .hbm, ⟨22, _⟩ => ⟨S640000x33, .i32⟩
  | .hbm, ⟨23, _⟩ => ⟨S_, .i32⟩
  | .hbm, ⟨24, _⟩ => ⟨S33, .i32⟩
  | .hbm, ⟨25, _⟩ => ⟨S_, .i32⟩
  | .hbm, ⟨26, _⟩ => ⟨S_, .i32⟩
  | .hbm, ⟨27, _⟩ => ⟨S48, .i32⟩
  | .hbm, ⟨28, _⟩ => ⟨S4x640000, .f32⟩
  | .hbm, ⟨29, _⟩ => ⟨S3x640000, .f32⟩
  | .hbm, ⟨30, _⟩ => ⟨S7x640000, .f32⟩
  | .hbm, ⟨31, _⟩ => ⟨S7x640000, .bf16⟩
  | .hbm, ⟨32, _⟩ => ⟨S7x64, .bf16⟩
  | .hbm, ⟨33, _⟩ => ⟨S1x64, .f32⟩
  | .hbm, ⟨34, _⟩ => ⟨S8x64, .f32⟩
  | .hbm, ⟨35, _⟩ => ⟨S64x64, .bf16⟩
  | .hbm, ⟨36, _⟩ => ⟨S1x64, .f32⟩
  | .hbm, ⟨37, _⟩ => ⟨S8x64, .f32⟩
  | .hbm, ⟨38, _⟩ => ⟨S_, .i32⟩
  | .hbm, ⟨39, _⟩ => ⟨S_, .f32⟩
  | .hbm, ⟨40, _⟩ => ⟨S64x8, .f32⟩
  | .hbm, ⟨41, _⟩ => ⟨S_, .i32⟩
  | .hbm, ⟨42, _⟩ => ⟨S_, .f32⟩
  | .hbm, ⟨43, _⟩ => ⟨S8, .f32⟩
  | .hbm, ⟨44, _⟩ => ⟨S1x8, .f32⟩
  | .hbm, ⟨45, _⟩ => ⟨S8x8, .f32⟩
  | .hbm, ⟨46, _⟩ => ⟨S_, .i32⟩
  | .hbm, ⟨47, _⟩ => ⟨S240, .i32⟩
  | .hbm, ⟨48, _⟩ => ⟨S10240, .i32⟩
  | .hbm, ⟨49, _⟩ => ⟨S1x10240, .i32⟩
  | .hbm, ⟨50, _⟩ => ⟨S8x10240, .i32⟩
  | .hbm, ⟨51, _⟩ => ⟨S640000x64, .f32⟩
  | .hbm, ⟨52, _⟩ => ⟨S10240x64, .f32⟩
  | .hbm, ⟨53, _⟩ => ⟨S16x4, .f32⟩
  | .local .tc .vmem, ⟨0, _⟩ => ⟨S7x5120, .bf16⟩
  | .local .tc .vmem, ⟨1, _⟩ => ⟨S7x5120, .bf16⟩
  | .local .tc .vmem, ⟨2, _⟩ => ⟨S7x64, .bf16⟩
  | .local .tc .vmem, ⟨3, _⟩ => ⟨S8x64, .f32⟩
  | .local .tc .vmem, ⟨4, _⟩ => ⟨S64x64, .bf16⟩
  | .local .tc .vmem, ⟨5, _⟩ => ⟨S8x64, .f32⟩
  | .local .tc .vmem, ⟨6, _⟩ => ⟨S5120x64, .f32⟩
  | .local .tc .vmem, ⟨7, _⟩ => ⟨S5120x64, .f32⟩
  | .local .tc .vmem, ⟨8, _⟩ => ⟨S10240x64, .f32⟩
  | .local .tc .vmem, ⟨9, _⟩ => ⟨S64x8, .f32⟩
  | .local .tc .vmem, ⟨10, _⟩ => ⟨S8x8, .f32⟩
  | .local .tc .vmem, ⟨11, _⟩ => ⟨S8x10240, .i32⟩
  | .local .tc .vmem, ⟨12, _⟩ => ⟨S16x4, .f32⟩
  | .local .scVector .vmem, ⟨0, _⟩ => ⟨S48, .i32⟩
  | .local .scVector .vmem, ⟨1, _⟩ => ⟨S512, .i32⟩
  | .local .scVector .vmem, ⟨2, _⟩ => ⟨S512x64, .f32⟩
  | .local .scVector .vmem, ⟨3, _⟩ => ⟨S336x64, .f32⟩
  | .local .scVector .vmem, ⟨4, _⟩ => ⟨S8x64, .f32⟩
  | _, _ => ⟨S640000x4, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_c : Ref sig .tc := ⟨.hbm, 23, rfl⟩
abbrev main_v5 : Ref sig .tc := ⟨.hbm, 24, rfl⟩
abbrev main_c_1 : Ref sig .tc := ⟨.hbm, 25, rfl⟩
abbrev main_call1_v0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_call2_v0 : Ref sig .tc := ⟨.hbm, 39, rfl⟩
abbrev main_v17 : Ref sig .tc := ⟨.hbm, 40, rfl⟩
abbrev main_c_3 : Ref sig .tc := ⟨.hbm, 41, rfl⟩
abbrev main_call3_v0 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v25_scv : Ref sig .scVector := ⟨.hbm, 51, rfl⟩
abbrev main_arg2_scv : Ref sig .scVector := ⟨.hbm, 2, rfl⟩
abbrev main_v6_scv : Ref sig .scVector := ⟨.hbm, 27, rfl⟩
abbrev main_v26_scv : Ref sig .scVector := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5120x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : Index := Scalar.indexCast v1
  ![v2.toNat]
@[reducible] def k1_t1_loop : Scf.Loop 32 :=
  let c0_i32_0 : BitVec 32 := 0#32
  let c336_i32 : BitVec 32 := 336#32
  let v11 : BitVec 32 := Scalar.addi c0_i32_0 c336_i32
  let c1_i32 : BitVec 32 := 1#32
  ⟨c0_i32_0, v11, c1_i32⟩
def k1_off2 (k1_t1 : Fin k1_t1_loop.trips) : Fin 2 → Nat :=
  let c0_i32_0 : BitVec 32 := 0#32
  let c1_i32 : BitVec 32 := 1#32
  let arg11 : BitVec 32 := Scf.iv c0_i32_0 c1_i32 k1_t1
  let v100 : Index := Scalar.indexCast arg11
  let c0_34 : Index := 0#32
  ![v100.toNat, 0]
def k1_off3 (k1_t1 : Fin k1_t1_loop.trips) : Fin 2 → Nat :=
  let c0_i32_0 : BitVec 32 := 0#32
  let c1_i32 : BitVec 32 := 1#32
  let arg11 : BitVec 32 := Scf.iv c0_i32_0 c1_i32 k1_t1
  let v105 : Index := Scalar.indexCast arg11
  let c16_36 : Index := 16#32
  ![v105.toNat, 16]
def k1_off4 (k1_t1 : Fin k1_t1_loop.trips) : Fin 2 → Nat :=
  let c0_i32_0 : BitVec 32 := 0#32
  let c1_i32 : BitVec 32 := 1#32
  let arg11 : BitVec 32 := Scf.iv c0_i32_0 c1_i32 k1_t1
  let v110 : Index := Scalar.indexCast arg11
  let c32_38 : Index := 32#32
  ![v110.toNat, 32]
def k1_off5 (k1_t1 : Fin k1_t1_loop.trips) : Fin 2 → Nat :=
  let c0_i32_0 : BitVec 32 := 0#32
  let c1_i32 : BitVec 32 := 1#32
  let arg11 : BitVec 32 := Scf.iv c0_i32_0 c1_i32 k1_t1
  let v115 : Index := Scalar.indexCast arg11
  let c48_40 : Index := 48#32
  ![v115.toNat, 48]
@[reducible] def k1_t2_loop (v6 : BitVec 32) (v8 : BitVec 32) : Scf.Loop 32 :=
  let c0_i32_12 : BitVec 32 := 0#32
  let c_m16_i32 : BitVec 32 := 4294967280#32
  let v9 : BitVec 32 := Scalar.andi v6 c_m16_i32
  let v12 : BitVec 32 := Scalar.subi v8 v9
  let c511_i32 : BitVec 32 := 511#32
  let v13 : BitVec 32 := Scalar.addi v12 c511_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c512_i32 : BitVec 32 := 512#32
  let c0_i32_4 : BitVec 32 := 0#32
  let v20 : BitVec 1 := Scalar.cmpi .sgt c512_i32 c0_i32_4
  let v21 : BitVec 32 := Scalar.extui v20
  let c0_i32_5 : BitVec 32 := 0#32
  let v22 : BitVec 1 := Scalar.cmpi .slt c512_i32 c0_i32_5
  let v23 : BitVec 32 := Scalar.extui v22
  let v24 : BitVec 32 := Scalar.subi v21 v23
  let v25 : BitVec 1 := Scalar.cmpi .ne v19 v24
  let v26 : BitVec 32 := Scalar.remsi v13 c512_i32
  let c0_i32_6 : BitVec 32 := 0#32
  let v27 : BitVec 1 := Scalar.cmpi .ne v26 c0_i32_6
  let v28 : BitVec 1 := Scalar.andi v25 v27
  let v14 : BitVec 32 := Scalar.divsi v13 c512_i32
  let c1_i32_7 : BitVec 32 := 1#32
  let v29 : BitVec 32 := Scalar.subi v14 c1_i32_7
  let v30 : BitVec 32 := Scalar.select v28 v29 v14
  let v48 : BitVec 32 := Scalar.subi v30 c0_i32_12
  let c1_i32_14 : BitVec 32 := 1#32
  let v50 : BitVec 32 := Scalar.divsi v48 c1_i32_14
  let v51 : BitVec 32 := Scalar.muli v50 c1_i32_14
  let v52 : BitVec 32 := Scalar.addi c0_i32_12 v51
  let c1_i32_15 : BitVec 32 := 1#32
  ⟨c0_i32_12, v52, c1_i32_15⟩

def k1_mult1 (v6 : BitVec 32) (v8 : BitVec 32) (k1_t2 : Fin (k1_t2_loop v6 v8).trips) : BitVec 32 :=
  let c_m16_i32 : BitVec 32 := 4294967280#32
  let v9 : BitVec 32 := Scalar.andi v6 c_m16_i32
  let c0_i32_12 : BitVec 32 := 0#32
  let c1_i32_15 : BitVec 32 := 1#32
  let arg11 : BitVec 32 := Scf.iv c0_i32_12 c1_i32_15 k1_t2
  let c512_i32_33 : BitVec 32 := 512#32
  let v99 : BitVec 32 := Scalar.muli arg11 c512_i32_33
  let v100 : BitVec 32 := Scalar.addi v9 v99
  let c639488_i32 : BitVec 32 := 639488#32
  let v101 : BitVec 32 := Scalar.minsi v100 c639488_i32
  v101
def k1_off6 (v6 : BitVec 32) (v8 : BitVec 32) (k1_t2 : Fin (k1_t2_loop v6 v8).trips) : Fin 1 → Nat :=
  let c_m16_i32 : BitVec 32 := 4294967280#32
  let v9 : BitVec 32 := Scalar.andi v6 c_m16_i32
  let c0_i32_12 : BitVec 32 := 0#32
  let c1_i32_15 : BitVec 32 := 1#32
  let arg11 : BitVec 32 := Scf.iv c0_i32_12 c1_i32_15 k1_t2
  let c512_i32_33 : BitVec 32 := 512#32
  let v99 : BitVec 32 := Scalar.muli arg11 c512_i32_33
  let v100 : BitVec 32 := Scalar.addi v9 v99
  let c639488_i32 : BitVec 32 := 639488#32
  let v101 : BitVec 32 := Scalar.minsi v100 c639488_i32
  let v102 : BitVec 32 := v101
  ![v102.toNat]
def k1_off7 (v6 : BitVec 32) (v8 : BitVec 32) (k1_t2 : Fin (k1_t2_loop v6 v8).trips) : Fin 2 → Nat :=
  let c_m16_i32 : BitVec 32 := 4294967280#32
  let v9 : BitVec 32 := Scalar.andi v6 c_m16_i32
  let c0_i32_12 : BitVec 32 := 0#32
  let c1_i32_15 : BitVec 32 := 1#32
  let arg11 : BitVec 32 := Scf.iv c0_i32_12 c1_i32_15 k1_t2
  let c512_i32_33 : BitVec 32 := 512#32
  let v99 : BitVec 32 := Scalar.muli arg11 c512_i32_33
  let v100 : BitVec 32 := Scalar.addi v9 v99
  let c639488_i32 : BitVec 32 := 639488#32
  let v101 : BitVec 32 := Scalar.minsi v100 c639488_i32
  let v102 : BitVec 32 := v101
  let c0_i32_37_r2 : BitVec 32 := 0#32
  ![v102.toNat, 0]
@[reducible] def k1_t3_loop : Scf.Loop 32 :=
  let c0_i32_34 : BitVec 32 := 0#32
  let c32_i32 : BitVec 32 := 32#32
  let v103 : BitVec 32 := Scalar.addi c0_i32_34 c32_i32
  let c1_i32_35 : BitVec 32 := 1#32
  ⟨c0_i32_34, v103, c1_i32_35⟩
def k1_off8 (k1_t3 : Fin k1_t3_loop.trips) : Fin 1 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let v106 : Index := Scalar.indexCast v105
  ![v106.toNat]
def k1_off9 (k1_t3 : Fin k1_t3_loop.trips) (c0_i32_41 : BitVec 32) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let v126 : BitVec 32 := Scalar.addi v105 c0_i32_41
  let v127 : Index := Scalar.indexCast v126
  let c0_42 : Index := 0#32
  ![v127.toNat, 0]
def k1_off10 (k1_t3 : Fin k1_t3_loop.trips) (c0_i32_64 : BitVec 32) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let v213 : BitVec 32 := Scalar.addi v105 c0_i32_64
  let v214 : Index := Scalar.indexCast v213
  let c16_65 : Index := 16#32
  ![v214.toNat, 16]
def k1_off11 (k1_t3 : Fin k1_t3_loop.trips) (c0_i32_100 : BitVec 32) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let v300 : BitVec 32 := Scalar.addi v105 c0_i32_100
  let v301 : Index := Scalar.indexCast v300
  let c32_101 : Index := 32#32
  ![v301.toNat, 32]
def k1_off12 (k1_t3 : Fin k1_t3_loop.trips) (c0_i32_136 : BitVec 32) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let v387 : BitVec 32 := Scalar.addi v105 c0_i32_136
  let v388 : Index := Scalar.indexCast v387
  let c48_137 : Index := 48#32
  ![v388.toNat, 48]
def k1_off13 (arg14 : BitVec 32) : Fin 2 → Nat :=
  let v1054 : Index := Scalar.indexCast arg14
  let c0_476 : Index := 0#32
  ![v1054.toNat, 0]
def k1_cond1 (i : grid1.Coords) (arg14 : BitVec 32) (v110 : BitVec 32) (v117 : BitVec 32) (v119 : BitVec 32) : BitVec 1 :=
  let v120 : BitVec 1 := Scalar.cmpi .eq v117 v119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v111 : BitVec 32 := Scalar.subi v110 v10
  let c0_i32_37 : BitVec 32 := 0#32
  let v112 : BitVec 1 := Scalar.cmpi .sge v111 c0_i32_37
  let c320_i32_38 : BitVec 32 := 320#32
  let v113 : BitVec 1 := Scalar.cmpi .slt v111 c320_i32_38
  let v114 : BitVec 1 := Scalar.andi v112 v113
  let c320_i32_39 : BitVec 32 := 320#32
  let v115 : BitVec 32 := Scalar.select v114 v111 c320_i32_39
  let v121 : BitVec 1 := Scalar.cmpi .eq v115 arg14
  let v122 : BitVec 1 := Scalar.andi v120 v121
  let v123 : BitVec 32 := Scalar.extui v122
  let c0_i32_40 : BitVec 32 := 0#32
  let v124 : BitVec 1 := Scalar.cmpi .ne v123 c0_i32_40
  v124

def k1_cond2 (i : grid1.Coords) (arg14 : BitVec 32) (v127 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v128 : BitVec 32 := Scalar.subi v127 v10
  let c0_i32_41 : BitVec 32 := 0#32
  let v129 : BitVec 1 := Scalar.cmpi .sge v128 c0_i32_41
  let c320_i32_42 : BitVec 32 := 320#32
  let v130 : BitVec 1 := Scalar.cmpi .slt v128 c320_i32_42
  let v131 : BitVec 1 := Scalar.andi v129 v130
  let c320_i32_43 : BitVec 32 := 320#32
  let v132 : BitVec 32 := Scalar.select v131 v128 c320_i32_43
  let v133 : BitVec 1 := Scalar.cmpi .ne v132 arg14
  let v134 : BitVec 32 := Scalar.extui v133
  let c0_i32_44 : BitVec 32 := 0#32
  let v135 : BitVec 1 := Scalar.cmpi .ne v134 c0_i32_44
  v135

def k1_off14 (arg14 : BitVec 32) : Fin 2 → Nat :=
  let v1065 : Index := Scalar.indexCast arg14
  let c16_480 : Index := 16#32
  ![v1065.toNat, 16]
def k1_off15 (arg14 : BitVec 32) : Fin 2 → Nat :=
  let v1076 : Index := Scalar.indexCast arg14
  let c32_484 : Index := 32#32
  ![v1076.toNat, 32]
def k1_off16 (arg14 : BitVec 32) : Fin 2 → Nat :=
  let v1087 : Index := Scalar.indexCast arg14
  let c48_488 : Index := 48#32
  ![v1087.toNat, 48]

def k1_chk2 (i : grid1.Coords) (arg14 : BitVec 32) (v110 : BitVec 32) (v117 : BitVec 32) (v119 : BitVec 32) (v127 : BitVec 32) : Prop :=
  (∀ (k1_h1 : ¬(k1_cond1 i arg14 v110 v117 v119 = 1#1)), ∀ (k1_h2 : k1_cond2 i arg14 v127 = 1#1), ∀ a, (k1_off13 arg14) a + S1x16.size a ≤ S336x64.size a) ∧
  (∀ (k1_h1 : ¬(k1_cond1 i arg14 v110 v117 v119 = 1#1)), ∀ (k1_h2 : k1_cond2 i arg14 v127 = 1#1), ∀ a, (k1_off14 arg14) a + S1x16.size a ≤ S336x64.size a) ∧
  (∀ (k1_h1 : ¬(k1_cond1 i arg14 v110 v117 v119 = 1#1)), ∀ (k1_h2 : k1_cond2 i arg14 v127 = 1#1), ∀ a, (k1_off15 arg14) a + S1x16.size a ≤ S336x64.size a) ∧
  (∀ (k1_h1 : ¬(k1_cond1 i arg14 v110 v117 v119 = 1#1)), ∀ (k1_h2 : k1_cond2 i arg14 v127 = 1#1), ∀ a, (k1_off16 arg14) a + S1x16.size a ≤ S336x64.size a)
theorem k1_off13_inb : ∀ (i : grid1.Coords) (arg14 : BitVec 32) (v110 : BitVec 32) (v117 : BitVec 32) (v119 : BitVec 32) (v127 : BitVec 32) (k1_hw2 : k1_chk2 i arg14 v110 v117 v119 v127), ∀ (k1_h1 : ¬(k1_cond1 i arg14 v110 v117 v119 = 1#1)), ∀ (k1_h2 : k1_cond2 i arg14 v127 = 1#1), ∀ a, (k1_off13 arg14) a + S1x16.size a ≤ S336x64.size a := fun i arg14 v110 v117 v119 v127 k1_hw2 k1_h1 k1_h2 => k1_hw2.1 k1_h1 k1_h2
theorem k1_off14_inb : ∀ (i : grid1.Coords) (arg14 : BitVec 32) (v110 : BitVec 32) (v117 : BitVec 32) (v119 : BitVec 32) (v127 : BitVec 32) (k1_hw2 : k1_chk2 i arg14 v110 v117 v119 v127), ∀ (k1_h1 : ¬(k1_cond1 i arg14 v110 v117 v119 = 1#1)), ∀ (k1_h2 : k1_cond2 i arg14 v127 = 1#1), ∀ a, (k1_off14 arg14) a + S1x16.size a ≤ S336x64.size a := fun i arg14 v110 v117 v119 v127 k1_hw2 k1_h1 k1_h2 => k1_hw2.2.1 k1_h1 k1_h2
theorem k1_off15_inb : ∀ (i : grid1.Coords) (arg14 : BitVec 32) (v110 : BitVec 32) (v117 : BitVec 32) (v119 : BitVec 32) (v127 : BitVec 32) (k1_hw2 : k1_chk2 i arg14 v110 v117 v119 v127), ∀ (k1_h1 : ¬(k1_cond1 i arg14 v110 v117 v119 = 1#1)), ∀ (k1_h2 : k1_cond2 i arg14 v127 = 1#1), ∀ a, (k1_off15 arg14) a + S1x16.size a ≤ S336x64.size a := fun i arg14 v110 v117 v119 v127 k1_hw2 k1_h1 k1_h2 => k1_hw2.2.2.1 k1_h1 k1_h2
theorem k1_off16_inb : ∀ (i : grid1.Coords) (arg14 : BitVec 32) (v110 : BitVec 32) (v117 : BitVec 32) (v119 : BitVec 32) (v127 : BitVec 32) (k1_hw2 : k1_chk2 i arg14 v110 v117 v119 v127), ∀ (k1_h1 : ¬(k1_cond1 i arg14 v110 v117 v119 = 1#1)), ∀ (k1_h2 : k1_cond2 i arg14 v127 = 1#1), ∀ a, (k1_off16 arg14) a + S1x16.size a ≤ S336x64.size a := fun i arg14 v110 v117 v119 v127 k1_hw2 k1_h1 k1_h2 => k1_hw2.2.2.2 k1_h1 k1_h2

def k1_off17 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c0_i32_47 : BitVec 32 := 0#32
  let v139 : BitVec 32 := Scalar.addi v105 c0_i32_47
  let v140 : Index := Scalar.indexCast v139
  let c0_48 : Index := 0#32
  ![v140.toNat, 0]
def k1_off18 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c0_i32_53 : BitVec 32 := 0#32
  let v151 : BitVec 32 := Scalar.addi v105 c0_i32_53
  let v152 : Index := Scalar.indexCast v151
  let c16_54 : Index := 16#32
  ![v152.toNat, 16]
def k1_off19 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c0_i32_59 : BitVec 32 := 0#32
  let v163 : BitVec 32 := Scalar.addi v105 c0_i32_59
  let v164 : Index := Scalar.indexCast v163
  let c32_60 : Index := 32#32
  ![v164.toNat, 32]
def k1_off20 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c0_i32_65 : BitVec 32 := 0#32
  let v175 : BitVec 32 := Scalar.addi v105 c0_i32_65
  let v176 : Index := Scalar.indexCast v175
  let c48_66 : Index := 48#32
  ![v176.toNat, 48]
def k1_off21 (i : grid1.Coords) (v127 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v128 : BitVec 32 := Scalar.subi v127 v10
  let c0_i32_41 : BitVec 32 := 0#32
  let v129 : BitVec 1 := Scalar.cmpi .sge v128 c0_i32_41
  let c320_i32_42 : BitVec 32 := 320#32
  let v130 : BitVec 1 := Scalar.cmpi .slt v128 c320_i32_42
  let v131 : BitVec 1 := Scalar.andi v129 v130
  let c320_i32_43 : BitVec 32 := 320#32
  let v132 : BitVec 32 := Scalar.select v131 v128 c320_i32_43
  let v1054 : Index := Scalar.indexCast v132
  let c0_476 : Index := 0#32
  ![v1054.toNat, 0]
def k1_cond3 (i : grid1.Coords) (v127 : BitVec 32) (v185 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v186 : BitVec 32 := Scalar.subi v185 v10
  let c0_i32_69 : BitVec 32 := 0#32
  let v187 : BitVec 1 := Scalar.cmpi .sge v186 c0_i32_69
  let c320_i32_70 : BitVec 32 := 320#32
  let v188 : BitVec 1 := Scalar.cmpi .slt v186 c320_i32_70
  let v189 : BitVec 1 := Scalar.andi v187 v188
  let c320_i32_71 : BitVec 32 := 320#32
  let v190 : BitVec 32 := Scalar.select v189 v186 c320_i32_71
  let v128 : BitVec 32 := Scalar.subi v127 v10
  let c0_i32_41 : BitVec 32 := 0#32
  let v129 : BitVec 1 := Scalar.cmpi .sge v128 c0_i32_41
  let c320_i32_42 : BitVec 32 := 320#32
  let v130 : BitVec 1 := Scalar.cmpi .slt v128 c320_i32_42
  let v131 : BitVec 1 := Scalar.andi v129 v130
  let c320_i32_43 : BitVec 32 := 320#32
  let v132 : BitVec 32 := Scalar.select v131 v128 c320_i32_43
  let v191 : BitVec 1 := Scalar.cmpi .ne v190 v132
  let v192 : BitVec 32 := Scalar.extui v191
  let c0_i32_72 : BitVec 32 := 0#32
  let v193 : BitVec 1 := Scalar.cmpi .ne v192 c0_i32_72
  v193

def k1_off22 (i : grid1.Coords) (v127 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v128 : BitVec 32 := Scalar.subi v127 v10
  let c0_i32_41 : BitVec 32 := 0#32
  let v129 : BitVec 1 := Scalar.cmpi .sge v128 c0_i32_41
  let c320_i32_42 : BitVec 32 := 320#32
  let v130 : BitVec 1 := Scalar.cmpi .slt v128 c320_i32_42
  let v131 : BitVec 1 := Scalar.andi v129 v130
  let c320_i32_43 : BitVec 32 := 320#32
  let v132 : BitVec 32 := Scalar.select v131 v128 c320_i32_43
  let v1065 : Index := Scalar.indexCast v132
  let c16_480 : Index := 16#32
  ![v1065.toNat, 16]
def k1_off23 (i : grid1.Coords) (v127 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v128 : BitVec 32 := Scalar.subi v127 v10
  let c0_i32_41 : BitVec 32 := 0#32
  let v129 : BitVec 1 := Scalar.cmpi .sge v128 c0_i32_41
  let c320_i32_42 : BitVec 32 := 320#32
  let v130 : BitVec 1 := Scalar.cmpi .slt v128 c320_i32_42
  let v131 : BitVec 1 := Scalar.andi v129 v130
  let c320_i32_43 : BitVec 32 := 320#32
  let v132 : BitVec 32 := Scalar.select v131 v128 c320_i32_43
  let v1076 : Index := Scalar.indexCast v132
  let c32_484 : Index := 32#32
  ![v1076.toNat, 32]
def k1_off24 (i : grid1.Coords) (v127 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v128 : BitVec 32 := Scalar.subi v127 v10
  let c0_i32_41 : BitVec 32 := 0#32
  let v129 : BitVec 1 := Scalar.cmpi .sge v128 c0_i32_41
  let c320_i32_42 : BitVec 32 := 320#32
  let v130 : BitVec 1 := Scalar.cmpi .slt v128 c320_i32_42
  let v131 : BitVec 1 := Scalar.andi v129 v130
  let c320_i32_43 : BitVec 32 := 320#32
  let v132 : BitVec 32 := Scalar.select v131 v128 c320_i32_43
  let v1087 : Index := Scalar.indexCast v132
  let c48_488 : Index := 48#32
  ![v1087.toNat, 48]

def k1_chk3 (i : grid1.Coords) (arg14 : BitVec 32) (v110 : BitVec 32) (v117 : BitVec 32) (v119 : BitVec 32) (v127 : BitVec 32) (v185 : BitVec 32) : Prop :=
  (∀ (k1_h1 : ¬(k1_cond1 i arg14 v110 v117 v119 = 1#1)), ∀ (k1_h3 : k1_cond3 i v127 v185 = 1#1), ∀ a, (k1_off21 i v127) a + S1x16.size a ≤ S336x64.size a) ∧
  (∀ (k1_h1 : ¬(k1_cond1 i arg14 v110 v117 v119 = 1#1)), ∀ (k1_h3 : k1_cond3 i v127 v185 = 1#1), ∀ a, (k1_off22 i v127) a + S1x16.size a ≤ S336x64.size a) ∧
  (∀ (k1_h1 : ¬(k1_cond1 i arg14 v110 v117 v119 = 1#1)), ∀ (k1_h3 : k1_cond3 i v127 v185 = 1#1), ∀ a, (k1_off23 i v127) a + S1x16.size a ≤ S336x64.size a) ∧
  (∀ (k1_h1 : ¬(k1_cond1 i arg14 v110 v117 v119 = 1#1)), ∀ (k1_h3 : k1_cond3 i v127 v185 = 1#1), ∀ a, (k1_off24 i v127) a + S1x16.size a ≤ S336x64.size a)
theorem k1_off21_inb : ∀ (i : grid1.Coords) (arg14 : BitVec 32) (v110 : BitVec 32) (v117 : BitVec 32) (v119 : BitVec 32) (v127 : BitVec 32) (v185 : BitVec 32) (k1_hw3 : k1_chk3 i arg14 v110 v117 v119 v127 v185), ∀ (k1_h1 : ¬(k1_cond1 i arg14 v110 v117 v119 = 1#1)), ∀ (k1_h3 : k1_cond3 i v127 v185 = 1#1), ∀ a, (k1_off21 i v127) a + S1x16.size a ≤ S336x64.size a := fun i arg14 v110 v117 v119 v127 v185 k1_hw3 k1_h1 k1_h3 => k1_hw3.1 k1_h1 k1_h3
theorem k1_off22_inb : ∀ (i : grid1.Coords) (arg14 : BitVec 32) (v110 : BitVec 32) (v117 : BitVec 32) (v119 : BitVec 32) (v127 : BitVec 32) (v185 : BitVec 32) (k1_hw3 : k1_chk3 i arg14 v110 v117 v119 v127 v185), ∀ (k1_h1 : ¬(k1_cond1 i arg14 v110 v117 v119 = 1#1)), ∀ (k1_h3 : k1_cond3 i v127 v185 = 1#1), ∀ a, (k1_off22 i v127) a + S1x16.size a ≤ S336x64.size a := fun i arg14 v110 v117 v119 v127 v185 k1_hw3 k1_h1 k1_h3 => k1_hw3.2.1 k1_h1 k1_h3
theorem k1_off23_inb : ∀ (i : grid1.Coords) (arg14 : BitVec 32) (v110 : BitVec 32) (v117 : BitVec 32) (v119 : BitVec 32) (v127 : BitVec 32) (v185 : BitVec 32) (k1_hw3 : k1_chk3 i arg14 v110 v117 v119 v127 v185), ∀ (k1_h1 : ¬(k1_cond1 i arg14 v110 v117 v119 = 1#1)), ∀ (k1_h3 : k1_cond3 i v127 v185 = 1#1), ∀ a, (k1_off23 i v127) a + S1x16.size a ≤ S336x64.size a := fun i arg14 v110 v117 v119 v127 v185 k1_hw3 k1_h1 k1_h3 => k1_hw3.2.2.1 k1_h1 k1_h3
theorem k1_off24_inb : ∀ (i : grid1.Coords) (arg14 : BitVec 32) (v110 : BitVec 32) (v117 : BitVec 32) (v119 : BitVec 32) (v127 : BitVec 32) (v185 : BitVec 32) (k1_hw3 : k1_chk3 i arg14 v110 v117 v119 v127 v185), ∀ (k1_h1 : ¬(k1_cond1 i arg14 v110 v117 v119 = 1#1)), ∀ (k1_h3 : k1_cond3 i v127 v185 = 1#1), ∀ a, (k1_off24 i v127) a + S1x16.size a ≤ S336x64.size a := fun i arg14 v110 v117 v119 v127 v185 k1_hw3 k1_h1 k1_h3 => k1_hw3.2.2.2 k1_h1 k1_h3

def k1_off25 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c1_i32_75 : BitVec 32 := 1#32
  let v197 : BitVec 32 := Scalar.addi v105 c1_i32_75
  let v198 : Index := Scalar.indexCast v197
  let c0_76 : Index := 0#32
  ![v198.toNat, 0]
def k1_off26 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c1_i32_81 : BitVec 32 := 1#32
  let v209 : BitVec 32 := Scalar.addi v105 c1_i32_81
  let v210 : Index := Scalar.indexCast v209
  let c16_82 : Index := 16#32
  ![v210.toNat, 16]
def k1_off27 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c1_i32_87 : BitVec 32 := 1#32
  let v221 : BitVec 32 := Scalar.addi v105 c1_i32_87
  let v222 : Index := Scalar.indexCast v221
  let c32_88 : Index := 32#32
  ![v222.toNat, 32]
def k1_off28 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c1_i32_93 : BitVec 32 := 1#32
  let v233 : BitVec 32 := Scalar.addi v105 c1_i32_93
  let v234 : Index := Scalar.indexCast v233
  let c48_94 : Index := 48#32
  ![v234.toNat, 48]
def k1_off29 (i : grid1.Coords) (v185 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v186 : BitVec 32 := Scalar.subi v185 v10
  let c0_i32_69 : BitVec 32 := 0#32
  let v187 : BitVec 1 := Scalar.cmpi .sge v186 c0_i32_69
  let c320_i32_70 : BitVec 32 := 320#32
  let v188 : BitVec 1 := Scalar.cmpi .slt v186 c320_i32_70
  let v189 : BitVec 1 := Scalar.andi v187 v188
  let c320_i32_71 : BitVec 32 := 320#32
  let v190 : BitVec 32 := Scalar.select v189 v186 c320_i32_71
  let v1054 : Index := Scalar.indexCast v190
  let c0_476 : Index := 0#32
  ![v1054.toNat, 0]
def k1_cond4 (i : grid1.Coords) (v185 : BitVec 32) (v243 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v244 : BitVec 32 := Scalar.subi v243 v10
  let c0_i32_97 : BitVec 32 := 0#32
  let v245 : BitVec 1 := Scalar.cmpi .sge v244 c0_i32_97
  let c320_i32_98 : BitVec 32 := 320#32
  let v246 : BitVec 1 := Scalar.cmpi .slt v244 c320_i32_98
  let v247 : BitVec 1 := Scalar.andi v245 v246
  let c320_i32_99 : BitVec 32 := 320#32
  let v248 : BitVec 32 := Scalar.select v247 v244 c320_i32_99
  let v186 : BitVec 32 := Scalar.subi v185 v10
  let c0_i32_69 : BitVec 32 := 0#32
  let v187 : BitVec 1 := Scalar.cmpi .sge v186 c0_i32_69
  let c320_i32_70 : BitVec 32 := 320#32
  let v188 : BitVec 1 := Scalar.cmpi .slt v186 c320_i32_70
  let v189 : BitVec 1 := Scalar.andi v187 v188
  let c320_i32_71 : BitVec 32 := 320#32
  let v190 : BitVec 32 := Scalar.select v189 v186 c320_i32_71
  let v249 : BitVec 1 := Scalar.cmpi .ne v248 v190
  let v250 : BitVec 32 := Scalar.extui v249
  let c0_i32_100 : BitVec 32 := 0#32
  let v251 : BitVec 1 := Scalar.cmpi .ne v250 c0_i32_100
  v251

def k1_off30 (i : grid1.Coords) (v185 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v186 : BitVec 32 := Scalar.subi v185 v10
  let c0_i32_69 : BitVec 32 := 0#32
  let v187 : BitVec 1 := Scalar.cmpi .sge v186 c0_i32_69
  let c320_i32_70 : BitVec 32 := 320#32
  let v188 : BitVec 1 := Scalar.cmpi .slt v186 c320_i32_70
  let v189 : BitVec 1 := Scalar.andi v187 v188
  let c320_i32_71 : BitVec 32 := 320#32
  let v190 : BitVec 32 := Scalar.select v189 v186 c320_i32_71
  let v1065 : Index := Scalar.indexCast v190
  let c16_480 : Index := 16#32
  ![v1065.toNat, 16]
def k1_off31 (i : grid1.Coords) (v185 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v186 : BitVec 32 := Scalar.subi v185 v10
  let c0_i32_69 : BitVec 32 := 0#32
  let v187 : BitVec 1 := Scalar.cmpi .sge v186 c0_i32_69
  let c320_i32_70 : BitVec 32 := 320#32
  let v188 : BitVec 1 := Scalar.cmpi .slt v186 c320_i32_70
  let v189 : BitVec 1 := Scalar.andi v187 v188
  let c320_i32_71 : BitVec 32 := 320#32
  let v190 : BitVec 32 := Scalar.select v189 v186 c320_i32_71
  let v1076 : Index := Scalar.indexCast v190
  let c32_484 : Index := 32#32
  ![v1076.toNat, 32]
def k1_off32 (i : grid1.Coords) (v185 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v186 : BitVec 32 := Scalar.subi v185 v10
  let c0_i32_69 : BitVec 32 := 0#32
  let v187 : BitVec 1 := Scalar.cmpi .sge v186 c0_i32_69
  let c320_i32_70 : BitVec 32 := 320#32
  let v188 : BitVec 1 := Scalar.cmpi .slt v186 c320_i32_70
  let v189 : BitVec 1 := Scalar.andi v187 v188
  let c320_i32_71 : BitVec 32 := 320#32
  let v190 : BitVec 32 := Scalar.select v189 v186 c320_i32_71
  let v1087 : Index := Scalar.indexCast v190
  let c48_488 : Index := 48#32
  ![v1087.toNat, 48]

def k1_chk4 (i : grid1.Coords) (arg14 : BitVec 32) (v110 : BitVec 32) (v117 : BitVec 32) (v119 : BitVec 32) (v185 : BitVec 32) (v243 : BitVec 32) : Prop :=
  (∀ (k1_h1 : ¬(k1_cond1 i arg14 v110 v117 v119 = 1#1)), ∀ (k1_h4 : k1_cond4 i v185 v243 = 1#1), ∀ a, (k1_off29 i v185) a + S1x16.size a ≤ S336x64.size a) ∧
  (∀ (k1_h1 : ¬(k1_cond1 i arg14 v110 v117 v119 = 1#1)), ∀ (k1_h4 : k1_cond4 i v185 v243 = 1#1), ∀ a, (k1_off30 i v185) a + S1x16.size a ≤ S336x64.size a) ∧
  (∀ (k1_h1 : ¬(k1_cond1 i arg14 v110 v117 v119 = 1#1)), ∀ (k1_h4 : k1_cond4 i v185 v243 = 1#1), ∀ a, (k1_off31 i v185) a + S1x16.size a ≤ S336x64.size a) ∧
  (∀ (k1_h1 : ¬(k1_cond1 i arg14 v110 v117 v119 = 1#1)), ∀ (k1_h4 : k1_cond4 i v185 v243 = 1#1), ∀ a, (k1_off32 i v185) a + S1x16.size a ≤ S336x64.size a)
theorem k1_off29_inb : ∀ (i : grid1.Coords) (arg14 : BitVec 32) (v110 : BitVec 32) (v117 : BitVec 32) (v119 : BitVec 32) (v185 : BitVec 32) (v243 : BitVec 32) (k1_hw4 : k1_chk4 i arg14 v110 v117 v119 v185 v243), ∀ (k1_h1 : ¬(k1_cond1 i arg14 v110 v117 v119 = 1#1)), ∀ (k1_h4 : k1_cond4 i v185 v243 = 1#1), ∀ a, (k1_off29 i v185) a + S1x16.size a ≤ S336x64.size a := fun i arg14 v110 v117 v119 v185 v243 k1_hw4 k1_h1 k1_h4 => k1_hw4.1 k1_h1 k1_h4
theorem k1_off30_inb : ∀ (i : grid1.Coords) (arg14 : BitVec 32) (v110 : BitVec 32) (v117 : BitVec 32) (v119 : BitVec 32) (v185 : BitVec 32) (v243 : BitVec 32) (k1_hw4 : k1_chk4 i arg14 v110 v117 v119 v185 v243), ∀ (k1_h1 : ¬(k1_cond1 i arg14 v110 v117 v119 = 1#1)), ∀ (k1_h4 : k1_cond4 i v185 v243 = 1#1), ∀ a, (k1_off30 i v185) a + S1x16.size a ≤ S336x64.size a := fun i arg14 v110 v117 v119 v185 v243 k1_hw4 k1_h1 k1_h4 => k1_hw4.2.1 k1_h1 k1_h4
theorem k1_off31_inb : ∀ (i : grid1.Coords) (arg14 : BitVec 32) (v110 : BitVec 32) (v117 : BitVec 32) (v119 : BitVec 32) (v185 : BitVec 32) (v243 : BitVec 32) (k1_hw4 : k1_chk4 i arg14 v110 v117 v119 v185 v243), ∀ (k1_h1 : ¬(k1_cond1 i arg14 v110 v117 v119 = 1#1)), ∀ (k1_h4 : k1_cond4 i v185 v243 = 1#1), ∀ a, (k1_off31 i v185) a + S1x16.size a ≤ S336x64.size a := fun i arg14 v110 v117 v119 v185 v243 k1_hw4 k1_h1 k1_h4 => k1_hw4.2.2.1 k1_h1 k1_h4
theorem k1_off32_inb : ∀ (i : grid1.Coords) (arg14 : BitVec 32) (v110 : BitVec 32) (v117 : BitVec 32) (v119 : BitVec 32) (v185 : BitVec 32) (v243 : BitVec 32) (k1_hw4 : k1_chk4 i arg14 v110 v117 v119 v185 v243), ∀ (k1_h1 : ¬(k1_cond1 i arg14 v110 v117 v119 = 1#1)), ∀ (k1_h4 : k1_cond4 i v185 v243 = 1#1), ∀ a, (k1_off32 i v185) a + S1x16.size a ≤ S336x64.size a := fun i arg14 v110 v117 v119 v185 v243 k1_hw4 k1_h1 k1_h4 => k1_hw4.2.2.2 k1_h1 k1_h4

def k1_off33 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c2_i32_103 : BitVec 32 := 2#32
  let v255 : BitVec 32 := Scalar.addi v105 c2_i32_103
  let v256 : Index := Scalar.indexCast v255
  let c0_104 : Index := 0#32
  ![v256.toNat, 0]
def k1_off34 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c2_i32_109 : BitVec 32 := 2#32
  let v267 : BitVec 32 := Scalar.addi v105 c2_i32_109
  let v268 : Index := Scalar.indexCast v267
  let c16_110 : Index := 16#32
  ![v268.toNat, 16]
def k1_off35 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c2_i32_115 : BitVec 32 := 2#32
  let v279 : BitVec 32 := Scalar.addi v105 c2_i32_115
  let v280 : Index := Scalar.indexCast v279
  let c32_116 : Index := 32#32
  ![v280.toNat, 32]
def k1_off36 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c2_i32_121 : BitVec 32 := 2#32
  let v291 : BitVec 32 := Scalar.addi v105 c2_i32_121
  let v292 : Index := Scalar.indexCast v291
  let c48_122 : Index := 48#32
  ![v292.toNat, 48]
def k1_off37 (i : grid1.Coords) (v243 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v244 : BitVec 32 := Scalar.subi v243 v10
  let c0_i32_97 : BitVec 32 := 0#32
  let v245 : BitVec 1 := Scalar.cmpi .sge v244 c0_i32_97
  let c320_i32_98 : BitVec 32 := 320#32
  let v246 : BitVec 1 := Scalar.cmpi .slt v244 c320_i32_98
  let v247 : BitVec 1 := Scalar.andi v245 v246
  let c320_i32_99 : BitVec 32 := 320#32
  let v248 : BitVec 32 := Scalar.select v247 v244 c320_i32_99
  let v1054 : Index := Scalar.indexCast v248
  let c0_476 : Index := 0#32
  ![v1054.toNat, 0]
def k1_cond5 (i : grid1.Coords) (v243 : BitVec 32) (v301 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v302 : BitVec 32 := Scalar.subi v301 v10
  let c0_i32_125 : BitVec 32 := 0#32
  let v303 : BitVec 1 := Scalar.cmpi .sge v302 c0_i32_125
  let c320_i32_126 : BitVec 32 := 320#32
  let v304 : BitVec 1 := Scalar.cmpi .slt v302 c320_i32_126
  let v305 : BitVec 1 := Scalar.andi v303 v304
  let c320_i32_127 : BitVec 32 := 320#32
  let v306 : BitVec 32 := Scalar.select v305 v302 c320_i32_127
  let v244 : BitVec 32 := Scalar.subi v243 v10
  let c0_i32_97 : BitVec 32 := 0#32
  let v245 : BitVec 1 := Scalar.cmpi .sge v244 c0_i32_97
  let c320_i32_98 : BitVec 32 := 320#32
  let v246 : BitVec 1 := Scalar.cmpi .slt v244 c320_i32_98
  let v247 : BitVec 1 := Scalar.andi v245 v246
  let c320_i32_99 : BitVec 32 := 320#32
  let v248 : BitVec 32 := Scalar.select v247 v244 c320_i32_99
  let v307 : BitVec 1 := Scalar.cmpi .ne v306 v248
  let v308 : BitVec 32 := Scalar.extui v307
  let c0_i32_128 : BitVec 32 := 0#32
  let v309 : BitVec 1 := Scalar.cmpi .ne v308 c0_i32_128
  v309

def k1_off38 (i : grid1.Coords) (v243 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v244 : BitVec 32 := Scalar.subi v243 v10
  let c0_i32_97 : BitVec 32 := 0#32
  let v245 : BitVec 1 := Scalar.cmpi .sge v244 c0_i32_97
  let c320_i32_98 : BitVec 32 := 320#32
  let v246 : BitVec 1 := Scalar.cmpi .slt v244 c320_i32_98
  let v247 : BitVec 1 := Scalar.andi v245 v246
  let c320_i32_99 : BitVec 32 := 320#32
  let v248 : BitVec 32 := Scalar.select v247 v244 c320_i32_99
  let v1065 : Index := Scalar.indexCast v248
  let c16_480 : Index := 16#32
  ![v1065.toNat, 16]
def k1_off39 (i : grid1.Coords) (v243 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v244 : BitVec 32 := Scalar.subi v243 v10
  let c0_i32_97 : BitVec 32 := 0#32
  let v245 : BitVec 1 := Scalar.cmpi .sge v244 c0_i32_97
  let c320_i32_98 : BitVec 32 := 320#32
  let v246 : BitVec 1 := Scalar.cmpi .slt v244 c320_i32_98
  let v247 : BitVec 1 := Scalar.andi v245 v246
  let c320_i32_99 : BitVec 32 := 320#32
  let v248 : BitVec 32 := Scalar.select v247 v244 c320_i32_99
  let v1076 : Index := Scalar.indexCast v248
  let c32_484 : Index := 32#32
  ![v1076.toNat, 32]
def k1_off40 (i : grid1.Coords) (v243 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v244 : BitVec 32 := Scalar.subi v243 v10
  let c0_i32_97 : BitVec 32 := 0#32
  let v245 : BitVec 1 := Scalar.cmpi .sge v244 c0_i32_97
  let c320_i32_98 : BitVec 32 := 320#32
  let v246 : BitVec 1 := Scalar.cmpi .slt v244 c320_i32_98
  let v247 : BitVec 1 := Scalar.andi v245 v246
  let c320_i32_99 : BitVec 32 := 320#32
  let v248 : BitVec 32 := Scalar.select v247 v244 c320_i32_99
  let v1087 : Index := Scalar.indexCast v248
  let c48_488 : Index := 48#32
  ![v1087.toNat, 48]

def k1_chk5 (i : grid1.Coords) (arg14 : BitVec 32) (v110 : BitVec 32) (v117 : BitVec 32) (v119 : BitVec 32) (v243 : BitVec 32) (v301 : BitVec 32) : Prop :=
  (∀ (k1_h1 : ¬(k1_cond1 i arg14 v110 v117 v119 = 1#1)), ∀ (k1_h5 : k1_cond5 i v243 v301 = 1#1), ∀ a, (k1_off37 i v243) a + S1x16.size a ≤ S336x64.size a) ∧
  (∀ (k1_h1 : ¬(k1_cond1 i arg14 v110 v117 v119 = 1#1)), ∀ (k1_h5 : k1_cond5 i v243 v301 = 1#1), ∀ a, (k1_off38 i v243) a + S1x16.size a ≤ S336x64.size a) ∧
  (∀ (k1_h1 : ¬(k1_cond1 i arg14 v110 v117 v119 = 1#1)), ∀ (k1_h5 : k1_cond5 i v243 v301 = 1#1), ∀ a, (k1_off39 i v243) a + S1x16.size a ≤ S336x64.size a) ∧
  (∀ (k1_h1 : ¬(k1_cond1 i arg14 v110 v117 v119 = 1#1)), ∀ (k1_h5 : k1_cond5 i v243 v301 = 1#1), ∀ a, (k1_off40 i v243) a + S1x16.size a ≤ S336x64.size a)
theorem k1_off37_inb : ∀ (i : grid1.Coords) (arg14 : BitVec 32) (v110 : BitVec 32) (v117 : BitVec 32) (v119 : BitVec 32) (v243 : BitVec 32) (v301 : BitVec 32) (k1_hw5 : k1_chk5 i arg14 v110 v117 v119 v243 v301), ∀ (k1_h1 : ¬(k1_cond1 i arg14 v110 v117 v119 = 1#1)), ∀ (k1_h5 : k1_cond5 i v243 v301 = 1#1), ∀ a, (k1_off37 i v243) a + S1x16.size a ≤ S336x64.size a := fun i arg14 v110 v117 v119 v243 v301 k1_hw5 k1_h1 k1_h5 => k1_hw5.1 k1_h1 k1_h5
theorem k1_off38_inb : ∀ (i : grid1.Coords) (arg14 : BitVec 32) (v110 : BitVec 32) (v117 : BitVec 32) (v119 : BitVec 32) (v243 : BitVec 32) (v301 : BitVec 32) (k1_hw5 : k1_chk5 i arg14 v110 v117 v119 v243 v301), ∀ (k1_h1 : ¬(k1_cond1 i arg14 v110 v117 v119 = 1#1)), ∀ (k1_h5 : k1_cond5 i v243 v301 = 1#1), ∀ a, (k1_off38 i v243) a + S1x16.size a ≤ S336x64.size a := fun i arg14 v110 v117 v119 v243 v301 k1_hw5 k1_h1 k1_h5 => k1_hw5.2.1 k1_h1 k1_h5
theorem k1_off39_inb : ∀ (i : grid1.Coords) (arg14 : BitVec 32) (v110 : BitVec 32) (v117 : BitVec 32) (v119 : BitVec 32) (v243 : BitVec 32) (v301 : BitVec 32) (k1_hw5 : k1_chk5 i arg14 v110 v117 v119 v243 v301), ∀ (k1_h1 : ¬(k1_cond1 i arg14 v110 v117 v119 = 1#1)), ∀ (k1_h5 : k1_cond5 i v243 v301 = 1#1), ∀ a, (k1_off39 i v243) a + S1x16.size a ≤ S336x64.size a := fun i arg14 v110 v117 v119 v243 v301 k1_hw5 k1_h1 k1_h5 => k1_hw5.2.2.1 k1_h1 k1_h5
theorem k1_off40_inb : ∀ (i : grid1.Coords) (arg14 : BitVec 32) (v110 : BitVec 32) (v117 : BitVec 32) (v119 : BitVec 32) (v243 : BitVec 32) (v301 : BitVec 32) (k1_hw5 : k1_chk5 i arg14 v110 v117 v119 v243 v301), ∀ (k1_h1 : ¬(k1_cond1 i arg14 v110 v117 v119 = 1#1)), ∀ (k1_h5 : k1_cond5 i v243 v301 = 1#1), ∀ a, (k1_off40 i v243) a + S1x16.size a ≤ S336x64.size a := fun i arg14 v110 v117 v119 v243 v301 k1_hw5 k1_h1 k1_h5 => k1_hw5.2.2.2 k1_h1 k1_h5

def k1_off41 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c3_i32 : BitVec 32 := 3#32
  let v313 : BitVec 32 := Scalar.addi v105 c3_i32
  let v314 : Index := Scalar.indexCast v313
  let c0_131 : Index := 0#32
  ![v314.toNat, 0]
def k1_off42 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c3_i32_136 : BitVec 32 := 3#32
  let v325 : BitVec 32 := Scalar.addi v105 c3_i32_136
  let v326 : Index := Scalar.indexCast v325
  let c16_137 : Index := 16#32
  ![v326.toNat, 16]
def k1_off43 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c3_i32_142 : BitVec 32 := 3#32
  let v337 : BitVec 32 := Scalar.addi v105 c3_i32_142
  let v338 : Index := Scalar.indexCast v337
  let c32_143 : Index := 32#32
  ![v338.toNat, 32]
def k1_off44 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c3_i32_148 : BitVec 32 := 3#32
  let v349 : BitVec 32 := Scalar.addi v105 c3_i32_148
  let v350 : Index := Scalar.indexCast v349
  let c48_149 : Index := 48#32
  ![v350.toNat, 48]
def k1_off45 (i : grid1.Coords) (v301 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v302 : BitVec 32 := Scalar.subi v301 v10
  let c0_i32_125 : BitVec 32 := 0#32
  let v303 : BitVec 1 := Scalar.cmpi .sge v302 c0_i32_125
  let c320_i32_126 : BitVec 32 := 320#32
  let v304 : BitVec 1 := Scalar.cmpi .slt v302 c320_i32_126
  let v305 : BitVec 1 := Scalar.andi v303 v304
  let c320_i32_127 : BitVec 32 := 320#32
  let v306 : BitVec 32 := Scalar.select v305 v302 c320_i32_127
  let v1054 : Index := Scalar.indexCast v306
  let c0_476 : Index := 0#32
  ![v1054.toNat, 0]
def k1_cond6 (i : grid1.Coords) (v301 : BitVec 32) (v359 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v360 : BitVec 32 := Scalar.subi v359 v10
  let c0_i32_152 : BitVec 32 := 0#32
  let v361 : BitVec 1 := Scalar.cmpi .sge v360 c0_i32_152
  let c320_i32_153 : BitVec 32 := 320#32
  let v362 : BitVec 1 := Scalar.cmpi .slt v360 c320_i32_153
  let v363 : BitVec 1 := Scalar.andi v361 v362
  let c320_i32_154 : BitVec 32 := 320#32
  let v364 : BitVec 32 := Scalar.select v363 v360 c320_i32_154
  let v302 : BitVec 32 := Scalar.subi v301 v10
  let c0_i32_125 : BitVec 32 := 0#32
  let v303 : BitVec 1 := Scalar.cmpi .sge v302 c0_i32_125
  let c320_i32_126 : BitVec 32 := 320#32
  let v304 : BitVec 1 := Scalar.cmpi .slt v302 c320_i32_126
  let v305 : BitVec 1 := Scalar.andi v303 v304
  let c320_i32_127 : BitVec 32 := 320#32
  let v306 : BitVec 32 := Scalar.select v305 v302 c320_i32_127
  let v365 : BitVec 1 := Scalar.cmpi .ne v364 v306
  let v366 : BitVec 32 := Scalar.extui v365
  let c0_i32_155 : BitVec 32 := 0#32
  let v367 : BitVec 1 := Scalar.cmpi .ne v366 c0_i32_155
  v367

def k1_off46 (i : grid1.Coords) (v301 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v302 : BitVec 32 := Scalar.subi v301 v10
  let c0_i32_125 : BitVec 32 := 0#32
  let v303 : BitVec 1 := Scalar.cmpi .sge v302 c0_i32_125
  let c320_i32_126 : BitVec 32 := 320#32
  let v304 : BitVec 1 := Scalar.cmpi .slt v302 c320_i32_126
  let v305 : BitVec 1 := Scalar.andi v303 v304
  let c320_i32_127 : BitVec 32 := 320#32
  let v306 : BitVec 32 := Scalar.select v305 v302 c320_i32_127
  let v1065 : Index := Scalar.indexCast v306
  let c16_480 : Index := 16#32
  ![v1065.toNat, 16]
def k1_off47 (i : grid1.Coords) (v301 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v302 : BitVec 32 := Scalar.subi v301 v10
  let c0_i32_125 : BitVec 32 := 0#32
  let v303 : BitVec 1 := Scalar.cmpi .sge v302 c0_i32_125
  let c320_i32_126 : BitVec 32 := 320#32
  let v304 : BitVec 1 := Scalar.cmpi .slt v302 c320_i32_126
  let v305 : BitVec 1 := Scalar.andi v303 v304
  let c320_i32_127 : BitVec 32 := 320#32
  let v306 : BitVec 32 := Scalar.select v305 v302 c320_i32_127
  let v1076 : Index := Scalar.indexCast v306
  let c32_484 : Index := 32#32
  ![v1076.toNat, 32]
def k1_off48 (i : grid1.Coords) (v301 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v302 : BitVec 32 := Scalar.subi v301 v10
  let c0_i32_125 : BitVec 32 := 0#32
  let v303 : BitVec 1 := Scalar.cmpi .sge v302 c0_i32_125
  let c320_i32_126 : BitVec 32 := 320#32
  let v304 : BitVec 1 := Scalar.cmpi .slt v302 c320_i32_126
  let v305 : BitVec 1 := Scalar.andi v303 v304
  let c320_i32_127 : BitVec 32 := 320#32
  let v306 : BitVec 32 := Scalar.select v305 v302 c320_i32_127
  let v1087 : Index := Scalar.indexCast v306
  let c48_488 : Index := 48#32
  ![v1087.toNat, 48]

def k1_chk6 (i : grid1.Coords) (arg14 : BitVec 32) (v110 : BitVec 32) (v117 : BitVec 32) (v119 : BitVec 32) (v301 : BitVec 32) (v359 : BitVec 32) : Prop :=
  (∀ (k1_h1 : ¬(k1_cond1 i arg14 v110 v117 v119 = 1#1)), ∀ (k1_h6 : k1_cond6 i v301 v359 = 1#1), ∀ a, (k1_off45 i v301) a + S1x16.size a ≤ S336x64.size a) ∧
  (∀ (k1_h1 : ¬(k1_cond1 i arg14 v110 v117 v119 = 1#1)), ∀ (k1_h6 : k1_cond6 i v301 v359 = 1#1), ∀ a, (k1_off46 i v301) a + S1x16.size a ≤ S336x64.size a) ∧
  (∀ (k1_h1 : ¬(k1_cond1 i arg14 v110 v117 v119 = 1#1)), ∀ (k1_h6 : k1_cond6 i v301 v359 = 1#1), ∀ a, (k1_off47 i v301) a + S1x16.size a ≤ S336x64.size a) ∧
  (∀ (k1_h1 : ¬(k1_cond1 i arg14 v110 v117 v119 = 1#1)), ∀ (k1_h6 : k1_cond6 i v301 v359 = 1#1), ∀ a, (k1_off48 i v301) a + S1x16.size a ≤ S336x64.size a)
theorem k1_off45_inb : ∀ (i : grid1.Coords) (arg14 : BitVec 32) (v110 : BitVec 32) (v117 : BitVec 32) (v119 : BitVec 32) (v301 : BitVec 32) (v359 : BitVec 32) (k1_hw6 : k1_chk6 i arg14 v110 v117 v119 v301 v359), ∀ (k1_h1 : ¬(k1_cond1 i arg14 v110 v117 v119 = 1#1)), ∀ (k1_h6 : k1_cond6 i v301 v359 = 1#1), ∀ a, (k1_off45 i v301) a + S1x16.size a ≤ S336x64.size a := fun i arg14 v110 v117 v119 v301 v359 k1_hw6 k1_h1 k1_h6 => k1_hw6.1 k1_h1 k1_h6
theorem k1_off46_inb : ∀ (i : grid1.Coords) (arg14 : BitVec 32) (v110 : BitVec 32) (v117 : BitVec 32) (v119 : BitVec 32) (v301 : BitVec 32) (v359 : BitVec 32) (k1_hw6 : k1_chk6 i arg14 v110 v117 v119 v301 v359), ∀ (k1_h1 : ¬(k1_cond1 i arg14 v110 v117 v119 = 1#1)), ∀ (k1_h6 : k1_cond6 i v301 v359 = 1#1), ∀ a, (k1_off46 i v301) a + S1x16.size a ≤ S336x64.size a := fun i arg14 v110 v117 v119 v301 v359 k1_hw6 k1_h1 k1_h6 => k1_hw6.2.1 k1_h1 k1_h6
theorem k1_off47_inb : ∀ (i : grid1.Coords) (arg14 : BitVec 32) (v110 : BitVec 32) (v117 : BitVec 32) (v119 : BitVec 32) (v301 : BitVec 32) (v359 : BitVec 32) (k1_hw6 : k1_chk6 i arg14 v110 v117 v119 v301 v359), ∀ (k1_h1 : ¬(k1_cond1 i arg14 v110 v117 v119 = 1#1)), ∀ (k1_h6 : k1_cond6 i v301 v359 = 1#1), ∀ a, (k1_off47 i v301) a + S1x16.size a ≤ S336x64.size a := fun i arg14 v110 v117 v119 v301 v359 k1_hw6 k1_h1 k1_h6 => k1_hw6.2.2.1 k1_h1 k1_h6
theorem k1_off48_inb : ∀ (i : grid1.Coords) (arg14 : BitVec 32) (v110 : BitVec 32) (v117 : BitVec 32) (v119 : BitVec 32) (v301 : BitVec 32) (v359 : BitVec 32) (k1_hw6 : k1_chk6 i arg14 v110 v117 v119 v301 v359), ∀ (k1_h1 : ¬(k1_cond1 i arg14 v110 v117 v119 = 1#1)), ∀ (k1_h6 : k1_cond6 i v301 v359 = 1#1), ∀ a, (k1_off48 i v301) a + S1x16.size a ≤ S336x64.size a := fun i arg14 v110 v117 v119 v301 v359 k1_hw6 k1_h1 k1_h6 => k1_hw6.2.2.2 k1_h1 k1_h6

def k1_off49 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c4_i32 : BitVec 32 := 4#32
  let v371 : BitVec 32 := Scalar.addi v105 c4_i32
  let v372 : Index := Scalar.indexCast v371
  let c0_158 : Index := 0#32
  ![v372.toNat, 0]
def k1_off50 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c4_i32_163 : BitVec 32 := 4#32
  let v383 : BitVec 32 := Scalar.addi v105 c4_i32_163
  let v384 : Index := Scalar.indexCast v383
  let c16_164 : Index := 16#32
  ![v384.toNat, 16]
def k1_off51 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c4_i32_169 : BitVec 32 := 4#32
  let v395 : BitVec 32 := Scalar.addi v105 c4_i32_169
  let v396 : Index := Scalar.indexCast v395
  let c32_170 : Index := 32#32
  ![v396.toNat, 32]
def k1_off52 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c4_i32_175 : BitVec 32 := 4#32
  let v407 : BitVec 32 := Scalar.addi v105 c4_i32_175
  let v408 : Index := Scalar.indexCast v407
  let c48_176 : Index := 48#32
  ![v408.toNat, 48]
def k1_off53 (i : grid1.Coords) (v359 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v360 : BitVec 32 := Scalar.subi v359 v10
  let c0_i32_152 : BitVec 32 := 0#32
  let v361 : BitVec 1 := Scalar.cmpi .sge v360 c0_i32_152
  let c320_i32_153 : BitVec 32 := 320#32
  let v362 : BitVec 1 := Scalar.cmpi .slt v360 c320_i32_153
  let v363 : BitVec 1 := Scalar.andi v361 v362
  let c320_i32_154 : BitVec 32 := 320#32
  let v364 : BitVec 32 := Scalar.select v363 v360 c320_i32_154
  let v1054 : Index := Scalar.indexCast v364
  let c0_476 : Index := 0#32
  ![v1054.toNat, 0]
def k1_cond7 (i : grid1.Coords) (v359 : BitVec 32) (v417 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v418 : BitVec 32 := Scalar.subi v417 v10
  let c0_i32_179 : BitVec 32 := 0#32
  let v419 : BitVec 1 := Scalar.cmpi .sge v418 c0_i32_179
  let c320_i32_180 : BitVec 32 := 320#32
  let v420 : BitVec 1 := Scalar.cmpi .slt v418 c320_i32_180
  let v421 : BitVec 1 := Scalar.andi v419 v420
  let c320_i32_181 : BitVec 32 := 320#32
  let v422 : BitVec 32 := Scalar.select v421 v418 c320_i32_181
  let v360 : BitVec 32 := Scalar.subi v359 v10
  let c0_i32_152 : BitVec 32 := 0#32
  let v361 : BitVec 1 := Scalar.cmpi .sge v360 c0_i32_152
  let c320_i32_153 : BitVec 32 := 320#32
  let v362 : BitVec 1 := Scalar.cmpi .slt v360 c320_i32_153
  let v363 : BitVec 1 := Scalar.andi v361 v362
  let c320_i32_154 : BitVec 32 := 320#32
  let v364 : BitVec 32 := Scalar.select v363 v360 c320_i32_154
  let v423 : BitVec 1 := Scalar.cmpi .ne v422 v364
  let v424 : BitVec 32 := Scalar.extui v423
  let c0_i32_182 : BitVec 32 := 0#32
  let v425 : BitVec 1 := Scalar.cmpi .ne v424 c0_i32_182
  v425

def k1_off54 (i : grid1.Coords) (v359 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v360 : BitVec 32 := Scalar.subi v359 v10
  let c0_i32_152 : BitVec 32 := 0#32
  let v361 : BitVec 1 := Scalar.cmpi .sge v360 c0_i32_152
  let c320_i32_153 : BitVec 32 := 320#32
  let v362 : BitVec 1 := Scalar.cmpi .slt v360 c320_i32_153
  let v363 : BitVec 1 := Scalar.andi v361 v362
  let c320_i32_154 : BitVec 32 := 320#32
  let v364 : BitVec 32 := Scalar.select v363 v360 c320_i32_154
  let v1065 : Index := Scalar.indexCast v364
  let c16_480 : Index := 16#32
  ![v1065.toNat, 16]
def k1_off55 (i : grid1.Coords) (v359 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v360 : BitVec 32 := Scalar.subi v359 v10
  let c0_i32_152 : BitVec 32 := 0#32
  let v361 : BitVec 1 := Scalar.cmpi .sge v360 c0_i32_152
  let c320_i32_153 : BitVec 32 := 320#32
  let v362 : BitVec 1 := Scalar.cmpi .slt v360 c320_i32_153
  let v363 : BitVec 1 := Scalar.andi v361 v362
  let c320_i32_154 : BitVec 32 := 320#32
  let v364 : BitVec 32 := Scalar.select v363 v360 c320_i32_154
  let v1076 : Index := Scalar.indexCast v364
  let c32_484 : Index := 32#32
  ![v1076.toNat, 32]
def k1_off56 (i : grid1.Coords) (v359 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v360 : BitVec 32 := Scalar.subi v359 v10
  let c0_i32_152 : BitVec 32 := 0#32
  let v361 : BitVec 1 := Scalar.cmpi .sge v360 c0_i32_152
  let c320_i32_153 : BitVec 32 := 320#32
  let v362 : BitVec 1 := Scalar.cmpi .slt v360 c320_i32_153
  let v363 : BitVec 1 := Scalar.andi v361 v362
  let c320_i32_154 : BitVec 32 := 320#32
  let v364 : BitVec 32 := Scalar.select v363 v360 c320_i32_154
  let v1087 : Index := Scalar.indexCast v364
  let c48_488 : Index := 48#32
  ![v1087.toNat, 48]

def k1_chk7 (i : grid1.Coords) (arg14 : BitVec 32) (v110 : BitVec 32) (v117 : BitVec 32) (v119 : BitVec 32) (v359 : BitVec 32) (v417 : BitVec 32) : Prop :=
  (∀ (k1_h1 : ¬(k1_cond1 i arg14 v110 v117 v119 = 1#1)), ∀ (k1_h7 : k1_cond7 i v359 v417 = 1#1), ∀ a, (k1_off53 i v359) a + S1x16.size a ≤ S336x64.size a) ∧
  (∀ (k1_h1 : ¬(k1_cond1 i arg14 v110 v117 v119 = 1#1)), ∀ (k1_h7 : k1_cond7 i v359 v417 = 1#1), ∀ a, (k1_off54 i v359) a + S1x16.size a ≤ S336x64.size a) ∧
  (∀ (k1_h1 : ¬(k1_cond1 i arg14 v110 v117 v119 = 1#1)), ∀ (k1_h7 : k1_cond7 i v359 v417 = 1#1), ∀ a, (k1_off55 i v359) a + S1x16.size a ≤ S336x64.size a) ∧
  (∀ (k1_h1 : ¬(k1_cond1 i arg14 v110 v117 v119 = 1#1)), ∀ (k1_h7 : k1_cond7 i v359 v417 = 1#1), ∀ a, (k1_off56 i v359) a + S1x16.size a ≤ S336x64.size a)
theorem k1_off53_inb : ∀ (i : grid1.Coords) (arg14 : BitVec 32) (v110 : BitVec 32) (v117 : BitVec 32) (v119 : BitVec 32) (v359 : BitVec 32) (v417 : BitVec 32) (k1_hw7 : k1_chk7 i arg14 v110 v117 v119 v359 v417), ∀ (k1_h1 : ¬(k1_cond1 i arg14 v110 v117 v119 = 1#1)), ∀ (k1_h7 : k1_cond7 i v359 v417 = 1#1), ∀ a, (k1_off53 i v359) a + S1x16.size a ≤ S336x64.size a := fun i arg14 v110 v117 v119 v359 v417 k1_hw7 k1_h1 k1_h7 => k1_hw7.1 k1_h1 k1_h7
theorem k1_off54_inb : ∀ (i : grid1.Coords) (arg14 : BitVec 32) (v110 : BitVec 32) (v117 : BitVec 32) (v119 : BitVec 32) (v359 : BitVec 32) (v417 : BitVec 32) (k1_hw7 : k1_chk7 i arg14 v110 v117 v119 v359 v417), ∀ (k1_h1 : ¬(k1_cond1 i arg14 v110 v117 v119 = 1#1)), ∀ (k1_h7 : k1_cond7 i v359 v417 = 1#1), ∀ a, (k1_off54 i v359) a + S1x16.size a ≤ S336x64.size a := fun i arg14 v110 v117 v119 v359 v417 k1_hw7 k1_h1 k1_h7 => k1_hw7.2.1 k1_h1 k1_h7
theorem k1_off55_inb : ∀ (i : grid1.Coords) (arg14 : BitVec 32) (v110 : BitVec 32) (v117 : BitVec 32) (v119 : BitVec 32) (v359 : BitVec 32) (v417 : BitVec 32) (k1_hw7 : k1_chk7 i arg14 v110 v117 v119 v359 v417), ∀ (k1_h1 : ¬(k1_cond1 i arg14 v110 v117 v119 = 1#1)), ∀ (k1_h7 : k1_cond7 i v359 v417 = 1#1), ∀ a, (k1_off55 i v359) a + S1x16.size a ≤ S336x64.size a := fun i arg14 v110 v117 v119 v359 v417 k1_hw7 k1_h1 k1_h7 => k1_hw7.2.2.1 k1_h1 k1_h7
theorem k1_off56_inb : ∀ (i : grid1.Coords) (arg14 : BitVec 32) (v110 : BitVec 32) (v117 : BitVec 32) (v119 : BitVec 32) (v359 : BitVec 32) (v417 : BitVec 32) (k1_hw7 : k1_chk7 i arg14 v110 v117 v119 v359 v417), ∀ (k1_h1 : ¬(k1_cond1 i arg14 v110 v117 v119 = 1#1)), ∀ (k1_h7 : k1_cond7 i v359 v417 = 1#1), ∀ a, (k1_off56 i v359) a + S1x16.size a ≤ S336x64.size a := fun i arg14 v110 v117 v119 v359 v417 k1_hw7 k1_h1 k1_h7 => k1_hw7.2.2.2 k1_h1 k1_h7

def k1_off57 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c5_i32 : BitVec 32 := 5#32
  let v429 : BitVec 32 := Scalar.addi v105 c5_i32
  let v430 : Index := Scalar.indexCast v429
  let c0_185 : Index := 0#32
  ![v430.toNat, 0]
def k1_off58 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c5_i32_190 : BitVec 32 := 5#32
  let v441 : BitVec 32 := Scalar.addi v105 c5_i32_190
  let v442 : Index := Scalar.indexCast v441
  let c16_191 : Index := 16#32
  ![v442.toNat, 16]
def k1_off59 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c5_i32_196 : BitVec 32 := 5#32
  let v453 : BitVec 32 := Scalar.addi v105 c5_i32_196
  let v454 : Index := Scalar.indexCast v453
  let c32_197 : Index := 32#32
  ![v454.toNat, 32]
def k1_off60 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c5_i32_202 : BitVec 32 := 5#32
  let v465 : BitVec 32 := Scalar.addi v105 c5_i32_202
  let v466 : Index := Scalar.indexCast v465
  let c48_203 : Index := 48#32
  ![v466.toNat, 48]
def k1_off61 (i : grid1.Coords) (v417 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v418 : BitVec 32 := Scalar.subi v417 v10
  let c0_i32_179 : BitVec 32 := 0#32
  let v419 : BitVec 1 := Scalar.cmpi .sge v418 c0_i32_179
  let c320_i32_180 : BitVec 32 := 320#32
  let v420 : BitVec 1 := Scalar.cmpi .slt v418 c320_i32_180
  let v421 : BitVec 1 := Scalar.andi v419 v420
  let c320_i32_181 : BitVec 32 := 320#32
  let v422 : BitVec 32 := Scalar.select v421 v418 c320_i32_181
  let v1054 : Index := Scalar.indexCast v422
  let c0_476 : Index := 0#32
  ![v1054.toNat, 0]
def k1_cond8 (i : grid1.Coords) (v417 : BitVec 32) (v475 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v476 : BitVec 32 := Scalar.subi v475 v10
  let c0_i32_206 : BitVec 32 := 0#32
  let v477 : BitVec 1 := Scalar.cmpi .sge v476 c0_i32_206
  let c320_i32_207 : BitVec 32 := 320#32
  let v478 : BitVec 1 := Scalar.cmpi .slt v476 c320_i32_207
  let v479 : BitVec 1 := Scalar.andi v477 v478
  let c320_i32_208 : BitVec 32 := 320#32
  let v480 : BitVec 32 := Scalar.select v479 v476 c320_i32_208
  let v418 : BitVec 32 := Scalar.subi v417 v10
  let c0_i32_179 : BitVec 32 := 0#32
  let v419 : BitVec 1 := Scalar.cmpi .sge v418 c0_i32_179
  let c320_i32_180 : BitVec 32 := 320#32
  let v420 : BitVec 1 := Scalar.cmpi .slt v418 c320_i32_180
  let v421 : BitVec 1 := Scalar.andi v419 v420
  let c320_i32_181 : BitVec 32 := 320#32
  let v422 : BitVec 32 := Scalar.select v421 v418 c320_i32_181
  let v481 : BitVec 1 := Scalar.cmpi .ne v480 v422
  let v482 : BitVec 32 := Scalar.extui v481
  let c0_i32_209 : BitVec 32 := 0#32
  let v483 : BitVec 1 := Scalar.cmpi .ne v482 c0_i32_209
  v483

def k1_off62 (i : grid1.Coords) (v417 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v418 : BitVec 32 := Scalar.subi v417 v10
  let c0_i32_179 : BitVec 32 := 0#32
  let v419 : BitVec 1 := Scalar.cmpi .sge v418 c0_i32_179
  let c320_i32_180 : BitVec 32 := 320#32
  let v420 : BitVec 1 := Scalar.cmpi .slt v418 c320_i32_180
  let v421 : BitVec 1 := Scalar.andi v419 v420
  let c320_i32_181 : BitVec 32 := 320#32
  let v422 : BitVec 32 := Scalar.select v421 v418 c320_i32_181
  let v1065 : Index := Scalar.indexCast v422
  let c16_480 : Index := 16#32
  ![v1065.toNat, 16]
def k1_off63 (i : grid1.Coords) (v417 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v418 : BitVec 32 := Scalar.subi v417 v10
  let c0_i32_179 : BitVec 32 := 0#32
  let v419 : BitVec 1 := Scalar.cmpi .sge v418 c0_i32_179
  let c320_i32_180 : BitVec 32 := 320#32
  let v420 : BitVec 1 := Scalar.cmpi .slt v418 c320_i32_180
  let v421 : BitVec 1 := Scalar.andi v419 v420
  let c320_i32_181 : BitVec 32 := 320#32
  let v422 : BitVec 32 := Scalar.select v421 v418 c320_i32_181
  let v1076 : Index := Scalar.indexCast v422
  let c32_484 : Index := 32#32
  ![v1076.toNat, 32]
def k1_off64 (i : grid1.Coords) (v417 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v418 : BitVec 32 := Scalar.subi v417 v10
  let c0_i32_179 : BitVec 32 := 0#32
  let v419 : BitVec 1 := Scalar.cmpi .sge v418 c0_i32_179
  let c320_i32_180 : BitVec 32 := 320#32
  let v420 : BitVec 1 := Scalar.cmpi .slt v418 c320_i32_180
  let v421 : BitVec 1 := Scalar.andi v419 v420
  let c320_i32_181 : BitVec 32 := 320#32
  let v422 : BitVec 32 := Scalar.select v421 v418 c320_i32_181
  let v1087 : Index := Scalar.indexCast v422
  let c48_488 : Index := 48#32
  ![v1087.toNat, 48]

def k1_chk8 (i : grid1.Coords) (arg14 : BitVec 32) (v110 : BitVec 32) (v117 : BitVec 32) (v119 : BitVec 32) (v417 : BitVec 32) (v475 : BitVec 32) : Prop :=
  (∀ (k1_h1 : ¬(k1_cond1 i arg14 v110 v117 v119 = 1#1)), ∀ (k1_h8 : k1_cond8 i v417 v475 = 1#1), ∀ a, (k1_off61 i v417) a + S1x16.size a ≤ S336x64.size a) ∧
  (∀ (k1_h1 : ¬(k1_cond1 i arg14 v110 v117 v119 = 1#1)), ∀ (k1_h8 : k1_cond8 i v417 v475 = 1#1), ∀ a, (k1_off62 i v417) a + S1x16.size a ≤ S336x64.size a) ∧
  (∀ (k1_h1 : ¬(k1_cond1 i arg14 v110 v117 v119 = 1#1)), ∀ (k1_h8 : k1_cond8 i v417 v475 = 1#1), ∀ a, (k1_off63 i v417) a + S1x16.size a ≤ S336x64.size a) ∧
  (∀ (k1_h1 : ¬(k1_cond1 i arg14 v110 v117 v119 = 1#1)), ∀ (k1_h8 : k1_cond8 i v417 v475 = 1#1), ∀ a, (k1_off64 i v417) a + S1x16.size a ≤ S336x64.size a)
theorem k1_off61_inb : ∀ (i : grid1.Coords) (arg14 : BitVec 32) (v110 : BitVec 32) (v117 : BitVec 32) (v119 : BitVec 32) (v417 : BitVec 32) (v475 : BitVec 32) (k1_hw8 : k1_chk8 i arg14 v110 v117 v119 v417 v475), ∀ (k1_h1 : ¬(k1_cond1 i arg14 v110 v117 v119 = 1#1)), ∀ (k1_h8 : k1_cond8 i v417 v475 = 1#1), ∀ a, (k1_off61 i v417) a + S1x16.size a ≤ S336x64.size a := fun i arg14 v110 v117 v119 v417 v475 k1_hw8 k1_h1 k1_h8 => k1_hw8.1 k1_h1 k1_h8
theorem k1_off62_inb : ∀ (i : grid1.Coords) (arg14 : BitVec 32) (v110 : BitVec 32) (v117 : BitVec 32) (v119 : BitVec 32) (v417 : BitVec 32) (v475 : BitVec 32) (k1_hw8 : k1_chk8 i arg14 v110 v117 v119 v417 v475), ∀ (k1_h1 : ¬(k1_cond1 i arg14 v110 v117 v119 = 1#1)), ∀ (k1_h8 : k1_cond8 i v417 v475 = 1#1), ∀ a, (k1_off62 i v417) a + S1x16.size a ≤ S336x64.size a := fun i arg14 v110 v117 v119 v417 v475 k1_hw8 k1_h1 k1_h8 => k1_hw8.2.1 k1_h1 k1_h8
theorem k1_off63_inb : ∀ (i : grid1.Coords) (arg14 : BitVec 32) (v110 : BitVec 32) (v117 : BitVec 32) (v119 : BitVec 32) (v417 : BitVec 32) (v475 : BitVec 32) (k1_hw8 : k1_chk8 i arg14 v110 v117 v119 v417 v475), ∀ (k1_h1 : ¬(k1_cond1 i arg14 v110 v117 v119 = 1#1)), ∀ (k1_h8 : k1_cond8 i v417 v475 = 1#1), ∀ a, (k1_off63 i v417) a + S1x16.size a ≤ S336x64.size a := fun i arg14 v110 v117 v119 v417 v475 k1_hw8 k1_h1 k1_h8 => k1_hw8.2.2.1 k1_h1 k1_h8
theorem k1_off64_inb : ∀ (i : grid1.Coords) (arg14 : BitVec 32) (v110 : BitVec 32) (v117 : BitVec 32) (v119 : BitVec 32) (v417 : BitVec 32) (v475 : BitVec 32) (k1_hw8 : k1_chk8 i arg14 v110 v117 v119 v417 v475), ∀ (k1_h1 : ¬(k1_cond1 i arg14 v110 v117 v119 = 1#1)), ∀ (k1_h8 : k1_cond8 i v417 v475 = 1#1), ∀ a, (k1_off64 i v417) a + S1x16.size a ≤ S336x64.size a := fun i arg14 v110 v117 v119 v417 v475 k1_hw8 k1_h1 k1_h8 => k1_hw8.2.2.2 k1_h1 k1_h8

def k1_off65 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c6_i32 : BitVec 32 := 6#32
  let v487 : BitVec 32 := Scalar.addi v105 c6_i32
  let v488 : Index := Scalar.indexCast v487
  let c0_212 : Index := 0#32
  ![v488.toNat, 0]
def k1_off66 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c6_i32_217 : BitVec 32 := 6#32
  let v499 : BitVec 32 := Scalar.addi v105 c6_i32_217
  let v500 : Index := Scalar.indexCast v499
  let c16_218 : Index := 16#32
  ![v500.toNat, 16]
def k1_off67 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c6_i32_223 : BitVec 32 := 6#32
  let v511 : BitVec 32 := Scalar.addi v105 c6_i32_223
  let v512 : Index := Scalar.indexCast v511
  let c32_224 : Index := 32#32
  ![v512.toNat, 32]
def k1_off68 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c6_i32_229 : BitVec 32 := 6#32
  let v523 : BitVec 32 := Scalar.addi v105 c6_i32_229
  let v524 : Index := Scalar.indexCast v523
  let c48_230 : Index := 48#32
  ![v524.toNat, 48]
def k1_off69 (i : grid1.Coords) (v475 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v476 : BitVec 32 := Scalar.subi v475 v10
  let c0_i32_206 : BitVec 32 := 0#32
  let v477 : BitVec 1 := Scalar.cmpi .sge v476 c0_i32_206
  let c320_i32_207 : BitVec 32 := 320#32
  let v478 : BitVec 1 := Scalar.cmpi .slt v476 c320_i32_207
  let v479 : BitVec 1 := Scalar.andi v477 v478
  let c320_i32_208 : BitVec 32 := 320#32
  let v480 : BitVec 32 := Scalar.select v479 v476 c320_i32_208
  let v1054 : Index := Scalar.indexCast v480
  let c0_476 : Index := 0#32
  ![v1054.toNat, 0]
def k1_cond9 (i : grid1.Coords) (v475 : BitVec 32) (v533 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v534 : BitVec 32 := Scalar.subi v533 v10
  let c0_i32_233 : BitVec 32 := 0#32
  let v535 : BitVec 1 := Scalar.cmpi .sge v534 c0_i32_233
  let c320_i32_234 : BitVec 32 := 320#32
  let v536 : BitVec 1 := Scalar.cmpi .slt v534 c320_i32_234
  let v537 : BitVec 1 := Scalar.andi v535 v536
  let c320_i32_235 : BitVec 32 := 320#32
  let v538 : BitVec 32 := Scalar.select v537 v534 c320_i32_235
  let v476 : BitVec 32 := Scalar.subi v475 v10
  let c0_i32_206 : BitVec 32 := 0#32
  let v477 : BitVec 1 := Scalar.cmpi .sge v476 c0_i32_206
  let c320_i32_207 : BitVec 32 := 320#32
  let v478 : BitVec 1 := Scalar.cmpi .slt v476 c320_i32_207
  let v479 : BitVec 1 := Scalar.andi v477 v478
  let c320_i32_208 : BitVec 32 := 320#32
  let v480 : BitVec 32 := Scalar.select v479 v476 c320_i32_208
  let v539 : BitVec 1 := Scalar.cmpi .ne v538 v480
  let v540 : BitVec 32 := Scalar.extui v539
  let c0_i32_236 : BitVec 32 := 0#32
  let v541 : BitVec 1 := Scalar.cmpi .ne v540 c0_i32_236
  v541

def k1_off70 (i : grid1.Coords) (v475 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v476 : BitVec 32 := Scalar.subi v475 v10
  let c0_i32_206 : BitVec 32 := 0#32
  let v477 : BitVec 1 := Scalar.cmpi .sge v476 c0_i32_206
  let c320_i32_207 : BitVec 32 := 320#32
  let v478 : BitVec 1 := Scalar.cmpi .slt v476 c320_i32_207
  let v479 : BitVec 1 := Scalar.andi v477 v478
  let c320_i32_208 : BitVec 32 := 320#32
  let v480 : BitVec 32 := Scalar.select v479 v476 c320_i32_208
  let v1065 : Index := Scalar.indexCast v480
  let c16_480 : Index := 16#32
  ![v1065.toNat, 16]
def k1_off71 (i : grid1.Coords) (v475 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v476 : BitVec 32 := Scalar.subi v475 v10
  let c0_i32_206 : BitVec 32 := 0#32
  let v477 : BitVec 1 := Scalar.cmpi .sge v476 c0_i32_206
  let c320_i32_207 : BitVec 32 := 320#32
  let v478 : BitVec 1 := Scalar.cmpi .slt v476 c320_i32_207
  let v479 : BitVec 1 := Scalar.andi v477 v478
  let c320_i32_208 : BitVec 32 := 320#32
  let v480 : BitVec 32 := Scalar.select v479 v476 c320_i32_208
  let v1076 : Index := Scalar.indexCast v480
  let c32_484 : Index := 32#32
  ![v1076.toNat, 32]
def k1_off72 (i : grid1.Coords) (v475 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v476 : BitVec 32 := Scalar.subi v475 v10
  let c0_i32_206 : BitVec 32 := 0#32
  let v477 : BitVec 1 := Scalar.cmpi .sge v476 c0_i32_206
  let c320_i32_207 : BitVec 32 := 320#32
  let v478 : BitVec 1 := Scalar.cmpi .slt v476 c320_i32_207
  let v479 : BitVec 1 := Scalar.andi v477 v478
  let c320_i32_208 : BitVec 32 := 320#32
  let v480 : BitVec 32 := Scalar.select v479 v476 c320_i32_208
  let v1087 : Index := Scalar.indexCast v480
  let c48_488 : Index := 48#32
  ![v1087.toNat, 48]

def k1_chk9 (i : grid1.Coords) (arg14 : BitVec 32) (v110 : BitVec 32) (v117 : BitVec 32) (v119 : BitVec 32) (v475 : BitVec 32) (v533 : BitVec 32) : Prop :=
  (∀ (k1_h1 : ¬(k1_cond1 i arg14 v110 v117 v119 = 1#1)), ∀ (k1_h9 : k1_cond9 i v475 v533 = 1#1), ∀ a, (k1_off69 i v475) a + S1x16.size a ≤ S336x64.size a) ∧
  (∀ (k1_h1 : ¬(k1_cond1 i arg14 v110 v117 v119 = 1#1)), ∀ (k1_h9 : k1_cond9 i v475 v533 = 1#1), ∀ a, (k1_off70 i v475) a + S1x16.size a ≤ S336x64.size a) ∧
  (∀ (k1_h1 : ¬(k1_cond1 i arg14 v110 v117 v119 = 1#1)), ∀ (k1_h9 : k1_cond9 i v475 v533 = 1#1), ∀ a, (k1_off71 i v475) a + S1x16.size a ≤ S336x64.size a) ∧
  (∀ (k1_h1 : ¬(k1_cond1 i arg14 v110 v117 v119 = 1#1)), ∀ (k1_h9 : k1_cond9 i v475 v533 = 1#1), ∀ a, (k1_off72 i v475) a + S1x16.size a ≤ S336x64.size a)
theorem k1_off69_inb : ∀ (i : grid1.Coords) (arg14 : BitVec 32) (v110 : BitVec 32) (v117 : BitVec 32) (v119 : BitVec 32) (v475 : BitVec 32) (v533 : BitVec 32) (k1_hw9 : k1_chk9 i arg14 v110 v117 v119 v475 v533), ∀ (k1_h1 : ¬(k1_cond1 i arg14 v110 v117 v119 = 1#1)), ∀ (k1_h9 : k1_cond9 i v475 v533 = 1#1), ∀ a, (k1_off69 i v475) a + S1x16.size a ≤ S336x64.size a := fun i arg14 v110 v117 v119 v475 v533 k1_hw9 k1_h1 k1_h9 => k1_hw9.1 k1_h1 k1_h9
theorem k1_off70_inb : ∀ (i : grid1.Coords) (arg14 : BitVec 32) (v110 : BitVec 32) (v117 : BitVec 32) (v119 : BitVec 32) (v475 : BitVec 32) (v533 : BitVec 32) (k1_hw9 : k1_chk9 i arg14 v110 v117 v119 v475 v533), ∀ (k1_h1 : ¬(k1_cond1 i arg14 v110 v117 v119 = 1#1)), ∀ (k1_h9 : k1_cond9 i v475 v533 = 1#1), ∀ a, (k1_off70 i v475) a + S1x16.size a ≤ S336x64.size a := fun i arg14 v110 v117 v119 v475 v533 k1_hw9 k1_h1 k1_h9 => k1_hw9.2.1 k1_h1 k1_h9
theorem k1_off71_inb : ∀ (i : grid1.Coords) (arg14 : BitVec 32) (v110 : BitVec 32) (v117 : BitVec 32) (v119 : BitVec 32) (v475 : BitVec 32) (v533 : BitVec 32) (k1_hw9 : k1_chk9 i arg14 v110 v117 v119 v475 v533), ∀ (k1_h1 : ¬(k1_cond1 i arg14 v110 v117 v119 = 1#1)), ∀ (k1_h9 : k1_cond9 i v475 v533 = 1#1), ∀ a, (k1_off71 i v475) a + S1x16.size a ≤ S336x64.size a := fun i arg14 v110 v117 v119 v475 v533 k1_hw9 k1_h1 k1_h9 => k1_hw9.2.2.1 k1_h1 k1_h9
theorem k1_off72_inb : ∀ (i : grid1.Coords) (arg14 : BitVec 32) (v110 : BitVec 32) (v117 : BitVec 32) (v119 : BitVec 32) (v475 : BitVec 32) (v533 : BitVec 32) (k1_hw9 : k1_chk9 i arg14 v110 v117 v119 v475 v533), ∀ (k1_h1 : ¬(k1_cond1 i arg14 v110 v117 v119 = 1#1)), ∀ (k1_h9 : k1_cond9 i v475 v533 = 1#1), ∀ a, (k1_off72 i v475) a + S1x16.size a ≤ S336x64.size a := fun i arg14 v110 v117 v119 v475 v533 k1_hw9 k1_h1 k1_h9 => k1_hw9.2.2.2 k1_h1 k1_h9

def k1_off73 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c7_i32 : BitVec 32 := 7#32
  let v545 : BitVec 32 := Scalar.addi v105 c7_i32
  let v546 : Index := Scalar.indexCast v545
  let c0_239 : Index := 0#32
  ![v546.toNat, 0]
def k1_off74 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c7_i32_244 : BitVec 32 := 7#32
  let v557 : BitVec 32 := Scalar.addi v105 c7_i32_244
  let v558 : Index := Scalar.indexCast v557
  let c16_245 : Index := 16#32
  ![v558.toNat, 16]
def k1_off75 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c7_i32_250 : BitVec 32 := 7#32
  let v569 : BitVec 32 := Scalar.addi v105 c7_i32_250
  let v570 : Index := Scalar.indexCast v569
  let c32_251 : Index := 32#32
  ![v570.toNat, 32]
def k1_off76 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c7_i32_256 : BitVec 32 := 7#32
  let v581 : BitVec 32 := Scalar.addi v105 c7_i32_256
  let v582 : Index := Scalar.indexCast v581
  let c48_257 : Index := 48#32
  ![v582.toNat, 48]
def k1_off77 (i : grid1.Coords) (v533 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v534 : BitVec 32 := Scalar.subi v533 v10
  let c0_i32_233 : BitVec 32 := 0#32
  let v535 : BitVec 1 := Scalar.cmpi .sge v534 c0_i32_233
  let c320_i32_234 : BitVec 32 := 320#32
  let v536 : BitVec 1 := Scalar.cmpi .slt v534 c320_i32_234
  let v537 : BitVec 1 := Scalar.andi v535 v536
  let c320_i32_235 : BitVec 32 := 320#32
  let v538 : BitVec 32 := Scalar.select v537 v534 c320_i32_235
  let v1054 : Index := Scalar.indexCast v538
  let c0_476 : Index := 0#32
  ![v1054.toNat, 0]
def k1_cond10 (i : grid1.Coords) (v533 : BitVec 32) (v591 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v592 : BitVec 32 := Scalar.subi v591 v10
  let c0_i32_260 : BitVec 32 := 0#32
  let v593 : BitVec 1 := Scalar.cmpi .sge v592 c0_i32_260
  let c320_i32_261 : BitVec 32 := 320#32
  let v594 : BitVec 1 := Scalar.cmpi .slt v592 c320_i32_261
  let v595 : BitVec 1 := Scalar.andi v593 v594
  let c320_i32_262 : BitVec 32 := 320#32
  let v596 : BitVec 32 := Scalar.select v595 v592 c320_i32_262
  let v534 : BitVec 32 := Scalar.subi v533 v10
  let c0_i32_233 : BitVec 32 := 0#32
  let v535 : BitVec 1 := Scalar.cmpi .sge v534 c0_i32_233
  let c320_i32_234 : BitVec 32 := 320#32
  let v536 : BitVec 1 := Scalar.cmpi .slt v534 c320_i32_234
  let v537 : BitVec 1 := Scalar.andi v535 v536
  let c320_i32_235 : BitVec 32 := 320#32
  let v538 : BitVec 32 := Scalar.select v537 v534 c320_i32_235
  let v597 : BitVec 1 := Scalar.cmpi .ne v596 v538
  let v598 : BitVec 32 := Scalar.extui v597
  let c0_i32_263 : BitVec 32 := 0#32
  let v599 : BitVec 1 := Scalar.cmpi .ne v598 c0_i32_263
  v599

def k1_off78 (i : grid1.Coords) (v533 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v534 : BitVec 32 := Scalar.subi v533 v10
  let c0_i32_233 : BitVec 32 := 0#32
  let v535 : BitVec 1 := Scalar.cmpi .sge v534 c0_i32_233
  let c320_i32_234 : BitVec 32 := 320#32
  let v536 : BitVec 1 := Scalar.cmpi .slt v534 c320_i32_234
  let v537 : BitVec 1 := Scalar.andi v535 v536
  let c320_i32_235 : BitVec 32 := 320#32
  let v538 : BitVec 32 := Scalar.select v537 v534 c320_i32_235
  let v1065 : Index := Scalar.indexCast v538
  let c16_480 : Index := 16#32
  ![v1065.toNat, 16]
def k1_off79 (i : grid1.Coords) (v533 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v534 : BitVec 32 := Scalar.subi v533 v10
  let c0_i32_233 : BitVec 32 := 0#32
  let v535 : BitVec 1 := Scalar.cmpi .sge v534 c0_i32_233
  let c320_i32_234 : BitVec 32 := 320#32
  let v536 : BitVec 1 := Scalar.cmpi .slt v534 c320_i32_234
  let v537 : BitVec 1 := Scalar.andi v535 v536
  let c320_i32_235 : BitVec 32 := 320#32
  let v538 : BitVec 32 := Scalar.select v537 v534 c320_i32_235
  let v1076 : Index := Scalar.indexCast v538
  let c32_484 : Index := 32#32
  ![v1076.toNat, 32]
def k1_off80 (i : grid1.Coords) (v533 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v534 : BitVec 32 := Scalar.subi v533 v10
  let c0_i32_233 : BitVec 32 := 0#32
  let v535 : BitVec 1 := Scalar.cmpi .sge v534 c0_i32_233
  let c320_i32_234 : BitVec 32 := 320#32
  let v536 : BitVec 1 := Scalar.cmpi .slt v534 c320_i32_234
  let v537 : BitVec 1 := Scalar.andi v535 v536
  let c320_i32_235 : BitVec 32 := 320#32
  let v538 : BitVec 32 := Scalar.select v537 v534 c320_i32_235
  let v1087 : Index := Scalar.indexCast v538
  let c48_488 : Index := 48#32
  ![v1087.toNat, 48]

def k1_chk10 (i : grid1.Coords) (arg14 : BitVec 32) (v110 : BitVec 32) (v117 : BitVec 32) (v119 : BitVec 32) (v533 : BitVec 32) (v591 : BitVec 32) : Prop :=
  (∀ (k1_h1 : ¬(k1_cond1 i arg14 v110 v117 v119 = 1#1)), ∀ (k1_h10 : k1_cond10 i v533 v591 = 1#1), ∀ a, (k1_off77 i v533) a + S1x16.size a ≤ S336x64.size a) ∧
  (∀ (k1_h1 : ¬(k1_cond1 i arg14 v110 v117 v119 = 1#1)), ∀ (k1_h10 : k1_cond10 i v533 v591 = 1#1), ∀ a, (k1_off78 i v533) a + S1x16.size a ≤ S336x64.size a) ∧
  (∀ (k1_h1 : ¬(k1_cond1 i arg14 v110 v117 v119 = 1#1)), ∀ (k1_h10 : k1_cond10 i v533 v591 = 1#1), ∀ a, (k1_off79 i v533) a + S1x16.size a ≤ S336x64.size a) ∧
  (∀ (k1_h1 : ¬(k1_cond1 i arg14 v110 v117 v119 = 1#1)), ∀ (k1_h10 : k1_cond10 i v533 v591 = 1#1), ∀ a, (k1_off80 i v533) a + S1x16.size a ≤ S336x64.size a)
theorem k1_off77_inb : ∀ (i : grid1.Coords) (arg14 : BitVec 32) (v110 : BitVec 32) (v117 : BitVec 32) (v119 : BitVec 32) (v533 : BitVec 32) (v591 : BitVec 32) (k1_hw10 : k1_chk10 i arg14 v110 v117 v119 v533 v591), ∀ (k1_h1 : ¬(k1_cond1 i arg14 v110 v117 v119 = 1#1)), ∀ (k1_h10 : k1_cond10 i v533 v591 = 1#1), ∀ a, (k1_off77 i v533) a + S1x16.size a ≤ S336x64.size a := fun i arg14 v110 v117 v119 v533 v591 k1_hw10 k1_h1 k1_h10 => k1_hw10.1 k1_h1 k1_h10
theorem k1_off78_inb : ∀ (i : grid1.Coords) (arg14 : BitVec 32) (v110 : BitVec 32) (v117 : BitVec 32) (v119 : BitVec 32) (v533 : BitVec 32) (v591 : BitVec 32) (k1_hw10 : k1_chk10 i arg14 v110 v117 v119 v533 v591), ∀ (k1_h1 : ¬(k1_cond1 i arg14 v110 v117 v119 = 1#1)), ∀ (k1_h10 : k1_cond10 i v533 v591 = 1#1), ∀ a, (k1_off78 i v533) a + S1x16.size a ≤ S336x64.size a := fun i arg14 v110 v117 v119 v533 v591 k1_hw10 k1_h1 k1_h10 => k1_hw10.2.1 k1_h1 k1_h10
theorem k1_off79_inb : ∀ (i : grid1.Coords) (arg14 : BitVec 32) (v110 : BitVec 32) (v117 : BitVec 32) (v119 : BitVec 32) (v533 : BitVec 32) (v591 : BitVec 32) (k1_hw10 : k1_chk10 i arg14 v110 v117 v119 v533 v591), ∀ (k1_h1 : ¬(k1_cond1 i arg14 v110 v117 v119 = 1#1)), ∀ (k1_h10 : k1_cond10 i v533 v591 = 1#1), ∀ a, (k1_off79 i v533) a + S1x16.size a ≤ S336x64.size a := fun i arg14 v110 v117 v119 v533 v591 k1_hw10 k1_h1 k1_h10 => k1_hw10.2.2.1 k1_h1 k1_h10
theorem k1_off80_inb : ∀ (i : grid1.Coords) (arg14 : BitVec 32) (v110 : BitVec 32) (v117 : BitVec 32) (v119 : BitVec 32) (v533 : BitVec 32) (v591 : BitVec 32) (k1_hw10 : k1_chk10 i arg14 v110 v117 v119 v533 v591), ∀ (k1_h1 : ¬(k1_cond1 i arg14 v110 v117 v119 = 1#1)), ∀ (k1_h10 : k1_cond10 i v533 v591 = 1#1), ∀ a, (k1_off80 i v533) a + S1x16.size a ≤ S336x64.size a := fun i arg14 v110 v117 v119 v533 v591 k1_hw10 k1_h1 k1_h10 => k1_hw10.2.2.2 k1_h1 k1_h10

def k1_off81 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c8_i32 : BitVec 32 := 8#32
  let v603 : BitVec 32 := Scalar.addi v105 c8_i32
  let v604 : Index := Scalar.indexCast v603
  let c0_266 : Index := 0#32
  ![v604.toNat, 0]
def k1_off82 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c8_i32_271 : BitVec 32 := 8#32
  let v615 : BitVec 32 := Scalar.addi v105 c8_i32_271
  let v616 : Index := Scalar.indexCast v615
  let c16_272 : Index := 16#32
  ![v616.toNat, 16]
def k1_off83 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c8_i32_277 : BitVec 32 := 8#32
  let v627 : BitVec 32 := Scalar.addi v105 c8_i32_277
  let v628 : Index := Scalar.indexCast v627
  let c32_278 : Index := 32#32
  ![v628.toNat, 32]
def k1_off84 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c8_i32_283 : BitVec 32 := 8#32
  let v639 : BitVec 32 := Scalar.addi v105 c8_i32_283
  let v640 : Index := Scalar.indexCast v639
  let c48_284 : Index := 48#32
  ![v640.toNat, 48]
def k1_off85 (i : grid1.Coords) (v591 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v592 : BitVec 32 := Scalar.subi v591 v10
  let c0_i32_260 : BitVec 32 := 0#32
  let v593 : BitVec 1 := Scalar.cmpi .sge v592 c0_i32_260
  let c320_i32_261 : BitVec 32 := 320#32
  let v594 : BitVec 1 := Scalar.cmpi .slt v592 c320_i32_261
  let v595 : BitVec 1 := Scalar.andi v593 v594
  let c320_i32_262 : BitVec 32 := 320#32
  let v596 : BitVec 32 := Scalar.select v595 v592 c320_i32_262
  let v1054 : Index := Scalar.indexCast v596
  let c0_476 : Index := 0#32
  ![v1054.toNat, 0]
def k1_cond11 (i : grid1.Coords) (v591 : BitVec 32) (v649 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v650 : BitVec 32 := Scalar.subi v649 v10
  let c0_i32_287 : BitVec 32 := 0#32
  let v651 : BitVec 1 := Scalar.cmpi .sge v650 c0_i32_287
  let c320_i32_288 : BitVec 32 := 320#32
  let v652 : BitVec 1 := Scalar.cmpi .slt v650 c320_i32_288
  let v653 : BitVec 1 := Scalar.andi v651 v652
  let c320_i32_289 : BitVec 32 := 320#32
  let v654 : BitVec 32 := Scalar.select v653 v650 c320_i32_289
  let v592 : BitVec 32 := Scalar.subi v591 v10
  let c0_i32_260 : BitVec 32 := 0#32
  let v593 : BitVec 1 := Scalar.cmpi .sge v592 c0_i32_260
  let c320_i32_261 : BitVec 32 := 320#32
  let v594 : BitVec 1 := Scalar.cmpi .slt v592 c320_i32_261
  let v595 : BitVec 1 := Scalar.andi v593 v594
  let c320_i32_262 : BitVec 32 := 320#32
  let v596 : BitVec 32 := Scalar.select v595 v592 c320_i32_262
  let v655 : BitVec 1 := Scalar.cmpi .ne v654 v596
  let v656 : BitVec 32 := Scalar.extui v655
  let c0_i32_290 : BitVec 32 := 0#32
  let v657 : BitVec 1 := Scalar.cmpi .ne v656 c0_i32_290
  v657

def k1_off86 (i : grid1.Coords) (v591 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v592 : BitVec 32 := Scalar.subi v591 v10
  let c0_i32_260 : BitVec 32 := 0#32
  let v593 : BitVec 1 := Scalar.cmpi .sge v592 c0_i32_260
  let c320_i32_261 : BitVec 32 := 320#32
  let v594 : BitVec 1 := Scalar.cmpi .slt v592 c320_i32_261
  let v595 : BitVec 1 := Scalar.andi v593 v594
  let c320_i32_262 : BitVec 32 := 320#32
  let v596 : BitVec 32 := Scalar.select v595 v592 c320_i32_262
  let v1065 : Index := Scalar.indexCast v596
  let c16_480 : Index := 16#32
  ![v1065.toNat, 16]
def k1_off87 (i : grid1.Coords) (v591 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v592 : BitVec 32 := Scalar.subi v591 v10
  let c0_i32_260 : BitVec 32 := 0#32
  let v593 : BitVec 1 := Scalar.cmpi .sge v592 c0_i32_260
  let c320_i32_261 : BitVec 32 := 320#32
  let v594 : BitVec 1 := Scalar.cmpi .slt v592 c320_i32_261
  let v595 : BitVec 1 := Scalar.andi v593 v594
  let c320_i32_262 : BitVec 32 := 320#32
  let v596 : BitVec 32 := Scalar.select v595 v592 c320_i32_262
  let v1076 : Index := Scalar.indexCast v596
  let c32_484 : Index := 32#32
  ![v1076.toNat, 32]
def k1_off88 (i : grid1.Coords) (v591 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v592 : BitVec 32 := Scalar.subi v591 v10
  let c0_i32_260 : BitVec 32 := 0#32
  let v593 : BitVec 1 := Scalar.cmpi .sge v592 c0_i32_260
  let c320_i32_261 : BitVec 32 := 320#32
  let v594 : BitVec 1 := Scalar.cmpi .slt v592 c320_i32_261
  let v595 : BitVec 1 := Scalar.andi v593 v594
  let c320_i32_262 : BitVec 32 := 320#32
  let v596 : BitVec 32 := Scalar.select v595 v592 c320_i32_262
  let v1087 : Index := Scalar.indexCast v596
  let c48_488 : Index := 48#32
  ![v1087.toNat, 48]

def k1_chk11 (i : grid1.Coords) (arg14 : BitVec 32) (v110 : BitVec 32) (v117 : BitVec 32) (v119 : BitVec 32) (v591 : BitVec 32) (v649 : BitVec 32) : Prop :=
  (∀ (k1_h1 : ¬(k1_cond1 i arg14 v110 v117 v119 = 1#1)), ∀ (k1_h11 : k1_cond11 i v591 v649 = 1#1), ∀ a, (k1_off85 i v591) a + S1x16.size a ≤ S336x64.size a) ∧
  (∀ (k1_h1 : ¬(k1_cond1 i arg14 v110 v117 v119 = 1#1)), ∀ (k1_h11 : k1_cond11 i v591 v649 = 1#1), ∀ a, (k1_off86 i v591) a + S1x16.size a ≤ S336x64.size a) ∧
  (∀ (k1_h1 : ¬(k1_cond1 i arg14 v110 v117 v119 = 1#1)), ∀ (k1_h11 : k1_cond11 i v591 v649 = 1#1), ∀ a, (k1_off87 i v591) a + S1x16.size a ≤ S336x64.size a) ∧
  (∀ (k1_h1 : ¬(k1_cond1 i arg14 v110 v117 v119 = 1#1)), ∀ (k1_h11 : k1_cond11 i v591 v649 = 1#1), ∀ a, (k1_off88 i v591) a + S1x16.size a ≤ S336x64.size a)
theorem k1_off85_inb : ∀ (i : grid1.Coords) (arg14 : BitVec 32) (v110 : BitVec 32) (v117 : BitVec 32) (v119 : BitVec 32) (v591 : BitVec 32) (v649 : BitVec 32) (k1_hw11 : k1_chk11 i arg14 v110 v117 v119 v591 v649), ∀ (k1_h1 : ¬(k1_cond1 i arg14 v110 v117 v119 = 1#1)), ∀ (k1_h11 : k1_cond11 i v591 v649 = 1#1), ∀ a, (k1_off85 i v591) a + S1x16.size a ≤ S336x64.size a := fun i arg14 v110 v117 v119 v591 v649 k1_hw11 k1_h1 k1_h11 => k1_hw11.1 k1_h1 k1_h11
theorem k1_off86_inb : ∀ (i : grid1.Coords) (arg14 : BitVec 32) (v110 : BitVec 32) (v117 : BitVec 32) (v119 : BitVec 32) (v591 : BitVec 32) (v649 : BitVec 32) (k1_hw11 : k1_chk11 i arg14 v110 v117 v119 v591 v649), ∀ (k1_h1 : ¬(k1_cond1 i arg14 v110 v117 v119 = 1#1)), ∀ (k1_h11 : k1_cond11 i v591 v649 = 1#1), ∀ a, (k1_off86 i v591) a + S1x16.size a ≤ S336x64.size a := fun i arg14 v110 v117 v119 v591 v649 k1_hw11 k1_h1 k1_h11 => k1_hw11.2.1 k1_h1 k1_h11
theorem k1_off87_inb : ∀ (i : grid1.Coords) (arg14 : BitVec 32) (v110 : BitVec 32) (v117 : BitVec 32) (v119 : BitVec 32) (v591 : BitVec 32) (v649 : BitVec 32) (k1_hw11 : k1_chk11 i arg14 v110 v117 v119 v591 v649), ∀ (k1_h1 : ¬(k1_cond1 i arg14 v110 v117 v119 = 1#1)), ∀ (k1_h11 : k1_cond11 i v591 v649 = 1#1), ∀ a, (k1_off87 i v591) a + S1x16.size a ≤ S336x64.size a := fun i arg14 v110 v117 v119 v591 v649 k1_hw11 k1_h1 k1_h11 => k1_hw11.2.2.1 k1_h1 k1_h11
theorem k1_off88_inb : ∀ (i : grid1.Coords) (arg14 : BitVec 32) (v110 : BitVec 32) (v117 : BitVec 32) (v119 : BitVec 32) (v591 : BitVec 32) (v649 : BitVec 32) (k1_hw11 : k1_chk11 i arg14 v110 v117 v119 v591 v649), ∀ (k1_h1 : ¬(k1_cond1 i arg14 v110 v117 v119 = 1#1)), ∀ (k1_h11 : k1_cond11 i v591 v649 = 1#1), ∀ a, (k1_off88 i v591) a + S1x16.size a ≤ S336x64.size a := fun i arg14 v110 v117 v119 v591 v649 k1_hw11 k1_h1 k1_h11 => k1_hw11.2.2.2 k1_h1 k1_h11

def k1_off89 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c9_i32 : BitVec 32 := 9#32
  let v661 : BitVec 32 := Scalar.addi v105 c9_i32
  let v662 : Index := Scalar.indexCast v661
  let c0_293 : Index := 0#32
  ![v662.toNat, 0]
def k1_off90 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c9_i32_298 : BitVec 32 := 9#32
  let v673 : BitVec 32 := Scalar.addi v105 c9_i32_298
  let v674 : Index := Scalar.indexCast v673
  let c16_299 : Index := 16#32
  ![v674.toNat, 16]
def k1_off91 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c9_i32_304 : BitVec 32 := 9#32
  let v685 : BitVec 32 := Scalar.addi v105 c9_i32_304
  let v686 : Index := Scalar.indexCast v685
  let c32_305 : Index := 32#32
  ![v686.toNat, 32]
def k1_off92 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c9_i32_310 : BitVec 32 := 9#32
  let v697 : BitVec 32 := Scalar.addi v105 c9_i32_310
  let v698 : Index := Scalar.indexCast v697
  let c48_311 : Index := 48#32
  ![v698.toNat, 48]
def k1_off93 (i : grid1.Coords) (v649 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v650 : BitVec 32 := Scalar.subi v649 v10
  let c0_i32_287 : BitVec 32 := 0#32
  let v651 : BitVec 1 := Scalar.cmpi .sge v650 c0_i32_287
  let c320_i32_288 : BitVec 32 := 320#32
  let v652 : BitVec 1 := Scalar.cmpi .slt v650 c320_i32_288
  let v653 : BitVec 1 := Scalar.andi v651 v652
  let c320_i32_289 : BitVec 32 := 320#32
  let v654 : BitVec 32 := Scalar.select v653 v650 c320_i32_289
  let v1054 : Index := Scalar.indexCast v654
  let c0_476 : Index := 0#32
  ![v1054.toNat, 0]
def k1_cond12 (i : grid1.Coords) (v649 : BitVec 32) (v707 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v708 : BitVec 32 := Scalar.subi v707 v10
  let c0_i32_314 : BitVec 32 := 0#32
  let v709 : BitVec 1 := Scalar.cmpi .sge v708 c0_i32_314
  let c320_i32_315 : BitVec 32 := 320#32
  let v710 : BitVec 1 := Scalar.cmpi .slt v708 c320_i32_315
  let v711 : BitVec 1 := Scalar.andi v709 v710
  let c320_i32_316 : BitVec 32 := 320#32
  let v712 : BitVec 32 := Scalar.select v711 v708 c320_i32_316
  let v650 : BitVec 32 := Scalar.subi v649 v10
  let c0_i32_287 : BitVec 32 := 0#32
  let v651 : BitVec 1 := Scalar.cmpi .sge v650 c0_i32_287
  let c320_i32_288 : BitVec 32 := 320#32
  let v652 : BitVec 1 := Scalar.cmpi .slt v650 c320_i32_288
  let v653 : BitVec 1 := Scalar.andi v651 v652
  let c320_i32_289 : BitVec 32 := 320#32
  let v654 : BitVec 32 := Scalar.select v653 v650 c320_i32_289
  let v713 : BitVec 1 := Scalar.cmpi .ne v712 v654
  let v714 : BitVec 32 := Scalar.extui v713
  let c0_i32_317 : BitVec 32 := 0#32
  let v715 : BitVec 1 := Scalar.cmpi .ne v714 c0_i32_317
  v715

def k1_off94 (i : grid1.Coords) (v649 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v650 : BitVec 32 := Scalar.subi v649 v10
  let c0_i32_287 : BitVec 32 := 0#32
  let v651 : BitVec 1 := Scalar.cmpi .sge v650 c0_i32_287
  let c320_i32_288 : BitVec 32 := 320#32
  let v652 : BitVec 1 := Scalar.cmpi .slt v650 c320_i32_288
  let v653 : BitVec 1 := Scalar.andi v651 v652
  let c320_i32_289 : BitVec 32 := 320#32
  let v654 : BitVec 32 := Scalar.select v653 v650 c320_i32_289
  let v1065 : Index := Scalar.indexCast v654
  let c16_480 : Index := 16#32
  ![v1065.toNat, 16]
def k1_off95 (i : grid1.Coords) (v649 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v650 : BitVec 32 := Scalar.subi v649 v10
  let c0_i32_287 : BitVec 32 := 0#32
  let v651 : BitVec 1 := Scalar.cmpi .sge v650 c0_i32_287
  let c320_i32_288 : BitVec 32 := 320#32
  let v652 : BitVec 1 := Scalar.cmpi .slt v650 c320_i32_288
  let v653 : BitVec 1 := Scalar.andi v651 v652
  let c320_i32_289 : BitVec 32 := 320#32
  let v654 : BitVec 32 := Scalar.select v653 v650 c320_i32_289
  let v1076 : Index := Scalar.indexCast v654
  let c32_484 : Index := 32#32
  ![v1076.toNat, 32]
def k1_off96 (i : grid1.Coords) (v649 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v650 : BitVec 32 := Scalar.subi v649 v10
  let c0_i32_287 : BitVec 32 := 0#32
  let v651 : BitVec 1 := Scalar.cmpi .sge v650 c0_i32_287
  let c320_i32_288 : BitVec 32 := 320#32
  let v652 : BitVec 1 := Scalar.cmpi .slt v650 c320_i32_288
  let v653 : BitVec 1 := Scalar.andi v651 v652
  let c320_i32_289 : BitVec 32 := 320#32
  let v654 : BitVec 32 := Scalar.select v653 v650 c320_i32_289
  let v1087 : Index := Scalar.indexCast v654
  let c48_488 : Index := 48#32
  ![v1087.toNat, 48]

def k1_chk12 (i : grid1.Coords) (arg14 : BitVec 32) (v110 : BitVec 32) (v117 : BitVec 32) (v119 : BitVec 32) (v649 : BitVec 32) (v707 : BitVec 32) : Prop :=
  (∀ (k1_h1 : ¬(k1_cond1 i arg14 v110 v117 v119 = 1#1)), ∀ (k1_h12 : k1_cond12 i v649 v707 = 1#1), ∀ a, (k1_off93 i v649) a + S1x16.size a ≤ S336x64.size a) ∧
  (∀ (k1_h1 : ¬(k1_cond1 i arg14 v110 v117 v119 = 1#1)), ∀ (k1_h12 : k1_cond12 i v649 v707 = 1#1), ∀ a, (k1_off94 i v649) a + S1x16.size a ≤ S336x64.size a) ∧
  (∀ (k1_h1 : ¬(k1_cond1 i arg14 v110 v117 v119 = 1#1)), ∀ (k1_h12 : k1_cond12 i v649 v707 = 1#1), ∀ a, (k1_off95 i v649) a + S1x16.size a ≤ S336x64.size a) ∧
  (∀ (k1_h1 : ¬(k1_cond1 i arg14 v110 v117 v119 = 1#1)), ∀ (k1_h12 : k1_cond12 i v649 v707 = 1#1), ∀ a, (k1_off96 i v649) a + S1x16.size a ≤ S336x64.size a)
theorem k1_off93_inb : ∀ (i : grid1.Coords) (arg14 : BitVec 32) (v110 : BitVec 32) (v117 : BitVec 32) (v119 : BitVec 32) (v649 : BitVec 32) (v707 : BitVec 32) (k1_hw12 : k1_chk12 i arg14 v110 v117 v119 v649 v707), ∀ (k1_h1 : ¬(k1_cond1 i arg14 v110 v117 v119 = 1#1)), ∀ (k1_h12 : k1_cond12 i v649 v707 = 1#1), ∀ a, (k1_off93 i v649) a + S1x16.size a ≤ S336x64.size a := fun i arg14 v110 v117 v119 v649 v707 k1_hw12 k1_h1 k1_h12 => k1_hw12.1 k1_h1 k1_h12
theorem k1_off94_inb : ∀ (i : grid1.Coords) (arg14 : BitVec 32) (v110 : BitVec 32) (v117 : BitVec 32) (v119 : BitVec 32) (v649 : BitVec 32) (v707 : BitVec 32) (k1_hw12 : k1_chk12 i arg14 v110 v117 v119 v649 v707), ∀ (k1_h1 : ¬(k1_cond1 i arg14 v110 v117 v119 = 1#1)), ∀ (k1_h12 : k1_cond12 i v649 v707 = 1#1), ∀ a, (k1_off94 i v649) a + S1x16.size a ≤ S336x64.size a := fun i arg14 v110 v117 v119 v649 v707 k1_hw12 k1_h1 k1_h12 => k1_hw12.2.1 k1_h1 k1_h12
theorem k1_off95_inb : ∀ (i : grid1.Coords) (arg14 : BitVec 32) (v110 : BitVec 32) (v117 : BitVec 32) (v119 : BitVec 32) (v649 : BitVec 32) (v707 : BitVec 32) (k1_hw12 : k1_chk12 i arg14 v110 v117 v119 v649 v707), ∀ (k1_h1 : ¬(k1_cond1 i arg14 v110 v117 v119 = 1#1)), ∀ (k1_h12 : k1_cond12 i v649 v707 = 1#1), ∀ a, (k1_off95 i v649) a + S1x16.size a ≤ S336x64.size a := fun i arg14 v110 v117 v119 v649 v707 k1_hw12 k1_h1 k1_h12 => k1_hw12.2.2.1 k1_h1 k1_h12
theorem k1_off96_inb : ∀ (i : grid1.Coords) (arg14 : BitVec 32) (v110 : BitVec 32) (v117 : BitVec 32) (v119 : BitVec 32) (v649 : BitVec 32) (v707 : BitVec 32) (k1_hw12 : k1_chk12 i arg14 v110 v117 v119 v649 v707), ∀ (k1_h1 : ¬(k1_cond1 i arg14 v110 v117 v119 = 1#1)), ∀ (k1_h12 : k1_cond12 i v649 v707 = 1#1), ∀ a, (k1_off96 i v649) a + S1x16.size a ≤ S336x64.size a := fun i arg14 v110 v117 v119 v649 v707 k1_hw12 k1_h1 k1_h12 => k1_hw12.2.2.2 k1_h1 k1_h12

def k1_off97 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c10_i32 : BitVec 32 := 10#32
  let v719 : BitVec 32 := Scalar.addi v105 c10_i32
  let v720 : Index := Scalar.indexCast v719
  let c0_320 : Index := 0#32
  ![v720.toNat, 0]
def k1_off98 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c10_i32_325 : BitVec 32 := 10#32
  let v731 : BitVec 32 := Scalar.addi v105 c10_i32_325
  let v732 : Index := Scalar.indexCast v731
  let c16_326 : Index := 16#32
  ![v732.toNat, 16]
def k1_off99 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c10_i32_331 : BitVec 32 := 10#32
  let v743 : BitVec 32 := Scalar.addi v105 c10_i32_331
  let v744 : Index := Scalar.indexCast v743
  let c32_332 : Index := 32#32
  ![v744.toNat, 32]
def k1_off100 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c10_i32_337 : BitVec 32 := 10#32
  let v755 : BitVec 32 := Scalar.addi v105 c10_i32_337
  let v756 : Index := Scalar.indexCast v755
  let c48_338 : Index := 48#32
  ![v756.toNat, 48]
def k1_off101 (i : grid1.Coords) (v707 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v708 : BitVec 32 := Scalar.subi v707 v10
  let c0_i32_314 : BitVec 32 := 0#32
  let v709 : BitVec 1 := Scalar.cmpi .sge v708 c0_i32_314
  let c320_i32_315 : BitVec 32 := 320#32
  let v710 : BitVec 1 := Scalar.cmpi .slt v708 c320_i32_315
  let v711 : BitVec 1 := Scalar.andi v709 v710
  let c320_i32_316 : BitVec 32 := 320#32
  let v712 : BitVec 32 := Scalar.select v711 v708 c320_i32_316
  let v1054 : Index := Scalar.indexCast v712
  let c0_476 : Index := 0#32
  ![v1054.toNat, 0]
def k1_cond13 (i : grid1.Coords) (v707 : BitVec 32) (v765 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v766 : BitVec 32 := Scalar.subi v765 v10
  let c0_i32_341 : BitVec 32 := 0#32
  let v767 : BitVec 1 := Scalar.cmpi .sge v766 c0_i32_341
  let c320_i32_342 : BitVec 32 := 320#32
  let v768 : BitVec 1 := Scalar.cmpi .slt v766 c320_i32_342
  let v769 : BitVec 1 := Scalar.andi v767 v768
  let c320_i32_343 : BitVec 32 := 320#32
  let v770 : BitVec 32 := Scalar.select v769 v766 c320_i32_343
  let v708 : BitVec 32 := Scalar.subi v707 v10
  let c0_i32_314 : BitVec 32 := 0#32
  let v709 : BitVec 1 := Scalar.cmpi .sge v708 c0_i32_314
  let c320_i32_315 : BitVec 32 := 320#32
  let v710 : BitVec 1 := Scalar.cmpi .slt v708 c320_i32_315
  let v711 : BitVec 1 := Scalar.andi v709 v710
  let c320_i32_316 : BitVec 32 := 320#32
  let v712 : BitVec 32 := Scalar.select v711 v708 c320_i32_316
  let v771 : BitVec 1 := Scalar.cmpi .ne v770 v712
  let v772 : BitVec 32 := Scalar.extui v771
  let c0_i32_344 : BitVec 32 := 0#32
  let v773 : BitVec 1 := Scalar.cmpi .ne v772 c0_i32_344
  v773

def k1_off102 (i : grid1.Coords) (v707 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v708 : BitVec 32 := Scalar.subi v707 v10
  let c0_i32_314 : BitVec 32 := 0#32
  let v709 : BitVec 1 := Scalar.cmpi .sge v708 c0_i32_314
  let c320_i32_315 : BitVec 32 := 320#32
  let v710 : BitVec 1 := Scalar.cmpi .slt v708 c320_i32_315
  let v711 : BitVec 1 := Scalar.andi v709 v710
  let c320_i32_316 : BitVec 32 := 320#32
  let v712 : BitVec 32 := Scalar.select v711 v708 c320_i32_316
  let v1065 : Index := Scalar.indexCast v712
  let c16_480 : Index := 16#32
  ![v1065.toNat, 16]
def k1_off103 (i : grid1.Coords) (v707 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v708 : BitVec 32 := Scalar.subi v707 v10
  let c0_i32_314 : BitVec 32 := 0#32
  let v709 : BitVec 1 := Scalar.cmpi .sge v708 c0_i32_314
  let c320_i32_315 : BitVec 32 := 320#32
  let v710 : BitVec 1 := Scalar.cmpi .slt v708 c320_i32_315
  let v711 : BitVec 1 := Scalar.andi v709 v710
  let c320_i32_316 : BitVec 32 := 320#32
  let v712 : BitVec 32 := Scalar.select v711 v708 c320_i32_316
  let v1076 : Index := Scalar.indexCast v712
  let c32_484 : Index := 32#32
  ![v1076.toNat, 32]
def k1_off104 (i : grid1.Coords) (v707 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v708 : BitVec 32 := Scalar.subi v707 v10
  let c0_i32_314 : BitVec 32 := 0#32
  let v709 : BitVec 1 := Scalar.cmpi .sge v708 c0_i32_314
  let c320_i32_315 : BitVec 32 := 320#32
  let v710 : BitVec 1 := Scalar.cmpi .slt v708 c320_i32_315
  let v711 : BitVec 1 := Scalar.andi v709 v710
  let c320_i32_316 : BitVec 32 := 320#32
  let v712 : BitVec 32 := Scalar.select v711 v708 c320_i32_316
  let v1087 : Index := Scalar.indexCast v712
  let c48_488 : Index := 48#32
  ![v1087.toNat, 48]

def k1_chk13 (i : grid1.Coords) (arg14 : BitVec 32) (v110 : BitVec 32) (v117 : BitVec 32) (v119 : BitVec 32) (v707 : BitVec 32) (v765 : BitVec 32) : Prop :=
  (∀ (k1_h1 : ¬(k1_cond1 i arg14 v110 v117 v119 = 1#1)), ∀ (k1_h13 : k1_cond13 i v707 v765 = 1#1), ∀ a, (k1_off101 i v707) a + S1x16.size a ≤ S336x64.size a) ∧
  (∀ (k1_h1 : ¬(k1_cond1 i arg14 v110 v117 v119 = 1#1)), ∀ (k1_h13 : k1_cond13 i v707 v765 = 1#1), ∀ a, (k1_off102 i v707) a + S1x16.size a ≤ S336x64.size a) ∧
  (∀ (k1_h1 : ¬(k1_cond1 i arg14 v110 v117 v119 = 1#1)), ∀ (k1_h13 : k1_cond13 i v707 v765 = 1#1), ∀ a, (k1_off103 i v707) a + S1x16.size a ≤ S336x64.size a) ∧
  (∀ (k1_h1 : ¬(k1_cond1 i arg14 v110 v117 v119 = 1#1)), ∀ (k1_h13 : k1_cond13 i v707 v765 = 1#1), ∀ a, (k1_off104 i v707) a + S1x16.size a ≤ S336x64.size a)
theorem k1_off101_inb : ∀ (i : grid1.Coords) (arg14 : BitVec 32) (v110 : BitVec 32) (v117 : BitVec 32) (v119 : BitVec 32) (v707 : BitVec 32) (v765 : BitVec 32) (k1_hw13 : k1_chk13 i arg14 v110 v117 v119 v707 v765), ∀ (k1_h1 : ¬(k1_cond1 i arg14 v110 v117 v119 = 1#1)), ∀ (k1_h13 : k1_cond13 i v707 v765 = 1#1), ∀ a, (k1_off101 i v707) a + S1x16.size a ≤ S336x64.size a := fun i arg14 v110 v117 v119 v707 v765 k1_hw13 k1_h1 k1_h13 => k1_hw13.1 k1_h1 k1_h13
theorem k1_off102_inb : ∀ (i : grid1.Coords) (arg14 : BitVec 32) (v110 : BitVec 32) (v117 : BitVec 32) (v119 : BitVec 32) (v707 : BitVec 32) (v765 : BitVec 32) (k1_hw13 : k1_chk13 i arg14 v110 v117 v119 v707 v765), ∀ (k1_h1 : ¬(k1_cond1 i arg14 v110 v117 v119 = 1#1)), ∀ (k1_h13 : k1_cond13 i v707 v765 = 1#1), ∀ a, (k1_off102 i v707) a + S1x16.size a ≤ S336x64.size a := fun i arg14 v110 v117 v119 v707 v765 k1_hw13 k1_h1 k1_h13 => k1_hw13.2.1 k1_h1 k1_h13
theorem k1_off103_inb : ∀ (i : grid1.Coords) (arg14 : BitVec 32) (v110 : BitVec 32) (v117 : BitVec 32) (v119 : BitVec 32) (v707 : BitVec 32) (v765 : BitVec 32) (k1_hw13 : k1_chk13 i arg14 v110 v117 v119 v707 v765), ∀ (k1_h1 : ¬(k1_cond1 i arg14 v110 v117 v119 = 1#1)), ∀ (k1_h13 : k1_cond13 i v707 v765 = 1#1), ∀ a, (k1_off103 i v707) a + S1x16.size a ≤ S336x64.size a := fun i arg14 v110 v117 v119 v707 v765 k1_hw13 k1_h1 k1_h13 => k1_hw13.2.2.1 k1_h1 k1_h13
theorem k1_off104_inb : ∀ (i : grid1.Coords) (arg14 : BitVec 32) (v110 : BitVec 32) (v117 : BitVec 32) (v119 : BitVec 32) (v707 : BitVec 32) (v765 : BitVec 32) (k1_hw13 : k1_chk13 i arg14 v110 v117 v119 v707 v765), ∀ (k1_h1 : ¬(k1_cond1 i arg14 v110 v117 v119 = 1#1)), ∀ (k1_h13 : k1_cond13 i v707 v765 = 1#1), ∀ a, (k1_off104 i v707) a + S1x16.size a ≤ S336x64.size a := fun i arg14 v110 v117 v119 v707 v765 k1_hw13 k1_h1 k1_h13 => k1_hw13.2.2.2 k1_h1 k1_h13

def k1_off105 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c11_i32 : BitVec 32 := 11#32
  let v777 : BitVec 32 := Scalar.addi v105 c11_i32
  let v778 : Index := Scalar.indexCast v777
  let c0_347 : Index := 0#32
  ![v778.toNat, 0]
def k1_off106 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c11_i32_352 : BitVec 32 := 11#32
  let v789 : BitVec 32 := Scalar.addi v105 c11_i32_352
  let v790 : Index := Scalar.indexCast v789
  let c16_353 : Index := 16#32
  ![v790.toNat, 16]
def k1_off107 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c11_i32_358 : BitVec 32 := 11#32
  let v801 : BitVec 32 := Scalar.addi v105 c11_i32_358
  let v802 : Index := Scalar.indexCast v801
  let c32_359 : Index := 32#32
  ![v802.toNat, 32]
def k1_off108 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c11_i32_364 : BitVec 32 := 11#32
  let v813 : BitVec 32 := Scalar.addi v105 c11_i32_364
  let v814 : Index := Scalar.indexCast v813
  let c48_365 : Index := 48#32
  ![v814.toNat, 48]
def k1_off109 (i : grid1.Coords) (v765 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v766 : BitVec 32 := Scalar.subi v765 v10
  let c0_i32_341 : BitVec 32 := 0#32
  let v767 : BitVec 1 := Scalar.cmpi .sge v766 c0_i32_341
  let c320_i32_342 : BitVec 32 := 320#32
  let v768 : BitVec 1 := Scalar.cmpi .slt v766 c320_i32_342
  let v769 : BitVec 1 := Scalar.andi v767 v768
  let c320_i32_343 : BitVec 32 := 320#32
  let v770 : BitVec 32 := Scalar.select v769 v766 c320_i32_343
  let v1054 : Index := Scalar.indexCast v770
  let c0_476 : Index := 0#32
  ![v1054.toNat, 0]
def k1_cond14 (i : grid1.Coords) (v765 : BitVec 32) (v823 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v824 : BitVec 32 := Scalar.subi v823 v10
  let c0_i32_368 : BitVec 32 := 0#32
  let v825 : BitVec 1 := Scalar.cmpi .sge v824 c0_i32_368
  let c320_i32_369 : BitVec 32 := 320#32
  let v826 : BitVec 1 := Scalar.cmpi .slt v824 c320_i32_369
  let v827 : BitVec 1 := Scalar.andi v825 v826
  let c320_i32_370 : BitVec 32 := 320#32
  let v828 : BitVec 32 := Scalar.select v827 v824 c320_i32_370
  let v766 : BitVec 32 := Scalar.subi v765 v10
  let c0_i32_341 : BitVec 32 := 0#32
  let v767 : BitVec 1 := Scalar.cmpi .sge v766 c0_i32_341
  let c320_i32_342 : BitVec 32 := 320#32
  let v768 : BitVec 1 := Scalar.cmpi .slt v766 c320_i32_342
  let v769 : BitVec 1 := Scalar.andi v767 v768
  let c320_i32_343 : BitVec 32 := 320#32
  let v770 : BitVec 32 := Scalar.select v769 v766 c320_i32_343
  let v829 : BitVec 1 := Scalar.cmpi .ne v828 v770
  let v830 : BitVec 32 := Scalar.extui v829
  let c0_i32_371 : BitVec 32 := 0#32
  let v831 : BitVec 1 := Scalar.cmpi .ne v830 c0_i32_371
  v831

def k1_off110 (i : grid1.Coords) (v765 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v766 : BitVec 32 := Scalar.subi v765 v10
  let c0_i32_341 : BitVec 32 := 0#32
  let v767 : BitVec 1 := Scalar.cmpi .sge v766 c0_i32_341
  let c320_i32_342 : BitVec 32 := 320#32
  let v768 : BitVec 1 := Scalar.cmpi .slt v766 c320_i32_342
  let v769 : BitVec 1 := Scalar.andi v767 v768
  let c320_i32_343 : BitVec 32 := 320#32
  let v770 : BitVec 32 := Scalar.select v769 v766 c320_i32_343
  let v1065 : Index := Scalar.indexCast v770
  let c16_480 : Index := 16#32
  ![v1065.toNat, 16]
def k1_off111 (i : grid1.Coords) (v765 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v766 : BitVec 32 := Scalar.subi v765 v10
  let c0_i32_341 : BitVec 32 := 0#32
  let v767 : BitVec 1 := Scalar.cmpi .sge v766 c0_i32_341
  let c320_i32_342 : BitVec 32 := 320#32
  let v768 : BitVec 1 := Scalar.cmpi .slt v766 c320_i32_342
  let v769 : BitVec 1 := Scalar.andi v767 v768
  let c320_i32_343 : BitVec 32 := 320#32
  let v770 : BitVec 32 := Scalar.select v769 v766 c320_i32_343
  let v1076 : Index := Scalar.indexCast v770
  let c32_484 : Index := 32#32
  ![v1076.toNat, 32]
def k1_off112 (i : grid1.Coords) (v765 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v766 : BitVec 32 := Scalar.subi v765 v10
  let c0_i32_341 : BitVec 32 := 0#32
  let v767 : BitVec 1 := Scalar.cmpi .sge v766 c0_i32_341
  let c320_i32_342 : BitVec 32 := 320#32
  let v768 : BitVec 1 := Scalar.cmpi .slt v766 c320_i32_342
  let v769 : BitVec 1 := Scalar.andi v767 v768
  let c320_i32_343 : BitVec 32 := 320#32
  let v770 : BitVec 32 := Scalar.select v769 v766 c320_i32_343
  let v1087 : Index := Scalar.indexCast v770
  let c48_488 : Index := 48#32
  ![v1087.toNat, 48]

def k1_chk14 (i : grid1.Coords) (arg14 : BitVec 32) (v110 : BitVec 32) (v117 : BitVec 32) (v119 : BitVec 32) (v765 : BitVec 32) (v823 : BitVec 32) : Prop :=
  (∀ (k1_h1 : ¬(k1_cond1 i arg14 v110 v117 v119 = 1#1)), ∀ (k1_h14 : k1_cond14 i v765 v823 = 1#1), ∀ a, (k1_off109 i v765) a + S1x16.size a ≤ S336x64.size a) ∧
  (∀ (k1_h1 : ¬(k1_cond1 i arg14 v110 v117 v119 = 1#1)), ∀ (k1_h14 : k1_cond14 i v765 v823 = 1#1), ∀ a, (k1_off110 i v765) a + S1x16.size a ≤ S336x64.size a) ∧
  (∀ (k1_h1 : ¬(k1_cond1 i arg14 v110 v117 v119 = 1#1)), ∀ (k1_h14 : k1_cond14 i v765 v823 = 1#1), ∀ a, (k1_off111 i v765) a + S1x16.size a ≤ S336x64.size a) ∧
  (∀ (k1_h1 : ¬(k1_cond1 i arg14 v110 v117 v119 = 1#1)), ∀ (k1_h14 : k1_cond14 i v765 v823 = 1#1), ∀ a, (k1_off112 i v765) a + S1x16.size a ≤ S336x64.size a)
theorem k1_off109_inb : ∀ (i : grid1.Coords) (arg14 : BitVec 32) (v110 : BitVec 32) (v117 : BitVec 32) (v119 : BitVec 32) (v765 : BitVec 32) (v823 : BitVec 32) (k1_hw14 : k1_chk14 i arg14 v110 v117 v119 v765 v823), ∀ (k1_h1 : ¬(k1_cond1 i arg14 v110 v117 v119 = 1#1)), ∀ (k1_h14 : k1_cond14 i v765 v823 = 1#1), ∀ a, (k1_off109 i v765) a + S1x16.size a ≤ S336x64.size a := fun i arg14 v110 v117 v119 v765 v823 k1_hw14 k1_h1 k1_h14 => k1_hw14.1 k1_h1 k1_h14
theorem k1_off110_inb : ∀ (i : grid1.Coords) (arg14 : BitVec 32) (v110 : BitVec 32) (v117 : BitVec 32) (v119 : BitVec 32) (v765 : BitVec 32) (v823 : BitVec 32) (k1_hw14 : k1_chk14 i arg14 v110 v117 v119 v765 v823), ∀ (k1_h1 : ¬(k1_cond1 i arg14 v110 v117 v119 = 1#1)), ∀ (k1_h14 : k1_cond14 i v765 v823 = 1#1), ∀ a, (k1_off110 i v765) a + S1x16.size a ≤ S336x64.size a := fun i arg14 v110 v117 v119 v765 v823 k1_hw14 k1_h1 k1_h14 => k1_hw14.2.1 k1_h1 k1_h14
theorem k1_off111_inb : ∀ (i : grid1.Coords) (arg14 : BitVec 32) (v110 : BitVec 32) (v117 : BitVec 32) (v119 : BitVec 32) (v765 : BitVec 32) (v823 : BitVec 32) (k1_hw14 : k1_chk14 i arg14 v110 v117 v119 v765 v823), ∀ (k1_h1 : ¬(k1_cond1 i arg14 v110 v117 v119 = 1#1)), ∀ (k1_h14 : k1_cond14 i v765 v823 = 1#1), ∀ a, (k1_off111 i v765) a + S1x16.size a ≤ S336x64.size a := fun i arg14 v110 v117 v119 v765 v823 k1_hw14 k1_h1 k1_h14 => k1_hw14.2.2.1 k1_h1 k1_h14
theorem k1_off112_inb : ∀ (i : grid1.Coords) (arg14 : BitVec 32) (v110 : BitVec 32) (v117 : BitVec 32) (v119 : BitVec 32) (v765 : BitVec 32) (v823 : BitVec 32) (k1_hw14 : k1_chk14 i arg14 v110 v117 v119 v765 v823), ∀ (k1_h1 : ¬(k1_cond1 i arg14 v110 v117 v119 = 1#1)), ∀ (k1_h14 : k1_cond14 i v765 v823 = 1#1), ∀ a, (k1_off112 i v765) a + S1x16.size a ≤ S336x64.size a := fun i arg14 v110 v117 v119 v765 v823 k1_hw14 k1_h1 k1_h14 => k1_hw14.2.2.2 k1_h1 k1_h14

def k1_off113 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c12_i32 : BitVec 32 := 12#32
  let v835 : BitVec 32 := Scalar.addi v105 c12_i32
  let v836 : Index := Scalar.indexCast v835
  let c0_374 : Index := 0#32
  ![v836.toNat, 0]
def k1_off114 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c12_i32_379 : BitVec 32 := 12#32
  let v847 : BitVec 32 := Scalar.addi v105 c12_i32_379
  let v848 : Index := Scalar.indexCast v847
  let c16_380 : Index := 16#32
  ![v848.toNat, 16]
def k1_off115 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c12_i32_385 : BitVec 32 := 12#32
  let v859 : BitVec 32 := Scalar.addi v105 c12_i32_385
  let v860 : Index := Scalar.indexCast v859
  let c32_386 : Index := 32#32
  ![v860.toNat, 32]
def k1_off116 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c12_i32_391 : BitVec 32 := 12#32
  let v871 : BitVec 32 := Scalar.addi v105 c12_i32_391
  let v872 : Index := Scalar.indexCast v871
  let c48_392 : Index := 48#32
  ![v872.toNat, 48]
def k1_off117 (i : grid1.Coords) (v823 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v824 : BitVec 32 := Scalar.subi v823 v10
  let c0_i32_368 : BitVec 32 := 0#32
  let v825 : BitVec 1 := Scalar.cmpi .sge v824 c0_i32_368
  let c320_i32_369 : BitVec 32 := 320#32
  let v826 : BitVec 1 := Scalar.cmpi .slt v824 c320_i32_369
  let v827 : BitVec 1 := Scalar.andi v825 v826
  let c320_i32_370 : BitVec 32 := 320#32
  let v828 : BitVec 32 := Scalar.select v827 v824 c320_i32_370
  let v1054 : Index := Scalar.indexCast v828
  let c0_476 : Index := 0#32
  ![v1054.toNat, 0]
def k1_cond15 (i : grid1.Coords) (v823 : BitVec 32) (v881 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v882 : BitVec 32 := Scalar.subi v881 v10
  let c0_i32_395 : BitVec 32 := 0#32
  let v883 : BitVec 1 := Scalar.cmpi .sge v882 c0_i32_395
  let c320_i32_396 : BitVec 32 := 320#32
  let v884 : BitVec 1 := Scalar.cmpi .slt v882 c320_i32_396
  let v885 : BitVec 1 := Scalar.andi v883 v884
  let c320_i32_397 : BitVec 32 := 320#32
  let v886 : BitVec 32 := Scalar.select v885 v882 c320_i32_397
  let v824 : BitVec 32 := Scalar.subi v823 v10
  let c0_i32_368 : BitVec 32 := 0#32
  let v825 : BitVec 1 := Scalar.cmpi .sge v824 c0_i32_368
  let c320_i32_369 : BitVec 32 := 320#32
  let v826 : BitVec 1 := Scalar.cmpi .slt v824 c320_i32_369
  let v827 : BitVec 1 := Scalar.andi v825 v826
  let c320_i32_370 : BitVec 32 := 320#32
  let v828 : BitVec 32 := Scalar.select v827 v824 c320_i32_370
  let v887 : BitVec 1 := Scalar.cmpi .ne v886 v828
  let v888 : BitVec 32 := Scalar.extui v887
  let c0_i32_398 : BitVec 32 := 0#32
  let v889 : BitVec 1 := Scalar.cmpi .ne v888 c0_i32_398
  v889

def k1_off118 (i : grid1.Coords) (v823 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v824 : BitVec 32 := Scalar.subi v823 v10
  let c0_i32_368 : BitVec 32 := 0#32
  let v825 : BitVec 1 := Scalar.cmpi .sge v824 c0_i32_368
  let c320_i32_369 : BitVec 32 := 320#32
  let v826 : BitVec 1 := Scalar.cmpi .slt v824 c320_i32_369
  let v827 : BitVec 1 := Scalar.andi v825 v826
  let c320_i32_370 : BitVec 32 := 320#32
  let v828 : BitVec 32 := Scalar.select v827 v824 c320_i32_370
  let v1065 : Index := Scalar.indexCast v828
  let c16_480 : Index := 16#32
  ![v1065.toNat, 16]
def k1_off119 (i : grid1.Coords) (v823 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v824 : BitVec 32 := Scalar.subi v823 v10
  let c0_i32_368 : BitVec 32 := 0#32
  let v825 : BitVec 1 := Scalar.cmpi .sge v824 c0_i32_368
  let c320_i32_369 : BitVec 32 := 320#32
  let v826 : BitVec 1 := Scalar.cmpi .slt v824 c320_i32_369
  let v827 : BitVec 1 := Scalar.andi v825 v826
  let c320_i32_370 : BitVec 32 := 320#32
  let v828 : BitVec 32 := Scalar.select v827 v824 c320_i32_370
  let v1076 : Index := Scalar.indexCast v828
  let c32_484 : Index := 32#32
  ![v1076.toNat, 32]
def k1_off120 (i : grid1.Coords) (v823 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v824 : BitVec 32 := Scalar.subi v823 v10
  let c0_i32_368 : BitVec 32 := 0#32
  let v825 : BitVec 1 := Scalar.cmpi .sge v824 c0_i32_368
  let c320_i32_369 : BitVec 32 := 320#32
  let v826 : BitVec 1 := Scalar.cmpi .slt v824 c320_i32_369
  let v827 : BitVec 1 := Scalar.andi v825 v826
  let c320_i32_370 : BitVec 32 := 320#32
  let v828 : BitVec 32 := Scalar.select v827 v824 c320_i32_370
  let v1087 : Index := Scalar.indexCast v828
  let c48_488 : Index := 48#32
  ![v1087.toNat, 48]

def k1_chk15 (i : grid1.Coords) (arg14 : BitVec 32) (v110 : BitVec 32) (v117 : BitVec 32) (v119 : BitVec 32) (v823 : BitVec 32) (v881 : BitVec 32) : Prop :=
  (∀ (k1_h1 : ¬(k1_cond1 i arg14 v110 v117 v119 = 1#1)), ∀ (k1_h15 : k1_cond15 i v823 v881 = 1#1), ∀ a, (k1_off117 i v823) a + S1x16.size a ≤ S336x64.size a) ∧
  (∀ (k1_h1 : ¬(k1_cond1 i arg14 v110 v117 v119 = 1#1)), ∀ (k1_h15 : k1_cond15 i v823 v881 = 1#1), ∀ a, (k1_off118 i v823) a + S1x16.size a ≤ S336x64.size a) ∧
  (∀ (k1_h1 : ¬(k1_cond1 i arg14 v110 v117 v119 = 1#1)), ∀ (k1_h15 : k1_cond15 i v823 v881 = 1#1), ∀ a, (k1_off119 i v823) a + S1x16.size a ≤ S336x64.size a) ∧
  (∀ (k1_h1 : ¬(k1_cond1 i arg14 v110 v117 v119 = 1#1)), ∀ (k1_h15 : k1_cond15 i v823 v881 = 1#1), ∀ a, (k1_off120 i v823) a + S1x16.size a ≤ S336x64.size a)
theorem k1_off117_inb : ∀ (i : grid1.Coords) (arg14 : BitVec 32) (v110 : BitVec 32) (v117 : BitVec 32) (v119 : BitVec 32) (v823 : BitVec 32) (v881 : BitVec 32) (k1_hw15 : k1_chk15 i arg14 v110 v117 v119 v823 v881), ∀ (k1_h1 : ¬(k1_cond1 i arg14 v110 v117 v119 = 1#1)), ∀ (k1_h15 : k1_cond15 i v823 v881 = 1#1), ∀ a, (k1_off117 i v823) a + S1x16.size a ≤ S336x64.size a := fun i arg14 v110 v117 v119 v823 v881 k1_hw15 k1_h1 k1_h15 => k1_hw15.1 k1_h1 k1_h15
theorem k1_off118_inb : ∀ (i : grid1.Coords) (arg14 : BitVec 32) (v110 : BitVec 32) (v117 : BitVec 32) (v119 : BitVec 32) (v823 : BitVec 32) (v881 : BitVec 32) (k1_hw15 : k1_chk15 i arg14 v110 v117 v119 v823 v881), ∀ (k1_h1 : ¬(k1_cond1 i arg14 v110 v117 v119 = 1#1)), ∀ (k1_h15 : k1_cond15 i v823 v881 = 1#1), ∀ a, (k1_off118 i v823) a + S1x16.size a ≤ S336x64.size a := fun i arg14 v110 v117 v119 v823 v881 k1_hw15 k1_h1 k1_h15 => k1_hw15.2.1 k1_h1 k1_h15
theorem k1_off119_inb : ∀ (i : grid1.Coords) (arg14 : BitVec 32) (v110 : BitVec 32) (v117 : BitVec 32) (v119 : BitVec 32) (v823 : BitVec 32) (v881 : BitVec 32) (k1_hw15 : k1_chk15 i arg14 v110 v117 v119 v823 v881), ∀ (k1_h1 : ¬(k1_cond1 i arg14 v110 v117 v119 = 1#1)), ∀ (k1_h15 : k1_cond15 i v823 v881 = 1#1), ∀ a, (k1_off119 i v823) a + S1x16.size a ≤ S336x64.size a := fun i arg14 v110 v117 v119 v823 v881 k1_hw15 k1_h1 k1_h15 => k1_hw15.2.2.1 k1_h1 k1_h15
theorem k1_off120_inb : ∀ (i : grid1.Coords) (arg14 : BitVec 32) (v110 : BitVec 32) (v117 : BitVec 32) (v119 : BitVec 32) (v823 : BitVec 32) (v881 : BitVec 32) (k1_hw15 : k1_chk15 i arg14 v110 v117 v119 v823 v881), ∀ (k1_h1 : ¬(k1_cond1 i arg14 v110 v117 v119 = 1#1)), ∀ (k1_h15 : k1_cond15 i v823 v881 = 1#1), ∀ a, (k1_off120 i v823) a + S1x16.size a ≤ S336x64.size a := fun i arg14 v110 v117 v119 v823 v881 k1_hw15 k1_h1 k1_h15 => k1_hw15.2.2.2 k1_h1 k1_h15

def k1_off121 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c13_i32 : BitVec 32 := 13#32
  let v893 : BitVec 32 := Scalar.addi v105 c13_i32
  let v894 : Index := Scalar.indexCast v893
  let c0_401 : Index := 0#32
  ![v894.toNat, 0]
def k1_off122 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c13_i32_406 : BitVec 32 := 13#32
  let v905 : BitVec 32 := Scalar.addi v105 c13_i32_406
  let v906 : Index := Scalar.indexCast v905
  let c16_407 : Index := 16#32
  ![v906.toNat, 16]
def k1_off123 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c13_i32_412 : BitVec 32 := 13#32
  let v917 : BitVec 32 := Scalar.addi v105 c13_i32_412
  let v918 : Index := Scalar.indexCast v917
  let c32_413 : Index := 32#32
  ![v918.toNat, 32]
def k1_off124 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c13_i32_418 : BitVec 32 := 13#32
  let v929 : BitVec 32 := Scalar.addi v105 c13_i32_418
  let v930 : Index := Scalar.indexCast v929
  let c48_419 : Index := 48#32
  ![v930.toNat, 48]
def k1_off125 (i : grid1.Coords) (v881 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v882 : BitVec 32 := Scalar.subi v881 v10
  let c0_i32_395 : BitVec 32 := 0#32
  let v883 : BitVec 1 := Scalar.cmpi .sge v882 c0_i32_395
  let c320_i32_396 : BitVec 32 := 320#32
  let v884 : BitVec 1 := Scalar.cmpi .slt v882 c320_i32_396
  let v885 : BitVec 1 := Scalar.andi v883 v884
  let c320_i32_397 : BitVec 32 := 320#32
  let v886 : BitVec 32 := Scalar.select v885 v882 c320_i32_397
  let v1054 : Index := Scalar.indexCast v886
  let c0_476 : Index := 0#32
  ![v1054.toNat, 0]
def k1_cond16 (i : grid1.Coords) (v881 : BitVec 32) (v939 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v940 : BitVec 32 := Scalar.subi v939 v10
  let c0_i32_422 : BitVec 32 := 0#32
  let v941 : BitVec 1 := Scalar.cmpi .sge v940 c0_i32_422
  let c320_i32_423 : BitVec 32 := 320#32
  let v942 : BitVec 1 := Scalar.cmpi .slt v940 c320_i32_423
  let v943 : BitVec 1 := Scalar.andi v941 v942
  let c320_i32_424 : BitVec 32 := 320#32
  let v944 : BitVec 32 := Scalar.select v943 v940 c320_i32_424
  let v882 : BitVec 32 := Scalar.subi v881 v10
  let c0_i32_395 : BitVec 32 := 0#32
  let v883 : BitVec 1 := Scalar.cmpi .sge v882 c0_i32_395
  let c320_i32_396 : BitVec 32 := 320#32
  let v884 : BitVec 1 := Scalar.cmpi .slt v882 c320_i32_396
  let v885 : BitVec 1 := Scalar.andi v883 v884
  let c320_i32_397 : BitVec 32 := 320#32
  let v886 : BitVec 32 := Scalar.select v885 v882 c320_i32_397
  let v945 : BitVec 1 := Scalar.cmpi .ne v944 v886
  let v946 : BitVec 32 := Scalar.extui v945
  let c0_i32_425 : BitVec 32 := 0#32
  let v947 : BitVec 1 := Scalar.cmpi .ne v946 c0_i32_425
  v947

def k1_off126 (i : grid1.Coords) (v881 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v882 : BitVec 32 := Scalar.subi v881 v10
  let c0_i32_395 : BitVec 32 := 0#32
  let v883 : BitVec 1 := Scalar.cmpi .sge v882 c0_i32_395
  let c320_i32_396 : BitVec 32 := 320#32
  let v884 : BitVec 1 := Scalar.cmpi .slt v882 c320_i32_396
  let v885 : BitVec 1 := Scalar.andi v883 v884
  let c320_i32_397 : BitVec 32 := 320#32
  let v886 : BitVec 32 := Scalar.select v885 v882 c320_i32_397
  let v1065 : Index := Scalar.indexCast v886
  let c16_480 : Index := 16#32
  ![v1065.toNat, 16]
def k1_off127 (i : grid1.Coords) (v881 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v882 : BitVec 32 := Scalar.subi v881 v10
  let c0_i32_395 : BitVec 32 := 0#32
  let v883 : BitVec 1 := Scalar.cmpi .sge v882 c0_i32_395
  let c320_i32_396 : BitVec 32 := 320#32
  let v884 : BitVec 1 := Scalar.cmpi .slt v882 c320_i32_396
  let v885 : BitVec 1 := Scalar.andi v883 v884
  let c320_i32_397 : BitVec 32 := 320#32
  let v886 : BitVec 32 := Scalar.select v885 v882 c320_i32_397
  let v1076 : Index := Scalar.indexCast v886
  let c32_484 : Index := 32#32
  ![v1076.toNat, 32]
def k1_off128 (i : grid1.Coords) (v881 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v882 : BitVec 32 := Scalar.subi v881 v10
  let c0_i32_395 : BitVec 32 := 0#32
  let v883 : BitVec 1 := Scalar.cmpi .sge v882 c0_i32_395
  let c320_i32_396 : BitVec 32 := 320#32
  let v884 : BitVec 1 := Scalar.cmpi .slt v882 c320_i32_396
  let v885 : BitVec 1 := Scalar.andi v883 v884
  let c320_i32_397 : BitVec 32 := 320#32
  let v886 : BitVec 32 := Scalar.select v885 v882 c320_i32_397
  let v1087 : Index := Scalar.indexCast v886
  let c48_488 : Index := 48#32
  ![v1087.toNat, 48]

def k1_chk16 (i : grid1.Coords) (arg14 : BitVec 32) (v110 : BitVec 32) (v117 : BitVec 32) (v119 : BitVec 32) (v881 : BitVec 32) (v939 : BitVec 32) : Prop :=
  (∀ (k1_h1 : ¬(k1_cond1 i arg14 v110 v117 v119 = 1#1)), ∀ (k1_h16 : k1_cond16 i v881 v939 = 1#1), ∀ a, (k1_off125 i v881) a + S1x16.size a ≤ S336x64.size a) ∧
  (∀ (k1_h1 : ¬(k1_cond1 i arg14 v110 v117 v119 = 1#1)), ∀ (k1_h16 : k1_cond16 i v881 v939 = 1#1), ∀ a, (k1_off126 i v881) a + S1x16.size a ≤ S336x64.size a) ∧
  (∀ (k1_h1 : ¬(k1_cond1 i arg14 v110 v117 v119 = 1#1)), ∀ (k1_h16 : k1_cond16 i v881 v939 = 1#1), ∀ a, (k1_off127 i v881) a + S1x16.size a ≤ S336x64.size a) ∧
  (∀ (k1_h1 : ¬(k1_cond1 i arg14 v110 v117 v119 = 1#1)), ∀ (k1_h16 : k1_cond16 i v881 v939 = 1#1), ∀ a, (k1_off128 i v881) a + S1x16.size a ≤ S336x64.size a)
theorem k1_off125_inb : ∀ (i : grid1.Coords) (arg14 : BitVec 32) (v110 : BitVec 32) (v117 : BitVec 32) (v119 : BitVec 32) (v881 : BitVec 32) (v939 : BitVec 32) (k1_hw16 : k1_chk16 i arg14 v110 v117 v119 v881 v939), ∀ (k1_h1 : ¬(k1_cond1 i arg14 v110 v117 v119 = 1#1)), ∀ (k1_h16 : k1_cond16 i v881 v939 = 1#1), ∀ a, (k1_off125 i v881) a + S1x16.size a ≤ S336x64.size a := fun i arg14 v110 v117 v119 v881 v939 k1_hw16 k1_h1 k1_h16 => k1_hw16.1 k1_h1 k1_h16
theorem k1_off126_inb : ∀ (i : grid1.Coords) (arg14 : BitVec 32) (v110 : BitVec 32) (v117 : BitVec 32) (v119 : BitVec 32) (v881 : BitVec 32) (v939 : BitVec 32) (k1_hw16 : k1_chk16 i arg14 v110 v117 v119 v881 v939), ∀ (k1_h1 : ¬(k1_cond1 i arg14 v110 v117 v119 = 1#1)), ∀ (k1_h16 : k1_cond16 i v881 v939 = 1#1), ∀ a, (k1_off126 i v881) a + S1x16.size a ≤ S336x64.size a := fun i arg14 v110 v117 v119 v881 v939 k1_hw16 k1_h1 k1_h16 => k1_hw16.2.1 k1_h1 k1_h16
theorem k1_off127_inb : ∀ (i : grid1.Coords) (arg14 : BitVec 32) (v110 : BitVec 32) (v117 : BitVec 32) (v119 : BitVec 32) (v881 : BitVec 32) (v939 : BitVec 32) (k1_hw16 : k1_chk16 i arg14 v110 v117 v119 v881 v939), ∀ (k1_h1 : ¬(k1_cond1 i arg14 v110 v117 v119 = 1#1)), ∀ (k1_h16 : k1_cond16 i v881 v939 = 1#1), ∀ a, (k1_off127 i v881) a + S1x16.size a ≤ S336x64.size a := fun i arg14 v110 v117 v119 v881 v939 k1_hw16 k1_h1 k1_h16 => k1_hw16.2.2.1 k1_h1 k1_h16
theorem k1_off128_inb : ∀ (i : grid1.Coords) (arg14 : BitVec 32) (v110 : BitVec 32) (v117 : BitVec 32) (v119 : BitVec 32) (v881 : BitVec 32) (v939 : BitVec 32) (k1_hw16 : k1_chk16 i arg14 v110 v117 v119 v881 v939), ∀ (k1_h1 : ¬(k1_cond1 i arg14 v110 v117 v119 = 1#1)), ∀ (k1_h16 : k1_cond16 i v881 v939 = 1#1), ∀ a, (k1_off128 i v881) a + S1x16.size a ≤ S336x64.size a := fun i arg14 v110 v117 v119 v881 v939 k1_hw16 k1_h1 k1_h16 => k1_hw16.2.2.2 k1_h1 k1_h16

def k1_off129 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c14_i32 : BitVec 32 := 14#32
  let v951 : BitVec 32 := Scalar.addi v105 c14_i32
  let v952 : Index := Scalar.indexCast v951
  let c0_428 : Index := 0#32
  ![v952.toNat, 0]
def k1_off130 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c14_i32_433 : BitVec 32 := 14#32
  let v963 : BitVec 32 := Scalar.addi v105 c14_i32_433
  let v964 : Index := Scalar.indexCast v963
  let c16_434 : Index := 16#32
  ![v964.toNat, 16]
def k1_off131 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c14_i32_439 : BitVec 32 := 14#32
  let v975 : BitVec 32 := Scalar.addi v105 c14_i32_439
  let v976 : Index := Scalar.indexCast v975
  let c32_440 : Index := 32#32
  ![v976.toNat, 32]
def k1_off132 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c14_i32_445 : BitVec 32 := 14#32
  let v987 : BitVec 32 := Scalar.addi v105 c14_i32_445
  let v988 : Index := Scalar.indexCast v987
  let c48_446 : Index := 48#32
  ![v988.toNat, 48]
def k1_off133 (i : grid1.Coords) (v939 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v940 : BitVec 32 := Scalar.subi v939 v10
  let c0_i32_422 : BitVec 32 := 0#32
  let v941 : BitVec 1 := Scalar.cmpi .sge v940 c0_i32_422
  let c320_i32_423 : BitVec 32 := 320#32
  let v942 : BitVec 1 := Scalar.cmpi .slt v940 c320_i32_423
  let v943 : BitVec 1 := Scalar.andi v941 v942
  let c320_i32_424 : BitVec 32 := 320#32
  let v944 : BitVec 32 := Scalar.select v943 v940 c320_i32_424
  let v1054 : Index := Scalar.indexCast v944
  let c0_476 : Index := 0#32
  ![v1054.toNat, 0]
def k1_cond17 (i : grid1.Coords) (v939 : BitVec 32) (v997 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v998 : BitVec 32 := Scalar.subi v997 v10
  let c0_i32_449 : BitVec 32 := 0#32
  let v999 : BitVec 1 := Scalar.cmpi .sge v998 c0_i32_449
  let c320_i32_450 : BitVec 32 := 320#32
  let v1000 : BitVec 1 := Scalar.cmpi .slt v998 c320_i32_450
  let v1001 : BitVec 1 := Scalar.andi v999 v1000
  let c320_i32_451 : BitVec 32 := 320#32
  let v1002 : BitVec 32 := Scalar.select v1001 v998 c320_i32_451
  let v940 : BitVec 32 := Scalar.subi v939 v10
  let c0_i32_422 : BitVec 32 := 0#32
  let v941 : BitVec 1 := Scalar.cmpi .sge v940 c0_i32_422
  let c320_i32_423 : BitVec 32 := 320#32
  let v942 : BitVec 1 := Scalar.cmpi .slt v940 c320_i32_423
  let v943 : BitVec 1 := Scalar.andi v941 v942
  let c320_i32_424 : BitVec 32 := 320#32
  let v944 : BitVec 32 := Scalar.select v943 v940 c320_i32_424
  let v1003 : BitVec 1 := Scalar.cmpi .ne v1002 v944
  let v1004 : BitVec 32 := Scalar.extui v1003
  let c0_i32_452 : BitVec 32 := 0#32
  let v1005 : BitVec 1 := Scalar.cmpi .ne v1004 c0_i32_452
  v1005

def k1_off134 (i : grid1.Coords) (v939 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v940 : BitVec 32 := Scalar.subi v939 v10
  let c0_i32_422 : BitVec 32 := 0#32
  let v941 : BitVec 1 := Scalar.cmpi .sge v940 c0_i32_422
  let c320_i32_423 : BitVec 32 := 320#32
  let v942 : BitVec 1 := Scalar.cmpi .slt v940 c320_i32_423
  let v943 : BitVec 1 := Scalar.andi v941 v942
  let c320_i32_424 : BitVec 32 := 320#32
  let v944 : BitVec 32 := Scalar.select v943 v940 c320_i32_424
  let v1065 : Index := Scalar.indexCast v944
  let c16_480 : Index := 16#32
  ![v1065.toNat, 16]
def k1_off135 (i : grid1.Coords) (v939 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v940 : BitVec 32 := Scalar.subi v939 v10
  let c0_i32_422 : BitVec 32 := 0#32
  let v941 : BitVec 1 := Scalar.cmpi .sge v940 c0_i32_422
  let c320_i32_423 : BitVec 32 := 320#32
  let v942 : BitVec 1 := Scalar.cmpi .slt v940 c320_i32_423
  let v943 : BitVec 1 := Scalar.andi v941 v942
  let c320_i32_424 : BitVec 32 := 320#32
  let v944 : BitVec 32 := Scalar.select v943 v940 c320_i32_424
  let v1076 : Index := Scalar.indexCast v944
  let c32_484 : Index := 32#32
  ![v1076.toNat, 32]
def k1_off136 (i : grid1.Coords) (v939 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v940 : BitVec 32 := Scalar.subi v939 v10
  let c0_i32_422 : BitVec 32 := 0#32
  let v941 : BitVec 1 := Scalar.cmpi .sge v940 c0_i32_422
  let c320_i32_423 : BitVec 32 := 320#32
  let v942 : BitVec 1 := Scalar.cmpi .slt v940 c320_i32_423
  let v943 : BitVec 1 := Scalar.andi v941 v942
  let c320_i32_424 : BitVec 32 := 320#32
  let v944 : BitVec 32 := Scalar.select v943 v940 c320_i32_424
  let v1087 : Index := Scalar.indexCast v944
  let c48_488 : Index := 48#32
  ![v1087.toNat, 48]

def k1_chk17 (i : grid1.Coords) (arg14 : BitVec 32) (v110 : BitVec 32) (v117 : BitVec 32) (v119 : BitVec 32) (v939 : BitVec 32) (v997 : BitVec 32) : Prop :=
  (∀ (k1_h1 : ¬(k1_cond1 i arg14 v110 v117 v119 = 1#1)), ∀ (k1_h17 : k1_cond17 i v939 v997 = 1#1), ∀ a, (k1_off133 i v939) a + S1x16.size a ≤ S336x64.size a) ∧
  (∀ (k1_h1 : ¬(k1_cond1 i arg14 v110 v117 v119 = 1#1)), ∀ (k1_h17 : k1_cond17 i v939 v997 = 1#1), ∀ a, (k1_off134 i v939) a + S1x16.size a ≤ S336x64.size a) ∧
  (∀ (k1_h1 : ¬(k1_cond1 i arg14 v110 v117 v119 = 1#1)), ∀ (k1_h17 : k1_cond17 i v939 v997 = 1#1), ∀ a, (k1_off135 i v939) a + S1x16.size a ≤ S336x64.size a) ∧
  (∀ (k1_h1 : ¬(k1_cond1 i arg14 v110 v117 v119 = 1#1)), ∀ (k1_h17 : k1_cond17 i v939 v997 = 1#1), ∀ a, (k1_off136 i v939) a + S1x16.size a ≤ S336x64.size a)
theorem k1_off133_inb : ∀ (i : grid1.Coords) (arg14 : BitVec 32) (v110 : BitVec 32) (v117 : BitVec 32) (v119 : BitVec 32) (v939 : BitVec 32) (v997 : BitVec 32) (k1_hw17 : k1_chk17 i arg14 v110 v117 v119 v939 v997), ∀ (k1_h1 : ¬(k1_cond1 i arg14 v110 v117 v119 = 1#1)), ∀ (k1_h17 : k1_cond17 i v939 v997 = 1#1), ∀ a, (k1_off133 i v939) a + S1x16.size a ≤ S336x64.size a := fun i arg14 v110 v117 v119 v939 v997 k1_hw17 k1_h1 k1_h17 => k1_hw17.1 k1_h1 k1_h17
theorem k1_off134_inb : ∀ (i : grid1.Coords) (arg14 : BitVec 32) (v110 : BitVec 32) (v117 : BitVec 32) (v119 : BitVec 32) (v939 : BitVec 32) (v997 : BitVec 32) (k1_hw17 : k1_chk17 i arg14 v110 v117 v119 v939 v997), ∀ (k1_h1 : ¬(k1_cond1 i arg14 v110 v117 v119 = 1#1)), ∀ (k1_h17 : k1_cond17 i v939 v997 = 1#1), ∀ a, (k1_off134 i v939) a + S1x16.size a ≤ S336x64.size a := fun i arg14 v110 v117 v119 v939 v997 k1_hw17 k1_h1 k1_h17 => k1_hw17.2.1 k1_h1 k1_h17
theorem k1_off135_inb : ∀ (i : grid1.Coords) (arg14 : BitVec 32) (v110 : BitVec 32) (v117 : BitVec 32) (v119 : BitVec 32) (v939 : BitVec 32) (v997 : BitVec 32) (k1_hw17 : k1_chk17 i arg14 v110 v117 v119 v939 v997), ∀ (k1_h1 : ¬(k1_cond1 i arg14 v110 v117 v119 = 1#1)), ∀ (k1_h17 : k1_cond17 i v939 v997 = 1#1), ∀ a, (k1_off135 i v939) a + S1x16.size a ≤ S336x64.size a := fun i arg14 v110 v117 v119 v939 v997 k1_hw17 k1_h1 k1_h17 => k1_hw17.2.2.1 k1_h1 k1_h17
theorem k1_off136_inb : ∀ (i : grid1.Coords) (arg14 : BitVec 32) (v110 : BitVec 32) (v117 : BitVec 32) (v119 : BitVec 32) (v939 : BitVec 32) (v997 : BitVec 32) (k1_hw17 : k1_chk17 i arg14 v110 v117 v119 v939 v997), ∀ (k1_h1 : ¬(k1_cond1 i arg14 v110 v117 v119 = 1#1)), ∀ (k1_h17 : k1_cond17 i v939 v997 = 1#1), ∀ a, (k1_off136 i v939) a + S1x16.size a ≤ S336x64.size a := fun i arg14 v110 v117 v119 v939 v997 k1_hw17 k1_h1 k1_h17 => k1_hw17.2.2.2 k1_h1 k1_h17

def k1_off137 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c15_i32 : BitVec 32 := 15#32
  let v1009 : BitVec 32 := Scalar.addi v105 c15_i32
  let v1010 : Index := Scalar.indexCast v1009
  let c0_455 : Index := 0#32
  ![v1010.toNat, 0]
def k1_off138 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c15_i32_460 : BitVec 32 := 15#32
  let v1021 : BitVec 32 := Scalar.addi v105 c15_i32_460
  let v1022 : Index := Scalar.indexCast v1021
  let c16_461 : Index := 16#32
  ![v1022.toNat, 16]
def k1_off139 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c15_i32_466 : BitVec 32 := 15#32
  let v1033 : BitVec 32 := Scalar.addi v105 c15_i32_466
  let v1034 : Index := Scalar.indexCast v1033
  let c32_467 : Index := 32#32
  ![v1034.toNat, 32]
def k1_off140 (k1_t3 : Fin k1_t3_loop.trips) : Fin 2 → Nat :=
  let c0_i32_34 : BitVec 32 := 0#32
  let c1_i32_35 : BitVec 32 := 1#32
  let arg13 : BitVec 32 := Scf.iv c0_i32_34 c1_i32_35 k1_t3
  let c16_i32 : BitVec 32 := 16#32
  let v105 : BitVec 32 := Scalar.muli arg13 c16_i32
  let c15_i32_472 : BitVec 32 := 15#32
  let v1045 : BitVec 32 := Scalar.addi v105 c15_i32_472
  let v1046 : Index := Scalar.indexCast v1045
  let c48_473 : Index := 48#32
  ![v1046.toNat, 48]
@[reducible] def k1_t4_loop (v6 : BitVec 32) (v8 : BitVec 32) : Scf.Loop 32 :=
  let c0_i32_12 : BitVec 32 := 0#32
  let c_m16_i32 : BitVec 32 := 4294967280#32
  let v9 : BitVec 32 := Scalar.andi v6 c_m16_i32
  let v12 : BitVec 32 := Scalar.subi v8 v9
  let c511_i32 : BitVec 32 := 511#32
  let v13 : BitVec 32 := Scalar.addi v12 c511_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c512_i32 : BitVec 32 := 512#32
  let c0_i32_4 : BitVec 32 := 0#32
  let v20 : BitVec 1 := Scalar.cmpi .sgt c512_i32 c0_i32_4
  let v21 : BitVec 32 := Scalar.extui v20
  let c0_i32_5 : BitVec 32 := 0#32
  let v22 : BitVec 1 := Scalar.cmpi .slt c512_i32 c0_i32_5
  let v23 : BitVec 32 := Scalar.extui v22
  let v24 : BitVec 32 := Scalar.subi v21 v23
  let v25 : BitVec 1 := Scalar.cmpi .ne v19 v24
  let v26 : BitVec 32 := Scalar.remsi v13 c512_i32
  let c0_i32_6 : BitVec 32 := 0#32
  let v27 : BitVec 1 := Scalar.cmpi .ne v26 c0_i32_6
  let v28 : BitVec 1 := Scalar.andi v25 v27
  let v14 : BitVec 32 := Scalar.divsi v13 c512_i32
  let c1_i32_7 : BitVec 32 := 1#32
  let v29 : BitVec 32 := Scalar.subi v14 c1_i32_7
  let v30 : BitVec 32 := Scalar.select v28 v29 v14
  let v48 : BitVec 32 := Scalar.subi v30 c0_i32_12
  let c1_i32_14 : BitVec 32 := 1#32
  let v50 : BitVec 32 := Scalar.divsi v48 c1_i32_14
  let v51 : BitVec 32 := Scalar.muli v50 c1_i32_14
  let v52 : BitVec 32 := Scalar.addi c0_i32_12 v51
  let v49 : BitVec 32 := Scalar.addi c0_i32_12 v48
  let c1_i32_16 : BitVec 32 := 1#32
  ⟨v52, v49, c1_i32_16⟩
def k1_mult2 (v6 : BitVec 32) (v8 : BitVec 32) (k1_t4 : Fin (k1_t4_loop v6 v8).trips) : BitVec 32 :=
  let c_m16_i32 : BitVec 32 := 4294967280#32
  let v9 : BitVec 32 := Scalar.andi v6 c_m16_i32
  let c0_i32_12 : BitVec 32 := 0#32
  let v12 : BitVec 32 := Scalar.subi v8 v9
  let c511_i32 : BitVec 32 := 511#32
  let v13 : BitVec 32 := Scalar.addi v12 c511_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c512_i32 : BitVec 32 := 512#32
  let c0_i32_4 : BitVec 32 := 0#32
  let v20 : BitVec 1 := Scalar.cmpi .sgt c512_i32 c0_i32_4
  let v21 : BitVec 32 := Scalar.extui v20
  let c0_i32_5 : BitVec 32 := 0#32
  let v22 : BitVec 1 := Scalar.cmpi .slt c512_i32 c0_i32_5
  let v23 : BitVec 32 := Scalar.extui v22
  let v24 : BitVec 32 := Scalar.subi v21 v23
  let v25 : BitVec 1 := Scalar.cmpi .ne v19 v24
  let v26 : BitVec 32 := Scalar.remsi v13 c512_i32
  let c0_i32_6 : BitVec 32 := 0#32
  let v27 : BitVec 1 := Scalar.cmpi .ne v26 c0_i32_6
  let v28 : BitVec 1 := Scalar.andi v25 v27
  let v14 : BitVec 32 := Scalar.divsi v13 c512_i32
  let c1_i32_7 : BitVec 32 := 1#32
  let v29 : BitVec 32 := Scalar.subi v14 c1_i32_7
  let v30 : BitVec 32 := Scalar.select v28 v29 v14
  let v48 : BitVec 32 := Scalar.subi v30 c0_i32_12
  let c1_i32_14 : BitVec 32 := 1#32
  let v50 : BitVec 32 := Scalar.divsi v48 c1_i32_14
  let v51 : BitVec 32 := Scalar.muli v50 c1_i32_14
  let v52 : BitVec 32 := Scalar.addi c0_i32_12 v51
  let c1_i32_16 : BitVec 32 := 1#32
  let arg11 : BitVec 32 := Scf.iv v52 c1_i32_16 k1_t4
  let c512_i32_33 : BitVec 32 := 512#32
  let v99 : BitVec 32 := Scalar.muli arg11 c512_i32_33
  let v100 : BitVec 32 := Scalar.addi v9 v99
  let c639488_i32 : BitVec 32 := 639488#32
  let v101 : BitVec 32 := Scalar.minsi v100 c639488_i32
  v101
def k1_off141 (v6 : BitVec 32) (v8 : BitVec 32) (k1_t4 : Fin (k1_t4_loop v6 v8).trips) : Fin 1 → Nat :=
  let c_m16_i32 : BitVec 32 := 4294967280#32
  let v9 : BitVec 32 := Scalar.andi v6 c_m16_i32
  let c0_i32_12 : BitVec 32 := 0#32
  let v12 : BitVec 32 := Scalar.subi v8 v9
  let c511_i32 : BitVec 32 := 511#32
  let v13 : BitVec 32 := Scalar.addi v12 c511_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c512_i32 : BitVec 32 := 512#32
  let c0_i32_4 : BitVec 32 := 0#32
  let v20 : BitVec 1 := Scalar.cmpi .sgt c512_i32 c0_i32_4
  let v21 : BitVec 32 := Scalar.extui v20
  let c0_i32_5 : BitVec 32 := 0#32
  let v22 : BitVec 1 := Scalar.cmpi .slt c512_i32 c0_i32_5
  let v23 : BitVec 32 := Scalar.extui v22
  let v24 : BitVec 32 := Scalar.subi v21 v23
  let v25 : BitVec 1 := Scalar.cmpi .ne v19 v24
  let v26 : BitVec 32 := Scalar.remsi v13 c512_i32
  let c0_i32_6 : BitVec 32 := 0#32
  let v27 : BitVec 1 := Scalar.cmpi .ne v26 c0_i32_6
  let v28 : BitVec 1 := Scalar.andi v25 v27
  let v14 : BitVec 32 := Scalar.divsi v13 c512_i32
  let c1_i32_7 : BitVec 32 := 1#32
  let v29 : BitVec 32 := Scalar.subi v14 c1_i32_7
  let v30 : BitVec 32 := Scalar.select v28 v29 v14
  let v48 : BitVec 32 := Scalar.subi v30 c0_i32_12
  let c1_i32_14 : BitVec 32 := 1#32
  let v50 : BitVec 32 := Scalar.divsi v48 c1_i32_14
  let v51 : BitVec 32 := Scalar.muli v50 c1_i32_14
  let v52 : BitVec 32 := Scalar.addi c0_i32_12 v51
  let c1_i32_16 : BitVec 32 := 1#32
  let arg11 : BitVec 32 := Scf.iv v52 c1_i32_16 k1_t4
  let c512_i32_33 : BitVec 32 := 512#32
  let v99 : BitVec 32 := Scalar.muli arg11 c512_i32_33
  let v100 : BitVec 32 := Scalar.addi v9 v99
  let c639488_i32 : BitVec 32 := 639488#32
  let v101 : BitVec 32 := Scalar.minsi v100 c639488_i32
  let v102 : BitVec 32 := v101
  ![v102.toNat]
def k1_off142 (v6 : BitVec 32) (v8 : BitVec 32) (k1_t4 : Fin (k1_t4_loop v6 v8).trips) : Fin 2 → Nat :=
  let c_m16_i32 : BitVec 32 := 4294967280#32
  let v9 : BitVec 32 := Scalar.andi v6 c_m16_i32
  let c0_i32_12 : BitVec 32 := 0#32
  let v12 : BitVec 32 := Scalar.subi v8 v9
  let c511_i32 : BitVec 32 := 511#32
  let v13 : BitVec 32 := Scalar.addi v12 c511_i32
  let c0_i32_2 : BitVec 32 := 0#32
  let v15 : BitVec 1 := Scalar.cmpi .sgt v13 c0_i32_2
  let v16 : BitVec 32 := Scalar.extui v15
  let c0_i32_3 : BitVec 32 := 0#32
  let v17 : BitVec 1 := Scalar.cmpi .slt v13 c0_i32_3
  let v18 : BitVec 32 := Scalar.extui v17
  let v19 : BitVec 32 := Scalar.subi v16 v18
  let c512_i32 : BitVec 32 := 512#32
  let c0_i32_4 : BitVec 32 := 0#32
  let v20 : BitVec 1 := Scalar.cmpi .sgt c512_i32 c0_i32_4
  let v21 : BitVec 32 := Scalar.extui v20
  let c0_i32_5 : BitVec 32 := 0#32
  let v22 : BitVec 1 := Scalar.cmpi .slt c512_i32 c0_i32_5
  let v23 : BitVec 32 := Scalar.extui v22
  let v24 : BitVec 32 := Scalar.subi v21 v23
  let v25 : BitVec 1 := Scalar.cmpi .ne v19 v24
  let v26 : BitVec 32 := Scalar.remsi v13 c512_i32
  let c0_i32_6 : BitVec 32 := 0#32
  let v27 : BitVec 1 := Scalar.cmpi .ne v26 c0_i32_6
  let v28 : BitVec 1 := Scalar.andi v25 v27
  let v14 : BitVec 32 := Scalar.divsi v13 c512_i32
  let c1_i32_7 : BitVec 32 := 1#32
  let v29 : BitVec 32 := Scalar.subi v14 c1_i32_7
  let v30 : BitVec 32 := Scalar.select v28 v29 v14
  let v48 : BitVec 32 := Scalar.subi v30 c0_i32_12
  let c1_i32_14 : BitVec 32 := 1#32
  let v50 : BitVec 32 := Scalar.divsi v48 c1_i32_14
  let v51 : BitVec 32 := Scalar.muli v50 c1_i32_14
  let v52 : BitVec 32 := Scalar.addi c0_i32_12 v51
  let c1_i32_16 : BitVec 32 := 1#32
  let arg11 : BitVec 32 := Scf.iv v52 c1_i32_16 k1_t4
  let c512_i32_33 : BitVec 32 := 512#32
  let v99 : BitVec 32 := Scalar.muli arg11 c512_i32_33
  let v100 : BitVec 32 := Scalar.addi v9 v99
  let c639488_i32 : BitVec 32 := 639488#32
  let v101 : BitVec 32 := Scalar.minsi v100 c639488_i32
  let v102 : BitVec 32 := v101
  let c0_i32_37_r4 : BitVec 32 := 0#32
  ![v102.toNat, 0]

def k1_chk1 (v6 : BitVec 32) (v8 : BitVec 32) : Prop :=
  ((k1_t2_loop v6 v8).OK) ∧
  (∀ k1_t2 : Fin (k1_t2_loop v6 v8).trips, 16 ∣ (k1_mult1 v6 v8 k1_t2).toNat) ∧
  (∀ k1_t2 : Fin (k1_t2_loop v6 v8).trips, ∀ a, (k1_off6 v6 v8 k1_t2) a + S512.size a ≤ S640000.size a) ∧
  (∀ k1_t2 : Fin (k1_t2_loop v6 v8).trips, ∀ a, (k1_off7 v6 v8 k1_t2) a + S512x64.size a ≤ S640000x64.size a) ∧
  ((k1_t4_loop v6 v8).OK) ∧
  (∀ k1_t4 : Fin (k1_t4_loop v6 v8).trips, 16 ∣ (k1_mult2 v6 v8 k1_t4).toNat) ∧
  (∀ k1_t4 : Fin (k1_t4_loop v6 v8).trips, ∀ a, (k1_off141 v6 v8 k1_t4) a + S512.size a ≤ S640000.size a) ∧
  (∀ k1_t4 : Fin (k1_t4_loop v6 v8).trips, ∀ a, (k1_off142 v6 v8 k1_t4) a + S512x64.size a ≤ S640000x64.size a)
theorem k1_t2_ok : ∀ (v6 : BitVec 32) (v8 : BitVec 32) (k1_hw1 : k1_chk1 v6 v8), (k1_t2_loop v6 v8).OK := fun v6 v8 k1_hw1 => k1_hw1.1
theorem k1_mult1_dvd : ∀ (v6 : BitVec 32) (v8 : BitVec 32) (k1_hw1 : k1_chk1 v6 v8) (k1_t2 : Fin (k1_t2_loop v6 v8).trips), 16 ∣ (k1_mult1 v6 v8 k1_t2).toNat := fun v6 v8 k1_hw1 k1_t2 => k1_hw1.2.1 k1_t2
theorem k1_off6_inb : ∀ (v6 : BitVec 32) (v8 : BitVec 32) (k1_hw1 : k1_chk1 v6 v8) (k1_t2 : Fin (k1_t2_loop v6 v8).trips), ∀ a, (k1_off6 v6 v8 k1_t2) a + S512.size a ≤ S640000.size a := fun v6 v8 k1_hw1 k1_t2 => k1_hw1.2.2.1 k1_t2
theorem k1_off7_inb : ∀ (v6 : BitVec 32) (v8 : BitVec 32) (k1_hw1 : k1_chk1 v6 v8) (k1_t2 : Fin (k1_t2_loop v6 v8).trips), ∀ a, (k1_off7 v6 v8 k1_t2) a + S512x64.size a ≤ S640000x64.size a := fun v6 v8 k1_hw1 k1_t2 => k1_hw1.2.2.2.1 k1_t2
theorem k1_t4_ok : ∀ (v6 : BitVec 32) (v8 : BitVec 32) (k1_hw1 : k1_chk1 v6 v8), (k1_t4_loop v6 v8).OK := fun v6 v8 k1_hw1 => k1_hw1.2.2.2.2.1
theorem k1_mult2_dvd : ∀ (v6 : BitVec 32) (v8 : BitVec 32) (k1_hw1 : k1_chk1 v6 v8) (k1_t4 : Fin (k1_t4_loop v6 v8).trips), 16 ∣ (k1_mult2 v6 v8 k1_t4).toNat := fun v6 v8 k1_hw1 k1_t4 => k1_hw1.2.2.2.2.2.1 k1_t4
theorem k1_off141_inb : ∀ (v6 : BitVec 32) (v8 : BitVec 32) (k1_hw1 : k1_chk1 v6 v8) (k1_t4 : Fin (k1_t4_loop v6 v8).trips), ∀ a, (k1_off141 v6 v8 k1_t4) a + S512.size a ≤ S640000.size a := fun v6 v8 k1_hw1 k1_t4 => k1_hw1.2.2.2.2.2.2.1 k1_t4
theorem k1_off142_inb : ∀ (v6 : BitVec 32) (v8 : BitVec 32) (k1_hw1 : k1_chk1 v6 v8) (k1_t4 : Fin (k1_t4_loop v6 v8).trips), ∀ a, (k1_off142 v6 v8 k1_t4) a + S512x64.size a ≤ S640000x64.size a := fun v6 v8 k1_hw1 k1_t4 => k1_hw1.2.2.2.2.2.2.2 k1_t4

@[reducible] def k1_t5_loop : Scf.Loop 32 :=
  let c0_i32_34 : BitVec 32 := 0#32
  let c32_i32 : BitVec 32 := 32#32
  let v103 : BitVec 32 := Scalar.addi c0_i32_34 c32_i32
  let c1_i32_35 : BitVec 32 := 1#32
  ⟨c0_i32_34, v103, c1_i32_35⟩
def k1_off143 (k1_t5 : Fin k1_t5_loop.trips) : Fin 1 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let v106 : Index := Scalar.indexCast v105
  ![v106.toNat]
def k1_off144 (k1_t5 : Fin k1_t5_loop.trips) (c0_i32_41 : BitVec 32) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let v126 : BitVec 32 := Scalar.addi v105 c0_i32_41
  let v127 : Index := Scalar.indexCast v126
  let c0_42 : Index := 0#32
  ![v127.toNat, 0]
def k1_off145 (k1_t5 : Fin k1_t5_loop.trips) (c0_i32_64 : BitVec 32) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let v213 : BitVec 32 := Scalar.addi v105 c0_i32_64
  let v214 : Index := Scalar.indexCast v213
  let c16_65 : Index := 16#32
  ![v214.toNat, 16]
def k1_off146 (k1_t5 : Fin k1_t5_loop.trips) (c0_i32_100 : BitVec 32) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let v300 : BitVec 32 := Scalar.addi v105 c0_i32_100
  let v301 : Index := Scalar.indexCast v300
  let c32_101 : Index := 32#32
  ![v301.toNat, 32]
def k1_off147 (k1_t5 : Fin k1_t5_loop.trips) (c0_i32_136 : BitVec 32) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let v387 : BitVec 32 := Scalar.addi v105 c0_i32_136
  let v388 : Index := Scalar.indexCast v387
  let c48_137 : Index := 48#32
  ![v388.toNat, 48]
def k1_off148 (arg14 : BitVec 32) : Fin 2 → Nat :=
  let v1054 : Index := Scalar.indexCast arg14
  let c0_476 : Index := 0#32
  ![v1054.toNat, 0]
def k1_cond18 (i : grid1.Coords) (arg14 : BitVec 32) (v110 : BitVec 32) (v117 : BitVec 32) (v119 : BitVec 32) : BitVec 1 :=
  let v120 : BitVec 1 := Scalar.cmpi .eq v117 v119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v111 : BitVec 32 := Scalar.subi v110 v10
  let c0_i32_37 : BitVec 32 := 0#32
  let v112 : BitVec 1 := Scalar.cmpi .sge v111 c0_i32_37
  let c320_i32_38 : BitVec 32 := 320#32
  let v113 : BitVec 1 := Scalar.cmpi .slt v111 c320_i32_38
  let v114 : BitVec 1 := Scalar.andi v112 v113
  let c320_i32_39 : BitVec 32 := 320#32
  let v115 : BitVec 32 := Scalar.select v114 v111 c320_i32_39
  let v121 : BitVec 1 := Scalar.cmpi .eq v115 arg14
  let v122 : BitVec 1 := Scalar.andi v120 v121
  let v123 : BitVec 32 := Scalar.extui v122
  let c0_i32_40 : BitVec 32 := 0#32
  let v124 : BitVec 1 := Scalar.cmpi .ne v123 c0_i32_40
  v124

def k1_cond19 (i : grid1.Coords) (arg14 : BitVec 32) (v127 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v128 : BitVec 32 := Scalar.subi v127 v10
  let c0_i32_41 : BitVec 32 := 0#32
  let v129 : BitVec 1 := Scalar.cmpi .sge v128 c0_i32_41
  let c320_i32_42 : BitVec 32 := 320#32
  let v130 : BitVec 1 := Scalar.cmpi .slt v128 c320_i32_42
  let v131 : BitVec 1 := Scalar.andi v129 v130
  let c320_i32_43 : BitVec 32 := 320#32
  let v132 : BitVec 32 := Scalar.select v131 v128 c320_i32_43
  let v133 : BitVec 1 := Scalar.cmpi .ne v132 arg14
  let v134 : BitVec 32 := Scalar.extui v133
  let c0_i32_44 : BitVec 32 := 0#32
  let v135 : BitVec 1 := Scalar.cmpi .ne v134 c0_i32_44
  v135

def k1_off149 (arg14 : BitVec 32) : Fin 2 → Nat :=
  let v1065 : Index := Scalar.indexCast arg14
  let c16_480 : Index := 16#32
  ![v1065.toNat, 16]
def k1_off150 (arg14 : BitVec 32) : Fin 2 → Nat :=
  let v1076 : Index := Scalar.indexCast arg14
  let c32_484 : Index := 32#32
  ![v1076.toNat, 32]
def k1_off151 (arg14 : BitVec 32) : Fin 2 → Nat :=
  let v1087 : Index := Scalar.indexCast arg14
  let c48_488 : Index := 48#32
  ![v1087.toNat, 48]

def k1_chk18 (i : grid1.Coords) (arg14 : BitVec 32) (v110 : BitVec 32) (v117 : BitVec 32) (v119 : BitVec 32) (v127 : BitVec 32) : Prop :=
  (∀ (k1_h18 : ¬(k1_cond18 i arg14 v110 v117 v119 = 1#1)), ∀ (k1_h19 : k1_cond19 i arg14 v127 = 1#1), ∀ a, (k1_off148 arg14) a + S1x16.size a ≤ S336x64.size a) ∧
  (∀ (k1_h18 : ¬(k1_cond18 i arg14 v110 v117 v119 = 1#1)), ∀ (k1_h19 : k1_cond19 i arg14 v127 = 1#1), ∀ a, (k1_off149 arg14) a + S1x16.size a ≤ S336x64.size a) ∧
  (∀ (k1_h18 : ¬(k1_cond18 i arg14 v110 v117 v119 = 1#1)), ∀ (k1_h19 : k1_cond19 i arg14 v127 = 1#1), ∀ a, (k1_off150 arg14) a + S1x16.size a ≤ S336x64.size a) ∧
  (∀ (k1_h18 : ¬(k1_cond18 i arg14 v110 v117 v119 = 1#1)), ∀ (k1_h19 : k1_cond19 i arg14 v127 = 1#1), ∀ a, (k1_off151 arg14) a + S1x16.size a ≤ S336x64.size a)
theorem k1_off148_inb : ∀ (i : grid1.Coords) (arg14 : BitVec 32) (v110 : BitVec 32) (v117 : BitVec 32) (v119 : BitVec 32) (v127 : BitVec 32) (k1_hw18 : k1_chk18 i arg14 v110 v117 v119 v127), ∀ (k1_h18 : ¬(k1_cond18 i arg14 v110 v117 v119 = 1#1)), ∀ (k1_h19 : k1_cond19 i arg14 v127 = 1#1), ∀ a, (k1_off148 arg14) a + S1x16.size a ≤ S336x64.size a := fun i arg14 v110 v117 v119 v127 k1_hw18 k1_h18 k1_h19 => k1_hw18.1 k1_h18 k1_h19
theorem k1_off149_inb : ∀ (i : grid1.Coords) (arg14 : BitVec 32) (v110 : BitVec 32) (v117 : BitVec 32) (v119 : BitVec 32) (v127 : BitVec 32) (k1_hw18 : k1_chk18 i arg14 v110 v117 v119 v127), ∀ (k1_h18 : ¬(k1_cond18 i arg14 v110 v117 v119 = 1#1)), ∀ (k1_h19 : k1_cond19 i arg14 v127 = 1#1), ∀ a, (k1_off149 arg14) a + S1x16.size a ≤ S336x64.size a := fun i arg14 v110 v117 v119 v127 k1_hw18 k1_h18 k1_h19 => k1_hw18.2.1 k1_h18 k1_h19
theorem k1_off150_inb : ∀ (i : grid1.Coords) (arg14 : BitVec 32) (v110 : BitVec 32) (v117 : BitVec 32) (v119 : BitVec 32) (v127 : BitVec 32) (k1_hw18 : k1_chk18 i arg14 v110 v117 v119 v127), ∀ (k1_h18 : ¬(k1_cond18 i arg14 v110 v117 v119 = 1#1)), ∀ (k1_h19 : k1_cond19 i arg14 v127 = 1#1), ∀ a, (k1_off150 arg14) a + S1x16.size a ≤ S336x64.size a := fun i arg14 v110 v117 v119 v127 k1_hw18 k1_h18 k1_h19 => k1_hw18.2.2.1 k1_h18 k1_h19
theorem k1_off151_inb : ∀ (i : grid1.Coords) (arg14 : BitVec 32) (v110 : BitVec 32) (v117 : BitVec 32) (v119 : BitVec 32) (v127 : BitVec 32) (k1_hw18 : k1_chk18 i arg14 v110 v117 v119 v127), ∀ (k1_h18 : ¬(k1_cond18 i arg14 v110 v117 v119 = 1#1)), ∀ (k1_h19 : k1_cond19 i arg14 v127 = 1#1), ∀ a, (k1_off151 arg14) a + S1x16.size a ≤ S336x64.size a := fun i arg14 v110 v117 v119 v127 k1_hw18 k1_h18 k1_h19 => k1_hw18.2.2.2 k1_h18 k1_h19

def k1_off152 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c0_i32_47 : BitVec 32 := 0#32
  let v139 : BitVec 32 := Scalar.addi v105 c0_i32_47
  let v140 : Index := Scalar.indexCast v139
  let c0_48 : Index := 0#32
  ![v140.toNat, 0]
def k1_off153 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c0_i32_53 : BitVec 32 := 0#32
  let v151 : BitVec 32 := Scalar.addi v105 c0_i32_53
  let v152 : Index := Scalar.indexCast v151
  let c16_54 : Index := 16#32
  ![v152.toNat, 16]
def k1_off154 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c0_i32_59 : BitVec 32 := 0#32
  let v163 : BitVec 32 := Scalar.addi v105 c0_i32_59
  let v164 : Index := Scalar.indexCast v163
  let c32_60 : Index := 32#32
  ![v164.toNat, 32]
def k1_off155 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c0_i32_65 : BitVec 32 := 0#32
  let v175 : BitVec 32 := Scalar.addi v105 c0_i32_65
  let v176 : Index := Scalar.indexCast v175
  let c48_66 : Index := 48#32
  ![v176.toNat, 48]
def k1_off156 (i : grid1.Coords) (v127 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v128 : BitVec 32 := Scalar.subi v127 v10
  let c0_i32_41 : BitVec 32 := 0#32
  let v129 : BitVec 1 := Scalar.cmpi .sge v128 c0_i32_41
  let c320_i32_42 : BitVec 32 := 320#32
  let v130 : BitVec 1 := Scalar.cmpi .slt v128 c320_i32_42
  let v131 : BitVec 1 := Scalar.andi v129 v130
  let c320_i32_43 : BitVec 32 := 320#32
  let v132 : BitVec 32 := Scalar.select v131 v128 c320_i32_43
  let v1054 : Index := Scalar.indexCast v132
  let c0_476 : Index := 0#32
  ![v1054.toNat, 0]
def k1_cond20 (i : grid1.Coords) (v127 : BitVec 32) (v185 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v186 : BitVec 32 := Scalar.subi v185 v10
  let c0_i32_69 : BitVec 32 := 0#32
  let v187 : BitVec 1 := Scalar.cmpi .sge v186 c0_i32_69
  let c320_i32_70 : BitVec 32 := 320#32
  let v188 : BitVec 1 := Scalar.cmpi .slt v186 c320_i32_70
  let v189 : BitVec 1 := Scalar.andi v187 v188
  let c320_i32_71 : BitVec 32 := 320#32
  let v190 : BitVec 32 := Scalar.select v189 v186 c320_i32_71
  let v128 : BitVec 32 := Scalar.subi v127 v10
  let c0_i32_41 : BitVec 32 := 0#32
  let v129 : BitVec 1 := Scalar.cmpi .sge v128 c0_i32_41
  let c320_i32_42 : BitVec 32 := 320#32
  let v130 : BitVec 1 := Scalar.cmpi .slt v128 c320_i32_42
  let v131 : BitVec 1 := Scalar.andi v129 v130
  let c320_i32_43 : BitVec 32 := 320#32
  let v132 : BitVec 32 := Scalar.select v131 v128 c320_i32_43
  let v191 : BitVec 1 := Scalar.cmpi .ne v190 v132
  let v192 : BitVec 32 := Scalar.extui v191
  let c0_i32_72 : BitVec 32 := 0#32
  let v193 : BitVec 1 := Scalar.cmpi .ne v192 c0_i32_72
  v193

def k1_off157 (i : grid1.Coords) (v127 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v128 : BitVec 32 := Scalar.subi v127 v10
  let c0_i32_41 : BitVec 32 := 0#32
  let v129 : BitVec 1 := Scalar.cmpi .sge v128 c0_i32_41
  let c320_i32_42 : BitVec 32 := 320#32
  let v130 : BitVec 1 := Scalar.cmpi .slt v128 c320_i32_42
  let v131 : BitVec 1 := Scalar.andi v129 v130
  let c320_i32_43 : BitVec 32 := 320#32
  let v132 : BitVec 32 := Scalar.select v131 v128 c320_i32_43
  let v1065 : Index := Scalar.indexCast v132
  let c16_480 : Index := 16#32
  ![v1065.toNat, 16]
def k1_off158 (i : grid1.Coords) (v127 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v128 : BitVec 32 := Scalar.subi v127 v10
  let c0_i32_41 : BitVec 32 := 0#32
  let v129 : BitVec 1 := Scalar.cmpi .sge v128 c0_i32_41
  let c320_i32_42 : BitVec 32 := 320#32
  let v130 : BitVec 1 := Scalar.cmpi .slt v128 c320_i32_42
  let v131 : BitVec 1 := Scalar.andi v129 v130
  let c320_i32_43 : BitVec 32 := 320#32
  let v132 : BitVec 32 := Scalar.select v131 v128 c320_i32_43
  let v1076 : Index := Scalar.indexCast v132
  let c32_484 : Index := 32#32
  ![v1076.toNat, 32]
def k1_off159 (i : grid1.Coords) (v127 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v128 : BitVec 32 := Scalar.subi v127 v10
  let c0_i32_41 : BitVec 32 := 0#32
  let v129 : BitVec 1 := Scalar.cmpi .sge v128 c0_i32_41
  let c320_i32_42 : BitVec 32 := 320#32
  let v130 : BitVec 1 := Scalar.cmpi .slt v128 c320_i32_42
  let v131 : BitVec 1 := Scalar.andi v129 v130
  let c320_i32_43 : BitVec 32 := 320#32
  let v132 : BitVec 32 := Scalar.select v131 v128 c320_i32_43
  let v1087 : Index := Scalar.indexCast v132
  let c48_488 : Index := 48#32
  ![v1087.toNat, 48]

def k1_chk19 (i : grid1.Coords) (arg14 : BitVec 32) (v110 : BitVec 32) (v117 : BitVec 32) (v119 : BitVec 32) (v127 : BitVec 32) (v185 : BitVec 32) : Prop :=
  (∀ (k1_h18 : ¬(k1_cond18 i arg14 v110 v117 v119 = 1#1)), ∀ (k1_h20 : k1_cond20 i v127 v185 = 1#1), ∀ a, (k1_off156 i v127) a + S1x16.size a ≤ S336x64.size a) ∧
  (∀ (k1_h18 : ¬(k1_cond18 i arg14 v110 v117 v119 = 1#1)), ∀ (k1_h20 : k1_cond20 i v127 v185 = 1#1), ∀ a, (k1_off157 i v127) a + S1x16.size a ≤ S336x64.size a) ∧
  (∀ (k1_h18 : ¬(k1_cond18 i arg14 v110 v117 v119 = 1#1)), ∀ (k1_h20 : k1_cond20 i v127 v185 = 1#1), ∀ a, (k1_off158 i v127) a + S1x16.size a ≤ S336x64.size a) ∧
  (∀ (k1_h18 : ¬(k1_cond18 i arg14 v110 v117 v119 = 1#1)), ∀ (k1_h20 : k1_cond20 i v127 v185 = 1#1), ∀ a, (k1_off159 i v127) a + S1x16.size a ≤ S336x64.size a)
theorem k1_off156_inb : ∀ (i : grid1.Coords) (arg14 : BitVec 32) (v110 : BitVec 32) (v117 : BitVec 32) (v119 : BitVec 32) (v127 : BitVec 32) (v185 : BitVec 32) (k1_hw19 : k1_chk19 i arg14 v110 v117 v119 v127 v185), ∀ (k1_h18 : ¬(k1_cond18 i arg14 v110 v117 v119 = 1#1)), ∀ (k1_h20 : k1_cond20 i v127 v185 = 1#1), ∀ a, (k1_off156 i v127) a + S1x16.size a ≤ S336x64.size a := fun i arg14 v110 v117 v119 v127 v185 k1_hw19 k1_h18 k1_h20 => k1_hw19.1 k1_h18 k1_h20
theorem k1_off157_inb : ∀ (i : grid1.Coords) (arg14 : BitVec 32) (v110 : BitVec 32) (v117 : BitVec 32) (v119 : BitVec 32) (v127 : BitVec 32) (v185 : BitVec 32) (k1_hw19 : k1_chk19 i arg14 v110 v117 v119 v127 v185), ∀ (k1_h18 : ¬(k1_cond18 i arg14 v110 v117 v119 = 1#1)), ∀ (k1_h20 : k1_cond20 i v127 v185 = 1#1), ∀ a, (k1_off157 i v127) a + S1x16.size a ≤ S336x64.size a := fun i arg14 v110 v117 v119 v127 v185 k1_hw19 k1_h18 k1_h20 => k1_hw19.2.1 k1_h18 k1_h20
theorem k1_off158_inb : ∀ (i : grid1.Coords) (arg14 : BitVec 32) (v110 : BitVec 32) (v117 : BitVec 32) (v119 : BitVec 32) (v127 : BitVec 32) (v185 : BitVec 32) (k1_hw19 : k1_chk19 i arg14 v110 v117 v119 v127 v185), ∀ (k1_h18 : ¬(k1_cond18 i arg14 v110 v117 v119 = 1#1)), ∀ (k1_h20 : k1_cond20 i v127 v185 = 1#1), ∀ a, (k1_off158 i v127) a + S1x16.size a ≤ S336x64.size a := fun i arg14 v110 v117 v119 v127 v185 k1_hw19 k1_h18 k1_h20 => k1_hw19.2.2.1 k1_h18 k1_h20
theorem k1_off159_inb : ∀ (i : grid1.Coords) (arg14 : BitVec 32) (v110 : BitVec 32) (v117 : BitVec 32) (v119 : BitVec 32) (v127 : BitVec 32) (v185 : BitVec 32) (k1_hw19 : k1_chk19 i arg14 v110 v117 v119 v127 v185), ∀ (k1_h18 : ¬(k1_cond18 i arg14 v110 v117 v119 = 1#1)), ∀ (k1_h20 : k1_cond20 i v127 v185 = 1#1), ∀ a, (k1_off159 i v127) a + S1x16.size a ≤ S336x64.size a := fun i arg14 v110 v117 v119 v127 v185 k1_hw19 k1_h18 k1_h20 => k1_hw19.2.2.2 k1_h18 k1_h20

def k1_off160 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c1_i32_75 : BitVec 32 := 1#32
  let v197 : BitVec 32 := Scalar.addi v105 c1_i32_75
  let v198 : Index := Scalar.indexCast v197
  let c0_76 : Index := 0#32
  ![v198.toNat, 0]
def k1_off161 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c1_i32_81 : BitVec 32 := 1#32
  let v209 : BitVec 32 := Scalar.addi v105 c1_i32_81
  let v210 : Index := Scalar.indexCast v209
  let c16_82 : Index := 16#32
  ![v210.toNat, 16]
def k1_off162 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c1_i32_87 : BitVec 32 := 1#32
  let v221 : BitVec 32 := Scalar.addi v105 c1_i32_87
  let v222 : Index := Scalar.indexCast v221
  let c32_88 : Index := 32#32
  ![v222.toNat, 32]
def k1_off163 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c1_i32_93 : BitVec 32 := 1#32
  let v233 : BitVec 32 := Scalar.addi v105 c1_i32_93
  let v234 : Index := Scalar.indexCast v233
  let c48_94 : Index := 48#32
  ![v234.toNat, 48]
def k1_off164 (i : grid1.Coords) (v185 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v186 : BitVec 32 := Scalar.subi v185 v10
  let c0_i32_69 : BitVec 32 := 0#32
  let v187 : BitVec 1 := Scalar.cmpi .sge v186 c0_i32_69
  let c320_i32_70 : BitVec 32 := 320#32
  let v188 : BitVec 1 := Scalar.cmpi .slt v186 c320_i32_70
  let v189 : BitVec 1 := Scalar.andi v187 v188
  let c320_i32_71 : BitVec 32 := 320#32
  let v190 : BitVec 32 := Scalar.select v189 v186 c320_i32_71
  let v1054 : Index := Scalar.indexCast v190
  let c0_476 : Index := 0#32
  ![v1054.toNat, 0]
def k1_cond21 (i : grid1.Coords) (v185 : BitVec 32) (v243 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v244 : BitVec 32 := Scalar.subi v243 v10
  let c0_i32_97 : BitVec 32 := 0#32
  let v245 : BitVec 1 := Scalar.cmpi .sge v244 c0_i32_97
  let c320_i32_98 : BitVec 32 := 320#32
  let v246 : BitVec 1 := Scalar.cmpi .slt v244 c320_i32_98
  let v247 : BitVec 1 := Scalar.andi v245 v246
  let c320_i32_99 : BitVec 32 := 320#32
  let v248 : BitVec 32 := Scalar.select v247 v244 c320_i32_99
  let v186 : BitVec 32 := Scalar.subi v185 v10
  let c0_i32_69 : BitVec 32 := 0#32
  let v187 : BitVec 1 := Scalar.cmpi .sge v186 c0_i32_69
  let c320_i32_70 : BitVec 32 := 320#32
  let v188 : BitVec 1 := Scalar.cmpi .slt v186 c320_i32_70
  let v189 : BitVec 1 := Scalar.andi v187 v188
  let c320_i32_71 : BitVec 32 := 320#32
  let v190 : BitVec 32 := Scalar.select v189 v186 c320_i32_71
  let v249 : BitVec 1 := Scalar.cmpi .ne v248 v190
  let v250 : BitVec 32 := Scalar.extui v249
  let c0_i32_100 : BitVec 32 := 0#32
  let v251 : BitVec 1 := Scalar.cmpi .ne v250 c0_i32_100
  v251

def k1_off165 (i : grid1.Coords) (v185 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v186 : BitVec 32 := Scalar.subi v185 v10
  let c0_i32_69 : BitVec 32 := 0#32
  let v187 : BitVec 1 := Scalar.cmpi .sge v186 c0_i32_69
  let c320_i32_70 : BitVec 32 := 320#32
  let v188 : BitVec 1 := Scalar.cmpi .slt v186 c320_i32_70
  let v189 : BitVec 1 := Scalar.andi v187 v188
  let c320_i32_71 : BitVec 32 := 320#32
  let v190 : BitVec 32 := Scalar.select v189 v186 c320_i32_71
  let v1065 : Index := Scalar.indexCast v190
  let c16_480 : Index := 16#32
  ![v1065.toNat, 16]
def k1_off166 (i : grid1.Coords) (v185 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v186 : BitVec 32 := Scalar.subi v185 v10
  let c0_i32_69 : BitVec 32 := 0#32
  let v187 : BitVec 1 := Scalar.cmpi .sge v186 c0_i32_69
  let c320_i32_70 : BitVec 32 := 320#32
  let v188 : BitVec 1 := Scalar.cmpi .slt v186 c320_i32_70
  let v189 : BitVec 1 := Scalar.andi v187 v188
  let c320_i32_71 : BitVec 32 := 320#32
  let v190 : BitVec 32 := Scalar.select v189 v186 c320_i32_71
  let v1076 : Index := Scalar.indexCast v190
  let c32_484 : Index := 32#32
  ![v1076.toNat, 32]
def k1_off167 (i : grid1.Coords) (v185 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v186 : BitVec 32 := Scalar.subi v185 v10
  let c0_i32_69 : BitVec 32 := 0#32
  let v187 : BitVec 1 := Scalar.cmpi .sge v186 c0_i32_69
  let c320_i32_70 : BitVec 32 := 320#32
  let v188 : BitVec 1 := Scalar.cmpi .slt v186 c320_i32_70
  let v189 : BitVec 1 := Scalar.andi v187 v188
  let c320_i32_71 : BitVec 32 := 320#32
  let v190 : BitVec 32 := Scalar.select v189 v186 c320_i32_71
  let v1087 : Index := Scalar.indexCast v190
  let c48_488 : Index := 48#32
  ![v1087.toNat, 48]

def k1_chk20 (i : grid1.Coords) (arg14 : BitVec 32) (v110 : BitVec 32) (v117 : BitVec 32) (v119 : BitVec 32) (v185 : BitVec 32) (v243 : BitVec 32) : Prop :=
  (∀ (k1_h18 : ¬(k1_cond18 i arg14 v110 v117 v119 = 1#1)), ∀ (k1_h21 : k1_cond21 i v185 v243 = 1#1), ∀ a, (k1_off164 i v185) a + S1x16.size a ≤ S336x64.size a) ∧
  (∀ (k1_h18 : ¬(k1_cond18 i arg14 v110 v117 v119 = 1#1)), ∀ (k1_h21 : k1_cond21 i v185 v243 = 1#1), ∀ a, (k1_off165 i v185) a + S1x16.size a ≤ S336x64.size a) ∧
  (∀ (k1_h18 : ¬(k1_cond18 i arg14 v110 v117 v119 = 1#1)), ∀ (k1_h21 : k1_cond21 i v185 v243 = 1#1), ∀ a, (k1_off166 i v185) a + S1x16.size a ≤ S336x64.size a) ∧
  (∀ (k1_h18 : ¬(k1_cond18 i arg14 v110 v117 v119 = 1#1)), ∀ (k1_h21 : k1_cond21 i v185 v243 = 1#1), ∀ a, (k1_off167 i v185) a + S1x16.size a ≤ S336x64.size a)
theorem k1_off164_inb : ∀ (i : grid1.Coords) (arg14 : BitVec 32) (v110 : BitVec 32) (v117 : BitVec 32) (v119 : BitVec 32) (v185 : BitVec 32) (v243 : BitVec 32) (k1_hw20 : k1_chk20 i arg14 v110 v117 v119 v185 v243), ∀ (k1_h18 : ¬(k1_cond18 i arg14 v110 v117 v119 = 1#1)), ∀ (k1_h21 : k1_cond21 i v185 v243 = 1#1), ∀ a, (k1_off164 i v185) a + S1x16.size a ≤ S336x64.size a := fun i arg14 v110 v117 v119 v185 v243 k1_hw20 k1_h18 k1_h21 => k1_hw20.1 k1_h18 k1_h21
theorem k1_off165_inb : ∀ (i : grid1.Coords) (arg14 : BitVec 32) (v110 : BitVec 32) (v117 : BitVec 32) (v119 : BitVec 32) (v185 : BitVec 32) (v243 : BitVec 32) (k1_hw20 : k1_chk20 i arg14 v110 v117 v119 v185 v243), ∀ (k1_h18 : ¬(k1_cond18 i arg14 v110 v117 v119 = 1#1)), ∀ (k1_h21 : k1_cond21 i v185 v243 = 1#1), ∀ a, (k1_off165 i v185) a + S1x16.size a ≤ S336x64.size a := fun i arg14 v110 v117 v119 v185 v243 k1_hw20 k1_h18 k1_h21 => k1_hw20.2.1 k1_h18 k1_h21
theorem k1_off166_inb : ∀ (i : grid1.Coords) (arg14 : BitVec 32) (v110 : BitVec 32) (v117 : BitVec 32) (v119 : BitVec 32) (v185 : BitVec 32) (v243 : BitVec 32) (k1_hw20 : k1_chk20 i arg14 v110 v117 v119 v185 v243), ∀ (k1_h18 : ¬(k1_cond18 i arg14 v110 v117 v119 = 1#1)), ∀ (k1_h21 : k1_cond21 i v185 v243 = 1#1), ∀ a, (k1_off166 i v185) a + S1x16.size a ≤ S336x64.size a := fun i arg14 v110 v117 v119 v185 v243 k1_hw20 k1_h18 k1_h21 => k1_hw20.2.2.1 k1_h18 k1_h21
theorem k1_off167_inb : ∀ (i : grid1.Coords) (arg14 : BitVec 32) (v110 : BitVec 32) (v117 : BitVec 32) (v119 : BitVec 32) (v185 : BitVec 32) (v243 : BitVec 32) (k1_hw20 : k1_chk20 i arg14 v110 v117 v119 v185 v243), ∀ (k1_h18 : ¬(k1_cond18 i arg14 v110 v117 v119 = 1#1)), ∀ (k1_h21 : k1_cond21 i v185 v243 = 1#1), ∀ a, (k1_off167 i v185) a + S1x16.size a ≤ S336x64.size a := fun i arg14 v110 v117 v119 v185 v243 k1_hw20 k1_h18 k1_h21 => k1_hw20.2.2.2 k1_h18 k1_h21

def k1_off168 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c2_i32_103 : BitVec 32 := 2#32
  let v255 : BitVec 32 := Scalar.addi v105 c2_i32_103
  let v256 : Index := Scalar.indexCast v255
  let c0_104 : Index := 0#32
  ![v256.toNat, 0]
def k1_off169 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c2_i32_109 : BitVec 32 := 2#32
  let v267 : BitVec 32 := Scalar.addi v105 c2_i32_109
  let v268 : Index := Scalar.indexCast v267
  let c16_110 : Index := 16#32
  ![v268.toNat, 16]
def k1_off170 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c2_i32_115 : BitVec 32 := 2#32
  let v279 : BitVec 32 := Scalar.addi v105 c2_i32_115
  let v280 : Index := Scalar.indexCast v279
  let c32_116 : Index := 32#32
  ![v280.toNat, 32]
def k1_off171 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c2_i32_121 : BitVec 32 := 2#32
  let v291 : BitVec 32 := Scalar.addi v105 c2_i32_121
  let v292 : Index := Scalar.indexCast v291
  let c48_122 : Index := 48#32
  ![v292.toNat, 48]
def k1_off172 (i : grid1.Coords) (v243 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v244 : BitVec 32 := Scalar.subi v243 v10
  let c0_i32_97 : BitVec 32 := 0#32
  let v245 : BitVec 1 := Scalar.cmpi .sge v244 c0_i32_97
  let c320_i32_98 : BitVec 32 := 320#32
  let v246 : BitVec 1 := Scalar.cmpi .slt v244 c320_i32_98
  let v247 : BitVec 1 := Scalar.andi v245 v246
  let c320_i32_99 : BitVec 32 := 320#32
  let v248 : BitVec 32 := Scalar.select v247 v244 c320_i32_99
  let v1054 : Index := Scalar.indexCast v248
  let c0_476 : Index := 0#32
  ![v1054.toNat, 0]
def k1_cond22 (i : grid1.Coords) (v243 : BitVec 32) (v301 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v302 : BitVec 32 := Scalar.subi v301 v10
  let c0_i32_125 : BitVec 32 := 0#32
  let v303 : BitVec 1 := Scalar.cmpi .sge v302 c0_i32_125
  let c320_i32_126 : BitVec 32 := 320#32
  let v304 : BitVec 1 := Scalar.cmpi .slt v302 c320_i32_126
  let v305 : BitVec 1 := Scalar.andi v303 v304
  let c320_i32_127 : BitVec 32 := 320#32
  let v306 : BitVec 32 := Scalar.select v305 v302 c320_i32_127
  let v244 : BitVec 32 := Scalar.subi v243 v10
  let c0_i32_97 : BitVec 32 := 0#32
  let v245 : BitVec 1 := Scalar.cmpi .sge v244 c0_i32_97
  let c320_i32_98 : BitVec 32 := 320#32
  let v246 : BitVec 1 := Scalar.cmpi .slt v244 c320_i32_98
  let v247 : BitVec 1 := Scalar.andi v245 v246
  let c320_i32_99 : BitVec 32 := 320#32
  let v248 : BitVec 32 := Scalar.select v247 v244 c320_i32_99
  let v307 : BitVec 1 := Scalar.cmpi .ne v306 v248
  let v308 : BitVec 32 := Scalar.extui v307
  let c0_i32_128 : BitVec 32 := 0#32
  let v309 : BitVec 1 := Scalar.cmpi .ne v308 c0_i32_128
  v309

def k1_off173 (i : grid1.Coords) (v243 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v244 : BitVec 32 := Scalar.subi v243 v10
  let c0_i32_97 : BitVec 32 := 0#32
  let v245 : BitVec 1 := Scalar.cmpi .sge v244 c0_i32_97
  let c320_i32_98 : BitVec 32 := 320#32
  let v246 : BitVec 1 := Scalar.cmpi .slt v244 c320_i32_98
  let v247 : BitVec 1 := Scalar.andi v245 v246
  let c320_i32_99 : BitVec 32 := 320#32
  let v248 : BitVec 32 := Scalar.select v247 v244 c320_i32_99
  let v1065 : Index := Scalar.indexCast v248
  let c16_480 : Index := 16#32
  ![v1065.toNat, 16]
def k1_off174 (i : grid1.Coords) (v243 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v244 : BitVec 32 := Scalar.subi v243 v10
  let c0_i32_97 : BitVec 32 := 0#32
  let v245 : BitVec 1 := Scalar.cmpi .sge v244 c0_i32_97
  let c320_i32_98 : BitVec 32 := 320#32
  let v246 : BitVec 1 := Scalar.cmpi .slt v244 c320_i32_98
  let v247 : BitVec 1 := Scalar.andi v245 v246
  let c320_i32_99 : BitVec 32 := 320#32
  let v248 : BitVec 32 := Scalar.select v247 v244 c320_i32_99
  let v1076 : Index := Scalar.indexCast v248
  let c32_484 : Index := 32#32
  ![v1076.toNat, 32]
def k1_off175 (i : grid1.Coords) (v243 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v244 : BitVec 32 := Scalar.subi v243 v10
  let c0_i32_97 : BitVec 32 := 0#32
  let v245 : BitVec 1 := Scalar.cmpi .sge v244 c0_i32_97
  let c320_i32_98 : BitVec 32 := 320#32
  let v246 : BitVec 1 := Scalar.cmpi .slt v244 c320_i32_98
  let v247 : BitVec 1 := Scalar.andi v245 v246
  let c320_i32_99 : BitVec 32 := 320#32
  let v248 : BitVec 32 := Scalar.select v247 v244 c320_i32_99
  let v1087 : Index := Scalar.indexCast v248
  let c48_488 : Index := 48#32
  ![v1087.toNat, 48]

def k1_chk21 (i : grid1.Coords) (arg14 : BitVec 32) (v110 : BitVec 32) (v117 : BitVec 32) (v119 : BitVec 32) (v243 : BitVec 32) (v301 : BitVec 32) : Prop :=
  (∀ (k1_h18 : ¬(k1_cond18 i arg14 v110 v117 v119 = 1#1)), ∀ (k1_h22 : k1_cond22 i v243 v301 = 1#1), ∀ a, (k1_off172 i v243) a + S1x16.size a ≤ S336x64.size a) ∧
  (∀ (k1_h18 : ¬(k1_cond18 i arg14 v110 v117 v119 = 1#1)), ∀ (k1_h22 : k1_cond22 i v243 v301 = 1#1), ∀ a, (k1_off173 i v243) a + S1x16.size a ≤ S336x64.size a) ∧
  (∀ (k1_h18 : ¬(k1_cond18 i arg14 v110 v117 v119 = 1#1)), ∀ (k1_h22 : k1_cond22 i v243 v301 = 1#1), ∀ a, (k1_off174 i v243) a + S1x16.size a ≤ S336x64.size a) ∧
  (∀ (k1_h18 : ¬(k1_cond18 i arg14 v110 v117 v119 = 1#1)), ∀ (k1_h22 : k1_cond22 i v243 v301 = 1#1), ∀ a, (k1_off175 i v243) a + S1x16.size a ≤ S336x64.size a)
theorem k1_off172_inb : ∀ (i : grid1.Coords) (arg14 : BitVec 32) (v110 : BitVec 32) (v117 : BitVec 32) (v119 : BitVec 32) (v243 : BitVec 32) (v301 : BitVec 32) (k1_hw21 : k1_chk21 i arg14 v110 v117 v119 v243 v301), ∀ (k1_h18 : ¬(k1_cond18 i arg14 v110 v117 v119 = 1#1)), ∀ (k1_h22 : k1_cond22 i v243 v301 = 1#1), ∀ a, (k1_off172 i v243) a + S1x16.size a ≤ S336x64.size a := fun i arg14 v110 v117 v119 v243 v301 k1_hw21 k1_h18 k1_h22 => k1_hw21.1 k1_h18 k1_h22
theorem k1_off173_inb : ∀ (i : grid1.Coords) (arg14 : BitVec 32) (v110 : BitVec 32) (v117 : BitVec 32) (v119 : BitVec 32) (v243 : BitVec 32) (v301 : BitVec 32) (k1_hw21 : k1_chk21 i arg14 v110 v117 v119 v243 v301), ∀ (k1_h18 : ¬(k1_cond18 i arg14 v110 v117 v119 = 1#1)), ∀ (k1_h22 : k1_cond22 i v243 v301 = 1#1), ∀ a, (k1_off173 i v243) a + S1x16.size a ≤ S336x64.size a := fun i arg14 v110 v117 v119 v243 v301 k1_hw21 k1_h18 k1_h22 => k1_hw21.2.1 k1_h18 k1_h22
theorem k1_off174_inb : ∀ (i : grid1.Coords) (arg14 : BitVec 32) (v110 : BitVec 32) (v117 : BitVec 32) (v119 : BitVec 32) (v243 : BitVec 32) (v301 : BitVec 32) (k1_hw21 : k1_chk21 i arg14 v110 v117 v119 v243 v301), ∀ (k1_h18 : ¬(k1_cond18 i arg14 v110 v117 v119 = 1#1)), ∀ (k1_h22 : k1_cond22 i v243 v301 = 1#1), ∀ a, (k1_off174 i v243) a + S1x16.size a ≤ S336x64.size a := fun i arg14 v110 v117 v119 v243 v301 k1_hw21 k1_h18 k1_h22 => k1_hw21.2.2.1 k1_h18 k1_h22
theorem k1_off175_inb : ∀ (i : grid1.Coords) (arg14 : BitVec 32) (v110 : BitVec 32) (v117 : BitVec 32) (v119 : BitVec 32) (v243 : BitVec 32) (v301 : BitVec 32) (k1_hw21 : k1_chk21 i arg14 v110 v117 v119 v243 v301), ∀ (k1_h18 : ¬(k1_cond18 i arg14 v110 v117 v119 = 1#1)), ∀ (k1_h22 : k1_cond22 i v243 v301 = 1#1), ∀ a, (k1_off175 i v243) a + S1x16.size a ≤ S336x64.size a := fun i arg14 v110 v117 v119 v243 v301 k1_hw21 k1_h18 k1_h22 => k1_hw21.2.2.2 k1_h18 k1_h22

def k1_off176 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c3_i32 : BitVec 32 := 3#32
  let v313 : BitVec 32 := Scalar.addi v105 c3_i32
  let v314 : Index := Scalar.indexCast v313
  let c0_131 : Index := 0#32
  ![v314.toNat, 0]
def k1_off177 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c3_i32_136 : BitVec 32 := 3#32
  let v325 : BitVec 32 := Scalar.addi v105 c3_i32_136
  let v326 : Index := Scalar.indexCast v325
  let c16_137 : Index := 16#32
  ![v326.toNat, 16]
def k1_off178 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c3_i32_142 : BitVec 32 := 3#32
  let v337 : BitVec 32 := Scalar.addi v105 c3_i32_142
  let v338 : Index := Scalar.indexCast v337
  let c32_143 : Index := 32#32
  ![v338.toNat, 32]
def k1_off179 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c3_i32_148 : BitVec 32 := 3#32
  let v349 : BitVec 32 := Scalar.addi v105 c3_i32_148
  let v350 : Index := Scalar.indexCast v349
  let c48_149 : Index := 48#32
  ![v350.toNat, 48]
def k1_off180 (i : grid1.Coords) (v301 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v302 : BitVec 32 := Scalar.subi v301 v10
  let c0_i32_125 : BitVec 32 := 0#32
  let v303 : BitVec 1 := Scalar.cmpi .sge v302 c0_i32_125
  let c320_i32_126 : BitVec 32 := 320#32
  let v304 : BitVec 1 := Scalar.cmpi .slt v302 c320_i32_126
  let v305 : BitVec 1 := Scalar.andi v303 v304
  let c320_i32_127 : BitVec 32 := 320#32
  let v306 : BitVec 32 := Scalar.select v305 v302 c320_i32_127
  let v1054 : Index := Scalar.indexCast v306
  let c0_476 : Index := 0#32
  ![v1054.toNat, 0]
def k1_cond23 (i : grid1.Coords) (v301 : BitVec 32) (v359 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v360 : BitVec 32 := Scalar.subi v359 v10
  let c0_i32_152 : BitVec 32 := 0#32
  let v361 : BitVec 1 := Scalar.cmpi .sge v360 c0_i32_152
  let c320_i32_153 : BitVec 32 := 320#32
  let v362 : BitVec 1 := Scalar.cmpi .slt v360 c320_i32_153
  let v363 : BitVec 1 := Scalar.andi v361 v362
  let c320_i32_154 : BitVec 32 := 320#32
  let v364 : BitVec 32 := Scalar.select v363 v360 c320_i32_154
  let v302 : BitVec 32 := Scalar.subi v301 v10
  let c0_i32_125 : BitVec 32 := 0#32
  let v303 : BitVec 1 := Scalar.cmpi .sge v302 c0_i32_125
  let c320_i32_126 : BitVec 32 := 320#32
  let v304 : BitVec 1 := Scalar.cmpi .slt v302 c320_i32_126
  let v305 : BitVec 1 := Scalar.andi v303 v304
  let c320_i32_127 : BitVec 32 := 320#32
  let v306 : BitVec 32 := Scalar.select v305 v302 c320_i32_127
  let v365 : BitVec 1 := Scalar.cmpi .ne v364 v306
  let v366 : BitVec 32 := Scalar.extui v365
  let c0_i32_155 : BitVec 32 := 0#32
  let v367 : BitVec 1 := Scalar.cmpi .ne v366 c0_i32_155
  v367

def k1_off181 (i : grid1.Coords) (v301 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v302 : BitVec 32 := Scalar.subi v301 v10
  let c0_i32_125 : BitVec 32 := 0#32
  let v303 : BitVec 1 := Scalar.cmpi .sge v302 c0_i32_125
  let c320_i32_126 : BitVec 32 := 320#32
  let v304 : BitVec 1 := Scalar.cmpi .slt v302 c320_i32_126
  let v305 : BitVec 1 := Scalar.andi v303 v304
  let c320_i32_127 : BitVec 32 := 320#32
  let v306 : BitVec 32 := Scalar.select v305 v302 c320_i32_127
  let v1065 : Index := Scalar.indexCast v306
  let c16_480 : Index := 16#32
  ![v1065.toNat, 16]
def k1_off182 (i : grid1.Coords) (v301 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v302 : BitVec 32 := Scalar.subi v301 v10
  let c0_i32_125 : BitVec 32 := 0#32
  let v303 : BitVec 1 := Scalar.cmpi .sge v302 c0_i32_125
  let c320_i32_126 : BitVec 32 := 320#32
  let v304 : BitVec 1 := Scalar.cmpi .slt v302 c320_i32_126
  let v305 : BitVec 1 := Scalar.andi v303 v304
  let c320_i32_127 : BitVec 32 := 320#32
  let v306 : BitVec 32 := Scalar.select v305 v302 c320_i32_127
  let v1076 : Index := Scalar.indexCast v306
  let c32_484 : Index := 32#32
  ![v1076.toNat, 32]
def k1_off183 (i : grid1.Coords) (v301 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v302 : BitVec 32 := Scalar.subi v301 v10
  let c0_i32_125 : BitVec 32 := 0#32
  let v303 : BitVec 1 := Scalar.cmpi .sge v302 c0_i32_125
  let c320_i32_126 : BitVec 32 := 320#32
  let v304 : BitVec 1 := Scalar.cmpi .slt v302 c320_i32_126
  let v305 : BitVec 1 := Scalar.andi v303 v304
  let c320_i32_127 : BitVec 32 := 320#32
  let v306 : BitVec 32 := Scalar.select v305 v302 c320_i32_127
  let v1087 : Index := Scalar.indexCast v306
  let c48_488 : Index := 48#32
  ![v1087.toNat, 48]

def k1_chk22 (i : grid1.Coords) (arg14 : BitVec 32) (v110 : BitVec 32) (v117 : BitVec 32) (v119 : BitVec 32) (v301 : BitVec 32) (v359 : BitVec 32) : Prop :=
  (∀ (k1_h18 : ¬(k1_cond18 i arg14 v110 v117 v119 = 1#1)), ∀ (k1_h23 : k1_cond23 i v301 v359 = 1#1), ∀ a, (k1_off180 i v301) a + S1x16.size a ≤ S336x64.size a) ∧
  (∀ (k1_h18 : ¬(k1_cond18 i arg14 v110 v117 v119 = 1#1)), ∀ (k1_h23 : k1_cond23 i v301 v359 = 1#1), ∀ a, (k1_off181 i v301) a + S1x16.size a ≤ S336x64.size a) ∧
  (∀ (k1_h18 : ¬(k1_cond18 i arg14 v110 v117 v119 = 1#1)), ∀ (k1_h23 : k1_cond23 i v301 v359 = 1#1), ∀ a, (k1_off182 i v301) a + S1x16.size a ≤ S336x64.size a) ∧
  (∀ (k1_h18 : ¬(k1_cond18 i arg14 v110 v117 v119 = 1#1)), ∀ (k1_h23 : k1_cond23 i v301 v359 = 1#1), ∀ a, (k1_off183 i v301) a + S1x16.size a ≤ S336x64.size a)
theorem k1_off180_inb : ∀ (i : grid1.Coords) (arg14 : BitVec 32) (v110 : BitVec 32) (v117 : BitVec 32) (v119 : BitVec 32) (v301 : BitVec 32) (v359 : BitVec 32) (k1_hw22 : k1_chk22 i arg14 v110 v117 v119 v301 v359), ∀ (k1_h18 : ¬(k1_cond18 i arg14 v110 v117 v119 = 1#1)), ∀ (k1_h23 : k1_cond23 i v301 v359 = 1#1), ∀ a, (k1_off180 i v301) a + S1x16.size a ≤ S336x64.size a := fun i arg14 v110 v117 v119 v301 v359 k1_hw22 k1_h18 k1_h23 => k1_hw22.1 k1_h18 k1_h23
theorem k1_off181_inb : ∀ (i : grid1.Coords) (arg14 : BitVec 32) (v110 : BitVec 32) (v117 : BitVec 32) (v119 : BitVec 32) (v301 : BitVec 32) (v359 : BitVec 32) (k1_hw22 : k1_chk22 i arg14 v110 v117 v119 v301 v359), ∀ (k1_h18 : ¬(k1_cond18 i arg14 v110 v117 v119 = 1#1)), ∀ (k1_h23 : k1_cond23 i v301 v359 = 1#1), ∀ a, (k1_off181 i v301) a + S1x16.size a ≤ S336x64.size a := fun i arg14 v110 v117 v119 v301 v359 k1_hw22 k1_h18 k1_h23 => k1_hw22.2.1 k1_h18 k1_h23
theorem k1_off182_inb : ∀ (i : grid1.Coords) (arg14 : BitVec 32) (v110 : BitVec 32) (v117 : BitVec 32) (v119 : BitVec 32) (v301 : BitVec 32) (v359 : BitVec 32) (k1_hw22 : k1_chk22 i arg14 v110 v117 v119 v301 v359), ∀ (k1_h18 : ¬(k1_cond18 i arg14 v110 v117 v119 = 1#1)), ∀ (k1_h23 : k1_cond23 i v301 v359 = 1#1), ∀ a, (k1_off182 i v301) a + S1x16.size a ≤ S336x64.size a := fun i arg14 v110 v117 v119 v301 v359 k1_hw22 k1_h18 k1_h23 => k1_hw22.2.2.1 k1_h18 k1_h23
theorem k1_off183_inb : ∀ (i : grid1.Coords) (arg14 : BitVec 32) (v110 : BitVec 32) (v117 : BitVec 32) (v119 : BitVec 32) (v301 : BitVec 32) (v359 : BitVec 32) (k1_hw22 : k1_chk22 i arg14 v110 v117 v119 v301 v359), ∀ (k1_h18 : ¬(k1_cond18 i arg14 v110 v117 v119 = 1#1)), ∀ (k1_h23 : k1_cond23 i v301 v359 = 1#1), ∀ a, (k1_off183 i v301) a + S1x16.size a ≤ S336x64.size a := fun i arg14 v110 v117 v119 v301 v359 k1_hw22 k1_h18 k1_h23 => k1_hw22.2.2.2 k1_h18 k1_h23

def k1_off184 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c4_i32 : BitVec 32 := 4#32
  let v371 : BitVec 32 := Scalar.addi v105 c4_i32
  let v372 : Index := Scalar.indexCast v371
  let c0_158 : Index := 0#32
  ![v372.toNat, 0]
def k1_off185 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c4_i32_163 : BitVec 32 := 4#32
  let v383 : BitVec 32 := Scalar.addi v105 c4_i32_163
  let v384 : Index := Scalar.indexCast v383
  let c16_164 : Index := 16#32
  ![v384.toNat, 16]
def k1_off186 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c4_i32_169 : BitVec 32 := 4#32
  let v395 : BitVec 32 := Scalar.addi v105 c4_i32_169
  let v396 : Index := Scalar.indexCast v395
  let c32_170 : Index := 32#32
  ![v396.toNat, 32]
def k1_off187 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c4_i32_175 : BitVec 32 := 4#32
  let v407 : BitVec 32 := Scalar.addi v105 c4_i32_175
  let v408 : Index := Scalar.indexCast v407
  let c48_176 : Index := 48#32
  ![v408.toNat, 48]
def k1_off188 (i : grid1.Coords) (v359 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v360 : BitVec 32 := Scalar.subi v359 v10
  let c0_i32_152 : BitVec 32 := 0#32
  let v361 : BitVec 1 := Scalar.cmpi .sge v360 c0_i32_152
  let c320_i32_153 : BitVec 32 := 320#32
  let v362 : BitVec 1 := Scalar.cmpi .slt v360 c320_i32_153
  let v363 : BitVec 1 := Scalar.andi v361 v362
  let c320_i32_154 : BitVec 32 := 320#32
  let v364 : BitVec 32 := Scalar.select v363 v360 c320_i32_154
  let v1054 : Index := Scalar.indexCast v364
  let c0_476 : Index := 0#32
  ![v1054.toNat, 0]
def k1_cond24 (i : grid1.Coords) (v359 : BitVec 32) (v417 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v418 : BitVec 32 := Scalar.subi v417 v10
  let c0_i32_179 : BitVec 32 := 0#32
  let v419 : BitVec 1 := Scalar.cmpi .sge v418 c0_i32_179
  let c320_i32_180 : BitVec 32 := 320#32
  let v420 : BitVec 1 := Scalar.cmpi .slt v418 c320_i32_180
  let v421 : BitVec 1 := Scalar.andi v419 v420
  let c320_i32_181 : BitVec 32 := 320#32
  let v422 : BitVec 32 := Scalar.select v421 v418 c320_i32_181
  let v360 : BitVec 32 := Scalar.subi v359 v10
  let c0_i32_152 : BitVec 32 := 0#32
  let v361 : BitVec 1 := Scalar.cmpi .sge v360 c0_i32_152
  let c320_i32_153 : BitVec 32 := 320#32
  let v362 : BitVec 1 := Scalar.cmpi .slt v360 c320_i32_153
  let v363 : BitVec 1 := Scalar.andi v361 v362
  let c320_i32_154 : BitVec 32 := 320#32
  let v364 : BitVec 32 := Scalar.select v363 v360 c320_i32_154
  let v423 : BitVec 1 := Scalar.cmpi .ne v422 v364
  let v424 : BitVec 32 := Scalar.extui v423
  let c0_i32_182 : BitVec 32 := 0#32
  let v425 : BitVec 1 := Scalar.cmpi .ne v424 c0_i32_182
  v425

def k1_off189 (i : grid1.Coords) (v359 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v360 : BitVec 32 := Scalar.subi v359 v10
  let c0_i32_152 : BitVec 32 := 0#32
  let v361 : BitVec 1 := Scalar.cmpi .sge v360 c0_i32_152
  let c320_i32_153 : BitVec 32 := 320#32
  let v362 : BitVec 1 := Scalar.cmpi .slt v360 c320_i32_153
  let v363 : BitVec 1 := Scalar.andi v361 v362
  let c320_i32_154 : BitVec 32 := 320#32
  let v364 : BitVec 32 := Scalar.select v363 v360 c320_i32_154
  let v1065 : Index := Scalar.indexCast v364
  let c16_480 : Index := 16#32
  ![v1065.toNat, 16]
def k1_off190 (i : grid1.Coords) (v359 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v360 : BitVec 32 := Scalar.subi v359 v10
  let c0_i32_152 : BitVec 32 := 0#32
  let v361 : BitVec 1 := Scalar.cmpi .sge v360 c0_i32_152
  let c320_i32_153 : BitVec 32 := 320#32
  let v362 : BitVec 1 := Scalar.cmpi .slt v360 c320_i32_153
  let v363 : BitVec 1 := Scalar.andi v361 v362
  let c320_i32_154 : BitVec 32 := 320#32
  let v364 : BitVec 32 := Scalar.select v363 v360 c320_i32_154
  let v1076 : Index := Scalar.indexCast v364
  let c32_484 : Index := 32#32
  ![v1076.toNat, 32]
def k1_off191 (i : grid1.Coords) (v359 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v360 : BitVec 32 := Scalar.subi v359 v10
  let c0_i32_152 : BitVec 32 := 0#32
  let v361 : BitVec 1 := Scalar.cmpi .sge v360 c0_i32_152
  let c320_i32_153 : BitVec 32 := 320#32
  let v362 : BitVec 1 := Scalar.cmpi .slt v360 c320_i32_153
  let v363 : BitVec 1 := Scalar.andi v361 v362
  let c320_i32_154 : BitVec 32 := 320#32
  let v364 : BitVec 32 := Scalar.select v363 v360 c320_i32_154
  let v1087 : Index := Scalar.indexCast v364
  let c48_488 : Index := 48#32
  ![v1087.toNat, 48]

def k1_chk23 (i : grid1.Coords) (arg14 : BitVec 32) (v110 : BitVec 32) (v117 : BitVec 32) (v119 : BitVec 32) (v359 : BitVec 32) (v417 : BitVec 32) : Prop :=
  (∀ (k1_h18 : ¬(k1_cond18 i arg14 v110 v117 v119 = 1#1)), ∀ (k1_h24 : k1_cond24 i v359 v417 = 1#1), ∀ a, (k1_off188 i v359) a + S1x16.size a ≤ S336x64.size a) ∧
  (∀ (k1_h18 : ¬(k1_cond18 i arg14 v110 v117 v119 = 1#1)), ∀ (k1_h24 : k1_cond24 i v359 v417 = 1#1), ∀ a, (k1_off189 i v359) a + S1x16.size a ≤ S336x64.size a) ∧
  (∀ (k1_h18 : ¬(k1_cond18 i arg14 v110 v117 v119 = 1#1)), ∀ (k1_h24 : k1_cond24 i v359 v417 = 1#1), ∀ a, (k1_off190 i v359) a + S1x16.size a ≤ S336x64.size a) ∧
  (∀ (k1_h18 : ¬(k1_cond18 i arg14 v110 v117 v119 = 1#1)), ∀ (k1_h24 : k1_cond24 i v359 v417 = 1#1), ∀ a, (k1_off191 i v359) a + S1x16.size a ≤ S336x64.size a)
theorem k1_off188_inb : ∀ (i : grid1.Coords) (arg14 : BitVec 32) (v110 : BitVec 32) (v117 : BitVec 32) (v119 : BitVec 32) (v359 : BitVec 32) (v417 : BitVec 32) (k1_hw23 : k1_chk23 i arg14 v110 v117 v119 v359 v417), ∀ (k1_h18 : ¬(k1_cond18 i arg14 v110 v117 v119 = 1#1)), ∀ (k1_h24 : k1_cond24 i v359 v417 = 1#1), ∀ a, (k1_off188 i v359) a + S1x16.size a ≤ S336x64.size a := fun i arg14 v110 v117 v119 v359 v417 k1_hw23 k1_h18 k1_h24 => k1_hw23.1 k1_h18 k1_h24
theorem k1_off189_inb : ∀ (i : grid1.Coords) (arg14 : BitVec 32) (v110 : BitVec 32) (v117 : BitVec 32) (v119 : BitVec 32) (v359 : BitVec 32) (v417 : BitVec 32) (k1_hw23 : k1_chk23 i arg14 v110 v117 v119 v359 v417), ∀ (k1_h18 : ¬(k1_cond18 i arg14 v110 v117 v119 = 1#1)), ∀ (k1_h24 : k1_cond24 i v359 v417 = 1#1), ∀ a, (k1_off189 i v359) a + S1x16.size a ≤ S336x64.size a := fun i arg14 v110 v117 v119 v359 v417 k1_hw23 k1_h18 k1_h24 => k1_hw23.2.1 k1_h18 k1_h24
theorem k1_off190_inb : ∀ (i : grid1.Coords) (arg14 : BitVec 32) (v110 : BitVec 32) (v117 : BitVec 32) (v119 : BitVec 32) (v359 : BitVec 32) (v417 : BitVec 32) (k1_hw23 : k1_chk23 i arg14 v110 v117 v119 v359 v417), ∀ (k1_h18 : ¬(k1_cond18 i arg14 v110 v117 v119 = 1#1)), ∀ (k1_h24 : k1_cond24 i v359 v417 = 1#1), ∀ a, (k1_off190 i v359) a + S1x16.size a ≤ S336x64.size a := fun i arg14 v110 v117 v119 v359 v417 k1_hw23 k1_h18 k1_h24 => k1_hw23.2.2.1 k1_h18 k1_h24
theorem k1_off191_inb : ∀ (i : grid1.Coords) (arg14 : BitVec 32) (v110 : BitVec 32) (v117 : BitVec 32) (v119 : BitVec 32) (v359 : BitVec 32) (v417 : BitVec 32) (k1_hw23 : k1_chk23 i arg14 v110 v117 v119 v359 v417), ∀ (k1_h18 : ¬(k1_cond18 i arg14 v110 v117 v119 = 1#1)), ∀ (k1_h24 : k1_cond24 i v359 v417 = 1#1), ∀ a, (k1_off191 i v359) a + S1x16.size a ≤ S336x64.size a := fun i arg14 v110 v117 v119 v359 v417 k1_hw23 k1_h18 k1_h24 => k1_hw23.2.2.2 k1_h18 k1_h24

def k1_off192 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c5_i32 : BitVec 32 := 5#32
  let v429 : BitVec 32 := Scalar.addi v105 c5_i32
  let v430 : Index := Scalar.indexCast v429
  let c0_185 : Index := 0#32
  ![v430.toNat, 0]
def k1_off193 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c5_i32_190 : BitVec 32 := 5#32
  let v441 : BitVec 32 := Scalar.addi v105 c5_i32_190
  let v442 : Index := Scalar.indexCast v441
  let c16_191 : Index := 16#32
  ![v442.toNat, 16]
def k1_off194 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c5_i32_196 : BitVec 32 := 5#32
  let v453 : BitVec 32 := Scalar.addi v105 c5_i32_196
  let v454 : Index := Scalar.indexCast v453
  let c32_197 : Index := 32#32
  ![v454.toNat, 32]
def k1_off195 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c5_i32_202 : BitVec 32 := 5#32
  let v465 : BitVec 32 := Scalar.addi v105 c5_i32_202
  let v466 : Index := Scalar.indexCast v465
  let c48_203 : Index := 48#32
  ![v466.toNat, 48]
def k1_off196 (i : grid1.Coords) (v417 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v418 : BitVec 32 := Scalar.subi v417 v10
  let c0_i32_179 : BitVec 32 := 0#32
  let v419 : BitVec 1 := Scalar.cmpi .sge v418 c0_i32_179
  let c320_i32_180 : BitVec 32 := 320#32
  let v420 : BitVec 1 := Scalar.cmpi .slt v418 c320_i32_180
  let v421 : BitVec 1 := Scalar.andi v419 v420
  let c320_i32_181 : BitVec 32 := 320#32
  let v422 : BitVec 32 := Scalar.select v421 v418 c320_i32_181
  let v1054 : Index := Scalar.indexCast v422
  let c0_476 : Index := 0#32
  ![v1054.toNat, 0]
def k1_cond25 (i : grid1.Coords) (v417 : BitVec 32) (v475 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v476 : BitVec 32 := Scalar.subi v475 v10
  let c0_i32_206 : BitVec 32 := 0#32
  let v477 : BitVec 1 := Scalar.cmpi .sge v476 c0_i32_206
  let c320_i32_207 : BitVec 32 := 320#32
  let v478 : BitVec 1 := Scalar.cmpi .slt v476 c320_i32_207
  let v479 : BitVec 1 := Scalar.andi v477 v478
  let c320_i32_208 : BitVec 32 := 320#32
  let v480 : BitVec 32 := Scalar.select v479 v476 c320_i32_208
  let v418 : BitVec 32 := Scalar.subi v417 v10
  let c0_i32_179 : BitVec 32 := 0#32
  let v419 : BitVec 1 := Scalar.cmpi .sge v418 c0_i32_179
  let c320_i32_180 : BitVec 32 := 320#32
  let v420 : BitVec 1 := Scalar.cmpi .slt v418 c320_i32_180
  let v421 : BitVec 1 := Scalar.andi v419 v420
  let c320_i32_181 : BitVec 32 := 320#32
  let v422 : BitVec 32 := Scalar.select v421 v418 c320_i32_181
  let v481 : BitVec 1 := Scalar.cmpi .ne v480 v422
  let v482 : BitVec 32 := Scalar.extui v481
  let c0_i32_209 : BitVec 32 := 0#32
  let v483 : BitVec 1 := Scalar.cmpi .ne v482 c0_i32_209
  v483

def k1_off197 (i : grid1.Coords) (v417 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v418 : BitVec 32 := Scalar.subi v417 v10
  let c0_i32_179 : BitVec 32 := 0#32
  let v419 : BitVec 1 := Scalar.cmpi .sge v418 c0_i32_179
  let c320_i32_180 : BitVec 32 := 320#32
  let v420 : BitVec 1 := Scalar.cmpi .slt v418 c320_i32_180
  let v421 : BitVec 1 := Scalar.andi v419 v420
  let c320_i32_181 : BitVec 32 := 320#32
  let v422 : BitVec 32 := Scalar.select v421 v418 c320_i32_181
  let v1065 : Index := Scalar.indexCast v422
  let c16_480 : Index := 16#32
  ![v1065.toNat, 16]
def k1_off198 (i : grid1.Coords) (v417 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v418 : BitVec 32 := Scalar.subi v417 v10
  let c0_i32_179 : BitVec 32 := 0#32
  let v419 : BitVec 1 := Scalar.cmpi .sge v418 c0_i32_179
  let c320_i32_180 : BitVec 32 := 320#32
  let v420 : BitVec 1 := Scalar.cmpi .slt v418 c320_i32_180
  let v421 : BitVec 1 := Scalar.andi v419 v420
  let c320_i32_181 : BitVec 32 := 320#32
  let v422 : BitVec 32 := Scalar.select v421 v418 c320_i32_181
  let v1076 : Index := Scalar.indexCast v422
  let c32_484 : Index := 32#32
  ![v1076.toNat, 32]
def k1_off199 (i : grid1.Coords) (v417 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v418 : BitVec 32 := Scalar.subi v417 v10
  let c0_i32_179 : BitVec 32 := 0#32
  let v419 : BitVec 1 := Scalar.cmpi .sge v418 c0_i32_179
  let c320_i32_180 : BitVec 32 := 320#32
  let v420 : BitVec 1 := Scalar.cmpi .slt v418 c320_i32_180
  let v421 : BitVec 1 := Scalar.andi v419 v420
  let c320_i32_181 : BitVec 32 := 320#32
  let v422 : BitVec 32 := Scalar.select v421 v418 c320_i32_181
  let v1087 : Index := Scalar.indexCast v422
  let c48_488 : Index := 48#32
  ![v1087.toNat, 48]

def k1_chk24 (i : grid1.Coords) (arg14 : BitVec 32) (v110 : BitVec 32) (v117 : BitVec 32) (v119 : BitVec 32) (v417 : BitVec 32) (v475 : BitVec 32) : Prop :=
  (∀ (k1_h18 : ¬(k1_cond18 i arg14 v110 v117 v119 = 1#1)), ∀ (k1_h25 : k1_cond25 i v417 v475 = 1#1), ∀ a, (k1_off196 i v417) a + S1x16.size a ≤ S336x64.size a) ∧
  (∀ (k1_h18 : ¬(k1_cond18 i arg14 v110 v117 v119 = 1#1)), ∀ (k1_h25 : k1_cond25 i v417 v475 = 1#1), ∀ a, (k1_off197 i v417) a + S1x16.size a ≤ S336x64.size a) ∧
  (∀ (k1_h18 : ¬(k1_cond18 i arg14 v110 v117 v119 = 1#1)), ∀ (k1_h25 : k1_cond25 i v417 v475 = 1#1), ∀ a, (k1_off198 i v417) a + S1x16.size a ≤ S336x64.size a) ∧
  (∀ (k1_h18 : ¬(k1_cond18 i arg14 v110 v117 v119 = 1#1)), ∀ (k1_h25 : k1_cond25 i v417 v475 = 1#1), ∀ a, (k1_off199 i v417) a + S1x16.size a ≤ S336x64.size a)
theorem k1_off196_inb : ∀ (i : grid1.Coords) (arg14 : BitVec 32) (v110 : BitVec 32) (v117 : BitVec 32) (v119 : BitVec 32) (v417 : BitVec 32) (v475 : BitVec 32) (k1_hw24 : k1_chk24 i arg14 v110 v117 v119 v417 v475), ∀ (k1_h18 : ¬(k1_cond18 i arg14 v110 v117 v119 = 1#1)), ∀ (k1_h25 : k1_cond25 i v417 v475 = 1#1), ∀ a, (k1_off196 i v417) a + S1x16.size a ≤ S336x64.size a := fun i arg14 v110 v117 v119 v417 v475 k1_hw24 k1_h18 k1_h25 => k1_hw24.1 k1_h18 k1_h25
theorem k1_off197_inb : ∀ (i : grid1.Coords) (arg14 : BitVec 32) (v110 : BitVec 32) (v117 : BitVec 32) (v119 : BitVec 32) (v417 : BitVec 32) (v475 : BitVec 32) (k1_hw24 : k1_chk24 i arg14 v110 v117 v119 v417 v475), ∀ (k1_h18 : ¬(k1_cond18 i arg14 v110 v117 v119 = 1#1)), ∀ (k1_h25 : k1_cond25 i v417 v475 = 1#1), ∀ a, (k1_off197 i v417) a + S1x16.size a ≤ S336x64.size a := fun i arg14 v110 v117 v119 v417 v475 k1_hw24 k1_h18 k1_h25 => k1_hw24.2.1 k1_h18 k1_h25
theorem k1_off198_inb : ∀ (i : grid1.Coords) (arg14 : BitVec 32) (v110 : BitVec 32) (v117 : BitVec 32) (v119 : BitVec 32) (v417 : BitVec 32) (v475 : BitVec 32) (k1_hw24 : k1_chk24 i arg14 v110 v117 v119 v417 v475), ∀ (k1_h18 : ¬(k1_cond18 i arg14 v110 v117 v119 = 1#1)), ∀ (k1_h25 : k1_cond25 i v417 v475 = 1#1), ∀ a, (k1_off198 i v417) a + S1x16.size a ≤ S336x64.size a := fun i arg14 v110 v117 v119 v417 v475 k1_hw24 k1_h18 k1_h25 => k1_hw24.2.2.1 k1_h18 k1_h25
theorem k1_off199_inb : ∀ (i : grid1.Coords) (arg14 : BitVec 32) (v110 : BitVec 32) (v117 : BitVec 32) (v119 : BitVec 32) (v417 : BitVec 32) (v475 : BitVec 32) (k1_hw24 : k1_chk24 i arg14 v110 v117 v119 v417 v475), ∀ (k1_h18 : ¬(k1_cond18 i arg14 v110 v117 v119 = 1#1)), ∀ (k1_h25 : k1_cond25 i v417 v475 = 1#1), ∀ a, (k1_off199 i v417) a + S1x16.size a ≤ S336x64.size a := fun i arg14 v110 v117 v119 v417 v475 k1_hw24 k1_h18 k1_h25 => k1_hw24.2.2.2 k1_h18 k1_h25

def k1_off200 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c6_i32 : BitVec 32 := 6#32
  let v487 : BitVec 32 := Scalar.addi v105 c6_i32
  let v488 : Index := Scalar.indexCast v487
  let c0_212 : Index := 0#32
  ![v488.toNat, 0]
def k1_off201 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c6_i32_217 : BitVec 32 := 6#32
  let v499 : BitVec 32 := Scalar.addi v105 c6_i32_217
  let v500 : Index := Scalar.indexCast v499
  let c16_218 : Index := 16#32
  ![v500.toNat, 16]
def k1_off202 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c6_i32_223 : BitVec 32 := 6#32
  let v511 : BitVec 32 := Scalar.addi v105 c6_i32_223
  let v512 : Index := Scalar.indexCast v511
  let c32_224 : Index := 32#32
  ![v512.toNat, 32]
def k1_off203 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c6_i32_229 : BitVec 32 := 6#32
  let v523 : BitVec 32 := Scalar.addi v105 c6_i32_229
  let v524 : Index := Scalar.indexCast v523
  let c48_230 : Index := 48#32
  ![v524.toNat, 48]
def k1_off204 (i : grid1.Coords) (v475 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v476 : BitVec 32 := Scalar.subi v475 v10
  let c0_i32_206 : BitVec 32 := 0#32
  let v477 : BitVec 1 := Scalar.cmpi .sge v476 c0_i32_206
  let c320_i32_207 : BitVec 32 := 320#32
  let v478 : BitVec 1 := Scalar.cmpi .slt v476 c320_i32_207
  let v479 : BitVec 1 := Scalar.andi v477 v478
  let c320_i32_208 : BitVec 32 := 320#32
  let v480 : BitVec 32 := Scalar.select v479 v476 c320_i32_208
  let v1054 : Index := Scalar.indexCast v480
  let c0_476 : Index := 0#32
  ![v1054.toNat, 0]
def k1_cond26 (i : grid1.Coords) (v475 : BitVec 32) (v533 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v534 : BitVec 32 := Scalar.subi v533 v10
  let c0_i32_233 : BitVec 32 := 0#32
  let v535 : BitVec 1 := Scalar.cmpi .sge v534 c0_i32_233
  let c320_i32_234 : BitVec 32 := 320#32
  let v536 : BitVec 1 := Scalar.cmpi .slt v534 c320_i32_234
  let v537 : BitVec 1 := Scalar.andi v535 v536
  let c320_i32_235 : BitVec 32 := 320#32
  let v538 : BitVec 32 := Scalar.select v537 v534 c320_i32_235
  let v476 : BitVec 32 := Scalar.subi v475 v10
  let c0_i32_206 : BitVec 32 := 0#32
  let v477 : BitVec 1 := Scalar.cmpi .sge v476 c0_i32_206
  let c320_i32_207 : BitVec 32 := 320#32
  let v478 : BitVec 1 := Scalar.cmpi .slt v476 c320_i32_207
  let v479 : BitVec 1 := Scalar.andi v477 v478
  let c320_i32_208 : BitVec 32 := 320#32
  let v480 : BitVec 32 := Scalar.select v479 v476 c320_i32_208
  let v539 : BitVec 1 := Scalar.cmpi .ne v538 v480
  let v540 : BitVec 32 := Scalar.extui v539
  let c0_i32_236 : BitVec 32 := 0#32
  let v541 : BitVec 1 := Scalar.cmpi .ne v540 c0_i32_236
  v541

def k1_off205 (i : grid1.Coords) (v475 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v476 : BitVec 32 := Scalar.subi v475 v10
  let c0_i32_206 : BitVec 32 := 0#32
  let v477 : BitVec 1 := Scalar.cmpi .sge v476 c0_i32_206
  let c320_i32_207 : BitVec 32 := 320#32
  let v478 : BitVec 1 := Scalar.cmpi .slt v476 c320_i32_207
  let v479 : BitVec 1 := Scalar.andi v477 v478
  let c320_i32_208 : BitVec 32 := 320#32
  let v480 : BitVec 32 := Scalar.select v479 v476 c320_i32_208
  let v1065 : Index := Scalar.indexCast v480
  let c16_480 : Index := 16#32
  ![v1065.toNat, 16]
def k1_off206 (i : grid1.Coords) (v475 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v476 : BitVec 32 := Scalar.subi v475 v10
  let c0_i32_206 : BitVec 32 := 0#32
  let v477 : BitVec 1 := Scalar.cmpi .sge v476 c0_i32_206
  let c320_i32_207 : BitVec 32 := 320#32
  let v478 : BitVec 1 := Scalar.cmpi .slt v476 c320_i32_207
  let v479 : BitVec 1 := Scalar.andi v477 v478
  let c320_i32_208 : BitVec 32 := 320#32
  let v480 : BitVec 32 := Scalar.select v479 v476 c320_i32_208
  let v1076 : Index := Scalar.indexCast v480
  let c32_484 : Index := 32#32
  ![v1076.toNat, 32]
def k1_off207 (i : grid1.Coords) (v475 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v476 : BitVec 32 := Scalar.subi v475 v10
  let c0_i32_206 : BitVec 32 := 0#32
  let v477 : BitVec 1 := Scalar.cmpi .sge v476 c0_i32_206
  let c320_i32_207 : BitVec 32 := 320#32
  let v478 : BitVec 1 := Scalar.cmpi .slt v476 c320_i32_207
  let v479 : BitVec 1 := Scalar.andi v477 v478
  let c320_i32_208 : BitVec 32 := 320#32
  let v480 : BitVec 32 := Scalar.select v479 v476 c320_i32_208
  let v1087 : Index := Scalar.indexCast v480
  let c48_488 : Index := 48#32
  ![v1087.toNat, 48]

def k1_chk25 (i : grid1.Coords) (arg14 : BitVec 32) (v110 : BitVec 32) (v117 : BitVec 32) (v119 : BitVec 32) (v475 : BitVec 32) (v533 : BitVec 32) : Prop :=
  (∀ (k1_h18 : ¬(k1_cond18 i arg14 v110 v117 v119 = 1#1)), ∀ (k1_h26 : k1_cond26 i v475 v533 = 1#1), ∀ a, (k1_off204 i v475) a + S1x16.size a ≤ S336x64.size a) ∧
  (∀ (k1_h18 : ¬(k1_cond18 i arg14 v110 v117 v119 = 1#1)), ∀ (k1_h26 : k1_cond26 i v475 v533 = 1#1), ∀ a, (k1_off205 i v475) a + S1x16.size a ≤ S336x64.size a) ∧
  (∀ (k1_h18 : ¬(k1_cond18 i arg14 v110 v117 v119 = 1#1)), ∀ (k1_h26 : k1_cond26 i v475 v533 = 1#1), ∀ a, (k1_off206 i v475) a + S1x16.size a ≤ S336x64.size a) ∧
  (∀ (k1_h18 : ¬(k1_cond18 i arg14 v110 v117 v119 = 1#1)), ∀ (k1_h26 : k1_cond26 i v475 v533 = 1#1), ∀ a, (k1_off207 i v475) a + S1x16.size a ≤ S336x64.size a)
theorem k1_off204_inb : ∀ (i : grid1.Coords) (arg14 : BitVec 32) (v110 : BitVec 32) (v117 : BitVec 32) (v119 : BitVec 32) (v475 : BitVec 32) (v533 : BitVec 32) (k1_hw25 : k1_chk25 i arg14 v110 v117 v119 v475 v533), ∀ (k1_h18 : ¬(k1_cond18 i arg14 v110 v117 v119 = 1#1)), ∀ (k1_h26 : k1_cond26 i v475 v533 = 1#1), ∀ a, (k1_off204 i v475) a + S1x16.size a ≤ S336x64.size a := fun i arg14 v110 v117 v119 v475 v533 k1_hw25 k1_h18 k1_h26 => k1_hw25.1 k1_h18 k1_h26
theorem k1_off205_inb : ∀ (i : grid1.Coords) (arg14 : BitVec 32) (v110 : BitVec 32) (v117 : BitVec 32) (v119 : BitVec 32) (v475 : BitVec 32) (v533 : BitVec 32) (k1_hw25 : k1_chk25 i arg14 v110 v117 v119 v475 v533), ∀ (k1_h18 : ¬(k1_cond18 i arg14 v110 v117 v119 = 1#1)), ∀ (k1_h26 : k1_cond26 i v475 v533 = 1#1), ∀ a, (k1_off205 i v475) a + S1x16.size a ≤ S336x64.size a := fun i arg14 v110 v117 v119 v475 v533 k1_hw25 k1_h18 k1_h26 => k1_hw25.2.1 k1_h18 k1_h26
theorem k1_off206_inb : ∀ (i : grid1.Coords) (arg14 : BitVec 32) (v110 : BitVec 32) (v117 : BitVec 32) (v119 : BitVec 32) (v475 : BitVec 32) (v533 : BitVec 32) (k1_hw25 : k1_chk25 i arg14 v110 v117 v119 v475 v533), ∀ (k1_h18 : ¬(k1_cond18 i arg14 v110 v117 v119 = 1#1)), ∀ (k1_h26 : k1_cond26 i v475 v533 = 1#1), ∀ a, (k1_off206 i v475) a + S1x16.size a ≤ S336x64.size a := fun i arg14 v110 v117 v119 v475 v533 k1_hw25 k1_h18 k1_h26 => k1_hw25.2.2.1 k1_h18 k1_h26
theorem k1_off207_inb : ∀ (i : grid1.Coords) (arg14 : BitVec 32) (v110 : BitVec 32) (v117 : BitVec 32) (v119 : BitVec 32) (v475 : BitVec 32) (v533 : BitVec 32) (k1_hw25 : k1_chk25 i arg14 v110 v117 v119 v475 v533), ∀ (k1_h18 : ¬(k1_cond18 i arg14 v110 v117 v119 = 1#1)), ∀ (k1_h26 : k1_cond26 i v475 v533 = 1#1), ∀ a, (k1_off207 i v475) a + S1x16.size a ≤ S336x64.size a := fun i arg14 v110 v117 v119 v475 v533 k1_hw25 k1_h18 k1_h26 => k1_hw25.2.2.2 k1_h18 k1_h26

def k1_off208 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c7_i32 : BitVec 32 := 7#32
  let v545 : BitVec 32 := Scalar.addi v105 c7_i32
  let v546 : Index := Scalar.indexCast v545
  let c0_239 : Index := 0#32
  ![v546.toNat, 0]
def k1_off209 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c7_i32_244 : BitVec 32 := 7#32
  let v557 : BitVec 32 := Scalar.addi v105 c7_i32_244
  let v558 : Index := Scalar.indexCast v557
  let c16_245 : Index := 16#32
  ![v558.toNat, 16]
def k1_off210 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c7_i32_250 : BitVec 32 := 7#32
  let v569 : BitVec 32 := Scalar.addi v105 c7_i32_250
  let v570 : Index := Scalar.indexCast v569
  let c32_251 : Index := 32#32
  ![v570.toNat, 32]
def k1_off211 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c7_i32_256 : BitVec 32 := 7#32
  let v581 : BitVec 32 := Scalar.addi v105 c7_i32_256
  let v582 : Index := Scalar.indexCast v581
  let c48_257 : Index := 48#32
  ![v582.toNat, 48]
def k1_off212 (i : grid1.Coords) (v533 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v534 : BitVec 32 := Scalar.subi v533 v10
  let c0_i32_233 : BitVec 32 := 0#32
  let v535 : BitVec 1 := Scalar.cmpi .sge v534 c0_i32_233
  let c320_i32_234 : BitVec 32 := 320#32
  let v536 : BitVec 1 := Scalar.cmpi .slt v534 c320_i32_234
  let v537 : BitVec 1 := Scalar.andi v535 v536
  let c320_i32_235 : BitVec 32 := 320#32
  let v538 : BitVec 32 := Scalar.select v537 v534 c320_i32_235
  let v1054 : Index := Scalar.indexCast v538
  let c0_476 : Index := 0#32
  ![v1054.toNat, 0]
def k1_cond27 (i : grid1.Coords) (v533 : BitVec 32) (v591 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v592 : BitVec 32 := Scalar.subi v591 v10
  let c0_i32_260 : BitVec 32 := 0#32
  let v593 : BitVec 1 := Scalar.cmpi .sge v592 c0_i32_260
  let c320_i32_261 : BitVec 32 := 320#32
  let v594 : BitVec 1 := Scalar.cmpi .slt v592 c320_i32_261
  let v595 : BitVec 1 := Scalar.andi v593 v594
  let c320_i32_262 : BitVec 32 := 320#32
  let v596 : BitVec 32 := Scalar.select v595 v592 c320_i32_262
  let v534 : BitVec 32 := Scalar.subi v533 v10
  let c0_i32_233 : BitVec 32 := 0#32
  let v535 : BitVec 1 := Scalar.cmpi .sge v534 c0_i32_233
  let c320_i32_234 : BitVec 32 := 320#32
  let v536 : BitVec 1 := Scalar.cmpi .slt v534 c320_i32_234
  let v537 : BitVec 1 := Scalar.andi v535 v536
  let c320_i32_235 : BitVec 32 := 320#32
  let v538 : BitVec 32 := Scalar.select v537 v534 c320_i32_235
  let v597 : BitVec 1 := Scalar.cmpi .ne v596 v538
  let v598 : BitVec 32 := Scalar.extui v597
  let c0_i32_263 : BitVec 32 := 0#32
  let v599 : BitVec 1 := Scalar.cmpi .ne v598 c0_i32_263
  v599

def k1_off213 (i : grid1.Coords) (v533 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v534 : BitVec 32 := Scalar.subi v533 v10
  let c0_i32_233 : BitVec 32 := 0#32
  let v535 : BitVec 1 := Scalar.cmpi .sge v534 c0_i32_233
  let c320_i32_234 : BitVec 32 := 320#32
  let v536 : BitVec 1 := Scalar.cmpi .slt v534 c320_i32_234
  let v537 : BitVec 1 := Scalar.andi v535 v536
  let c320_i32_235 : BitVec 32 := 320#32
  let v538 : BitVec 32 := Scalar.select v537 v534 c320_i32_235
  let v1065 : Index := Scalar.indexCast v538
  let c16_480 : Index := 16#32
  ![v1065.toNat, 16]
def k1_off214 (i : grid1.Coords) (v533 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v534 : BitVec 32 := Scalar.subi v533 v10
  let c0_i32_233 : BitVec 32 := 0#32
  let v535 : BitVec 1 := Scalar.cmpi .sge v534 c0_i32_233
  let c320_i32_234 : BitVec 32 := 320#32
  let v536 : BitVec 1 := Scalar.cmpi .slt v534 c320_i32_234
  let v537 : BitVec 1 := Scalar.andi v535 v536
  let c320_i32_235 : BitVec 32 := 320#32
  let v538 : BitVec 32 := Scalar.select v537 v534 c320_i32_235
  let v1076 : Index := Scalar.indexCast v538
  let c32_484 : Index := 32#32
  ![v1076.toNat, 32]
def k1_off215 (i : grid1.Coords) (v533 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v534 : BitVec 32 := Scalar.subi v533 v10
  let c0_i32_233 : BitVec 32 := 0#32
  let v535 : BitVec 1 := Scalar.cmpi .sge v534 c0_i32_233
  let c320_i32_234 : BitVec 32 := 320#32
  let v536 : BitVec 1 := Scalar.cmpi .slt v534 c320_i32_234
  let v537 : BitVec 1 := Scalar.andi v535 v536
  let c320_i32_235 : BitVec 32 := 320#32
  let v538 : BitVec 32 := Scalar.select v537 v534 c320_i32_235
  let v1087 : Index := Scalar.indexCast v538
  let c48_488 : Index := 48#32
  ![v1087.toNat, 48]

def k1_chk26 (i : grid1.Coords) (arg14 : BitVec 32) (v110 : BitVec 32) (v117 : BitVec 32) (v119 : BitVec 32) (v533 : BitVec 32) (v591 : BitVec 32) : Prop :=
  (∀ (k1_h18 : ¬(k1_cond18 i arg14 v110 v117 v119 = 1#1)), ∀ (k1_h27 : k1_cond27 i v533 v591 = 1#1), ∀ a, (k1_off212 i v533) a + S1x16.size a ≤ S336x64.size a) ∧
  (∀ (k1_h18 : ¬(k1_cond18 i arg14 v110 v117 v119 = 1#1)), ∀ (k1_h27 : k1_cond27 i v533 v591 = 1#1), ∀ a, (k1_off213 i v533) a + S1x16.size a ≤ S336x64.size a) ∧
  (∀ (k1_h18 : ¬(k1_cond18 i arg14 v110 v117 v119 = 1#1)), ∀ (k1_h27 : k1_cond27 i v533 v591 = 1#1), ∀ a, (k1_off214 i v533) a + S1x16.size a ≤ S336x64.size a) ∧
  (∀ (k1_h18 : ¬(k1_cond18 i arg14 v110 v117 v119 = 1#1)), ∀ (k1_h27 : k1_cond27 i v533 v591 = 1#1), ∀ a, (k1_off215 i v533) a + S1x16.size a ≤ S336x64.size a)
theorem k1_off212_inb : ∀ (i : grid1.Coords) (arg14 : BitVec 32) (v110 : BitVec 32) (v117 : BitVec 32) (v119 : BitVec 32) (v533 : BitVec 32) (v591 : BitVec 32) (k1_hw26 : k1_chk26 i arg14 v110 v117 v119 v533 v591), ∀ (k1_h18 : ¬(k1_cond18 i arg14 v110 v117 v119 = 1#1)), ∀ (k1_h27 : k1_cond27 i v533 v591 = 1#1), ∀ a, (k1_off212 i v533) a + S1x16.size a ≤ S336x64.size a := fun i arg14 v110 v117 v119 v533 v591 k1_hw26 k1_h18 k1_h27 => k1_hw26.1 k1_h18 k1_h27
theorem k1_off213_inb : ∀ (i : grid1.Coords) (arg14 : BitVec 32) (v110 : BitVec 32) (v117 : BitVec 32) (v119 : BitVec 32) (v533 : BitVec 32) (v591 : BitVec 32) (k1_hw26 : k1_chk26 i arg14 v110 v117 v119 v533 v591), ∀ (k1_h18 : ¬(k1_cond18 i arg14 v110 v117 v119 = 1#1)), ∀ (k1_h27 : k1_cond27 i v533 v591 = 1#1), ∀ a, (k1_off213 i v533) a + S1x16.size a ≤ S336x64.size a := fun i arg14 v110 v117 v119 v533 v591 k1_hw26 k1_h18 k1_h27 => k1_hw26.2.1 k1_h18 k1_h27
theorem k1_off214_inb : ∀ (i : grid1.Coords) (arg14 : BitVec 32) (v110 : BitVec 32) (v117 : BitVec 32) (v119 : BitVec 32) (v533 : BitVec 32) (v591 : BitVec 32) (k1_hw26 : k1_chk26 i arg14 v110 v117 v119 v533 v591), ∀ (k1_h18 : ¬(k1_cond18 i arg14 v110 v117 v119 = 1#1)), ∀ (k1_h27 : k1_cond27 i v533 v591 = 1#1), ∀ a, (k1_off214 i v533) a + S1x16.size a ≤ S336x64.size a := fun i arg14 v110 v117 v119 v533 v591 k1_hw26 k1_h18 k1_h27 => k1_hw26.2.2.1 k1_h18 k1_h27
theorem k1_off215_inb : ∀ (i : grid1.Coords) (arg14 : BitVec 32) (v110 : BitVec 32) (v117 : BitVec 32) (v119 : BitVec 32) (v533 : BitVec 32) (v591 : BitVec 32) (k1_hw26 : k1_chk26 i arg14 v110 v117 v119 v533 v591), ∀ (k1_h18 : ¬(k1_cond18 i arg14 v110 v117 v119 = 1#1)), ∀ (k1_h27 : k1_cond27 i v533 v591 = 1#1), ∀ a, (k1_off215 i v533) a + S1x16.size a ≤ S336x64.size a := fun i arg14 v110 v117 v119 v533 v591 k1_hw26 k1_h18 k1_h27 => k1_hw26.2.2.2 k1_h18 k1_h27

def k1_off216 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c8_i32 : BitVec 32 := 8#32
  let v603 : BitVec 32 := Scalar.addi v105 c8_i32
  let v604 : Index := Scalar.indexCast v603
  let c0_266 : Index := 0#32
  ![v604.toNat, 0]
def k1_off217 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c8_i32_271 : BitVec 32 := 8#32
  let v615 : BitVec 32 := Scalar.addi v105 c8_i32_271
  let v616 : Index := Scalar.indexCast v615
  let c16_272 : Index := 16#32
  ![v616.toNat, 16]
def k1_off218 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c8_i32_277 : BitVec 32 := 8#32
  let v627 : BitVec 32 := Scalar.addi v105 c8_i32_277
  let v628 : Index := Scalar.indexCast v627
  let c32_278 : Index := 32#32
  ![v628.toNat, 32]
def k1_off219 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c8_i32_283 : BitVec 32 := 8#32
  let v639 : BitVec 32 := Scalar.addi v105 c8_i32_283
  let v640 : Index := Scalar.indexCast v639
  let c48_284 : Index := 48#32
  ![v640.toNat, 48]
def k1_off220 (i : grid1.Coords) (v591 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v592 : BitVec 32 := Scalar.subi v591 v10
  let c0_i32_260 : BitVec 32 := 0#32
  let v593 : BitVec 1 := Scalar.cmpi .sge v592 c0_i32_260
  let c320_i32_261 : BitVec 32 := 320#32
  let v594 : BitVec 1 := Scalar.cmpi .slt v592 c320_i32_261
  let v595 : BitVec 1 := Scalar.andi v593 v594
  let c320_i32_262 : BitVec 32 := 320#32
  let v596 : BitVec 32 := Scalar.select v595 v592 c320_i32_262
  let v1054 : Index := Scalar.indexCast v596
  let c0_476 : Index := 0#32
  ![v1054.toNat, 0]
def k1_cond28 (i : grid1.Coords) (v591 : BitVec 32) (v649 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v650 : BitVec 32 := Scalar.subi v649 v10
  let c0_i32_287 : BitVec 32 := 0#32
  let v651 : BitVec 1 := Scalar.cmpi .sge v650 c0_i32_287
  let c320_i32_288 : BitVec 32 := 320#32
  let v652 : BitVec 1 := Scalar.cmpi .slt v650 c320_i32_288
  let v653 : BitVec 1 := Scalar.andi v651 v652
  let c320_i32_289 : BitVec 32 := 320#32
  let v654 : BitVec 32 := Scalar.select v653 v650 c320_i32_289
  let v592 : BitVec 32 := Scalar.subi v591 v10
  let c0_i32_260 : BitVec 32 := 0#32
  let v593 : BitVec 1 := Scalar.cmpi .sge v592 c0_i32_260
  let c320_i32_261 : BitVec 32 := 320#32
  let v594 : BitVec 1 := Scalar.cmpi .slt v592 c320_i32_261
  let v595 : BitVec 1 := Scalar.andi v593 v594
  let c320_i32_262 : BitVec 32 := 320#32
  let v596 : BitVec 32 := Scalar.select v595 v592 c320_i32_262
  let v655 : BitVec 1 := Scalar.cmpi .ne v654 v596
  let v656 : BitVec 32 := Scalar.extui v655
  let c0_i32_290 : BitVec 32 := 0#32
  let v657 : BitVec 1 := Scalar.cmpi .ne v656 c0_i32_290
  v657

def k1_off221 (i : grid1.Coords) (v591 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v592 : BitVec 32 := Scalar.subi v591 v10
  let c0_i32_260 : BitVec 32 := 0#32
  let v593 : BitVec 1 := Scalar.cmpi .sge v592 c0_i32_260
  let c320_i32_261 : BitVec 32 := 320#32
  let v594 : BitVec 1 := Scalar.cmpi .slt v592 c320_i32_261
  let v595 : BitVec 1 := Scalar.andi v593 v594
  let c320_i32_262 : BitVec 32 := 320#32
  let v596 : BitVec 32 := Scalar.select v595 v592 c320_i32_262
  let v1065 : Index := Scalar.indexCast v596
  let c16_480 : Index := 16#32
  ![v1065.toNat, 16]
def k1_off222 (i : grid1.Coords) (v591 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v592 : BitVec 32 := Scalar.subi v591 v10
  let c0_i32_260 : BitVec 32 := 0#32
  let v593 : BitVec 1 := Scalar.cmpi .sge v592 c0_i32_260
  let c320_i32_261 : BitVec 32 := 320#32
  let v594 : BitVec 1 := Scalar.cmpi .slt v592 c320_i32_261
  let v595 : BitVec 1 := Scalar.andi v593 v594
  let c320_i32_262 : BitVec 32 := 320#32
  let v596 : BitVec 32 := Scalar.select v595 v592 c320_i32_262
  let v1076 : Index := Scalar.indexCast v596
  let c32_484 : Index := 32#32
  ![v1076.toNat, 32]
def k1_off223 (i : grid1.Coords) (v591 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v592 : BitVec 32 := Scalar.subi v591 v10
  let c0_i32_260 : BitVec 32 := 0#32
  let v593 : BitVec 1 := Scalar.cmpi .sge v592 c0_i32_260
  let c320_i32_261 : BitVec 32 := 320#32
  let v594 : BitVec 1 := Scalar.cmpi .slt v592 c320_i32_261
  let v595 : BitVec 1 := Scalar.andi v593 v594
  let c320_i32_262 : BitVec 32 := 320#32
  let v596 : BitVec 32 := Scalar.select v595 v592 c320_i32_262
  let v1087 : Index := Scalar.indexCast v596
  let c48_488 : Index := 48#32
  ![v1087.toNat, 48]

def k1_chk27 (i : grid1.Coords) (arg14 : BitVec 32) (v110 : BitVec 32) (v117 : BitVec 32) (v119 : BitVec 32) (v591 : BitVec 32) (v649 : BitVec 32) : Prop :=
  (∀ (k1_h18 : ¬(k1_cond18 i arg14 v110 v117 v119 = 1#1)), ∀ (k1_h28 : k1_cond28 i v591 v649 = 1#1), ∀ a, (k1_off220 i v591) a + S1x16.size a ≤ S336x64.size a) ∧
  (∀ (k1_h18 : ¬(k1_cond18 i arg14 v110 v117 v119 = 1#1)), ∀ (k1_h28 : k1_cond28 i v591 v649 = 1#1), ∀ a, (k1_off221 i v591) a + S1x16.size a ≤ S336x64.size a) ∧
  (∀ (k1_h18 : ¬(k1_cond18 i arg14 v110 v117 v119 = 1#1)), ∀ (k1_h28 : k1_cond28 i v591 v649 = 1#1), ∀ a, (k1_off222 i v591) a + S1x16.size a ≤ S336x64.size a) ∧
  (∀ (k1_h18 : ¬(k1_cond18 i arg14 v110 v117 v119 = 1#1)), ∀ (k1_h28 : k1_cond28 i v591 v649 = 1#1), ∀ a, (k1_off223 i v591) a + S1x16.size a ≤ S336x64.size a)
theorem k1_off220_inb : ∀ (i : grid1.Coords) (arg14 : BitVec 32) (v110 : BitVec 32) (v117 : BitVec 32) (v119 : BitVec 32) (v591 : BitVec 32) (v649 : BitVec 32) (k1_hw27 : k1_chk27 i arg14 v110 v117 v119 v591 v649), ∀ (k1_h18 : ¬(k1_cond18 i arg14 v110 v117 v119 = 1#1)), ∀ (k1_h28 : k1_cond28 i v591 v649 = 1#1), ∀ a, (k1_off220 i v591) a + S1x16.size a ≤ S336x64.size a := fun i arg14 v110 v117 v119 v591 v649 k1_hw27 k1_h18 k1_h28 => k1_hw27.1 k1_h18 k1_h28
theorem k1_off221_inb : ∀ (i : grid1.Coords) (arg14 : BitVec 32) (v110 : BitVec 32) (v117 : BitVec 32) (v119 : BitVec 32) (v591 : BitVec 32) (v649 : BitVec 32) (k1_hw27 : k1_chk27 i arg14 v110 v117 v119 v591 v649), ∀ (k1_h18 : ¬(k1_cond18 i arg14 v110 v117 v119 = 1#1)), ∀ (k1_h28 : k1_cond28 i v591 v649 = 1#1), ∀ a, (k1_off221 i v591) a + S1x16.size a ≤ S336x64.size a := fun i arg14 v110 v117 v119 v591 v649 k1_hw27 k1_h18 k1_h28 => k1_hw27.2.1 k1_h18 k1_h28
theorem k1_off222_inb : ∀ (i : grid1.Coords) (arg14 : BitVec 32) (v110 : BitVec 32) (v117 : BitVec 32) (v119 : BitVec 32) (v591 : BitVec 32) (v649 : BitVec 32) (k1_hw27 : k1_chk27 i arg14 v110 v117 v119 v591 v649), ∀ (k1_h18 : ¬(k1_cond18 i arg14 v110 v117 v119 = 1#1)), ∀ (k1_h28 : k1_cond28 i v591 v649 = 1#1), ∀ a, (k1_off222 i v591) a + S1x16.size a ≤ S336x64.size a := fun i arg14 v110 v117 v119 v591 v649 k1_hw27 k1_h18 k1_h28 => k1_hw27.2.2.1 k1_h18 k1_h28
theorem k1_off223_inb : ∀ (i : grid1.Coords) (arg14 : BitVec 32) (v110 : BitVec 32) (v117 : BitVec 32) (v119 : BitVec 32) (v591 : BitVec 32) (v649 : BitVec 32) (k1_hw27 : k1_chk27 i arg14 v110 v117 v119 v591 v649), ∀ (k1_h18 : ¬(k1_cond18 i arg14 v110 v117 v119 = 1#1)), ∀ (k1_h28 : k1_cond28 i v591 v649 = 1#1), ∀ a, (k1_off223 i v591) a + S1x16.size a ≤ S336x64.size a := fun i arg14 v110 v117 v119 v591 v649 k1_hw27 k1_h18 k1_h28 => k1_hw27.2.2.2 k1_h18 k1_h28

def k1_off224 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c9_i32 : BitVec 32 := 9#32
  let v661 : BitVec 32 := Scalar.addi v105 c9_i32
  let v662 : Index := Scalar.indexCast v661
  let c0_293 : Index := 0#32
  ![v662.toNat, 0]
def k1_off225 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c9_i32_298 : BitVec 32 := 9#32
  let v673 : BitVec 32 := Scalar.addi v105 c9_i32_298
  let v674 : Index := Scalar.indexCast v673
  let c16_299 : Index := 16#32
  ![v674.toNat, 16]
def k1_off226 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c9_i32_304 : BitVec 32 := 9#32
  let v685 : BitVec 32 := Scalar.addi v105 c9_i32_304
  let v686 : Index := Scalar.indexCast v685
  let c32_305 : Index := 32#32
  ![v686.toNat, 32]
def k1_off227 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c9_i32_310 : BitVec 32 := 9#32
  let v697 : BitVec 32 := Scalar.addi v105 c9_i32_310
  let v698 : Index := Scalar.indexCast v697
  let c48_311 : Index := 48#32
  ![v698.toNat, 48]
def k1_off228 (i : grid1.Coords) (v649 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v650 : BitVec 32 := Scalar.subi v649 v10
  let c0_i32_287 : BitVec 32 := 0#32
  let v651 : BitVec 1 := Scalar.cmpi .sge v650 c0_i32_287
  let c320_i32_288 : BitVec 32 := 320#32
  let v652 : BitVec 1 := Scalar.cmpi .slt v650 c320_i32_288
  let v653 : BitVec 1 := Scalar.andi v651 v652
  let c320_i32_289 : BitVec 32 := 320#32
  let v654 : BitVec 32 := Scalar.select v653 v650 c320_i32_289
  let v1054 : Index := Scalar.indexCast v654
  let c0_476 : Index := 0#32
  ![v1054.toNat, 0]
def k1_cond29 (i : grid1.Coords) (v649 : BitVec 32) (v707 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v708 : BitVec 32 := Scalar.subi v707 v10
  let c0_i32_314 : BitVec 32 := 0#32
  let v709 : BitVec 1 := Scalar.cmpi .sge v708 c0_i32_314
  let c320_i32_315 : BitVec 32 := 320#32
  let v710 : BitVec 1 := Scalar.cmpi .slt v708 c320_i32_315
  let v711 : BitVec 1 := Scalar.andi v709 v710
  let c320_i32_316 : BitVec 32 := 320#32
  let v712 : BitVec 32 := Scalar.select v711 v708 c320_i32_316
  let v650 : BitVec 32 := Scalar.subi v649 v10
  let c0_i32_287 : BitVec 32 := 0#32
  let v651 : BitVec 1 := Scalar.cmpi .sge v650 c0_i32_287
  let c320_i32_288 : BitVec 32 := 320#32
  let v652 : BitVec 1 := Scalar.cmpi .slt v650 c320_i32_288
  let v653 : BitVec 1 := Scalar.andi v651 v652
  let c320_i32_289 : BitVec 32 := 320#32
  let v654 : BitVec 32 := Scalar.select v653 v650 c320_i32_289
  let v713 : BitVec 1 := Scalar.cmpi .ne v712 v654
  let v714 : BitVec 32 := Scalar.extui v713
  let c0_i32_317 : BitVec 32 := 0#32
  let v715 : BitVec 1 := Scalar.cmpi .ne v714 c0_i32_317
  v715

def k1_off229 (i : grid1.Coords) (v649 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v650 : BitVec 32 := Scalar.subi v649 v10
  let c0_i32_287 : BitVec 32 := 0#32
  let v651 : BitVec 1 := Scalar.cmpi .sge v650 c0_i32_287
  let c320_i32_288 : BitVec 32 := 320#32
  let v652 : BitVec 1 := Scalar.cmpi .slt v650 c320_i32_288
  let v653 : BitVec 1 := Scalar.andi v651 v652
  let c320_i32_289 : BitVec 32 := 320#32
  let v654 : BitVec 32 := Scalar.select v653 v650 c320_i32_289
  let v1065 : Index := Scalar.indexCast v654
  let c16_480 : Index := 16#32
  ![v1065.toNat, 16]
def k1_off230 (i : grid1.Coords) (v649 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v650 : BitVec 32 := Scalar.subi v649 v10
  let c0_i32_287 : BitVec 32 := 0#32
  let v651 : BitVec 1 := Scalar.cmpi .sge v650 c0_i32_287
  let c320_i32_288 : BitVec 32 := 320#32
  let v652 : BitVec 1 := Scalar.cmpi .slt v650 c320_i32_288
  let v653 : BitVec 1 := Scalar.andi v651 v652
  let c320_i32_289 : BitVec 32 := 320#32
  let v654 : BitVec 32 := Scalar.select v653 v650 c320_i32_289
  let v1076 : Index := Scalar.indexCast v654
  let c32_484 : Index := 32#32
  ![v1076.toNat, 32]
def k1_off231 (i : grid1.Coords) (v649 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v650 : BitVec 32 := Scalar.subi v649 v10
  let c0_i32_287 : BitVec 32 := 0#32
  let v651 : BitVec 1 := Scalar.cmpi .sge v650 c0_i32_287
  let c320_i32_288 : BitVec 32 := 320#32
  let v652 : BitVec 1 := Scalar.cmpi .slt v650 c320_i32_288
  let v653 : BitVec 1 := Scalar.andi v651 v652
  let c320_i32_289 : BitVec 32 := 320#32
  let v654 : BitVec 32 := Scalar.select v653 v650 c320_i32_289
  let v1087 : Index := Scalar.indexCast v654
  let c48_488 : Index := 48#32
  ![v1087.toNat, 48]

def k1_chk28 (i : grid1.Coords) (arg14 : BitVec 32) (v110 : BitVec 32) (v117 : BitVec 32) (v119 : BitVec 32) (v649 : BitVec 32) (v707 : BitVec 32) : Prop :=
  (∀ (k1_h18 : ¬(k1_cond18 i arg14 v110 v117 v119 = 1#1)), ∀ (k1_h29 : k1_cond29 i v649 v707 = 1#1), ∀ a, (k1_off228 i v649) a + S1x16.size a ≤ S336x64.size a) ∧
  (∀ (k1_h18 : ¬(k1_cond18 i arg14 v110 v117 v119 = 1#1)), ∀ (k1_h29 : k1_cond29 i v649 v707 = 1#1), ∀ a, (k1_off229 i v649) a + S1x16.size a ≤ S336x64.size a) ∧
  (∀ (k1_h18 : ¬(k1_cond18 i arg14 v110 v117 v119 = 1#1)), ∀ (k1_h29 : k1_cond29 i v649 v707 = 1#1), ∀ a, (k1_off230 i v649) a + S1x16.size a ≤ S336x64.size a) ∧
  (∀ (k1_h18 : ¬(k1_cond18 i arg14 v110 v117 v119 = 1#1)), ∀ (k1_h29 : k1_cond29 i v649 v707 = 1#1), ∀ a, (k1_off231 i v649) a + S1x16.size a ≤ S336x64.size a)
theorem k1_off228_inb : ∀ (i : grid1.Coords) (arg14 : BitVec 32) (v110 : BitVec 32) (v117 : BitVec 32) (v119 : BitVec 32) (v649 : BitVec 32) (v707 : BitVec 32) (k1_hw28 : k1_chk28 i arg14 v110 v117 v119 v649 v707), ∀ (k1_h18 : ¬(k1_cond18 i arg14 v110 v117 v119 = 1#1)), ∀ (k1_h29 : k1_cond29 i v649 v707 = 1#1), ∀ a, (k1_off228 i v649) a + S1x16.size a ≤ S336x64.size a := fun i arg14 v110 v117 v119 v649 v707 k1_hw28 k1_h18 k1_h29 => k1_hw28.1 k1_h18 k1_h29
theorem k1_off229_inb : ∀ (i : grid1.Coords) (arg14 : BitVec 32) (v110 : BitVec 32) (v117 : BitVec 32) (v119 : BitVec 32) (v649 : BitVec 32) (v707 : BitVec 32) (k1_hw28 : k1_chk28 i arg14 v110 v117 v119 v649 v707), ∀ (k1_h18 : ¬(k1_cond18 i arg14 v110 v117 v119 = 1#1)), ∀ (k1_h29 : k1_cond29 i v649 v707 = 1#1), ∀ a, (k1_off229 i v649) a + S1x16.size a ≤ S336x64.size a := fun i arg14 v110 v117 v119 v649 v707 k1_hw28 k1_h18 k1_h29 => k1_hw28.2.1 k1_h18 k1_h29
theorem k1_off230_inb : ∀ (i : grid1.Coords) (arg14 : BitVec 32) (v110 : BitVec 32) (v117 : BitVec 32) (v119 : BitVec 32) (v649 : BitVec 32) (v707 : BitVec 32) (k1_hw28 : k1_chk28 i arg14 v110 v117 v119 v649 v707), ∀ (k1_h18 : ¬(k1_cond18 i arg14 v110 v117 v119 = 1#1)), ∀ (k1_h29 : k1_cond29 i v649 v707 = 1#1), ∀ a, (k1_off230 i v649) a + S1x16.size a ≤ S336x64.size a := fun i arg14 v110 v117 v119 v649 v707 k1_hw28 k1_h18 k1_h29 => k1_hw28.2.2.1 k1_h18 k1_h29
theorem k1_off231_inb : ∀ (i : grid1.Coords) (arg14 : BitVec 32) (v110 : BitVec 32) (v117 : BitVec 32) (v119 : BitVec 32) (v649 : BitVec 32) (v707 : BitVec 32) (k1_hw28 : k1_chk28 i arg14 v110 v117 v119 v649 v707), ∀ (k1_h18 : ¬(k1_cond18 i arg14 v110 v117 v119 = 1#1)), ∀ (k1_h29 : k1_cond29 i v649 v707 = 1#1), ∀ a, (k1_off231 i v649) a + S1x16.size a ≤ S336x64.size a := fun i arg14 v110 v117 v119 v649 v707 k1_hw28 k1_h18 k1_h29 => k1_hw28.2.2.2 k1_h18 k1_h29

def k1_off232 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c10_i32 : BitVec 32 := 10#32
  let v719 : BitVec 32 := Scalar.addi v105 c10_i32
  let v720 : Index := Scalar.indexCast v719
  let c0_320 : Index := 0#32
  ![v720.toNat, 0]
def k1_off233 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c10_i32_325 : BitVec 32 := 10#32
  let v731 : BitVec 32 := Scalar.addi v105 c10_i32_325
  let v732 : Index := Scalar.indexCast v731
  let c16_326 : Index := 16#32
  ![v732.toNat, 16]
def k1_off234 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c10_i32_331 : BitVec 32 := 10#32
  let v743 : BitVec 32 := Scalar.addi v105 c10_i32_331
  let v744 : Index := Scalar.indexCast v743
  let c32_332 : Index := 32#32
  ![v744.toNat, 32]
def k1_off235 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c10_i32_337 : BitVec 32 := 10#32
  let v755 : BitVec 32 := Scalar.addi v105 c10_i32_337
  let v756 : Index := Scalar.indexCast v755
  let c48_338 : Index := 48#32
  ![v756.toNat, 48]
def k1_off236 (i : grid1.Coords) (v707 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v708 : BitVec 32 := Scalar.subi v707 v10
  let c0_i32_314 : BitVec 32 := 0#32
  let v709 : BitVec 1 := Scalar.cmpi .sge v708 c0_i32_314
  let c320_i32_315 : BitVec 32 := 320#32
  let v710 : BitVec 1 := Scalar.cmpi .slt v708 c320_i32_315
  let v711 : BitVec 1 := Scalar.andi v709 v710
  let c320_i32_316 : BitVec 32 := 320#32
  let v712 : BitVec 32 := Scalar.select v711 v708 c320_i32_316
  let v1054 : Index := Scalar.indexCast v712
  let c0_476 : Index := 0#32
  ![v1054.toNat, 0]
def k1_cond30 (i : grid1.Coords) (v707 : BitVec 32) (v765 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v766 : BitVec 32 := Scalar.subi v765 v10
  let c0_i32_341 : BitVec 32 := 0#32
  let v767 : BitVec 1 := Scalar.cmpi .sge v766 c0_i32_341
  let c320_i32_342 : BitVec 32 := 320#32
  let v768 : BitVec 1 := Scalar.cmpi .slt v766 c320_i32_342
  let v769 : BitVec 1 := Scalar.andi v767 v768
  let c320_i32_343 : BitVec 32 := 320#32
  let v770 : BitVec 32 := Scalar.select v769 v766 c320_i32_343
  let v708 : BitVec 32 := Scalar.subi v707 v10
  let c0_i32_314 : BitVec 32 := 0#32
  let v709 : BitVec 1 := Scalar.cmpi .sge v708 c0_i32_314
  let c320_i32_315 : BitVec 32 := 320#32
  let v710 : BitVec 1 := Scalar.cmpi .slt v708 c320_i32_315
  let v711 : BitVec 1 := Scalar.andi v709 v710
  let c320_i32_316 : BitVec 32 := 320#32
  let v712 : BitVec 32 := Scalar.select v711 v708 c320_i32_316
  let v771 : BitVec 1 := Scalar.cmpi .ne v770 v712
  let v772 : BitVec 32 := Scalar.extui v771
  let c0_i32_344 : BitVec 32 := 0#32
  let v773 : BitVec 1 := Scalar.cmpi .ne v772 c0_i32_344
  v773

def k1_off237 (i : grid1.Coords) (v707 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v708 : BitVec 32 := Scalar.subi v707 v10
  let c0_i32_314 : BitVec 32 := 0#32
  let v709 : BitVec 1 := Scalar.cmpi .sge v708 c0_i32_314
  let c320_i32_315 : BitVec 32 := 320#32
  let v710 : BitVec 1 := Scalar.cmpi .slt v708 c320_i32_315
  let v711 : BitVec 1 := Scalar.andi v709 v710
  let c320_i32_316 : BitVec 32 := 320#32
  let v712 : BitVec 32 := Scalar.select v711 v708 c320_i32_316
  let v1065 : Index := Scalar.indexCast v712
  let c16_480 : Index := 16#32
  ![v1065.toNat, 16]
def k1_off238 (i : grid1.Coords) (v707 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v708 : BitVec 32 := Scalar.subi v707 v10
  let c0_i32_314 : BitVec 32 := 0#32
  let v709 : BitVec 1 := Scalar.cmpi .sge v708 c0_i32_314
  let c320_i32_315 : BitVec 32 := 320#32
  let v710 : BitVec 1 := Scalar.cmpi .slt v708 c320_i32_315
  let v711 : BitVec 1 := Scalar.andi v709 v710
  let c320_i32_316 : BitVec 32 := 320#32
  let v712 : BitVec 32 := Scalar.select v711 v708 c320_i32_316
  let v1076 : Index := Scalar.indexCast v712
  let c32_484 : Index := 32#32
  ![v1076.toNat, 32]
def k1_off239 (i : grid1.Coords) (v707 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v708 : BitVec 32 := Scalar.subi v707 v10
  let c0_i32_314 : BitVec 32 := 0#32
  let v709 : BitVec 1 := Scalar.cmpi .sge v708 c0_i32_314
  let c320_i32_315 : BitVec 32 := 320#32
  let v710 : BitVec 1 := Scalar.cmpi .slt v708 c320_i32_315
  let v711 : BitVec 1 := Scalar.andi v709 v710
  let c320_i32_316 : BitVec 32 := 320#32
  let v712 : BitVec 32 := Scalar.select v711 v708 c320_i32_316
  let v1087 : Index := Scalar.indexCast v712
  let c48_488 : Index := 48#32
  ![v1087.toNat, 48]

def k1_chk29 (i : grid1.Coords) (arg14 : BitVec 32) (v110 : BitVec 32) (v117 : BitVec 32) (v119 : BitVec 32) (v707 : BitVec 32) (v765 : BitVec 32) : Prop :=
  (∀ (k1_h18 : ¬(k1_cond18 i arg14 v110 v117 v119 = 1#1)), ∀ (k1_h30 : k1_cond30 i v707 v765 = 1#1), ∀ a, (k1_off236 i v707) a + S1x16.size a ≤ S336x64.size a) ∧
  (∀ (k1_h18 : ¬(k1_cond18 i arg14 v110 v117 v119 = 1#1)), ∀ (k1_h30 : k1_cond30 i v707 v765 = 1#1), ∀ a, (k1_off237 i v707) a + S1x16.size a ≤ S336x64.size a) ∧
  (∀ (k1_h18 : ¬(k1_cond18 i arg14 v110 v117 v119 = 1#1)), ∀ (k1_h30 : k1_cond30 i v707 v765 = 1#1), ∀ a, (k1_off238 i v707) a + S1x16.size a ≤ S336x64.size a) ∧
  (∀ (k1_h18 : ¬(k1_cond18 i arg14 v110 v117 v119 = 1#1)), ∀ (k1_h30 : k1_cond30 i v707 v765 = 1#1), ∀ a, (k1_off239 i v707) a + S1x16.size a ≤ S336x64.size a)
theorem k1_off236_inb : ∀ (i : grid1.Coords) (arg14 : BitVec 32) (v110 : BitVec 32) (v117 : BitVec 32) (v119 : BitVec 32) (v707 : BitVec 32) (v765 : BitVec 32) (k1_hw29 : k1_chk29 i arg14 v110 v117 v119 v707 v765), ∀ (k1_h18 : ¬(k1_cond18 i arg14 v110 v117 v119 = 1#1)), ∀ (k1_h30 : k1_cond30 i v707 v765 = 1#1), ∀ a, (k1_off236 i v707) a + S1x16.size a ≤ S336x64.size a := fun i arg14 v110 v117 v119 v707 v765 k1_hw29 k1_h18 k1_h30 => k1_hw29.1 k1_h18 k1_h30
theorem k1_off237_inb : ∀ (i : grid1.Coords) (arg14 : BitVec 32) (v110 : BitVec 32) (v117 : BitVec 32) (v119 : BitVec 32) (v707 : BitVec 32) (v765 : BitVec 32) (k1_hw29 : k1_chk29 i arg14 v110 v117 v119 v707 v765), ∀ (k1_h18 : ¬(k1_cond18 i arg14 v110 v117 v119 = 1#1)), ∀ (k1_h30 : k1_cond30 i v707 v765 = 1#1), ∀ a, (k1_off237 i v707) a + S1x16.size a ≤ S336x64.size a := fun i arg14 v110 v117 v119 v707 v765 k1_hw29 k1_h18 k1_h30 => k1_hw29.2.1 k1_h18 k1_h30
theorem k1_off238_inb : ∀ (i : grid1.Coords) (arg14 : BitVec 32) (v110 : BitVec 32) (v117 : BitVec 32) (v119 : BitVec 32) (v707 : BitVec 32) (v765 : BitVec 32) (k1_hw29 : k1_chk29 i arg14 v110 v117 v119 v707 v765), ∀ (k1_h18 : ¬(k1_cond18 i arg14 v110 v117 v119 = 1#1)), ∀ (k1_h30 : k1_cond30 i v707 v765 = 1#1), ∀ a, (k1_off238 i v707) a + S1x16.size a ≤ S336x64.size a := fun i arg14 v110 v117 v119 v707 v765 k1_hw29 k1_h18 k1_h30 => k1_hw29.2.2.1 k1_h18 k1_h30
theorem k1_off239_inb : ∀ (i : grid1.Coords) (arg14 : BitVec 32) (v110 : BitVec 32) (v117 : BitVec 32) (v119 : BitVec 32) (v707 : BitVec 32) (v765 : BitVec 32) (k1_hw29 : k1_chk29 i arg14 v110 v117 v119 v707 v765), ∀ (k1_h18 : ¬(k1_cond18 i arg14 v110 v117 v119 = 1#1)), ∀ (k1_h30 : k1_cond30 i v707 v765 = 1#1), ∀ a, (k1_off239 i v707) a + S1x16.size a ≤ S336x64.size a := fun i arg14 v110 v117 v119 v707 v765 k1_hw29 k1_h18 k1_h30 => k1_hw29.2.2.2 k1_h18 k1_h30

def k1_off240 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c11_i32 : BitVec 32 := 11#32
  let v777 : BitVec 32 := Scalar.addi v105 c11_i32
  let v778 : Index := Scalar.indexCast v777
  let c0_347 : Index := 0#32
  ![v778.toNat, 0]
def k1_off241 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c11_i32_352 : BitVec 32 := 11#32
  let v789 : BitVec 32 := Scalar.addi v105 c11_i32_352
  let v790 : Index := Scalar.indexCast v789
  let c16_353 : Index := 16#32
  ![v790.toNat, 16]
def k1_off242 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c11_i32_358 : BitVec 32 := 11#32
  let v801 : BitVec 32 := Scalar.addi v105 c11_i32_358
  let v802 : Index := Scalar.indexCast v801
  let c32_359 : Index := 32#32
  ![v802.toNat, 32]
def k1_off243 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c11_i32_364 : BitVec 32 := 11#32
  let v813 : BitVec 32 := Scalar.addi v105 c11_i32_364
  let v814 : Index := Scalar.indexCast v813
  let c48_365 : Index := 48#32
  ![v814.toNat, 48]
def k1_off244 (i : grid1.Coords) (v765 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v766 : BitVec 32 := Scalar.subi v765 v10
  let c0_i32_341 : BitVec 32 := 0#32
  let v767 : BitVec 1 := Scalar.cmpi .sge v766 c0_i32_341
  let c320_i32_342 : BitVec 32 := 320#32
  let v768 : BitVec 1 := Scalar.cmpi .slt v766 c320_i32_342
  let v769 : BitVec 1 := Scalar.andi v767 v768
  let c320_i32_343 : BitVec 32 := 320#32
  let v770 : BitVec 32 := Scalar.select v769 v766 c320_i32_343
  let v1054 : Index := Scalar.indexCast v770
  let c0_476 : Index := 0#32
  ![v1054.toNat, 0]
def k1_cond31 (i : grid1.Coords) (v765 : BitVec 32) (v823 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v824 : BitVec 32 := Scalar.subi v823 v10
  let c0_i32_368 : BitVec 32 := 0#32
  let v825 : BitVec 1 := Scalar.cmpi .sge v824 c0_i32_368
  let c320_i32_369 : BitVec 32 := 320#32
  let v826 : BitVec 1 := Scalar.cmpi .slt v824 c320_i32_369
  let v827 : BitVec 1 := Scalar.andi v825 v826
  let c320_i32_370 : BitVec 32 := 320#32
  let v828 : BitVec 32 := Scalar.select v827 v824 c320_i32_370
  let v766 : BitVec 32 := Scalar.subi v765 v10
  let c0_i32_341 : BitVec 32 := 0#32
  let v767 : BitVec 1 := Scalar.cmpi .sge v766 c0_i32_341
  let c320_i32_342 : BitVec 32 := 320#32
  let v768 : BitVec 1 := Scalar.cmpi .slt v766 c320_i32_342
  let v769 : BitVec 1 := Scalar.andi v767 v768
  let c320_i32_343 : BitVec 32 := 320#32
  let v770 : BitVec 32 := Scalar.select v769 v766 c320_i32_343
  let v829 : BitVec 1 := Scalar.cmpi .ne v828 v770
  let v830 : BitVec 32 := Scalar.extui v829
  let c0_i32_371 : BitVec 32 := 0#32
  let v831 : BitVec 1 := Scalar.cmpi .ne v830 c0_i32_371
  v831

def k1_off245 (i : grid1.Coords) (v765 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v766 : BitVec 32 := Scalar.subi v765 v10
  let c0_i32_341 : BitVec 32 := 0#32
  let v767 : BitVec 1 := Scalar.cmpi .sge v766 c0_i32_341
  let c320_i32_342 : BitVec 32 := 320#32
  let v768 : BitVec 1 := Scalar.cmpi .slt v766 c320_i32_342
  let v769 : BitVec 1 := Scalar.andi v767 v768
  let c320_i32_343 : BitVec 32 := 320#32
  let v770 : BitVec 32 := Scalar.select v769 v766 c320_i32_343
  let v1065 : Index := Scalar.indexCast v770
  let c16_480 : Index := 16#32
  ![v1065.toNat, 16]
def k1_off246 (i : grid1.Coords) (v765 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v766 : BitVec 32 := Scalar.subi v765 v10
  let c0_i32_341 : BitVec 32 := 0#32
  let v767 : BitVec 1 := Scalar.cmpi .sge v766 c0_i32_341
  let c320_i32_342 : BitVec 32 := 320#32
  let v768 : BitVec 1 := Scalar.cmpi .slt v766 c320_i32_342
  let v769 : BitVec 1 := Scalar.andi v767 v768
  let c320_i32_343 : BitVec 32 := 320#32
  let v770 : BitVec 32 := Scalar.select v769 v766 c320_i32_343
  let v1076 : Index := Scalar.indexCast v770
  let c32_484 : Index := 32#32
  ![v1076.toNat, 32]
def k1_off247 (i : grid1.Coords) (v765 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v766 : BitVec 32 := Scalar.subi v765 v10
  let c0_i32_341 : BitVec 32 := 0#32
  let v767 : BitVec 1 := Scalar.cmpi .sge v766 c0_i32_341
  let c320_i32_342 : BitVec 32 := 320#32
  let v768 : BitVec 1 := Scalar.cmpi .slt v766 c320_i32_342
  let v769 : BitVec 1 := Scalar.andi v767 v768
  let c320_i32_343 : BitVec 32 := 320#32
  let v770 : BitVec 32 := Scalar.select v769 v766 c320_i32_343
  let v1087 : Index := Scalar.indexCast v770
  let c48_488 : Index := 48#32
  ![v1087.toNat, 48]

def k1_chk30 (i : grid1.Coords) (arg14 : BitVec 32) (v110 : BitVec 32) (v117 : BitVec 32) (v119 : BitVec 32) (v765 : BitVec 32) (v823 : BitVec 32) : Prop :=
  (∀ (k1_h18 : ¬(k1_cond18 i arg14 v110 v117 v119 = 1#1)), ∀ (k1_h31 : k1_cond31 i v765 v823 = 1#1), ∀ a, (k1_off244 i v765) a + S1x16.size a ≤ S336x64.size a) ∧
  (∀ (k1_h18 : ¬(k1_cond18 i arg14 v110 v117 v119 = 1#1)), ∀ (k1_h31 : k1_cond31 i v765 v823 = 1#1), ∀ a, (k1_off245 i v765) a + S1x16.size a ≤ S336x64.size a) ∧
  (∀ (k1_h18 : ¬(k1_cond18 i arg14 v110 v117 v119 = 1#1)), ∀ (k1_h31 : k1_cond31 i v765 v823 = 1#1), ∀ a, (k1_off246 i v765) a + S1x16.size a ≤ S336x64.size a) ∧
  (∀ (k1_h18 : ¬(k1_cond18 i arg14 v110 v117 v119 = 1#1)), ∀ (k1_h31 : k1_cond31 i v765 v823 = 1#1), ∀ a, (k1_off247 i v765) a + S1x16.size a ≤ S336x64.size a)
theorem k1_off244_inb : ∀ (i : grid1.Coords) (arg14 : BitVec 32) (v110 : BitVec 32) (v117 : BitVec 32) (v119 : BitVec 32) (v765 : BitVec 32) (v823 : BitVec 32) (k1_hw30 : k1_chk30 i arg14 v110 v117 v119 v765 v823), ∀ (k1_h18 : ¬(k1_cond18 i arg14 v110 v117 v119 = 1#1)), ∀ (k1_h31 : k1_cond31 i v765 v823 = 1#1), ∀ a, (k1_off244 i v765) a + S1x16.size a ≤ S336x64.size a := fun i arg14 v110 v117 v119 v765 v823 k1_hw30 k1_h18 k1_h31 => k1_hw30.1 k1_h18 k1_h31
theorem k1_off245_inb : ∀ (i : grid1.Coords) (arg14 : BitVec 32) (v110 : BitVec 32) (v117 : BitVec 32) (v119 : BitVec 32) (v765 : BitVec 32) (v823 : BitVec 32) (k1_hw30 : k1_chk30 i arg14 v110 v117 v119 v765 v823), ∀ (k1_h18 : ¬(k1_cond18 i arg14 v110 v117 v119 = 1#1)), ∀ (k1_h31 : k1_cond31 i v765 v823 = 1#1), ∀ a, (k1_off245 i v765) a + S1x16.size a ≤ S336x64.size a := fun i arg14 v110 v117 v119 v765 v823 k1_hw30 k1_h18 k1_h31 => k1_hw30.2.1 k1_h18 k1_h31
theorem k1_off246_inb : ∀ (i : grid1.Coords) (arg14 : BitVec 32) (v110 : BitVec 32) (v117 : BitVec 32) (v119 : BitVec 32) (v765 : BitVec 32) (v823 : BitVec 32) (k1_hw30 : k1_chk30 i arg14 v110 v117 v119 v765 v823), ∀ (k1_h18 : ¬(k1_cond18 i arg14 v110 v117 v119 = 1#1)), ∀ (k1_h31 : k1_cond31 i v765 v823 = 1#1), ∀ a, (k1_off246 i v765) a + S1x16.size a ≤ S336x64.size a := fun i arg14 v110 v117 v119 v765 v823 k1_hw30 k1_h18 k1_h31 => k1_hw30.2.2.1 k1_h18 k1_h31
theorem k1_off247_inb : ∀ (i : grid1.Coords) (arg14 : BitVec 32) (v110 : BitVec 32) (v117 : BitVec 32) (v119 : BitVec 32) (v765 : BitVec 32) (v823 : BitVec 32) (k1_hw30 : k1_chk30 i arg14 v110 v117 v119 v765 v823), ∀ (k1_h18 : ¬(k1_cond18 i arg14 v110 v117 v119 = 1#1)), ∀ (k1_h31 : k1_cond31 i v765 v823 = 1#1), ∀ a, (k1_off247 i v765) a + S1x16.size a ≤ S336x64.size a := fun i arg14 v110 v117 v119 v765 v823 k1_hw30 k1_h18 k1_h31 => k1_hw30.2.2.2 k1_h18 k1_h31

def k1_off248 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c12_i32 : BitVec 32 := 12#32
  let v835 : BitVec 32 := Scalar.addi v105 c12_i32
  let v836 : Index := Scalar.indexCast v835
  let c0_374 : Index := 0#32
  ![v836.toNat, 0]
def k1_off249 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c12_i32_379 : BitVec 32 := 12#32
  let v847 : BitVec 32 := Scalar.addi v105 c12_i32_379
  let v848 : Index := Scalar.indexCast v847
  let c16_380 : Index := 16#32
  ![v848.toNat, 16]
def k1_off250 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c12_i32_385 : BitVec 32 := 12#32
  let v859 : BitVec 32 := Scalar.addi v105 c12_i32_385
  let v860 : Index := Scalar.indexCast v859
  let c32_386 : Index := 32#32
  ![v860.toNat, 32]
def k1_off251 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c12_i32_391 : BitVec 32 := 12#32
  let v871 : BitVec 32 := Scalar.addi v105 c12_i32_391
  let v872 : Index := Scalar.indexCast v871
  let c48_392 : Index := 48#32
  ![v872.toNat, 48]
def k1_off252 (i : grid1.Coords) (v823 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v824 : BitVec 32 := Scalar.subi v823 v10
  let c0_i32_368 : BitVec 32 := 0#32
  let v825 : BitVec 1 := Scalar.cmpi .sge v824 c0_i32_368
  let c320_i32_369 : BitVec 32 := 320#32
  let v826 : BitVec 1 := Scalar.cmpi .slt v824 c320_i32_369
  let v827 : BitVec 1 := Scalar.andi v825 v826
  let c320_i32_370 : BitVec 32 := 320#32
  let v828 : BitVec 32 := Scalar.select v827 v824 c320_i32_370
  let v1054 : Index := Scalar.indexCast v828
  let c0_476 : Index := 0#32
  ![v1054.toNat, 0]
def k1_cond32 (i : grid1.Coords) (v823 : BitVec 32) (v881 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v882 : BitVec 32 := Scalar.subi v881 v10
  let c0_i32_395 : BitVec 32 := 0#32
  let v883 : BitVec 1 := Scalar.cmpi .sge v882 c0_i32_395
  let c320_i32_396 : BitVec 32 := 320#32
  let v884 : BitVec 1 := Scalar.cmpi .slt v882 c320_i32_396
  let v885 : BitVec 1 := Scalar.andi v883 v884
  let c320_i32_397 : BitVec 32 := 320#32
  let v886 : BitVec 32 := Scalar.select v885 v882 c320_i32_397
  let v824 : BitVec 32 := Scalar.subi v823 v10
  let c0_i32_368 : BitVec 32 := 0#32
  let v825 : BitVec 1 := Scalar.cmpi .sge v824 c0_i32_368
  let c320_i32_369 : BitVec 32 := 320#32
  let v826 : BitVec 1 := Scalar.cmpi .slt v824 c320_i32_369
  let v827 : BitVec 1 := Scalar.andi v825 v826
  let c320_i32_370 : BitVec 32 := 320#32
  let v828 : BitVec 32 := Scalar.select v827 v824 c320_i32_370
  let v887 : BitVec 1 := Scalar.cmpi .ne v886 v828
  let v888 : BitVec 32 := Scalar.extui v887
  let c0_i32_398 : BitVec 32 := 0#32
  let v889 : BitVec 1 := Scalar.cmpi .ne v888 c0_i32_398
  v889

def k1_off253 (i : grid1.Coords) (v823 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v824 : BitVec 32 := Scalar.subi v823 v10
  let c0_i32_368 : BitVec 32 := 0#32
  let v825 : BitVec 1 := Scalar.cmpi .sge v824 c0_i32_368
  let c320_i32_369 : BitVec 32 := 320#32
  let v826 : BitVec 1 := Scalar.cmpi .slt v824 c320_i32_369
  let v827 : BitVec 1 := Scalar.andi v825 v826
  let c320_i32_370 : BitVec 32 := 320#32
  let v828 : BitVec 32 := Scalar.select v827 v824 c320_i32_370
  let v1065 : Index := Scalar.indexCast v828
  let c16_480 : Index := 16#32
  ![v1065.toNat, 16]
def k1_off254 (i : grid1.Coords) (v823 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v824 : BitVec 32 := Scalar.subi v823 v10
  let c0_i32_368 : BitVec 32 := 0#32
  let v825 : BitVec 1 := Scalar.cmpi .sge v824 c0_i32_368
  let c320_i32_369 : BitVec 32 := 320#32
  let v826 : BitVec 1 := Scalar.cmpi .slt v824 c320_i32_369
  let v827 : BitVec 1 := Scalar.andi v825 v826
  let c320_i32_370 : BitVec 32 := 320#32
  let v828 : BitVec 32 := Scalar.select v827 v824 c320_i32_370
  let v1076 : Index := Scalar.indexCast v828
  let c32_484 : Index := 32#32
  ![v1076.toNat, 32]
def k1_off255 (i : grid1.Coords) (v823 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v824 : BitVec 32 := Scalar.subi v823 v10
  let c0_i32_368 : BitVec 32 := 0#32
  let v825 : BitVec 1 := Scalar.cmpi .sge v824 c0_i32_368
  let c320_i32_369 : BitVec 32 := 320#32
  let v826 : BitVec 1 := Scalar.cmpi .slt v824 c320_i32_369
  let v827 : BitVec 1 := Scalar.andi v825 v826
  let c320_i32_370 : BitVec 32 := 320#32
  let v828 : BitVec 32 := Scalar.select v827 v824 c320_i32_370
  let v1087 : Index := Scalar.indexCast v828
  let c48_488 : Index := 48#32
  ![v1087.toNat, 48]

def k1_chk31 (i : grid1.Coords) (arg14 : BitVec 32) (v110 : BitVec 32) (v117 : BitVec 32) (v119 : BitVec 32) (v823 : BitVec 32) (v881 : BitVec 32) : Prop :=
  (∀ (k1_h18 : ¬(k1_cond18 i arg14 v110 v117 v119 = 1#1)), ∀ (k1_h32 : k1_cond32 i v823 v881 = 1#1), ∀ a, (k1_off252 i v823) a + S1x16.size a ≤ S336x64.size a) ∧
  (∀ (k1_h18 : ¬(k1_cond18 i arg14 v110 v117 v119 = 1#1)), ∀ (k1_h32 : k1_cond32 i v823 v881 = 1#1), ∀ a, (k1_off253 i v823) a + S1x16.size a ≤ S336x64.size a) ∧
  (∀ (k1_h18 : ¬(k1_cond18 i arg14 v110 v117 v119 = 1#1)), ∀ (k1_h32 : k1_cond32 i v823 v881 = 1#1), ∀ a, (k1_off254 i v823) a + S1x16.size a ≤ S336x64.size a) ∧
  (∀ (k1_h18 : ¬(k1_cond18 i arg14 v110 v117 v119 = 1#1)), ∀ (k1_h32 : k1_cond32 i v823 v881 = 1#1), ∀ a, (k1_off255 i v823) a + S1x16.size a ≤ S336x64.size a)
theorem k1_off252_inb : ∀ (i : grid1.Coords) (arg14 : BitVec 32) (v110 : BitVec 32) (v117 : BitVec 32) (v119 : BitVec 32) (v823 : BitVec 32) (v881 : BitVec 32) (k1_hw31 : k1_chk31 i arg14 v110 v117 v119 v823 v881), ∀ (k1_h18 : ¬(k1_cond18 i arg14 v110 v117 v119 = 1#1)), ∀ (k1_h32 : k1_cond32 i v823 v881 = 1#1), ∀ a, (k1_off252 i v823) a + S1x16.size a ≤ S336x64.size a := fun i arg14 v110 v117 v119 v823 v881 k1_hw31 k1_h18 k1_h32 => k1_hw31.1 k1_h18 k1_h32
theorem k1_off253_inb : ∀ (i : grid1.Coords) (arg14 : BitVec 32) (v110 : BitVec 32) (v117 : BitVec 32) (v119 : BitVec 32) (v823 : BitVec 32) (v881 : BitVec 32) (k1_hw31 : k1_chk31 i arg14 v110 v117 v119 v823 v881), ∀ (k1_h18 : ¬(k1_cond18 i arg14 v110 v117 v119 = 1#1)), ∀ (k1_h32 : k1_cond32 i v823 v881 = 1#1), ∀ a, (k1_off253 i v823) a + S1x16.size a ≤ S336x64.size a := fun i arg14 v110 v117 v119 v823 v881 k1_hw31 k1_h18 k1_h32 => k1_hw31.2.1 k1_h18 k1_h32
theorem k1_off254_inb : ∀ (i : grid1.Coords) (arg14 : BitVec 32) (v110 : BitVec 32) (v117 : BitVec 32) (v119 : BitVec 32) (v823 : BitVec 32) (v881 : BitVec 32) (k1_hw31 : k1_chk31 i arg14 v110 v117 v119 v823 v881), ∀ (k1_h18 : ¬(k1_cond18 i arg14 v110 v117 v119 = 1#1)), ∀ (k1_h32 : k1_cond32 i v823 v881 = 1#1), ∀ a, (k1_off254 i v823) a + S1x16.size a ≤ S336x64.size a := fun i arg14 v110 v117 v119 v823 v881 k1_hw31 k1_h18 k1_h32 => k1_hw31.2.2.1 k1_h18 k1_h32
theorem k1_off255_inb : ∀ (i : grid1.Coords) (arg14 : BitVec 32) (v110 : BitVec 32) (v117 : BitVec 32) (v119 : BitVec 32) (v823 : BitVec 32) (v881 : BitVec 32) (k1_hw31 : k1_chk31 i arg14 v110 v117 v119 v823 v881), ∀ (k1_h18 : ¬(k1_cond18 i arg14 v110 v117 v119 = 1#1)), ∀ (k1_h32 : k1_cond32 i v823 v881 = 1#1), ∀ a, (k1_off255 i v823) a + S1x16.size a ≤ S336x64.size a := fun i arg14 v110 v117 v119 v823 v881 k1_hw31 k1_h18 k1_h32 => k1_hw31.2.2.2 k1_h18 k1_h32

def k1_off256 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c13_i32 : BitVec 32 := 13#32
  let v893 : BitVec 32 := Scalar.addi v105 c13_i32
  let v894 : Index := Scalar.indexCast v893
  let c0_401 : Index := 0#32
  ![v894.toNat, 0]
def k1_off257 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c13_i32_406 : BitVec 32 := 13#32
  let v905 : BitVec 32 := Scalar.addi v105 c13_i32_406
  let v906 : Index := Scalar.indexCast v905
  let c16_407 : Index := 16#32
  ![v906.toNat, 16]
def k1_off258 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c13_i32_412 : BitVec 32 := 13#32
  let v917 : BitVec 32 := Scalar.addi v105 c13_i32_412
  let v918 : Index := Scalar.indexCast v917
  let c32_413 : Index := 32#32
  ![v918.toNat, 32]
def k1_off259 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c13_i32_418 : BitVec 32 := 13#32
  let v929 : BitVec 32 := Scalar.addi v105 c13_i32_418
  let v930 : Index := Scalar.indexCast v929
  let c48_419 : Index := 48#32
  ![v930.toNat, 48]
def k1_off260 (i : grid1.Coords) (v881 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v882 : BitVec 32 := Scalar.subi v881 v10
  let c0_i32_395 : BitVec 32 := 0#32
  let v883 : BitVec 1 := Scalar.cmpi .sge v882 c0_i32_395
  let c320_i32_396 : BitVec 32 := 320#32
  let v884 : BitVec 1 := Scalar.cmpi .slt v882 c320_i32_396
  let v885 : BitVec 1 := Scalar.andi v883 v884
  let c320_i32_397 : BitVec 32 := 320#32
  let v886 : BitVec 32 := Scalar.select v885 v882 c320_i32_397
  let v1054 : Index := Scalar.indexCast v886
  let c0_476 : Index := 0#32
  ![v1054.toNat, 0]
def k1_cond33 (i : grid1.Coords) (v881 : BitVec 32) (v939 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v940 : BitVec 32 := Scalar.subi v939 v10
  let c0_i32_422 : BitVec 32 := 0#32
  let v941 : BitVec 1 := Scalar.cmpi .sge v940 c0_i32_422
  let c320_i32_423 : BitVec 32 := 320#32
  let v942 : BitVec 1 := Scalar.cmpi .slt v940 c320_i32_423
  let v943 : BitVec 1 := Scalar.andi v941 v942
  let c320_i32_424 : BitVec 32 := 320#32
  let v944 : BitVec 32 := Scalar.select v943 v940 c320_i32_424
  let v882 : BitVec 32 := Scalar.subi v881 v10
  let c0_i32_395 : BitVec 32 := 0#32
  let v883 : BitVec 1 := Scalar.cmpi .sge v882 c0_i32_395
  let c320_i32_396 : BitVec 32 := 320#32
  let v884 : BitVec 1 := Scalar.cmpi .slt v882 c320_i32_396
  let v885 : BitVec 1 := Scalar.andi v883 v884
  let c320_i32_397 : BitVec 32 := 320#32
  let v886 : BitVec 32 := Scalar.select v885 v882 c320_i32_397
  let v945 : BitVec 1 := Scalar.cmpi .ne v944 v886
  let v946 : BitVec 32 := Scalar.extui v945
  let c0_i32_425 : BitVec 32 := 0#32
  let v947 : BitVec 1 := Scalar.cmpi .ne v946 c0_i32_425
  v947

def k1_off261 (i : grid1.Coords) (v881 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v882 : BitVec 32 := Scalar.subi v881 v10
  let c0_i32_395 : BitVec 32 := 0#32
  let v883 : BitVec 1 := Scalar.cmpi .sge v882 c0_i32_395
  let c320_i32_396 : BitVec 32 := 320#32
  let v884 : BitVec 1 := Scalar.cmpi .slt v882 c320_i32_396
  let v885 : BitVec 1 := Scalar.andi v883 v884
  let c320_i32_397 : BitVec 32 := 320#32
  let v886 : BitVec 32 := Scalar.select v885 v882 c320_i32_397
  let v1065 : Index := Scalar.indexCast v886
  let c16_480 : Index := 16#32
  ![v1065.toNat, 16]
def k1_off262 (i : grid1.Coords) (v881 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v882 : BitVec 32 := Scalar.subi v881 v10
  let c0_i32_395 : BitVec 32 := 0#32
  let v883 : BitVec 1 := Scalar.cmpi .sge v882 c0_i32_395
  let c320_i32_396 : BitVec 32 := 320#32
  let v884 : BitVec 1 := Scalar.cmpi .slt v882 c320_i32_396
  let v885 : BitVec 1 := Scalar.andi v883 v884
  let c320_i32_397 : BitVec 32 := 320#32
  let v886 : BitVec 32 := Scalar.select v885 v882 c320_i32_397
  let v1076 : Index := Scalar.indexCast v886
  let c32_484 : Index := 32#32
  ![v1076.toNat, 32]
def k1_off263 (i : grid1.Coords) (v881 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v882 : BitVec 32 := Scalar.subi v881 v10
  let c0_i32_395 : BitVec 32 := 0#32
  let v883 : BitVec 1 := Scalar.cmpi .sge v882 c0_i32_395
  let c320_i32_396 : BitVec 32 := 320#32
  let v884 : BitVec 1 := Scalar.cmpi .slt v882 c320_i32_396
  let v885 : BitVec 1 := Scalar.andi v883 v884
  let c320_i32_397 : BitVec 32 := 320#32
  let v886 : BitVec 32 := Scalar.select v885 v882 c320_i32_397
  let v1087 : Index := Scalar.indexCast v886
  let c48_488 : Index := 48#32
  ![v1087.toNat, 48]

def k1_chk32 (i : grid1.Coords) (arg14 : BitVec 32) (v110 : BitVec 32) (v117 : BitVec 32) (v119 : BitVec 32) (v881 : BitVec 32) (v939 : BitVec 32) : Prop :=
  (∀ (k1_h18 : ¬(k1_cond18 i arg14 v110 v117 v119 = 1#1)), ∀ (k1_h33 : k1_cond33 i v881 v939 = 1#1), ∀ a, (k1_off260 i v881) a + S1x16.size a ≤ S336x64.size a) ∧
  (∀ (k1_h18 : ¬(k1_cond18 i arg14 v110 v117 v119 = 1#1)), ∀ (k1_h33 : k1_cond33 i v881 v939 = 1#1), ∀ a, (k1_off261 i v881) a + S1x16.size a ≤ S336x64.size a) ∧
  (∀ (k1_h18 : ¬(k1_cond18 i arg14 v110 v117 v119 = 1#1)), ∀ (k1_h33 : k1_cond33 i v881 v939 = 1#1), ∀ a, (k1_off262 i v881) a + S1x16.size a ≤ S336x64.size a) ∧
  (∀ (k1_h18 : ¬(k1_cond18 i arg14 v110 v117 v119 = 1#1)), ∀ (k1_h33 : k1_cond33 i v881 v939 = 1#1), ∀ a, (k1_off263 i v881) a + S1x16.size a ≤ S336x64.size a)
theorem k1_off260_inb : ∀ (i : grid1.Coords) (arg14 : BitVec 32) (v110 : BitVec 32) (v117 : BitVec 32) (v119 : BitVec 32) (v881 : BitVec 32) (v939 : BitVec 32) (k1_hw32 : k1_chk32 i arg14 v110 v117 v119 v881 v939), ∀ (k1_h18 : ¬(k1_cond18 i arg14 v110 v117 v119 = 1#1)), ∀ (k1_h33 : k1_cond33 i v881 v939 = 1#1), ∀ a, (k1_off260 i v881) a + S1x16.size a ≤ S336x64.size a := fun i arg14 v110 v117 v119 v881 v939 k1_hw32 k1_h18 k1_h33 => k1_hw32.1 k1_h18 k1_h33
theorem k1_off261_inb : ∀ (i : grid1.Coords) (arg14 : BitVec 32) (v110 : BitVec 32) (v117 : BitVec 32) (v119 : BitVec 32) (v881 : BitVec 32) (v939 : BitVec 32) (k1_hw32 : k1_chk32 i arg14 v110 v117 v119 v881 v939), ∀ (k1_h18 : ¬(k1_cond18 i arg14 v110 v117 v119 = 1#1)), ∀ (k1_h33 : k1_cond33 i v881 v939 = 1#1), ∀ a, (k1_off261 i v881) a + S1x16.size a ≤ S336x64.size a := fun i arg14 v110 v117 v119 v881 v939 k1_hw32 k1_h18 k1_h33 => k1_hw32.2.1 k1_h18 k1_h33
theorem k1_off262_inb : ∀ (i : grid1.Coords) (arg14 : BitVec 32) (v110 : BitVec 32) (v117 : BitVec 32) (v119 : BitVec 32) (v881 : BitVec 32) (v939 : BitVec 32) (k1_hw32 : k1_chk32 i arg14 v110 v117 v119 v881 v939), ∀ (k1_h18 : ¬(k1_cond18 i arg14 v110 v117 v119 = 1#1)), ∀ (k1_h33 : k1_cond33 i v881 v939 = 1#1), ∀ a, (k1_off262 i v881) a + S1x16.size a ≤ S336x64.size a := fun i arg14 v110 v117 v119 v881 v939 k1_hw32 k1_h18 k1_h33 => k1_hw32.2.2.1 k1_h18 k1_h33
theorem k1_off263_inb : ∀ (i : grid1.Coords) (arg14 : BitVec 32) (v110 : BitVec 32) (v117 : BitVec 32) (v119 : BitVec 32) (v881 : BitVec 32) (v939 : BitVec 32) (k1_hw32 : k1_chk32 i arg14 v110 v117 v119 v881 v939), ∀ (k1_h18 : ¬(k1_cond18 i arg14 v110 v117 v119 = 1#1)), ∀ (k1_h33 : k1_cond33 i v881 v939 = 1#1), ∀ a, (k1_off263 i v881) a + S1x16.size a ≤ S336x64.size a := fun i arg14 v110 v117 v119 v881 v939 k1_hw32 k1_h18 k1_h33 => k1_hw32.2.2.2 k1_h18 k1_h33

def k1_off264 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c14_i32 : BitVec 32 := 14#32
  let v951 : BitVec 32 := Scalar.addi v105 c14_i32
  let v952 : Index := Scalar.indexCast v951
  let c0_428 : Index := 0#32
  ![v952.toNat, 0]
def k1_off265 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c14_i32_433 : BitVec 32 := 14#32
  let v963 : BitVec 32 := Scalar.addi v105 c14_i32_433
  let v964 : Index := Scalar.indexCast v963
  let c16_434 : Index := 16#32
  ![v964.toNat, 16]
def k1_off266 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c14_i32_439 : BitVec 32 := 14#32
  let v975 : BitVec 32 := Scalar.addi v105 c14_i32_439
  let v976 : Index := Scalar.indexCast v975
  let c32_440 : Index := 32#32
  ![v976.toNat, 32]
def k1_off267 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c14_i32_445 : BitVec 32 := 14#32
  let v987 : BitVec 32 := Scalar.addi v105 c14_i32_445
  let v988 : Index := Scalar.indexCast v987
  let c48_446 : Index := 48#32
  ![v988.toNat, 48]
def k1_off268 (i : grid1.Coords) (v939 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v940 : BitVec 32 := Scalar.subi v939 v10
  let c0_i32_422 : BitVec 32 := 0#32
  let v941 : BitVec 1 := Scalar.cmpi .sge v940 c0_i32_422
  let c320_i32_423 : BitVec 32 := 320#32
  let v942 : BitVec 1 := Scalar.cmpi .slt v940 c320_i32_423
  let v943 : BitVec 1 := Scalar.andi v941 v942
  let c320_i32_424 : BitVec 32 := 320#32
  let v944 : BitVec 32 := Scalar.select v943 v940 c320_i32_424
  let v1054 : Index := Scalar.indexCast v944
  let c0_476 : Index := 0#32
  ![v1054.toNat, 0]
def k1_cond34 (i : grid1.Coords) (v939 : BitVec 32) (v997 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v998 : BitVec 32 := Scalar.subi v997 v10
  let c0_i32_449 : BitVec 32 := 0#32
  let v999 : BitVec 1 := Scalar.cmpi .sge v998 c0_i32_449
  let c320_i32_450 : BitVec 32 := 320#32
  let v1000 : BitVec 1 := Scalar.cmpi .slt v998 c320_i32_450
  let v1001 : BitVec 1 := Scalar.andi v999 v1000
  let c320_i32_451 : BitVec 32 := 320#32
  let v1002 : BitVec 32 := Scalar.select v1001 v998 c320_i32_451
  let v940 : BitVec 32 := Scalar.subi v939 v10
  let c0_i32_422 : BitVec 32 := 0#32
  let v941 : BitVec 1 := Scalar.cmpi .sge v940 c0_i32_422
  let c320_i32_423 : BitVec 32 := 320#32
  let v942 : BitVec 1 := Scalar.cmpi .slt v940 c320_i32_423
  let v943 : BitVec 1 := Scalar.andi v941 v942
  let c320_i32_424 : BitVec 32 := 320#32
  let v944 : BitVec 32 := Scalar.select v943 v940 c320_i32_424
  let v1003 : BitVec 1 := Scalar.cmpi .ne v1002 v944
  let v1004 : BitVec 32 := Scalar.extui v1003
  let c0_i32_452 : BitVec 32 := 0#32
  let v1005 : BitVec 1 := Scalar.cmpi .ne v1004 c0_i32_452
  v1005

def k1_off269 (i : grid1.Coords) (v939 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v940 : BitVec 32 := Scalar.subi v939 v10
  let c0_i32_422 : BitVec 32 := 0#32
  let v941 : BitVec 1 := Scalar.cmpi .sge v940 c0_i32_422
  let c320_i32_423 : BitVec 32 := 320#32
  let v942 : BitVec 1 := Scalar.cmpi .slt v940 c320_i32_423
  let v943 : BitVec 1 := Scalar.andi v941 v942
  let c320_i32_424 : BitVec 32 := 320#32
  let v944 : BitVec 32 := Scalar.select v943 v940 c320_i32_424
  let v1065 : Index := Scalar.indexCast v944
  let c16_480 : Index := 16#32
  ![v1065.toNat, 16]
def k1_off270 (i : grid1.Coords) (v939 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v940 : BitVec 32 := Scalar.subi v939 v10
  let c0_i32_422 : BitVec 32 := 0#32
  let v941 : BitVec 1 := Scalar.cmpi .sge v940 c0_i32_422
  let c320_i32_423 : BitVec 32 := 320#32
  let v942 : BitVec 1 := Scalar.cmpi .slt v940 c320_i32_423
  let v943 : BitVec 1 := Scalar.andi v941 v942
  let c320_i32_424 : BitVec 32 := 320#32
  let v944 : BitVec 32 := Scalar.select v943 v940 c320_i32_424
  let v1076 : Index := Scalar.indexCast v944
  let c32_484 : Index := 32#32
  ![v1076.toNat, 32]
def k1_off271 (i : grid1.Coords) (v939 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let v940 : BitVec 32 := Scalar.subi v939 v10
  let c0_i32_422 : BitVec 32 := 0#32
  let v941 : BitVec 1 := Scalar.cmpi .sge v940 c0_i32_422
  let c320_i32_423 : BitVec 32 := 320#32
  let v942 : BitVec 1 := Scalar.cmpi .slt v940 c320_i32_423
  let v943 : BitVec 1 := Scalar.andi v941 v942
  let c320_i32_424 : BitVec 32 := 320#32
  let v944 : BitVec 32 := Scalar.select v943 v940 c320_i32_424
  let v1087 : Index := Scalar.indexCast v944
  let c48_488 : Index := 48#32
  ![v1087.toNat, 48]

def k1_chk33 (i : grid1.Coords) (arg14 : BitVec 32) (v110 : BitVec 32) (v117 : BitVec 32) (v119 : BitVec 32) (v939 : BitVec 32) (v997 : BitVec 32) : Prop :=
  (∀ (k1_h18 : ¬(k1_cond18 i arg14 v110 v117 v119 = 1#1)), ∀ (k1_h34 : k1_cond34 i v939 v997 = 1#1), ∀ a, (k1_off268 i v939) a + S1x16.size a ≤ S336x64.size a) ∧
  (∀ (k1_h18 : ¬(k1_cond18 i arg14 v110 v117 v119 = 1#1)), ∀ (k1_h34 : k1_cond34 i v939 v997 = 1#1), ∀ a, (k1_off269 i v939) a + S1x16.size a ≤ S336x64.size a) ∧
  (∀ (k1_h18 : ¬(k1_cond18 i arg14 v110 v117 v119 = 1#1)), ∀ (k1_h34 : k1_cond34 i v939 v997 = 1#1), ∀ a, (k1_off270 i v939) a + S1x16.size a ≤ S336x64.size a) ∧
  (∀ (k1_h18 : ¬(k1_cond18 i arg14 v110 v117 v119 = 1#1)), ∀ (k1_h34 : k1_cond34 i v939 v997 = 1#1), ∀ a, (k1_off271 i v939) a + S1x16.size a ≤ S336x64.size a)
theorem k1_off268_inb : ∀ (i : grid1.Coords) (arg14 : BitVec 32) (v110 : BitVec 32) (v117 : BitVec 32) (v119 : BitVec 32) (v939 : BitVec 32) (v997 : BitVec 32) (k1_hw33 : k1_chk33 i arg14 v110 v117 v119 v939 v997), ∀ (k1_h18 : ¬(k1_cond18 i arg14 v110 v117 v119 = 1#1)), ∀ (k1_h34 : k1_cond34 i v939 v997 = 1#1), ∀ a, (k1_off268 i v939) a + S1x16.size a ≤ S336x64.size a := fun i arg14 v110 v117 v119 v939 v997 k1_hw33 k1_h18 k1_h34 => k1_hw33.1 k1_h18 k1_h34
theorem k1_off269_inb : ∀ (i : grid1.Coords) (arg14 : BitVec 32) (v110 : BitVec 32) (v117 : BitVec 32) (v119 : BitVec 32) (v939 : BitVec 32) (v997 : BitVec 32) (k1_hw33 : k1_chk33 i arg14 v110 v117 v119 v939 v997), ∀ (k1_h18 : ¬(k1_cond18 i arg14 v110 v117 v119 = 1#1)), ∀ (k1_h34 : k1_cond34 i v939 v997 = 1#1), ∀ a, (k1_off269 i v939) a + S1x16.size a ≤ S336x64.size a := fun i arg14 v110 v117 v119 v939 v997 k1_hw33 k1_h18 k1_h34 => k1_hw33.2.1 k1_h18 k1_h34
theorem k1_off270_inb : ∀ (i : grid1.Coords) (arg14 : BitVec 32) (v110 : BitVec 32) (v117 : BitVec 32) (v119 : BitVec 32) (v939 : BitVec 32) (v997 : BitVec 32) (k1_hw33 : k1_chk33 i arg14 v110 v117 v119 v939 v997), ∀ (k1_h18 : ¬(k1_cond18 i arg14 v110 v117 v119 = 1#1)), ∀ (k1_h34 : k1_cond34 i v939 v997 = 1#1), ∀ a, (k1_off270 i v939) a + S1x16.size a ≤ S336x64.size a := fun i arg14 v110 v117 v119 v939 v997 k1_hw33 k1_h18 k1_h34 => k1_hw33.2.2.1 k1_h18 k1_h34
theorem k1_off271_inb : ∀ (i : grid1.Coords) (arg14 : BitVec 32) (v110 : BitVec 32) (v117 : BitVec 32) (v119 : BitVec 32) (v939 : BitVec 32) (v997 : BitVec 32) (k1_hw33 : k1_chk33 i arg14 v110 v117 v119 v939 v997), ∀ (k1_h18 : ¬(k1_cond18 i arg14 v110 v117 v119 = 1#1)), ∀ (k1_h34 : k1_cond34 i v939 v997 = 1#1), ∀ a, (k1_off271 i v939) a + S1x16.size a ≤ S336x64.size a := fun i arg14 v110 v117 v119 v939 v997 k1_hw33 k1_h18 k1_h34 => k1_hw33.2.2.2 k1_h18 k1_h34

def k1_off272 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c15_i32 : BitVec 32 := 15#32
  let v1009 : BitVec 32 := Scalar.addi v105 c15_i32
  let v1010 : Index := Scalar.indexCast v1009
  let c0_455 : Index := 0#32
  ![v1010.toNat, 0]
def k1_off273 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c15_i32_460 : BitVec 32 := 15#32
  let v1021 : BitVec 32 := Scalar.addi v105 c15_i32_460
  let v1022 : Index := Scalar.indexCast v1021
  let c16_461 : Index := 16#32
  ![v1022.toNat, 16]
def k1_off274 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c15_i32_466 : BitVec 32 := 15#32
  let v1033 : BitVec 32 := Scalar.addi v105 c15_i32_466
  let v1034 : Index := Scalar.indexCast v1033
  let c32_467 : Index := 32#32
  ![v1034.toNat, 32]
def k1_off275 (k1_t5 : Fin k1_t5_loop.trips) : Fin 2 → Nat :=
  let c0_i32_34 : BitVec 32 := 0#32
  let c1_i32_35 : BitVec 32 := 1#32
  let arg13 : BitVec 32 := Scf.iv c0_i32_34 c1_i32_35 k1_t5
  let c16_i32 : BitVec 32 := 16#32
  let v105 : BitVec 32 := Scalar.muli arg13 c16_i32
  let c15_i32_472 : BitVec 32 := 15#32
  let v1045 : BitVec 32 := Scalar.addi v105 c15_i32_472
  let v1046 : Index := Scalar.indexCast v1045
  let c48_473 : Index := 48#32
  ![v1046.toNat, 48]
def k1_off276 (v54 : BitVec 32) : Fin 2 → Nat :=
  let v55 : Index := Scalar.indexCast v54
  let c0_17 : Index := 0#32
  ![v55.toNat, 0]

def k1_off277 (v54 : BitVec 32) : Fin 2 → Nat :=
  let v66 : Index := Scalar.indexCast v54
  let c16_21 : Index := 16#32
  ![v66.toNat, 16]
def k1_off278 (v54 : BitVec 32) : Fin 2 → Nat :=
  let v77 : Index := Scalar.indexCast v54
  let c32_25 : Index := 32#32
  ![v77.toNat, 32]
def k1_off279 (v54 : BitVec 32) : Fin 2 → Nat :=
  let v88 : Index := Scalar.indexCast v54
  let c48_29 : Index := 48#32
  ![v88.toNat, 48]

def k1_chk34 (v54 : BitVec 32) : Prop :=
  (∀ a, (k1_off276 v54) a + S1x16.size a ≤ S336x64.size a) ∧
  (∀ a, (k1_off277 v54) a + S1x16.size a ≤ S336x64.size a) ∧
  (∀ a, (k1_off278 v54) a + S1x16.size a ≤ S336x64.size a) ∧
  (∀ a, (k1_off279 v54) a + S1x16.size a ≤ S336x64.size a)
theorem k1_off276_inb : ∀ (v54 : BitVec 32) (k1_hw34 : k1_chk34 v54), ∀ a, (k1_off276 v54) a + S1x16.size a ≤ S336x64.size a := fun v54 k1_hw34 => k1_hw34.1
theorem k1_off277_inb : ∀ (v54 : BitVec 32) (k1_hw34 : k1_chk34 v54), ∀ a, (k1_off277 v54) a + S1x16.size a ≤ S336x64.size a := fun v54 k1_hw34 => k1_hw34.2.1
theorem k1_off278_inb : ∀ (v54 : BitVec 32) (k1_hw34 : k1_chk34 v54), ∀ a, (k1_off278 v54) a + S1x16.size a ≤ S336x64.size a := fun v54 k1_hw34 => k1_hw34.2.2.1
theorem k1_off279_inb : ∀ (v54 : BitVec 32) (k1_hw34 : k1_chk34 v54), ∀ a, (k1_off279 v54) a + S1x16.size a ≤ S336x64.size a := fun v54 k1_hw34 => k1_hw34.2.2.2

def k1_off280 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v10 : BitVec 32 := Scalar.muli v1 c320_i32
  let c0_i32_35_r5 : BitVec 32 := 0#32
  ![v10.toNat, 0]
abbrev grid2 : Pipeline.Grid := .none

abbrev stage2_0 : Fin 1 → Memref sig .tc .vmem S10240x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S64x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S8x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S8x10240 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S16x4 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S640000x4 : Shape := ⟨2, ![640000, 4]⟩
abbrev S640000x3 : Shape := ⟨2, ![640000, 3]⟩
abbrev S640000 : Shape := ⟨1, ![640000]⟩
abbrev S10000 : Shape := ⟨1, ![10000]⟩
abbrev S7x64 : Shape := ⟨2, ![7, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S640000x7 : Shape := ⟨2, ![640000, 7]⟩
abbrev S640000x64 : Shape := ⟨2, ![640000, 64]⟩
abbrev S1x64 : Shape := ⟨2, ![1, 64]⟩
abbrev S_ : Shape := ⟨0, ![]⟩
abbrev S1x640000 : Shape := ⟨2, ![1, 640000]⟩
abbrev S10000x1 : Shape := ⟨2, ![10000, 1]⟩
abbrev S10000x640000 : Shape := ⟨2, ![10000, 640000]⟩
abbrev S10000x640000x1 : Shape := ⟨3, ![10000, 640000, 1]⟩
abbrev S1x640000x64 : Shape := ⟨3, ![1, 640000, 64]⟩
abbrev S10000x640000x64 : Shape := ⟨3, ![10000, 640000, 64]⟩
abbrev S10000x64 : Shape := ⟨2, ![10000, 64]⟩
abbrev S10000x4 : Shape := ⟨2, ![10000, 4]⟩
abbrev S1x4 : Shape := ⟨2, ![1, 4]⟩
abbrev S16x4 : Shape := ⟨2, ![16, 4]⟩
abbrev S16 : Shape := ⟨1, ![16]⟩
abbrev S16x1 : Shape := ⟨2, ![16, 1]⟩

abbrev nBuf : Space → Nat
  | .hbm => 85
  | .vmem => 0
  | .smem => 0
  | _ => 0

abbrev bufTy : (tb : Table) → Fin (tcTables nBuf tb) → BufTy
  | .hbm, ⟨0, _⟩ => ⟨S640000x4, .f32⟩
  | .hbm, ⟨1, _⟩ => ⟨S640000x3, .f32⟩
  | .hbm, ⟨2, _⟩ => ⟨S640000, .i32⟩
  | .hbm, ⟨3, _⟩ => ⟨S10000, .i32⟩
  | .hbm, ⟨4, _⟩ => ⟨S7x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x4, .f32⟩
  | .hbm, ⟨9, _⟩ => ⟨S4, .f32⟩
  | .hbm, ⟨10, _⟩ => ⟨S640000x7, .f32⟩
  | .hbm, ⟨11, _⟩ => ⟨S640000x64, .f32⟩
  | .hbm, ⟨12, _⟩ => ⟨S1x64, .f32⟩
  | .hbm, ⟨13, _⟩ => ⟨S640000x64, .f32⟩
  | .hbm, ⟨14, _⟩ => ⟨S640000x64, .f32⟩
  | .hbm, ⟨15, _⟩ => ⟨S_, .f32⟩
  | .hbm, ⟨16, _⟩ => ⟨S640000x64, .f32⟩
  | .hbm, ⟨17, _⟩ => ⟨S640000x64, .f32⟩
  | .hbm, ⟨18, _⟩ => ⟨S640000x64, .f32⟩
  | .hbm, ⟨19, _⟩ => ⟨S1x64, .f32⟩
  | .hbm, ⟨20, _⟩ => ⟨S640000x64, .f32⟩
  | .hbm, ⟨21, _⟩ => ⟨S640000x64, .f32⟩
  | .hbm, ⟨22, _⟩ => ⟨S_, .f32⟩
  | .hbm, ⟨23, _⟩ => ⟨S640000x64, .f32⟩
  | .hbm, ⟨24, _⟩ => ⟨S640000x64, .f32⟩
  | .hbm, ⟨25, _⟩ => ⟨S1x640000, .i32⟩
  | .hbm, ⟨26, _⟩ => ⟨S10000, .i32⟩
  | .hbm, ⟨27, _⟩ => ⟨S10000x1, .i32⟩
  | .hbm, ⟨28, _⟩ => ⟨S10000x640000, .i32⟩
  | .hbm, ⟨29, _⟩ => ⟨S10000x640000, .i32⟩
  | .hbm, ⟨30, _⟩ => ⟨S10000x640000, .i1⟩
  | .hbm, ⟨31, _⟩ => ⟨S10000x640000x1, .i1⟩
  | .hbm, ⟨32, _⟩ => ⟨S1x640000x64, .f32⟩
  | .hbm, ⟨33, _⟩ => ⟨S_, .f32⟩
  | .hbm, ⟨34, _⟩ => ⟨S_, .f32⟩
  | .hbm, ⟨35, _⟩ => ⟨S10000x640000x64, .i1⟩
  | .hbm, ⟨36, _⟩ => ⟨S10000x640000x64, .f32⟩
  | .hbm, ⟨37, _⟩ => ⟨S10000x640000x64, .f32⟩
  | .hbm, ⟨38, _⟩ => ⟨S10000x640000x64, .f32⟩
  | .hbm, ⟨39, _⟩ => ⟨S_, .f32⟩
  | .hbm, ⟨40, _⟩ => ⟨S10000x64, .f32⟩
  | .hbm, ⟨41, _⟩ => ⟨S10000x64, .f32⟩
  | .hbm, ⟨42, _⟩ => ⟨S_, .f32⟩
  | .hbm, ⟨43, _⟩ => ⟨S10000x64, .f32⟩
  | .hbm, ⟨44, _⟩ => ⟨S10000x64, .i1⟩
  | .hbm, ⟨45, _⟩ => ⟨S_, .f32⟩
  | .hbm, ⟨46, _⟩ => ⟨S_, .f32⟩
  | .hbm, ⟨47, _⟩ => ⟨S10000x64, .f32⟩
  | .hbm, ⟨48, _⟩ => ⟨S10000x64, .f32⟩
  | .hbm, ⟨49, _⟩ => ⟨S10000x4, .f32⟩
  | .hbm, ⟨50, _⟩ => ⟨S1x4, .f32⟩
  | .hbm, ⟨51, _⟩ => ⟨S10000x4, .f32⟩
  | .hbm, ⟨52, _⟩ => ⟨S10000x4, .f32⟩
  | .hbm, ⟨53, _⟩ => ⟨S_, .f32⟩
  | .hbm, ⟨54, _⟩ => ⟨S16x4, .f32⟩
  | .hbm, ⟨55, _⟩ => ⟨S10000x1, .i32⟩
  | .hbm, ⟨56, _⟩ => ⟨S16x4, .f32⟩
  | .hbm, ⟨57, _⟩ => ⟨S_, .f32⟩
  | .hbm, ⟨58, _⟩ => ⟨S10000, .f32⟩
  | .hbm, ⟨59, _⟩ => ⟨S_, .f32⟩
  | .hbm, ⟨60, _⟩ => ⟨S16, .f32⟩
  | .hbm, ⟨61, _⟩ => ⟨S10000x1, .i32⟩
  | .hbm, ⟨62, _⟩ => ⟨S16, .f32⟩
  | .hbm, ⟨63, _⟩ => ⟨S_, .f32⟩
  | .hbm, ⟨64, _⟩ => ⟨S_, .f32⟩
  | .hbm, ⟨65, _⟩ => ⟨S16, .f32⟩
  | .hbm, ⟨66, _⟩ => ⟨S16, .f32⟩
  | .hbm, ⟨67, _⟩ => ⟨S16x1, .f32⟩
  | .hbm, ⟨68, _⟩ => ⟨S16x4, .f32⟩
  | .hbm, ⟨69, _⟩ => ⟨S16x4, .f32⟩
  | .hbm, ⟨70, _⟩ => ⟨S_, .f32⟩
  | .hbm, ⟨71, _⟩ => ⟨S16, .f32⟩
  | .hbm, ⟨72, _⟩ => ⟨S_, .f32⟩
  | .hbm, ⟨73, _⟩ => ⟨S16, .f32⟩
  | .hbm, ⟨74, _⟩ => ⟨S16, .f32⟩
  | .hbm, ⟨75, _⟩ => ⟨S16x1, .f32⟩
  | .hbm, ⟨76, _⟩ => ⟨S16x4, .f32⟩
  | .hbm, ⟨77, _⟩ => ⟨S16x4, .f32⟩
  | .hbm, ⟨78, _⟩ => ⟨S16x4, .f32⟩
  | .hbm, ⟨79, _⟩ => ⟨S_, .f32⟩
  | .hbm, ⟨80, _⟩ => ⟨S16, .f32⟩
  | .hbm, ⟨81, _⟩ => ⟨S16x1, .f32⟩
  | .hbm, ⟨82, _⟩ => ⟨S16x1, .f32⟩
  | .hbm, ⟨83, _⟩ => ⟨S16x4, .f32⟩
  | .hbm, ⟨84, _⟩ => ⟨S16x4, .f32⟩
  | _, _ => ⟨S640000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call1_cst : Ref sig .tc := ⟨.hbm, 22, rfl⟩
abbrev main_call1_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_v19 : Ref sig .tc := ⟨.hbm, 38, rfl⟩
abbrev main_cst_0 : Ref sig .tc := ⟨.hbm, 39, rfl⟩
abbrev main_v20 : Ref sig .tc := ⟨.hbm, 40, rfl⟩
abbrev main_v21 : Ref sig .tc := ⟨.hbm, 41, rfl⟩
abbrev main_cst_1 : Ref sig .tc := ⟨.hbm, 42, rfl⟩
abbrev main_v22 : Ref sig .tc := ⟨.hbm, 43, rfl⟩
abbrev main_v23 : Ref sig .tc := ⟨.hbm, 44, rfl⟩
abbrev main_cst_2 : Ref sig .tc := ⟨.hbm, 45, rfl⟩
abbrev main_call3_v0 : Ref sig .tc := ⟨.hbm, 46, rfl⟩
abbrev main_call3_v1 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_6 : Ref sig .tc := ⟨.hbm, 63, rfl⟩
abbrev main_call4_v0 : Ref sig .tc := ⟨.hbm, 64, rfl⟩
abbrev main_call4_v1 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_call5_cst : Ref sig .tc := ⟨.hbm, 70, rfl⟩
abbrev main_call5_v0 : Ref sig .tc := ⟨.hbm, 71, rfl⟩
abbrev main_call5_cst_0 : Ref sig .tc := ⟨.hbm, 72, rfl⟩
abbrev main_call5_v1 : Ref sig .tc := ⟨.hbm, 73, rfl⟩
abbrev main_call5_v2 : Ref sig .tc := ⟨.hbm, 74, rfl⟩
abbrev main_call5_v3 : Ref sig .tc := ⟨.hbm, 75, rfl⟩
abbrev main_call5_v4 : Ref sig .tc := ⟨.hbm, 76, rfl⟩
abbrev main_call5_v5 : Ref sig .tc := ⟨.hbm, 77, rfl⟩
abbrev main_call5_v6 : Ref sig .tc := ⟨.hbm, 78, rfl⟩
abbrev main_call5_cst_1 : Ref sig .tc := ⟨.hbm, 79, rfl⟩
abbrev main_call5_v7 : Ref sig .tc := ⟨.hbm, 80, rfl⟩
abbrev main_call5_v8 : Ref sig .tc := ⟨.hbm, 81, rfl⟩
abbrev main_call5_v9 : Ref sig .tc := ⟨.hbm, 82, rfl⟩
abbrev main_call5_v10 : Ref sig .tc := ⟨.hbm, 83, rfl⟩
abbrev main_v40 : Ref sig .tc := ⟨.hbm, 84, rfl⟩

abbrev nD : Nat := 1
abbrev τ : Topo := Topo.v7x

variable {F : FTy → Type} [FloatOps F]
-- ==== Proof.Setup.lean ====
/-
  The program as the launch theorem sees it: its labels, its SparseCore configuration, its definitions and
  the resource algebra of the proof (the handshakes' rounds, the pipelines' rounds, the transfers' counters).
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The resource algebra: the handshakes' rounds, then the pipelines' rounds beside the transfers' counters. -/
abbrev UH : Type := URounds (GSem nD τ sig) ℕ
abbrev UP : Type := URounds (GSem nD τ sig) Unit
abbrev UU : Type := UH × (UP × Counters)

/-- The SparseCore tile's place in the grid as a device processor. -/
abbrev cV (i : grid1.Coords) : Fin τ.nSC := (i 0).castLE hcore1
abbrev sV (i : grid1.Coords) : Fin τ.nSub := (i 1).castLE hsub1

end Cert.Proof.Pool

end
-- ==== Proof.HostOps.lean ====
module
public import proofs.«01_k».proof.Proof.Setup
public import Idealize.ShloMosaic.Lib.StableHlo.Run
public import Idealize.ShloMosaic.Lib.StableHlo.RunRead
public import Idealize.ShloMosaic.Lib.Pipeline.Frame
@[expose] public section
/-! @main's host operations, which all come before its three calls, and what they leave in the arrays the calls read. -/
noncomputable section
namespace Cert.Proof.Pool
open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
variable {F : FTy → Type} [FloatOps F]

/-- The host operations in order. -/
abbrev hostOps : List (HloOp τ sig (Elt F)) :=
  [StableHlo.nullary main_v0 (iotaInDim S33 32 0),
   StableHlo.nullary main_c (constantI S_ 32 320#32),
   StableHlo.unary main_c main_v1 (broadcastInDim S33 ![] bcast_S_S33 : (⟨S_, .i32⟩ : BufTy).Contents (Elt F) → (⟨S33, .i32⟩ : BufTy).Contents (Elt F)),
   StableHlo.binary main_v0 main_v1 main_v2 (muli : (⟨S33, .i32⟩ : BufTy).Contents (Elt F) → (⟨S33, .i32⟩ : BufTy).Contents (Elt F) → (⟨S33, .i32⟩ : BufTy).Contents (Elt F)),
   StableHlo.nullary main_c_0 (constantI S_ 32 10000#32),
   StableHlo.unary main_c_0 main_v3 (broadcastInDim S33 ![] bcast_S_S33 : (⟨S_, .i32⟩ : BufTy).Contents (Elt F) → (⟨S33, .i32⟩ : BufTy).Contents (Elt F)),
   StableHlo.binary main_v2 main_v3 main_v4 (minsi : (⟨S33, .i32⟩ : BufTy).Contents (Elt F) → (⟨S33, .i32⟩ : BufTy).Contents (Elt F) → (⟨S33, .i32⟩ : BufTy).Contents (Elt F)),
   StableHlo.TRef.unary (.of main_v4 : StableHlo.TRef sig ⟨S33, .i32⟩) (.of main_call0_call0_v0 : StableHlo.TRef sig ⟨S1x33, .i32⟩) (broadcastInDim S1x33 ![1] bcast_S33_S1x33_1),
   StableHlo.TRef.unary (.of main_arg2 : StableHlo.TRef sig ⟨S640000, .i32⟩) (.of main_call0_call0_v1 : StableHlo.TRef sig ⟨S640000x1, .i32⟩) (broadcastInDim S640000x1 ![0] bcast_S640000_S640000x1_0),
   StableHlo.TRef.unary (.of main_call0_call0_v1 : StableHlo.TRef sig ⟨S640000x1, .i32⟩) (.of main_call0_call0_v2 : StableHlo.TRef sig ⟨S640000x33, .i32⟩) (broadcastInDim S640000x33 ![0, 1] bcast_S640000x1_S640000x33_0_1),
   StableHlo.TRef.unary (.of main_call0_call0_v0 : StableHlo.TRef sig ⟨S1x33, .i32⟩) (.of main_call0_call0_v3 : StableHlo.TRef sig ⟨S640000x33, .i32⟩) (broadcastInDim S640000x33 ![0, 1] bcast_S1x33_S640000x33_0_1),
   StableHlo.TRef.binary (.of main_call0_call0_v2 : StableHlo.TRef sig ⟨S640000x33, .i32⟩) (.of main_call0_call0_v3 : StableHlo.TRef sig ⟨S640000x33, .i32⟩) (.of main_call0_call0_v4 : StableHlo.TRef sig ⟨S640000x33, .i1⟩) (cmpi .slt),
   StableHlo.TRef.unary (.of main_call0_call0_v4 : StableHlo.TRef sig ⟨S640000x33, .i1⟩) (.of main_call0_call0_v5 : StableHlo.TRef sig ⟨S640000x33, .i32⟩) (extui 32 · natLt_1_32),
   StableHlo.TRef.nullary (.of main_call0_call0_c : StableHlo.TRef sig ⟨S_, .i32⟩) (constantI S_ 32 0#32),
   StableHlo.TRef.binary (.of main_call0_call0_v5 : StableHlo.TRef sig ⟨S640000x33, .i32⟩) (.of main_call0_call0_c : StableHlo.TRef sig ⟨S_, .i32⟩) (.of main_v5 : StableHlo.TRef sig ⟨S33, .i32⟩) (fun x v => Host.reduce IntOp.addi x v reducesTo_S640000x33_S33_d0 h_S_),
   StableHlo.nullary main_c_1 (constantI S_ 32 0#32),
   StableHlo.TRef.unary (.of main_c_1 : StableHlo.TRef sig ⟨S_, .i32⟩) (.of main_call1_v0 : StableHlo.TRef sig ⟨S_, .i32⟩) id,
   StableHlo.TRef.binary (.of main_v5 : StableHlo.TRef sig ⟨S33, .i32⟩) (.of main_call1_v0 : StableHlo.TRef sig ⟨S_, .i32⟩) (.of main_v6 : StableHlo.TRef sig ⟨S48, .i32⟩) (fun x v => pad S48 ![0] ![15] ![0] x v pads_S33_S48_0150 h_S_),
   StableHlo.unary main_arg0 main_v7 ((transpose S4x640000 [1, 0] · transposes_S640000x4_S4x640000_1_0) : (⟨S640000x4, .f32⟩ : BufTy).Contents (Elt F) → (⟨S4x640000, .f32⟩ : BufTy).Contents (Elt F)),
   StableHlo.unary main_arg1 main_v8 ((transpose S3x640000 [1, 0] · transposes_S640000x3_S3x640000_1_0) : (⟨S640000x3, .f32⟩ : BufTy).Contents (Elt F) → (⟨S3x640000, .f32⟩ : BufTy).Contents (Elt F)),
   StableHlo.binary main_v7 main_v8 main_v9 ((fun a b => concatenate S7x640000 0 [⟨S4x640000, a⟩, ⟨S3x640000, b⟩] concatenates_S4x640000_S3x640000_S7x640000_d0) : (⟨S4x640000, .f32⟩ : BufTy).Contents (Elt F) → (⟨S3x640000, .f32⟩ : BufTy).Contents (Elt F) → (⟨S7x640000, .f32⟩ : BufTy).Contents (Elt F)),
   StableHlo.unary main_v9 main_v10 ((truncf .bf16 · bitsLt_bf16_f32) : (⟨S7x640000, .f32⟩ : BufTy).Contents (Elt F) → (⟨S7x640000, .bf16⟩ : BufTy).Contents (Elt F)),
   StableHlo.unary main_arg4 main_v11 ((truncf .bf16 · bitsLt_bf16_f32) : (⟨S7x64, .f32⟩ : BufTy).Contents (Elt F) → (⟨S7x64, .bf16⟩ : BufTy).Contents (Elt F)),
   StableHlo.unary main_arg5 main_v12 (broadcastInDim S1x64 ![1] bcast_S64_S1x64_1 : (⟨S64, .f32⟩ : BufTy).Contents (Elt F) → (⟨S1x64, .f32⟩ : BufTy).Contents (Elt F)),
   StableHlo.unary main_v12 main_v13 (broadcastInDim S8x64 ![0, 1] bcast_S1x64_S8x64_0_1 : (⟨S1x64, .f32⟩ : BufTy).Contents (Elt F) → (⟨S8x64, .f32⟩ : BufTy).Contents (Elt F)),
   StableHlo.unary main_arg6 main_v14 ((truncf .bf16 · bitsLt_bf16_f32) : (⟨S64x64, .f32⟩ : BufTy).Contents (Elt F) → (⟨S64x64, .bf16⟩ : BufTy).Contents (Elt F)),
   StableHlo.unary main_arg7 main_v15 (broadcastInDim S1x64 ![1] bcast_S64_S1x64_1 : (⟨S64, .f32⟩ : BufTy).Contents (Elt F) → (⟨S1x64, .f32⟩ : BufTy).Contents (Elt F)),
   StableHlo.unary main_v15 main_v16 (broadcastInDim S8x64 ![0, 1] bcast_S1x64_S8x64_0_1 : (⟨S1x64, .f32⟩ : BufTy).Contents (Elt F) → (⟨S8x64, .f32⟩ : BufTy).Contents (Elt F)),
   StableHlo.nullary main_c_2 (constantI S_ 32 0#32),
   StableHlo.TRef.unary (.of main_c_2 : StableHlo.TRef sig ⟨S_, .i32⟩) (.of main_call2_v0 : StableHlo.TRef sig ⟨S_, .f32⟩) (sitofp .f32),
   StableHlo.TRef.binary (.of main_arg8 : StableHlo.TRef sig ⟨S64x4, .f32⟩) (.of main_call2_v0 : StableHlo.TRef sig ⟨S_, .f32⟩) (.of main_v17 : StableHlo.TRef sig ⟨S64x8, .f32⟩) (fun x v => pad S64x8 ![0, 0] ![0, 4] ![0, 0] x v pads_S64x4_S64x8_000_040 h_S_),
   StableHlo.nullary main_c_3 (constantI S_ 32 0#32),
   StableHlo.TRef.unary (.of main_c_3 : StableHlo.TRef sig ⟨S_, .i32⟩) (.of main_call3_v0 : StableHlo.TRef sig ⟨S_, .f32⟩) (sitofp .f32),
   StableHlo.TRef.binary (.of main_arg9 : StableHlo.TRef sig ⟨S4, .f32⟩) (.of main_call3_v0 : StableHlo.TRef sig ⟨S_, .f32⟩) (.of main_v18 : StableHlo.TRef sig ⟨S8, .f32⟩) (fun x v => pad S8 ![0] ![4] ![0] x v pads_S4_S8_040 h_S_),
   StableHlo.unary main_v18 main_v19 (broadcastInDim S1x8 ![1] bcast_S8_S1x8_1 : (⟨S8, .f32⟩ : BufTy).Contents (Elt F) → (⟨S1x8, .f32⟩ : BufTy).Contents (Elt F)),
   StableHlo.unary main_v19 main_v20 (broadcastInDim S8x8 ![0, 1] bcast_S1x8_S8x8_0_1 : (⟨S1x8, .f32⟩ : BufTy).Contents (Elt F) → (⟨S8x8, .f32⟩ : BufTy).Contents (Elt F)),
   StableHlo.nullary main_c_4 (constantI S_ 32 4294967295#32),
   StableHlo.unary main_c_4 main_v21 (broadcastInDim S240 ![] bcast_S_S240 : (⟨S_, .i32⟩ : BufTy).Contents (Elt F) → (⟨S240, .i32⟩ : BufTy).Contents (Elt F)),
   StableHlo.binary main_arg3 main_v21 main_v22 ((fun a b => concatenate S10240 0 [⟨S10000, a⟩, ⟨S240, b⟩] concatenates_S10000_S240_S10240_d0) : (⟨S10000, .i32⟩ : BufTy).Contents (Elt F) → (⟨S240, .i32⟩ : BufTy).Contents (Elt F) → (⟨S10240, .i32⟩ : BufTy).Contents (Elt F)),
   StableHlo.unary main_v22 main_v23 (broadcastInDim S1x10240 ![1] bcast_S10240_S1x10240_1 : (⟨S10240, .i32⟩ : BufTy).Contents (Elt F) → (⟨S1x10240, .i32⟩ : BufTy).Contents (Elt F)),
   StableHlo.unary main_v23 main_v24 (broadcastInDim S8x10240 ![0, 1] bcast_S1x10240_S8x10240_0_1 : (⟨S1x10240, .i32⟩ : BufTy).Contents (Elt F) → (⟨S8x10240, .i32⟩ : BufTy).Contents (Elt F))]

set_option maxRecDepth 8192 in
/-- @main is its host operations, then the three calls. -/
theorem main_eq (d : Dev nD) : main (F := F) d = (StableHlo.seq hostOps >>= fun _ => do
    Prog.lift (.customCall (SparseCore.inner (Pipeline.entry 0)) ())
    (K (F := F)).run d 0
    Prog.lift (.customCall (SparseCore.inner (Pipeline.entry 1)) ())
    pure ⟨⟩) := by
  simp only [main, fn_searchsorted.body, fn_searchsorted_compare_all_impl.body, fn_pad.body, fn_pad_0.body, fn_pad_1.body, hostOps, StableHlo.seq, bind_assoc, pure_bind]

theorem hostOps_unscoped : ∀ op ∈ hostOps (F := F), op.bufs ⊆ Pipeline.ucRefs τ sig := by
  intro op h
  refine Pipeline.sub_ucRefs op ?_
  fin_cases h <;> first | exact StableHlo.nullary_bufs_sub .. | exact StableHlo.unary_bufs_sub .. | exact StableHlo.binary_bufs_sub ..

theorem hostOps_fresh : ∀ op ∈ hostOps (F := F), op.fresh = ∅ := by
  intro op h
  fin_cases h <;> rfl

end Cert.Proof.Pool
end
-- ==== Proof.Steps.lean ====
/-
  A small program logic for one tile's straight-line code.  The tile holds four buffers: the chunk of ids, the
  chunk of rows, the table of cluster maxima and the running maximum of the current cluster.  `Holds` says what
  they contain (the table row by row, the running maximum as its first row), and `Does σ p a σ'` says that the
  program `p`, started at `σ`, returns `a` and leaves `σ'`.
-/
module

public import proofs.«01_k».proof.Proof.Setup

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## Rows of 64 numbers, sixteen at a time -/

/-- Sixteen consecutive numbers of a row, from `o` on. -/
def cut {E : Type} (f : Fin 64 → E) (o : ℕ) : S1x16.Idx → E := fun x => f (Fin.ofNat 64 (o + (x 1).val))

/-- The place of column `c` in a group of sixteen. -/
def lane (c : ℕ) : S1x16.Idx := fun a => match a with | 0 => ⟨0, Nat.one_pos⟩ | 1 => ⟨c % 16, Nat.mod_lt _ (by decide)⟩

/-- A row with sixteen numbers replaced, from `o` on. -/
def put {E : Type} (f : Fin 64 → E) (o : ℕ) (w : S1x16.Idx → E) : Fin 64 → E :=
  fun c => if o ≤ c.val ∧ c.val < o + 16 then w (lane (c.val - o)) else f c

/-- A table with sixteen numbers of one row replaced. -/
def putT {E : Type} (t : ℕ → Fin 64 → E) (p o : ℕ) (w : S1x16.Idx → E) : ℕ → Fin 64 → E := Function.update t p (put (t p) o w)

/-- The table of cluster maxima and the running maximum. -/
@[ext] structure St (F : FTy → Type) where
  T : ℕ → Fin 64 → Elt F .f32
  A : Fin 64 → Elt F .f32

section Logic

variable (d : Dev nD) (i : grid1.Coords)

/-- The tile's thread. -/
abbrev thr : Thread nD τ := (d, .scVector (cV i) (sV i))

variable (ids : Memref sig .scVector .vmem S512 .i32) (rows : Memref sig .scVector .vmem S512x64 .f32)
  (tbl : Memref sig .scVector .vmem S336x64 .f32) (acc : Memref sig .scVector .vmem S8x64 .f32)

/-- The four buffers of a tile: the ids `I`, the rows `R`, and the state `σ`. -/
def Holds (I : ℕ → Elt F .i32) (R : ℕ → Fin 64 → Elt F .f32) (σ : St F) : sProp 𝕄 :=
  iprop((∃ fI : Buf (Elt F) (ids.view.loc (thr d i)), (ids.view.loc (thr d i) ↦[ids.view.set]{fullShare} fI) ∗ ⌜∀ y : S512.Idx, ids.view.read (Elt F) fI y = I (y 0).val⌝)
    ∗ (∃ fR : Buf (Elt F) (rows.view.loc (thr d i)), (rows.view.loc (thr d i) ↦[rows.view.set]{fullShare} fR) ∗ ⌜∀ y : S512x64.Idx, rows.view.read (Elt F) fR y = R (y 0).val (y 1)⌝)
    ∗ (∃ fT : Buf (Elt F) (tbl.view.loc (thr d i)), (tbl.view.loc (thr d i) ↦[tbl.view.set]{fullShare} fT) ∗ ⌜∀ y : S336x64.Idx, tbl.view.read (Elt F) fT y = σ.T (y 0).val (y 1)⌝)
    ∗ (∃ fA : Buf (Elt F) (acc.view.loc (thr d i)), (acc.view.loc (thr d i) ↦[acc.view.set]{fullShare} fA) ∗ ⌜∀ y : S8x64.Idx, (y 0).val = 0 → acc.view.read (Elt F) fA y = σ.A (y 1)⌝))

variable (I : ℕ → Elt F .i32) (R : ℕ → Fin 64 → Elt F .f32)

/-- The program `p`, from the state `σ`, returns `a` and leaves the state `σ'`. -/
structure Does {α : Type} (σ : St F) (p : Prog (TpuEff nD τ sig (Elt F) Λ₀ (.scVector (cV i) (sV i))) α) (a : α) (σ' : St F) : Prop where
  run : Holds d i ids rows tbl acc I R σ ⊢ wp frame (wpE (defs₀ (F := F)) 𝒱₀ (thr d i) none) Set.univ p
    (fun r => iprop(⌜r = a⌝ ∗ Holds d i ids rows tbl acc I R σ'))

variable {d i ids rows tbl acc I R}

theorem does_ret {α : Type} (σ : St F) (a : α) : Does d i ids rows tbl acc I R σ (pure a) a σ := by
  constructor
  show _ ⊢ wp _ _ _ (.ret a) _
  rw [wp_ret]
  iintro H
  imodintro
  isplitr
  · ipureintro; rfl
  · iexact H

theorem does_bind {α β : Type} {σ σ₁ σ₂ : St F} {p : Prog (TpuEff nD τ sig (Elt F) Λ₀ (.scVector (cV i) (sV i))) α}
    {k : α → Prog (TpuEff nD τ sig (Elt F) Λ₀ (.scVector (cV i) (sV i))) β} {a : α} {b : β}
    (hp : Does d i ids rows tbl acc I R σ p a σ₁) (hk : Does d i ids rows tbl acc I R σ₁ (k a) b σ₂) :
    Does d i ids rows tbl acc I R σ (p >>= k) b σ₂ := by
  constructor
  rw [wp_bind]
  refine hp.run.trans (wp_mono _ _ _ fun r => ?_)
  iintro ⟨%hr, H⟩
  subst hr
  iapply hk.run
  iexact H

theorem does_cast {α : Type} {σ σ₀ σ₂ : St F} {p : Prog (TpuEff nD τ sig (Elt F) Λ₀ (.scVector (cV i) (sV i))) α} {a : α}
    (h : σ = σ₀) (hp : Does d i ids rows tbl acc I R σ₀ p a σ₂) : Does d i ids rows tbl acc I R σ p a σ₂ := h ▸ hp

theorem does_cast' {α : Type} {σ σ₁ σ₂ : St F} {p : Prog (TpuEff nD τ sig (Elt F) Λ₀ (.scVector (cV i) (sV i))) α} {a : α}
    (hp : Does d i ids rows tbl acc I R σ p a σ₁) (h : σ₁ = σ₂) : Does d i ids rows tbl acc I R σ p a σ₂ := h ▸ hp

theorem does_assume {σ : St F} {P : Prop} {dc : Decidable P} (h : P) :
    Does d i ids rows tbl acc I R σ (Prog.lift (TpuEff.assume P dc)) ⟨h⟩ σ := by
  constructor
  refine BI.Entails.trans ?_ (wp_assume 𝒱₀ (thr d i) none Set.univ h)
  exact (does_ret σ _).run

theorem does_if {σ σ₁ : St F} {c : Prop} [Decidable c] {p : c → Prog (TpuEff nD τ sig (Elt F) Λ₀ (.scVector (cV i) (sV i))) PUnit.{1}}
    (hp : ∀ h, Does d i ids rows tbl acc I R σ (p h) ⟨⟩ σ₁) :
    Does d i ids rows tbl acc I R σ (if h : c then p h else pure ⟨⟩) ⟨⟩ (if c then σ₁ else σ) := by
  by_cases h : c
  · simp only [dif_pos h, if_pos h]; exact hp h
  · simp only [dif_neg h, if_neg h]; exact does_ret σ _

/-- The row and the column of an index of a 1 × 16 rectangle. -/
theorem unit_row {s : Shape} {off size : Fin s.rank → ℕ} {inb : ∀ a, off a + size a ≤ s.size a} (x : (Rect.unit (s := s) off size inb).shape.Idx) (a : Fin s.rank) :
    ((Rect.unit (s := s) off size inb).idx x a).val = off a + (x a).val := by
  show off a + 1 * _ = _
  rw [Nat.one_mul]

theorem does_loadT {σ : St F} {off : Fin 2 → ℕ} {inb : ∀ a, off a + S1x16.size a ≤ S336x64.size a}
    {hl : tbl.view.LoadsAt (Rect.unit (s := S336x64) off S1x16.size inb).toLoadRect} :
    Does d i ids rows tbl acc I R σ (Prog.lift (.load tbl (Rect.unit (s := S336x64) off S1x16.size inb).toLoadRect hl))
      (cut (σ.T (off 0)) (off 1)) σ := by
  constructor
  unfold Holds
  iintro ⟨HI, HR, ⟨%fT, HT, %hT⟩, HA⟩
  iapply (wp_load 𝒱₀ (thr d i) none Set.univ (m := tbl) (View.setOn_subset_set _ _)) $$ HT
  iintro HT
  rw [wp_ret]
  imodintro
  isplitr
  · ipureintro
    funext x
    rw [View.readAt_rect]
    show tbl.view.read (Elt F) fT ((Rect.unit (s := S336x64) off S1x16.size inb).idx x) = _
    rw [hT, cut, unit_row]
    have h1 := inb 1
    have hx0 : (x 0).val = 0 := Nat.lt_one_iff.mp (x 0).isLt
    have hx1 : (x 1).val < 16 := (x 1).isLt
    have e1 : S336x64.size 1 = 64 := rfl
    have e2 : S1x16.size 1 = 16 := rfl
    congr 1
    · rw [hx0]; rfl
    · refine Fin.ext ?_
      rw [unit_row]
      show off 1 + _ = (off 1 + _) % 64
      rw [Nat.mod_eq_of_lt (by omega)]
  isplitl [HI]; · iexact HI
  isplitl [HR]; · iexact HR
  isplitl [HT]
  · iexists fT; isplitl [HT]; · iexact HT
    ipureintro; exact hT
  · iexact HA

theorem does_loadA {σ : St F} {off : Fin 2 → ℕ} {inb : ∀ a, off a + S1x16.size a ≤ S8x64.size a}
    {hl : acc.view.LoadsAt (Rect.unit (s := S8x64) off S1x16.size inb).toLoadRect} (h0 : off 0 = 0) :
    Does d i ids rows tbl acc I R σ (Prog.lift (.load acc (Rect.unit (s := S8x64) off S1x16.size inb).toLoadRect hl))
      (cut σ.A (off 1)) σ := by
  constructor
  unfold Holds
  iintro ⟨HI, HR, HT, ⟨%fA, HA, %hA⟩⟩
  iapply (wp_load 𝒱₀ (thr d i) none Set.univ (m := acc) (View.setOn_subset_set _ _)) $$ HA
  iintro HA
  rw [wp_ret]
  imodintro
  isplitr
  · ipureintro
    funext x
    rw [View.readAt_rect]
    show acc.view.read (Elt F) fA ((Rect.unit (s := S8x64) off S1x16.size inb).idx x) = _
    have h1 := inb 1
    have hx0 : (x 0).val = 0 := Nat.lt_one_iff.mp (x 0).isLt
    have hx1 : (x 1).val < 16 := (x 1).isLt
    have e1 : S8x64.size 1 = 64 := rfl
    have e2 : S1x16.size 1 = 16 := rfl
    rw [hA _ (by rw [unit_row]; show off 0 + _ = 0; rw [h0, Nat.zero_add]; exact hx0), cut]
    congr 1
    refine Fin.ext ?_
    rw [unit_row]
    show off 1 + _ = (off 1 + _) % 64
    rw [Nat.mod_eq_of_lt (by omega)]
  isplitl [HI]; · iexact HI
  isplitl [HR]; · iexact HR
  isplitl [HT]; · iexact HT
  iexists fA; isplitl [HA]; · iexact HA
  ipureintro; exact hA

theorem does_loadR {σ : St F} {off : Fin 2 → ℕ} {inb : ∀ a, off a + S1x16.size a ≤ S512x64.size a}
    {hl : rows.view.LoadsAt (Rect.unit (s := S512x64) off S1x16.size inb).toLoadRect} :
    Does d i ids rows tbl acc I R σ (Prog.lift (.load rows (Rect.unit (s := S512x64) off S1x16.size inb).toLoadRect hl))
      (cut (R (off 0)) (off 1)) σ := by
  constructor
  unfold Holds
  iintro ⟨HI, ⟨%fR, HR, %hR⟩, HT, HA⟩
  iapply (wp_load 𝒱₀ (thr d i) none Set.univ (m := rows) (View.setOn_subset_set _ _)) $$ HR
  iintro HR
  rw [wp_ret]
  imodintro
  isplitr
  · ipureintro
    funext x
    rw [View.readAt_rect]
    show rows.view.read (Elt F) fR ((Rect.unit (s := S512x64) off S1x16.size inb).idx x) = _
    rw [hR, cut, unit_row]
    have h1 := inb 1
    have hx0 : (x 0).val = 0 := Nat.lt_one_iff.mp (x 0).isLt
    have hx1 : (x 1).val < 16 := (x 1).isLt
    have e1 : S512x64.size 1 = 64 := rfl
    have e2 : S1x16.size 1 = 16 := rfl
    congr 1
    · rw [hx0]; rfl
    · refine Fin.ext ?_
      rw [unit_row]
      show off 1 + _ = (off 1 + _) % 64
      rw [Nat.mod_eq_of_lt (by omega)]
  isplitl [HI]; · iexact HI
  isplitl [HR]
  · iexists fR; isplitl [HR]; · iexact HR
    ipureintro; exact hR
  isplitl [HT]; · iexact HT
  iexact HA

theorem does_loadI {σ : St F} {off : Fin 1 → ℕ} {inb : ∀ a, off a + S16.size a ≤ S512.size a}
    {hl : ids.view.LoadsAt (Rect.unit (s := S512) off S16.size inb).toLoadRect} :
    Does d i ids rows tbl acc I R σ (Prog.lift (.load ids (Rect.unit (s := S512) off S16.size inb).toLoadRect hl))
      (fun x => I (off 0 + (x 0).val)) σ := by
  constructor
  unfold Holds
  iintro ⟨⟨%fI, HI, %hI⟩, HR, HT, HA⟩
  iapply (wp_load 𝒱₀ (thr d i) none Set.univ (m := ids) (View.setOn_subset_set _ _)) $$ HI
  iintro HI
  rw [wp_ret]
  imodintro
  isplitr
  · ipureintro
    funext x
    rw [View.readAt_rect]
    show ids.view.read (Elt F) fI ((Rect.unit (s := S512) off S16.size inb).idx x) = _
    rw [hI, unit_row]
  isplitl [HI]
  · iexists fI; isplitl [HI]; · iexact HI
    ipureintro; exact hI
  isplitl [HR]; · iexact HR
  isplitl [HT]; · iexact HT
  iexact HA

theorem put_at {E : Type} (f : Fin 64 → E) (o : ℕ) (w : S1x16.Idx → E) (x : S1x16.Idx) (c : Fin 64) (h : c.val = o + (x 1).val) :
    put f o w c = w x := by
  have hx1 : (x 1).val < 16 := (x 1).isLt
  have hx0 : (x 0).val = 0 := Nat.lt_one_iff.mp (x 0).isLt
  unfold put
  rw [if_pos ⟨by omega, by omega⟩]
  congr 1
  funext a
  refine Fin.ext ?_
  match a with
  | 0 => exact hx0.symm
  | 1 => show (c.val - o) % 16 = _; rw [h, Nat.add_sub_cancel_left, Nat.mod_eq_of_lt hx1]

theorem put_off {E : Type} (f : Fin 64 → E) (o : ℕ) (w : S1x16.Idx → E) (c : Fin 64) (h : ¬(o ≤ c.val ∧ c.val < o + 16)) :
    put f o w c = f c := by
  unfold put; rw [if_neg h]

theorem does_storeA {σ : St F} {off : Fin 2 → ℕ} {inb : ∀ a, off a + S1x16.size a ≤ S8x64.size a} {w : Vec F S1x16 .f32}
    {hx : (acc.access (Rect.unit (s := S8x64) off S1x16.size inb)).Stores Finset.univ}
    {hm : (Finset.univ : Finset (Rect.unit (s := S8x64) off S1x16.size inb).shape.Idx) = Finset.univ ∨ ∀ a, (Rect.unit (s := S8x64) off S1x16.size inb).stride a = 1}
    (h0 : off 0 = 0) :
    Does d i ids rows tbl acc I R σ (Prog.lift (.store acc (Rect.unit (s := S8x64) off S1x16.size inb) w Finset.univ hx hm))
      ⟨⟩ ⟨σ.T, put σ.A (off 1) w⟩ := by
  constructor
  unfold Holds
  iintro ⟨HI, HR, HT, ⟨%fA, HA, %hA⟩⟩
  iapply (wp_store 𝒱₀ (thr d i) none Set.univ (m := acc) (r := Rect.unit (s := S8x64) off S1x16.size inb) (S := acc.view.set) (acc.view.set_slice_subset _)) $$ HA
  iintro HA
  rw [wp_ret]
  imodintro
  isplitr; · ipureintro; rfl
  isplitl [HI]; · iexact HI
  isplitl [HR]; · iexact HR
  isplitl [HT]; · iexact HT
  iexists _; isplitl [HA]; · iexact HA
  ipureintro
  intro y hy
  have h1 := inb 1
  have e1 : S8x64.size 1 = 64 := rfl
  have e2 : S1x16.size 1 = 16 := rfl
  by_cases h : y ∈ (Finset.univ : Finset (Rect.unit (s := S8x64) off S1x16.size inb).shape.Idx).map (Rect.unit (s := S8x64) off S1x16.size inb).emb
  · obtain ⟨x, -, rfl⟩ := Finset.mem_map.mp h
    refine (View.read_slice_write_emb _ _ _ (Finset.mem_univ x)).trans ?_
    exact (put_at _ _ _ x _ (unit_row x 1)).symm
  · refine (View.read_slice_write_of_not_mem _ _ _ _ h).trans ?_
    rw [hA y hy]
    refine (put_off _ _ _ _ fun hc => h ?_).symm
    refine Finset.mem_map.mpr ⟨lane ((y 1).val - off 1), Finset.mem_univ _, ?_⟩
    funext a
    refine Fin.ext ((unit_row _ _).trans ?_)
    match a with
    | 0 => exact (congrArg (· + 0) h0).trans hy.symm
    | 1 => show off 1 + ((y 1).val - off 1) % 16 = _; rw [Nat.mod_eq_of_lt (by omega)]; omega

theorem does_storeT {σ : St F} {off : Fin 2 → ℕ} {inb : ∀ a, off a + S1x16.size a ≤ S336x64.size a} {w : Vec F S1x16 .f32}
    {hx : (tbl.access (Rect.unit (s := S336x64) off S1x16.size inb)).Stores Finset.univ}
    {hm : (Finset.univ : Finset (Rect.unit (s := S336x64) off S1x16.size inb).shape.Idx) = Finset.univ ∨ ∀ a, (Rect.unit (s := S336x64) off S1x16.size inb).stride a = 1} :
    Does d i ids rows tbl acc I R σ (Prog.lift (.store tbl (Rect.unit (s := S336x64) off S1x16.size inb) w Finset.univ hx hm))
      ⟨⟩ ⟨putT σ.T (off 0) (off 1) w, σ.A⟩ := by
  constructor
  unfold Holds
  iintro ⟨HI, HR, ⟨%fT, HT, %hT⟩, HA⟩
  iapply (wp_store 𝒱₀ (thr d i) none Set.univ (m := tbl) (r := Rect.unit (s := S336x64) off S1x16.size inb) (S := tbl.view.set) (tbl.view.set_slice_subset _)) $$ HT
  iintro HT
  rw [wp_ret]
  imodintro
  isplitr; · ipureintro; rfl
  isplitl [HI]; · iexact HI
  isplitl [HR]; · iexact HR
  isplitl [HT]
  swap; · iexact HA
  iexists _; isplitl [HT]; · iexact HT
  ipureintro
  intro y
  have h1 := inb 1
  have e1 : S336x64.size 1 = 64 := rfl
  have e2 : S1x16.size 1 = 16 := rfl
  by_cases h : y ∈ (Finset.univ : Finset (Rect.unit (s := S336x64) off S1x16.size inb).shape.Idx).map (Rect.unit (s := S336x64) off S1x16.size inb).emb
  · obtain ⟨x, -, rfl⟩ := Finset.mem_map.mp h
    refine (View.read_slice_write_emb _ _ _ (Finset.mem_univ x)).trans ?_
    have hx0 : (x 0).val = 0 := Nat.lt_one_iff.mp (x 0).isLt
    have hr : ((Rect.unit (s := S336x64) off S1x16.size inb).emb x 0).val = off 0 := (unit_row x 0).trans (congrArg (off 0 + ·) hx0)
    show _ = putT σ.T (off 0) (off 1) w _ _
    rw [hr, putT, Function.update_self]
    exact (put_at _ _ _ x _ (unit_row x 1)).symm
  · refine (View.read_slice_write_of_not_mem _ _ _ _ h).trans ?_
    rw [hT y]
    show _ = putT σ.T (off 0) (off 1) w _ _
    unfold putT
    by_cases hr : (y 0).val = off 0
    · rw [hr, Function.update_self]
      refine (put_off _ _ _ _ fun hc => h ?_).symm
      refine Finset.mem_map.mpr ⟨lane ((y 1).val - off 1), Finset.mem_univ _, ?_⟩
      funext a
      refine Fin.ext ((unit_row _ _).trans ?_)
      match a with
      | 0 => exact hr.symm
      | 1 => show off 1 + ((y 1).val - off 1) % 16 = _; rw [Nat.mod_eq_of_lt (by omega)]; omega
    · rw [Function.update_of_ne hr]

end Logic

end Cert.Proof.Pool

end
-- ==== Proof.Model.lean ====
/-
  What one group of sixteen rows does to a tile's state, in plain mathematics.  Either the sixteen rows belong to
  the current cluster and their column maxima join the running maximum, or the rows are taken one by one: when
  the cluster changes, the running maximum goes to the table's row of the previous cluster and starts anew.
-/
module

public import proofs.«01_k».proof.Proof.Steps
public import Idealize.ShloMosaic.Lib.Pipeline.Value

@[expose] public section

noncomputable section

namespace Cert.Proof.Pool

open Cert.KernelIdeal Cert.KernelIdeal.Gen
open Idealize.ShloMosaic
open Idealize.SL Idealize.SL.RA Idealize.SL.BI Idealize.SL.Sem

variable {F : FTy → Type} [FloatOps F]

/-- The first cluster of a tile. -/
def base (i : grid1.Coords) : BitVec 32 :=
  Scalar.muli (Scalar.addi (Scalar.muli (BitVec.ofNat 32 (i 1).val) 2#32) (BitVec.ofNat 32 (i 0).val)) 320#32

/-- A cluster's row in the tile's table; 320 when the cluster is another tile's. -/
def rel (i : grid1.Coords) (x : BitVec 32) : BitVec 32 :=
  Scalar.select (Scalar.andi (Scalar.cmpi .sge (Scalar.subi x (base i)) 0#32) (Scalar.cmpi .slt (Scalar.subi x (base i)) 320#32))
    (Scalar.subi x (base i)) 320#32

/-- Whether two rows of the table differ, as the program tests it. -/
def differ (x p : BitVec 32) : BitVec 1 := Scalar.cmpi .ne (Scalar.extui (Scalar.cmpi .ne x p) : BitVec 32) 0#32

/-- Whether a group of sixteen rows is uniform and continues the current cluster. -/
def uniform (first last x p : BitVec 32) : BitVec 1 :=
  Scalar.cmpi .ne (Scalar.extui (Scalar.andi (Scalar.cmpi .eq first last) (Scalar.cmpi .eq x p)) : BitVec 32) 0#32

/-- The number of a table row. -/
def rowOf (p : BitVec 32) : ℕ := (Scalar.indexCast p).toNat

/-- The row `j` of a group of the chunk. -/
def rowIx (t : Fin k1_t3_loop.trips) (j : BitVec 32) : ℕ :=
  (Scalar.indexCast (Scalar.addi (Scalar.muli (Scf.iv 0#32 1#32 t) 16#32) j)).toNat

/-- The running maximum goes to the table and starts anew at `z`. -/
def flush (z : Elt F .f32) (p : BitVec 32) (σ : St F) : St F :=
  ⟨Function.update σ.T (rowOf p) (fun c => FloatOps.maximumf (φ := .f32) (σ.T (rowOf p) c) (σ.A c)), fun _ => z⟩

def flushIf (b : BitVec 1) (z : Elt F .f32) (p : BitVec 32) (σ : St F) : St F := if b = 1#1 then flush z p σ else σ

/-- A row joins the running maximum. -/
def join (σ : St F) (r : Fin 64 → Elt F .f32) : St F := ⟨σ.T, fun c => FloatOps.maximumf (φ := .f32) (σ.A c) (r c)⟩

variable {d : Dev nD} {i : grid1.Coords}
  {ids : Memref sig .scVector .vmem S512 .i32} {rows : Memref sig .scVector .vmem S512x64 .f32}
  {tbl : Memref sig .scVector .vmem S336x64 .f32} {acc : Memref sig .scVector .vmem S8x64 .f32}
  {I : ℕ → Elt F .i32} {R : ℕ → Fin 64 → Elt F .f32}

/-! The rules on a state in its two parts, so that a state's text stays short. -/

section Parts

variable {T : ℕ → Fin 64 → Elt F .f32} {A : Fin 64 → Elt F .f32}

theorem loadT {off : Fin 2 → ℕ} {inb : ∀ a, off a + S1x16.size a ≤ S336x64.size a}
    {hl : tbl.view.LoadsAt (Rect.unit (s := S336x64) off S1x16.size inb).toLoadRect} :
    Does d i ids rows tbl acc I R ⟨T, A⟩ (Prog.lift (.load tbl (Rect.unit (s := S336x64) off S1x16.size inb).toLoadRect hl))
      (cut (T (off 0)) (off 1)) ⟨T, A⟩ := does_loadT

theorem loadA {off : Fin 2 → ℕ} {inb : ∀ a, off a + S1x16.size a ≤ S8x64.size a}
    {hl : acc.view.LoadsAt (Rect.unit (s := S8x64) off S1x16.size inb).toLoadRect} (h0 : off 0 = 0) :
    Does d i ids rows tbl acc I R ⟨T, A⟩ (Prog.lift (.load acc (Rect.unit (s := S8x64) off S1x16.size inb).toLoadRect hl))
      (cut A (off 1)) ⟨T, A⟩ := does_loadA h0

theorem storeA {off : Fin 2 → ℕ} {inb : ∀ a, off a + S1x16.size a ≤ S8x64.size a} {w : Vec F S1x16 .f32}
    {hx : (acc.access (Rect.unit (s := S8x64) off S1x16.size inb)).Stores Finset.univ}
    {hm : (Finset.univ : Finset (Rect.unit (s := S8x64) off S1x16.size inb).shape.Idx) = Finset.univ ∨ ∀ a, (Rect.unit (s := S8x64) off S1x16.size inb).stride a = 1}
    (h0 : off 0 = 0) :
    Does d i ids rows tbl acc I R ⟨T, A⟩ (Prog.lift (.store acc (Rect.unit (s := S8x64) off S1x16.size inb) w Finset.univ hx hm))
      ⟨⟩ ⟨T, put A (off 1) w⟩ := does_storeA h0

theorem storeT {off : Fin 2 → ℕ} {inb : ∀ a, off a + S1x16.size a ≤ S336x64.size a} {w : Vec F S1x16 .f32}
    {hx : (tbl.access (Rect.unit (s := S336x64) off S1x16.size inb)).Stores Finset.univ}
    {hm : (Finset.univ : Finset (Rect.unit (s := S336x64) off S1x16.size inb).shape.Idx) = Finset.univ ∨ ∀ a, (Rect.unit (s := S336x64) off S1x16.size inb).stride a = 1} :
    Does d i ids rows tbl acc I R ⟨T, A⟩ (Prog.lift (.store tbl (Rect.unit (s := S336x64) off S1x16.size inb) w Finset.univ hx hm))
      ⟨⟩ ⟨putT T (off 0) (off 1) w, A⟩ := does_storeT

end Parts

theorem does_dite {α : Type} {σ σ₁ σ₂ : St F} {b : BitVec 1} {a₁ a₂ : α}
    {p : b = 1#1 → Prog (TpuEff nD τ sig (Elt F) Λ₀ (.scVector (cV i) (sV i))) α}
    {q : ¬b = 1#1 → Prog (TpuEff nD τ sig (Elt F) Λ₀ (.scVector (cV i) (sV i))) α}
    (hp : ∀ h, Does d i ids rows tbl acc I R σ (p h) a₁ σ₁) (hq : ∀ h, Does d i ids rows tbl acc I R σ (q h) a₂ σ₂) :
    Does d i ids rows tbl acc I R σ (if h : b = 1#1 then p h else q h) (if b = 1#1 then a₁ else a₂) (if b = 1#1 then σ₁ else σ₂) := by
  by_cases h : b = 1#1
  · simp only [if_pos h, dif_pos h]; exact hp h
  · simp only [if_neg h, dif_neg h]; exact hq h

theorem does_to {α : Type} {σ σ₁ σ₂ σ' : St F} {b c : BitVec 1} {a₁ a₂ a : α}
    {p : b = 1#1 → Prog (TpuEff nD τ sig (Elt F) Λ₀ (.scVector (cV i) (sV i))) α}
    {q : ¬b = 1#1 → Prog (TpuEff nD τ sig (Elt F) Λ₀ (.scVector (cV i) (sV i))) α}
    (hb : b = c) (he : ((if c = 1#1 then a₁ else a₂), (if c = 1#1 then σ₁ else σ₂)) = (a, σ'))
    (hp : ∀ h, Does d i ids rows tbl acc I R σ (p h) a₁ σ₁) (hq : ∀ h, Does d i ids rows tbl acc I R σ (q h) a₂ σ₂) :
    Does d i ids rows tbl acc I R σ (if h : b = 1#1 then p h else q h) a σ' := by
  subst hb
  obtain ⟨rfl, rfl⟩ := Prod.mk.inj he
  exact does_dite hp hq

/-- Sixteen numbers joined with sixteen numbers, as the program computes it. -/
def vmax (x y : Vec F S1x16 .f32) : Vec F S1x16 .f32 :=
  shapeCast S1x16 (maximumf (F := F) (φ := .f32) (shapeCast S16 x shapeCasts_S1x16_S16) (shapeCast S16 y shapeCasts_S1x16_S16)) shapeCasts_S16_S1x16

theorem vmax_eq (x y : Vec F S1x16 .f32) : vmax x y = fun k => FloatOps.maximumf (φ := .f32) (x k) (y k) := by
  have e (u : Vec F S1x16 .f32) : shapeCast S1x16 (shapeCast S16 u shapeCasts_S1x16_S16) shapeCasts_S16_S1x16 = u := by
    exact shapeCast_shapeCast _ _ _
  funext k
  show FloatOps.maximumf (φ := .f32) (shapeCast S1x16 (shapeCast S16 x shapeCasts_S1x16_S16) shapeCasts_S16_S1x16 k)
    (shapeCast S1x16 (shapeCast S16 y shapeCasts_S1x16_S16) shapeCasts_S16_S1x16 k) = _
  rw [e, e]

theorem put_vmax (f g r : Fin 64 → Elt F .f32) (o : ℕ) (h : o + 16 ≤ 64) (hg : ∀ c, o ≤ c.val → g c = f c) :
    put g o (vmax (cut g o) (cut r o)) = fun c => if o ≤ c.val ∧ c.val < o + 16 then FloatOps.maximumf (φ := .f32) (f c) (r c) else g c := by
  funext c
  unfold put
  split
  · rename_i hc
    rw [vmax_eq]
    have e : (Fin.ofNat 64 (o + (lane (c.val - o) 1).val)) = c := by
      refine Fin.ext ?_
      show (o + (c.val - o) % 16) % 64 = c.val
      omega
    show FloatOps.maximumf (φ := .f32) (g _) (r _) = _
    rw [e, hg c hc.1]
  · rfl

/-- The four stores of a row are the row joined. -/
theorem put4_vmax (f r : Fin 64 → Elt F .f32) {g1 g2 g3 g4 : Fin 64 → Elt F .f32}
    (h1 : g1 = put f 0 (vmax (cut f 0) (cut r 0))) (h2 : g2 = put g1 16 (vmax (cut g1 16) (cut r 16)))
    (h3 : g3 = put g2 32 (vmax (cut g2 32) (cut r 32))) (h4 : g4 = put g3 48 (vmax (cut g3 48) (cut r 48))) :
    g4 = fun c => FloatOps.maximumf (φ := .f32) (f c) (r c) := by
  rw [put_vmax f f r 0 (by omega) (fun _ _ => rfl)] at h1
  rw [put_vmax f g1 r 16 (by omega) (fun c hc => by rw [h1]; dsimp only; rw [if_neg (by omega)])] at h2
  rw [put_vmax f g2 r 32 (by omega) (fun c hc => by rw [h2]; dsimp only; rw [if_neg (by omega), h1]; dsimp only; rw [if_neg (by omega)])] at h3
  rw [put_vmax f g3 r 48 (by omega) (fun c hc => by
    rw [h3]; dsimp only; rw [if_neg (by omega), h2]; dsimp only; rw [if_neg (by omega), h1]; dsimp only; rw [if_neg (by omega)])] at h4
  funext c
  have hc := c.isLt
  rw [h4]; dsimp only
  split
  · rfl
  rw [h3]; dsimp only
  split
  · rfl
  rw [h2]; dsimp only
  split
  · rfl
  rw [h1]; dsimp only
  rw [if_pos (by omega)]

/-- Sixteen values joined in pairs, pairs of pairs and so on. -/
def bal {α : Type} (op : α → α → α) (f : ℕ → α) : α :=
  op (op (op (op (f 0) (f 1)) (op (f 2) (f 3))) (op (op (f 4) (f 5)) (op (f 6) (f 7))))
    (op (op (op (f 8) (f 9)) (op (f 10) (f 11))) (op (op (f 12) (f 13)) (op (f 14) (f 15))))

/-- A slice of the running maximum joined with the same slice of sixteen rows. -/
def vfast (x : Vec F S1x16 .f32) (y : ℕ → Vec F S1x16 .f32) : Vec F S1x16 .f32 :=
  shapeCast S1x16 (maximumf (F := F) (φ := .f32) (shapeCast S16 x shapeCasts_S1x16_S16)
    (bal (maximumf (F := F) (φ := .f32)) fun j => shapeCast S16 (y j) shapeCasts_S1x16_S16)) shapeCasts_S16_S1x16

/-- Sixteen rows joined column by column. -/
def top (r : ℕ → Fin 64 → Elt F .f32) : Fin 64 → Elt F .f32 := fun c => bal (FloatOps.maximumf (φ := .f32)) fun j => r j c

theorem vfast_eq (x : Vec F S1x16 .f32) (r : ℕ → Fin 64 → Elt F .f32) (o : ℕ) :
    vfast x (fun j => cut (r j) o) = vmax x (cut (top r) o) := by
  have e (u : Vec F S1x16 .f32) : shapeCast S1x16 (shapeCast S16 u shapeCasts_S1x16_S16) shapeCasts_S16_S1x16 = u := by
    exact shapeCast_shapeCast _ _ _
  rw [vmax_eq]
  funext k
  show FloatOps.maximumf (φ := .f32) (shapeCast S1x16 (shapeCast S16 x shapeCasts_S1x16_S16) shapeCasts_S16_S1x16 k)
    (bal (FloatOps.maximumf (φ := .f32)) fun j => shapeCast S1x16 (shapeCast S16 (cut (r j) o) shapeCasts_S1x16_S16) shapeCasts_S16_S1x16 k) = _
  simp only [e]
  rfl

/-- The state after a uniform group. -/
def fast (r : ℕ → Fin 64 → Elt F .f32) (σ : St F) : St F := join σ (top r)

theorem fast_close (σ : St F) (r : ℕ → Fin 64 → Elt F .f32) {g1 g2 g3 g4 : Fin 64 → Elt F .f32}
    (h1 : g1 = put σ.A 0 (vfast (cut σ.A 0) fun j => cut (r j) 0)) (h2 : g2 = put g1 16 (vfast (cut g1 16) fun j => cut (r j) 16))
    (h3 : g3 = put g2 32 (vfast (cut g2 32) fun j => cut (r j) 32)) (h4 : g4 = put g3 48 (vfast (cut g3 48) fun j => cut (r j) 48)) :
    (⟨σ.T, g4⟩ : St F) = fast r σ := by
  rw [vfast_eq] at h1 h2 h3 h4
  exact St.ext rfl (put4_vmax σ.A (top r) h1 h2 h3 h4)

theorem putT_self {E : Type} (t : ℕ → Fin 64 → E) (p o : ℕ) (w : S1x16.Idx → E) : putT t p o w p = put (t p) o w := Function.update_self ..

theorem putT_upd {E : Type} (t : ℕ → Fin 64 → E) (p o : ℕ) (f : Fin 64 → E) (w : S1x16.Idx → E) :
    putT (Function.update t p f) p o w = Function.update t p (put f o w) := by
  unfold putT; rw [Function.update_self, Function.update_idem]

theorem put4_const {E : Type} (f : Fin 64 → E) (z : E) (w : S1x16.Idx → E) (hw : ∀ k, w k = z) :
    put (put (put (put f 0 w) 16 w) 32 w) 48 w = fun _ => z := by
  funext c
  have hc := c.isLt
  unfold put
  split
  · exact hw _
  split
  · exact hw _
  split
  · exact hw _
  rw [if_pos (by omega)]; exact hw _

/-- The table's row joined with the running maximum, slice by slice. -/
def tab4 (σ : St F) (p : ℕ) : ℕ → Fin 64 → Elt F .f32 :=
  let t1 := putT σ.T p 0 (vmax (cut (σ.T p) 0) (cut σ.A 0))
  let t2 := putT t1 p 16 (vmax (cut (t1 p) 16) (cut σ.A 16))
  let t3 := putT t2 p 32 (vmax (cut (t2 p) 32) (cut σ.A 32))
  putT t3 p 48 (vmax (cut (t3 p) 48) (cut σ.A 48))

theorem tab4_eq (σ : St F) (p : ℕ) :
    tab4 σ p = Function.update σ.T p (fun c => FloatOps.maximumf (φ := .f32) (σ.T p c) (σ.A c)) := by
  unfold tab4
  dsimp only
  conv_lhs => rw [show putT σ.T p 0 (vmax (cut (σ.T p) 0) (cut σ.A 0)) = Function.update σ.T p (put (σ.T p) 0 (vmax (cut (σ.T p) 0) (cut σ.A 0))) from rfl]
  simp only [putT_upd, Function.update_self]
  congr 1
  exact put4_vmax (σ.T p) σ.A rfl rfl rfl rfl

theorem flush_close (σ : St F) (p : BitVec 32) (z : Elt F .f32) :
    (⟨tab4 σ (rowOf p), put (put (put (put σ.A 0 (shapeCast S1x16 (fun _ => z) shapeCasts_S16_S1x16)) 16 (shapeCast S1x16 (fun _ => z) shapeCasts_S16_S1x16))
      32 (shapeCast S1x16 (fun _ => z) shapeCasts_S16_S1x16)) 48 (shapeCast S1x16 (fun _ => z) shapeCasts_S16_S1x16)⟩ : St F) = flush z p σ := by
  refine St.ext ?_ ?_
  · exact tab4_eq σ _
  · exact put4_const σ.A z _ fun _ => rfl

/-! A group of sixteen rows one by one: the words `w`, the rows `r`, the previous row `p` of the table. -/

section Rows

variable (i : grid1.Coords) (z : Elt F .f32) (w : ℕ → BitVec 32) (r : ℕ → Fin 64 → Elt F .f32) (p : BitVec 32) (σ : St F)

/-- The row of the table current before the row `n`. -/
def before : ℕ → BitVec 32
  | 0 => p
  | n + 1 => rel i (w n)

/-- The state after `n` rows. -/
def slow : ℕ → St F
  | 0 => σ
  | n + 1 => join (flushIf (differ (rel i (w n)) (before i w p n)) z (before i w p n) (slow n)) (r n)

/-- The state at the row `n` with its flush done. -/
def mid (n : ℕ) : St F := flushIf (differ (rel i (w n)) (before i w p n)) z (before i w p n) (slow i z w r p σ n)

theorem row_close (n : ℕ) {g1 g2 g3 g4 : Fin 64 → Elt F .f32}
    (h1 : g1 = put (mid i z w r p σ n).A 0 (vmax (cut (mid i z w r p σ n).A 0) (cut (r n) 0)))
    (h2 : g2 = put g1 16 (vmax (cut g1 16) (cut (r n) 16)))
    (h3 : g3 = put g2 32 (vmax (cut g2 32) (cut (r n) 32))) (h4 : g4 = put g3 48 (vmax (cut g3 48) (cut (r n) 48))) :
    (⟨(mid i z w r p σ n).T, g4⟩ : St F) = ⟨(slow i z w r p σ (n + 1)).T, (slow i z w r p σ (n + 1)).A⟩ :=
  St.ext rfl (put4_vmax _ _ h1 h2 h3 h4)

end Rows

theorem does_flush {α : Type} {σ₂ : St F} {w : ℕ → BitVec 32} {r : ℕ → Fin 64 → Elt F .f32} {p : BitVec 32} {σ : St F} {n : ℕ}
    {b : BitVec 1} {z : Elt F .f32} {a : α}
    {P : b = 1#1 → Prog (TpuEff nD τ sig (Elt F) Λ₀ (.scVector (cV i) (sV i))) α} {J : Prog (TpuEff nD τ sig (Elt F) Λ₀ (.scVector (cV i) (sV i))) α}
    (hb : b = differ (rel i (w n)) (before i w p n))
    (hp : ∀ h, Does d i ids rows tbl acc I R (flush z (before i w p n) (slow i z w r p σ n)) J a σ₂ →
      Does d i ids rows tbl acc I R ⟨(slow i z w r p σ n).T, (slow i z w r p σ n).A⟩ (P h) a σ₂)
    (hk : Does d i ids rows tbl acc I R ⟨(mid i z w r p σ n).T, (mid i z w r p σ n).A⟩ J a σ₂) :
    Does d i ids rows tbl acc I R ⟨(slow i z w r p σ n).T, (slow i z w r p σ n).A⟩ (if h : b = 1#1 then P h else J) a σ₂ := by
  replace hk : Does d i ids rows tbl acc I R (flushIf (differ (rel i (w n)) (before i w p n)) z (before i w p n) (slow i z w r p σ n)) J a σ₂ := hk
  rw [← hb] at hk
  unfold flushIf at hk
  by_cases h : b = 1#1
  · rw [if_pos h] at hk; rw [dif_pos h]; exact hp h hk
  · rw [if_neg h] at hk; rw [dif_neg h]; exact hk

theorem does_check {α : Type} {σ σ₀ σ₂ : St F} {P : Prop} {dP : Decidable P} {a : α}
    {k : PLift P → Prog (TpuEff nD τ sig (Elt F) Λ₀ (.scVector (cV i) (sV i))) α} (hσ : σ = σ₀) (hP : P)
    (hk : Does d i ids rows tbl acc I R σ₀ (k ⟨hP⟩) a σ₂) : Does d i ids rows tbl acc I R σ (Prog.lift (.assume P dP) >>= k) a σ₂ := by
  subst hσ
  exact does_bind (does_assume hP) hk

/-- The sixteen words and the sixteen rows of the group `t` of a chunk. -/
def words {E : Type} (t : Fin k1_t3_loop.trips) (I : ℕ → E) : ℕ → E := fun n => I (k1_off8 t 0 + n)
def lines {E : Type} (t : Fin k1_t3_loop.trips) (R : ℕ → E) : ℕ → E := fun n => R (rowIx t (BitVec.ofNat 32 n))

/-- The table's row after a group, and the state. -/
def groupRow (i : grid1.Coords) (w : ℕ → BitVec 32) (p : BitVec 32) : BitVec 32 :=
  if uniform (w 0) (w 15) (rel i (w 0)) p = 1#1 then p else before i w p 16

def groupSt (i : grid1.Coords) (z : Elt F .f32) (w : ℕ → BitVec 32) (r : ℕ → Fin 64 → Elt F .f32) (p : BitVec 32) (σ : St F) : St F :=
  if uniform (w 0) (w 15) (rel i (w 0)) p = 1#1 then fast r σ else slow i z w r p σ 16

theorem does_done {α : Type} {σ σ' : St F} {a a' : α} (ha : a = a') (hσ : σ = σ') :
    Does d i ids rows tbl acc I R σ (pure a) a' σ' := by subst ha hσ; exact does_ret _ _

theorem differ_iff (x p : BitVec 32) : differ x p = 1#1 ↔ x ≠ p := by
  by_cases h : x = p
  · subst h; simp [differ, Scalar.cmpi, Scalar.extui, IntOp.cmpi]
  · have e : (x != p) = true := by simp [h]
    simp [differ, Scalar.cmpi, Scalar.extui, IntOp.cmpi, h, e]

theorem small_iff (y : BitVec 32) : ((0#32).sle y = true ∧ y.slt 320#32 = true) ↔ y.toNat < 320 := by
  rw [BitVec.sle_iff_toInt_le, BitVec.slt_iff_toInt_lt]
  rw [show (0#32).toInt = 0 from rfl, show (320#32).toInt = 320 from rfl, BitVec.toInt_eq_toNat_cond]
  have := y.isLt
  split <;> omega

theorem both_iff (a b : Bool) : BitVec.ofBool a &&& BitVec.ofBool b = 1#1 ↔ a = true ∧ b = true := by cases a <;> cases b <;> decide

theorem rel_eq (i : grid1.Coords) (x : BitVec 32) : rel i x = if (x - base i).toNat < 320 then x - base i else 320#32 := by
  have h := small_iff (x - base i)
  rw [← both_iff] at h
  by_cases h3 : (x - base i).toNat < 320
  · rw [if_pos h3]; exact if_pos (h.mpr h3)
  · rw [if_neg h3]; exact if_neg (fun e => h3 (h.mp e))

theorem rowIx_eq (t : Fin k1_t3_loop.trips) (j : ℕ) (hj : j < 16) : rowIx t (BitVec.ofNat 32 j) = 16 * t.val + j := by
  have ht : t.val < 32 := t.isLt
  simp only [rowIx, Scalar.indexCast, Scalar.addi, Scalar.muli, Scf.iv]
  simp [IntOp.addi, IntOp.muli]
  omega

theorem off8_eq (t : Fin k1_t3_loop.trips) : k1_off8 t 0 = 16 * t.val := by
  have ht : t.val < 32 := t.isLt
  simp only [k1_off8, Scalar.indexCast, Scalar.addi, Scalar.muli, Scf.iv]
  simp [IntOp.addi, IntOp.muli]
  omega

theorem rel_lt (i : grid1.Coords) (x : BitVec 32) : (rel i x).toNat ≤ 320 := by
  rw [rel_eq]
  split
  · omega
  · simp

theorem row_inb (p : BitVec 32) (hp : p.toNat ≤ 320) (k : ℕ) (hk : k ≤ 48) :
    ∀ a, (![rowOf p, k] : Fin 2 → ℕ) a + S1x16.size a ≤ S336x64.size a := by
  intro a
  match a with
  | 0 => show p.toNat + 1 ≤ 336; omega
  | 1 => show k + 16 ≤ 64; omega

theorem before_lt (i : grid1.Coords) (w : ℕ → BitVec 32) (p : BitVec 32) (hp : p.toNat ≤ 320) (n : ℕ) : (before i w p n).toNat ≤ 320 := by
  cases n with
  | zero => exact hp
  | succ n => exact rel_lt i _

theorem chk4 (p : BitVec 32) (hp : p.toNat ≤ 320) (A B : Prop) :
    (∀ _ : A, ∀ _ : B, ∀ a, (![rowOf p, 0] : Fin 2 → ℕ) a + S1x16.size a ≤ S336x64.size a) ∧
    (∀ _ : A, ∀ _ : B, ∀ a, (![rowOf p, 16] : Fin 2 → ℕ) a + S1x16.size a ≤ S336x64.size a) ∧
    (∀ _ : A, ∀ _ : B, ∀ a, (![rowOf p, 32] : Fin 2 → ℕ) a + S1x16.size a ≤ S336x64.size a) ∧
    (∀ _ : A, ∀ _ : B, ∀ a, (![rowOf p, 48] : Fin 2 → ℕ) a + S1x16.size a ≤ S336x64.size a) :=
  ⟨fun _ _ => row_inb p hp 0 (by omega), fun _ _ => row_inb p hp 16 (by omega),
   fun _ _ => row_inb p hp 32 (by omega), fun _ _ => row_inb p hp 48 (by omega)⟩

end Cert.Proof.Pool

end
-- ==== Proof.Group.lean ====
module
public import proofs.«01_k».proof.Proof.Model
@[expose] public section
/-! Sixteen rows of a chunk: the program of one group, and what it does to the table and the running maximum. -/
noncomputable section
namespace Cert.Proof.Pool
open Cert.KernelIdeal Cert.KernelIdeal.Gen
open Idealize.ShloMosaic
open Idealize.SL Idealize.SL.RA Idealize.SL.BI Idealize.SL.Sem
variable {F : FTy → Type} [FloatOps F]

set_option maxRecDepth 65536 in
set_option maxHeartbeats 8000000 in
theorem does_group (d : Dev nD) (i : grid1.Coords) (arg2 : Memref sig .scVector .hbm S640000x64 .f32) (harg2 : arg2.IsWhole) (arg3 : Memref sig .scVector .hbm S640000 .i32) (harg3 : arg3.IsWhole) (arg4 : Memref sig .scVector .hbm S48 .i32) (harg4 : arg4.IsWhole) (arg5 : Memref sig .scVector .hbm S10240x64 .f32) (harg5 : arg5.IsWhole) (arg6 : Memref sig .scVector .vmem S48 .i32) (harg6 : arg6.IsWhole) (arg7 : Memref sig .scVector .vmem S512 .i32) (harg7 : arg7.IsWhole) (arg8 : Memref sig .scVector .vmem S512x64 .f32) (harg8 : arg8.IsWhole) (arg9 : Memref sig .scVector .vmem S336x64 .f32) (harg9 : arg9.IsWhole) (arg10 : Memref sig .scVector .vmem S8x64 .f32) (harg10 : arg10.IsWhole) (v99_r0 : DmaSems sig S_) (v105_r1 : DmaSems sig S_) (v105_r2 : DmaSems sig S_) (v105_r3 : DmaSems sig S_) (v105_r4 : DmaSems sig S_) (v99_r5 : DmaSems sig S_)  (v6 v8 : BitVec 32) (k1_hw1 : k1_chk1 v6 v8) (v9 v30 : BitVec 32) (z : Elt F .f32) (k1_t3 : Fin k1_t3_loop.trips) (arg14 : BitVec 32) (I : ℕ → Elt F .i32) (R : ℕ → Fin 64 → Elt F .f32) (σ : St F) (hp : arg14.toNat ≤ 320) :
  Does d i arg7 arg8 arg9 arg10 I R ⟨σ.T, σ.A⟩ (k1_t3_body i arg2 harg2 arg3 harg3 arg4 harg4 arg5 harg5 arg6 harg6 arg7 harg7 arg8 harg8 arg9 harg9 arg10 harg10 v99_r0 v105_r1 v105_r2 v105_r3 v105_r4 v99_r5 v6 v8 k1_hw1 v9 (base i) v30 (fun _ => z) k1_t3 arg14) (groupRow i (words k1_t3 I) arg14) (groupSt i z (words k1_t3 I) (lines k1_t3 R) arg14 σ) := by
  unfold k1_t3_body
  with_reducible refine does_bind does_loadI ?_
  dsimp (config := {proj := false}) only
  refine does_to (F := F) (a₁ := arg14) (σ₁ := fast (lines k1_t3 R) σ)
    (a₂ := before i (words k1_t3 I) arg14 16) (σ₂ := ⟨(slow i z (words k1_t3 I) (lines k1_t3 R) arg14 σ 16).T, (slow i z (words k1_t3 I) (lines k1_t3 R) arg14 σ 16).A⟩)
    ?_ rfl (fun h1 => ?_) (fun h1 => ?_)
  · rfl
  · repeat (first
    | with_reducible refine does_bind does_loadR ?_
    | (with_reducible refine does_bind (loadA ?_) ?_); · rfl
    | (with_reducible refine does_bind (storeA ?_) ?_); · rfl
    | with_reducible exact does_ret (F := F) _ _
    | (with_reducible refine does_done (F := F) ?_ ?_); · rfl
      · exact fast_close (F := F) _ _ rfl rfl rfl rfl
    | (with_reducible refine does_bind (F := F) (a := ?_) (σ₁ := ?_) ?_ ?_; rotate_left 2)
    | (rw [k1_part1_eq_skeleton]; unfold k1_part1_skel)
    | (rw [k1_part2_eq_skeleton]; unfold k1_part2_skel)
    | (rw [k1_part3_eq_skeleton]; unfold k1_part3_skel)
    | (rw [k1_part4_eq_skeleton]; unfold k1_part4_skel)
    | (rw [k1_part5_eq_skeleton]; unfold k1_part5_skel)
    | (rw [k1_part6_eq_skeleton]; unfold k1_part6_skel)
    | (rw [k1_part7_eq_skeleton]; unfold k1_part7_skel)
    | (rw [k1_part8_eq_skeleton]; unfold k1_part8_skel))
  · with_reducible refine does_cast (F := F) (σ₀ := ⟨(slow i z (words k1_t3 I) (lines k1_t3 R) arg14 σ 0).T, (slow i z (words k1_t3 I) (lines k1_t3 R) arg14 σ 0).A⟩) rfl ?_
    repeat (first
    | with_reducible refine does_bind does_loadR ?_
    | with_reducible refine does_bind loadT ?_
    | with_reducible refine does_bind storeT ?_
    | (with_reducible refine does_cast (F := F) ?_ hJ); · exact flush_close (F := F) _ _ _
    | (with_reducible refine does_bind (loadA ?_) ?_); · rfl
    | (with_reducible refine does_bind (storeA ?_) ?_); · rfl
    | with_reducible exact does_ret (F := F) _ _
    | (with_reducible refine does_done (F := F) ?_ ?_); · rfl
      · exact row_close (F := F) _ _ _ _ _ _ _ rfl rfl rfl rfl
    | (with_reducible refine does_check (F := F) (σ₀ := ⟨?_, ?_⟩) ?_ ?_ ?_; rotate_left 2); · first | exact row_close (F := F) _ _ _ _ _ _ _ rfl rfl rfl rfl | rfl
      · first | exact chk4 _ hp _ _ | exact chk4 _ (rel_lt _ _) _ _
    | (with_reducible refine does_flush (F := F) (z := z) ?_ (fun h hJ => ?_) ?_); · rfl
      rotate_left 1
    | (with_reducible refine does_bind (F := F) (a := ?_) (σ₁ := ?_) ?_ ?_; rotate_left 2)
    | (rw [k1_part25_eq_skeleton]; unfold k1_part25_skel)
    | (rw [k1_part26_eq_skeleton]; unfold k1_part26_skel)
    | (rw [k1_part27_eq_skeleton]; unfold k1_part27_skel)
    | (rw [k1_part28_eq_skeleton]; unfold k1_part28_skel)
    | (rw [k1_part29_eq_skeleton]; unfold k1_part29_skel)
    | (rw [k1_part30_eq_skeleton]; unfold k1_part30_skel)
    | (rw [k1_part31_eq_skeleton]; unfold k1_part31_skel)
    | (rw [k1_part32_eq_skeleton]; unfold k1_part32_skel)
    | (rw [k1_part33_eq_skeleton]; unfold k1_part33_skel)
    | (rw [k1_part34_eq_skeleton]; unfold k1_part34_skel)
    | (rw [k1_part35_eq_skeleton]; unfold k1_part35_skel)
    | (rw [k1_part36_eq_skeleton]; unfold k1_part36_skel)
    | (rw [k1_part37_eq_skeleton]; unfold k1_part37_skel)
    | (rw [k1_part38_eq_skeleton]; unfold k1_part38_skel)
    | (rw [k1_part39_eq_skeleton]; unfold k1_part39_skel)
    | (rw [k1_part40_eq_skeleton]; unfold k1_part40_skel)
    | (rw [k1_part41_eq_skeleton]; unfold k1_part41_skel)
    | (rw [k1_part42_eq_skeleton]; unfold k1_part42_skel)
    | (rw [k1_part43_eq_skeleton]; unfold k1_part43_skel)
    | (rw [k1_part44_eq_skeleton]; unfold k1_part44_skel)
    | (rw [k1_part45_eq_skeleton]; unfold k1_part45_skel)
    | (rw [k1_part46_eq_skeleton]; unfold k1_part46_skel)
    | (rw [k1_part47_eq_skeleton]; unfold k1_part47_skel)
    | (rw [k1_part48_eq_skeleton]; unfold k1_part48_skel)
    | (rw [k1_part9_eq_skeleton]; unfold k1_part9_skel)
    | (rw [k1_part10_eq_skeleton]; unfold k1_part10_skel)
    | (rw [k1_part11_eq_skeleton]; unfold k1_part11_skel)
    | (rw [k1_part12_eq_skeleton]; unfold k1_part12_skel)
    | (rw [k1_part13_eq_skeleton]; unfold k1_part13_skel)
    | (rw [k1_part14_eq_skeleton]; unfold k1_part14_skel)
    | (rw [k1_part15_eq_skeleton]; unfold k1_part15_skel)
    | (rw [k1_part16_eq_skeleton]; unfold k1_part16_skel)
    | (rw [k1_part17_eq_skeleton]; unfold k1_part17_skel)
    | (rw [k1_part18_eq_skeleton]; unfold k1_part18_skel)
    | (rw [k1_part19_eq_skeleton]; unfold k1_part19_skel)
    | (rw [k1_part20_eq_skeleton]; unfold k1_part20_skel)
    | (rw [k1_part21_eq_skeleton]; unfold k1_part21_skel)
    | (rw [k1_part22_eq_skeleton]; unfold k1_part22_skel)
    | (rw [k1_part23_eq_skeleton]; unfold k1_part23_skel)
    | (rw [k1_part24_eq_skeleton]; unfold k1_part24_skel))

end Cert.Proof.Pool
-- ==== Proof.Numbers.lean ====
module
public import proofs.«01_k».proof.Proof.Model
@[expose] public section
/-! The words a tile computes from the two bounds of its run of ids: the number of chunks and each chunk's first row. -/
noncomputable section
namespace Cert.Proof.Pool
open Cert.KernelIdeal Cert.KernelIdeal.Gen
open Idealize.ShloMosaic

/-- The first row of a tile's run, rounded down to a multiple of sixteen. -/
def first (a : ℕ) : ℕ := a / 16 * 16
/-- The number of chunks of 512 rows. -/
def nChunks (a b : ℕ) : ℕ := (b - first a + 511) / 512
/-- The first row of the chunk `k`. -/
def chunkAt (a k : ℕ) : ℕ := min (first a + 512 * k) 639488

theorem and16 (x : BitVec 32) : (x &&& 4294967280#32).toNat = first x.toNat := by
  have e : x &&& 4294967280#32 = (x >>> 4) <<< 4 := by
    ext i hi
    have h (j : ℕ) (hj : j < 32) : (4294967280#32).getLsbD j = decide (4 ≤ j) := by
      revert hj; revert j; decide
    simp only [BitVec.getElem_and, BitVec.getElem_shiftLeft, BitVec.getElem_ushiftRight]
    rw [← BitVec.getLsbD_eq_getElem (x := 4294967280#32) hi, h i hi]
    by_cases h4 : i < 4
    · simp [h4]
    · have e4 : 4 + (i - 4) = i := by omega
      simp [h4, show 4 ≤ i by omega, BitVec.getLsbD_eq_getElem hi, e4]
  rw [e, BitVec.toNat_shiftLeft, BitVec.toNat_ushiftRight, Nat.shiftRight_eq_div_pow, Nat.shiftLeft_eq]
  have := x.isLt
  unfold first
  omega

theorem divs (x : BitVec 32) (h : x.toNat < 2 ^ 31) (n : ℕ) (h0 : 0 < n) (hn : n < 2 ^ 31) :
    (Scalar.divsi x (BitVec.ofNat 32 n)).toNat = x.toNat / n := by
  have hm : x.msb = false := by rw [BitVec.msb_eq_false_iff_two_mul_lt]; omega
  have en : (BitVec.ofNat 32 n).toNat = n := by rw [BitVec.toNat_ofNat]; exact Nat.mod_eq_of_lt (by omega)
  have hm' : (BitVec.ofNat 32 n).msb = false := by rw [BitVec.msb_eq_false_iff_two_mul_lt, en]; omega
  have hc : ¬ IntOp.SDivCorner x (BitVec.ofNat 32 n) := by
    rintro (h | ⟨-, h⟩)
    · have := congrArg BitVec.toNat h; rw [en] at this; simp at this; omega
    · rw [h] at hm'; revert hm'; decide
  unfold Scalar.divsi IntOp.divsi
  rw [if_neg hc, BitVec.sdiv_eq, hm, hm']
  simp only [BitVec.toNat_udiv, BitVec.udiv_eq, en]

theorem slt_nat (x y : BitVec 32) (hx : x.toNat < 2 ^ 31) (hy : y.toNat < 2 ^ 31) : x.slt y = decide (x.toNat < y.toNat) := by
  rw [BitVec.slt_eq_decide, BitVec.toInt_eq_toNat_cond, BitVec.toInt_eq_toNat_cond, if_pos (by omega), if_pos (by omega)]
  simp

theorem loop_ub (y : BitVec 32) (h0 : 0 < y.toNat) (h : y.toNat < 2 ^ 31) :
    Scalar.select (Scalar.andi (Scalar.cmpi .ne (Scalar.subi (Scalar.extui (Scalar.cmpi .sgt y 0#32) : BitVec 32) (Scalar.extui (Scalar.cmpi .slt y 0#32)))
        (Scalar.subi (Scalar.extui (Scalar.cmpi .sgt 512#32 0#32)) (Scalar.extui (Scalar.cmpi .slt 512#32 0#32))))
        (Scalar.cmpi .ne (Scalar.remsi y 512#32) 0#32)) (Scalar.subi (Scalar.divsi y 512#32) 1#32) (Scalar.divsi y 512#32) = BitVec.ofNat 32 (y.toNat / 512) := by
  have e1 : Scalar.cmpi .sgt y 0#32 = 1#1 := by
    show BitVec.ofBool ((0#32).slt y) = _
    rw [slt_nat _ _ (by simp) h]; exact congrArg BitVec.ofBool (decide_eq_true h0)
  have e2 : Scalar.cmpi .slt y 0#32 = 0#1 := by
    show BitVec.ofBool (y.slt 0#32) = _
    rw [slt_nat _ _ h (by simp)]; simp
  rw [e1, e2]
  have e3 : Scalar.cmpi .ne (Scalar.subi (Scalar.extui 1#1 : BitVec 32) (Scalar.extui 0#1))
        (Scalar.subi (Scalar.extui (Scalar.cmpi .sgt 512#32 0#32)) (Scalar.extui (Scalar.cmpi .slt 512#32 0#32))) = 0#1 := by decide
  rw [e3]
  have e4 (c : BitVec 1) : Scalar.andi 0#1 c = 0#1 := by show 0#1 &&& c = _; simp
  rw [e4]
  show Scalar.divsi y 512#32 = _
  refine BitVec.eq_of_toNat_eq ?_
  rw [divs y h 512 (by omega) (by omega), BitVec.toNat_ofNat, Nat.mod_eq_of_lt (by omega)]

section Run

variable {v6 v8 : BitVec 32} (hab : v6.toNat ≤ v8.toNat) (hb : v8.toNat ≤ 640000)
include hab hb

theorem span : (Scalar.addi (Scalar.subi v8 (Scalar.andi v6 4294967280#32)) 511#32).toNat = v8.toNat - first v6.toNat + 511 := by
  have h := and16 v6
  have hf : first v6.toNat ≤ v6.toNat := by unfold first; omega
  show (v8 - (v6 &&& 4294967280#32) + 511#32).toNat = _
  rw [BitVec.toNat_add, BitVec.toNat_sub, h]
  simp only [BitVec.toNat_ofNat]
  omega

theorem t2_ub : (k1_t2_loop v6 v8).ub = BitVec.ofNat 32 (nChunks v6.toNat v8.toNat) := by
  have h := span hab hb
  have e := loop_ub _ (by rw [h]; omega) (by rw [h]; omega)
  rw [h] at e
  have hn : (v8.toNat - first v6.toNat + 511) / 512 < 2 ^ 31 := by omega
  show Scalar.addi 0#32 (Scalar.muli (Scalar.divsi (Scalar.subi _ 0#32) 1#32) 1#32) = _
  refine (congrArg (fun u => Scalar.addi 0#32 (Scalar.muli (Scalar.divsi (Scalar.subi u 0#32) 1#32) 1#32)) e).trans ?_
  refine BitVec.eq_of_toNat_eq ?_
  show (0#32 + Scalar.divsi (BitVec.ofNat 32 _ - 0#32) (BitVec.ofNat 32 1) * 1#32).toNat = _
  rw [BitVec.zero_add, BitVec.mul_one, BitVec.sub_zero, divs _ (by rw [BitVec.toNat_ofNat]; omega) 1 (by omega) (by omega), Nat.div_one]
  rfl

theorem t2_trips : (k1_t2_loop v6 v8).trips = nChunks v6.toNat v8.toNat := by
  have e := t2_ub hab hb
  have hn : nChunks v6.toNat v8.toNat ≤ 1251 := by unfold nChunks; omega
  show (((k1_t2_loop v6 v8).ub.toInt - (0#32).toInt + (1#32).toInt - 1) / (1#32).toInt).toNat = _
  rw [e, show (0#32).toInt = 0 from rfl, show (1#32).toInt = 1 from rfl, BitVec.toInt_eq_toNat_cond, BitVec.toNat_ofNat, Nat.mod_eq_of_lt (by omega),
    if_pos (by omega)]
  omega

theorem t2_fine : (k1_t2_loop v6 v8).OK := by
  have e := t2_trips hab hb
  have hn : nChunks v6.toNat v8.toNat ≤ 1251 := by unfold nChunks; omega
  refine ⟨by show (0 : ℤ) < (1#32).toInt; decide, ?_⟩
  show (0#32).toInt + ((k1_t2_loop v6 v8).trips : ℤ) * (1#32).toInt < 2 ^ 31
  rw [e, show (0#32).toInt = 0 from rfl, show (1#32).toInt = 1 from rfl]
  omega

theorem mult_eq (k : ℕ) (hk : k < nChunks v6.toNat v8.toNat) :
    (Scalar.minsi (Scalar.addi (Scalar.andi v6 4294967280#32) (Scalar.muli (Scf.iv 0#32 1#32 k) 512#32)) 639488#32).toNat = chunkAt v6.toNat k := by
  have h := and16 v6
  have hf : first v6.toNat ≤ v6.toNat := by unfold first; omega
  have hn : nChunks v6.toNat v8.toNat ≤ 1251 := by unfold nChunks; omega
  have e : (Scalar.addi (Scalar.andi v6 4294967280#32) (Scalar.muli (Scf.iv 0#32 1#32 k) 512#32)).toNat = first v6.toNat + 512 * k := by
    show ((v6 &&& 4294967280#32) + (0#32 + BitVec.ofNat 32 k * 1#32) * 512#32).toNat = _
    rw [BitVec.zero_add, BitVec.mul_one, BitVec.toNat_add, BitVec.toNat_mul, h]
    simp only [BitVec.toNat_ofNat]
    omega
  show (if BitVec.slt _ 639488#32 then _ else _ : BitVec 32).toNat = _
  rw [slt_nat _ _ (by rw [e]; omega) (by simp), e]
  unfold chunkAt
  simp only [BitVec.toNat_ofNat]
  by_cases hc : first v6.toNat + 512 * k < 639488
  · rw [if_pos (by simpa using hc), e]; omega
  · rw [if_neg (by simpa using hc)]; show (639488#32).toNat = _; simp; omega

theorem mult1 (k : Fin (k1_t2_loop v6 v8).trips) : (k1_mult1 v6 v8 k).toNat = chunkAt v6.toNat k.val :=
  mult_eq hab hb k.val (lt_of_lt_of_eq k.isLt (t2_trips hab hb))

theorem t4_trips : (k1_t4_loop v6 v8).trips = 0 := by
  have h := span hab hb
  have e := loop_ub _ (by rw [h]; omega) (by rw [h]; omega)
  rw [h] at e
  have e2 := t2_ub hab hb
  have e3 : (k1_t4_loop v6 v8).ub = BitVec.ofNat 32 (nChunks v6.toNat v8.toNat) := by
    show Scalar.addi 0#32 (Scalar.subi _ 0#32) = _
    refine (congrArg (fun u => Scalar.addi 0#32 (Scalar.subi u 0#32)) e).trans ?_
    show 0#32 + (_ - 0#32) = _
    rw [BitVec.zero_add, BitVec.sub_zero]
    rfl
  show (((k1_t4_loop v6 v8).ub.toInt - (k1_t2_loop v6 v8).ub.toInt + (1#32).toInt - 1) / (1#32).toInt).toNat = 0
  rw [e2, e3, show (1#32).toInt = 1 from rfl]
  omega

theorem t4_fine : (k1_t4_loop v6 v8).OK := by
  have e2 := t2_ub hab hb
  have hn : nChunks v6.toNat v8.toNat ≤ 1251 := by unfold nChunks; omega
  refine ⟨by show (0 : ℤ) < (1#32).toInt; decide, ?_⟩
  show (k1_t2_loop v6 v8).ub.toInt + ((k1_t4_loop v6 v8).trips : ℤ) * (1#32).toInt < 2 ^ 31
  rw [t4_trips hab hb, e2, BitVec.toInt_eq_toNat_cond, BitVec.toNat_ofNat, Nat.mod_eq_of_lt (by omega), if_pos (by omega)]
  omega

theorem chunk_dvd (a k : ℕ) : 16 ∣ chunkAt a k := by
  unfold chunkAt first
  rcases Nat.le_total (a / 16 * 16 + 512 * k) 639488 with h | h
  · rw [Nat.min_eq_left h]; omega
  · rw [Nat.min_eq_right h]; omega

/-- The program's check of a tile's two bounds. -/
theorem check_bounds : k1_chk1 v6 v8 := by
  have hz (k : Fin (k1_t4_loop v6 v8).trips) : False := absurd (lt_of_lt_of_eq k.isLt (t4_trips hab hb)) (by omega)
  refine ⟨t2_fine hab hb, fun k => ?_, fun k a => ?_, fun k a => ?_, t4_fine hab hb, fun k => (hz k).elim, fun k => (hz k).elim, fun k => (hz k).elim⟩
  · rw [mult1 hab hb]; exact chunk_dvd hab hb _ _
  · match a with
    | 0 =>
      show (k1_mult1 v6 v8 k).toNat + 512 ≤ 640000
      rw [mult1 hab hb]; unfold chunkAt; omega
  · match a with
    | 0 =>
      show (k1_mult1 v6 v8 k).toNat + 512 ≤ 640000
      rw [mult1 hab hb]; unfold chunkAt; omega
    | 1 => show 0 + 64 ≤ 64; omega

end Run

end Cert.Proof.Pool
-- ==== Proof.Loops.lean ====
module
public import proofs.«01_k».proof.Proof.Group
public import proofs.«01_k».proof.Proof.Numbers
@[expose] public section
/-! The loops of a tile over its groups of rows, and over the table's rows when it is cleared; the last flush. -/
noncomputable section
namespace Cert.Proof.Pool
open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
variable {F : FTy → Type} [FloatOps F]

local notation "𝕄" => MT nD τ sig (HIx 1) (Elt F) ℕ UU ℕ

variable {d : Dev nD} {i : grid1.Coords}
  {ids : Memref sig .scVector .vmem S512 .i32} {rows : Memref sig .scVector .vmem S512x64 .f32}
  {tbl : Memref sig .scVector .vmem S336x64 .f32} {acc : Memref sig .scVector .vmem S8x64 .f32}
  {I : ℕ → Elt F .i32} {R : ℕ → Fin 64 → Elt F .f32}

/-- A counted loop whose trips take the states `g` one after the other. -/
theorem does_for {α : Type} {σ : St F} {l : Scf.Loop 32} {ok : l.OK} {init : α}
    {body : Fin l.trips → α → Prog (TpuEff nD τ sig (Elt F) Λ₀ (.scVector (cV i) (sV i))) α} (g : ℕ → α × St F) (h0 : g 0 = (init, σ))
    (hb : ∀ k : Fin l.trips, Does d i ids rows tbl acc I R (g k.val).2 (body k (g k.val).1) (g (k.val + 1)).1 (g (k.val + 1)).2) :
    Does d i ids rows tbl acc I R σ (Scf.Loop.for l ok init body) (g l.trips).1 (g l.trips).2 := by
  constructor
  iintro H
  iapply (Scf.wp_for frame (wpE (defs₀ (F := F)) 𝒱₀ (thr d i) none) Set.univ l.lb l.ub l.st ok init body
    (fun k a => iprop(⌜a = (g k).1⌝ ∗ Holds d i ids rows tbl acc I R (g k).2)) (fun k a => ?_))
  · iintro ⟨%h, H⟩
    subst h
    iapply ((hb k).run); iexact H
  · rw [h0]
    isplitl [H]
    · isplitr
      · ipureintro; rfl
      · iexact H
    · iintro %a H; iexact H

/-- The program part runs, and the rest from what it leaves, with `Z` carried along. -/
theorem Does.andThen {α β : Type} {σ σ' : St F} {p : Prog (TpuEff nD τ sig (Elt F) Λ₀ (.scVector (cV i) (sV i))) α} {a : α}
    {k : α → Prog (TpuEff nD τ sig (Elt F) Λ₀ (.scVector (cV i) (sV i))) β} {Q : β → sProp 𝕄} {Z : sProp 𝕄}
    (h : Does d i ids rows tbl acc I R σ p a σ')
    (hk : iprop(Holds d i ids rows tbl acc I R σ' ∗ Z) ⊢ wp frame (wpE (defs₀ (F := F)) 𝒱₀ (thr d i) none) Set.univ (k a) Q) :
    iprop(Holds d i ids rows tbl acc I R σ ∗ Z) ⊢ wp frame (wpE (defs₀ (F := F)) 𝒱₀ (thr d i) none) Set.univ (p >>= k) Q := by
  rw [Sem.wp_bind]
  refine (BI.sep_mono h.run (BI.Entails.refl _)).trans ((wp_frame_r _ _ _).trans (wp_mono _ _ _ fun r => ?_))
  iintro ⟨⟨%e, H⟩, HZ⟩
  subst e
  iapply hk
  isplitl [H]
  · iexact H
  · iexact HZ

theorem Does.step {α : Type} {σ σ' : St F} {p : Prog (TpuEff nD τ sig (Elt F) Λ₀ (.scVector (cV i) (sV i))) α} {a : α} {Q : α → sProp 𝕄}
    (h : Does d i ids rows tbl acc I R σ p a σ') :
    Holds d i ids rows tbl acc I R σ ⊢ iprop((Holds d i ids rows tbl acc I R σ' -∗ Q a) -∗ wp frame (wpE (defs₀ (F := F)) 𝒱₀ (thr d i) none) Set.univ p Q) := by
  iintro H Hk
  iapply (wp_wand_r frame (wpE (defs₀ (F := F)) 𝒱₀ (thr d i) none) Set.univ (Q := fun r => iprop(⌜r = a⌝ ∗ Holds d i ids rows tbl acc I R σ')))
  isplitl [H]
  · iapply h.run; iexact H
  · iintro %r ⟨%e, H⟩
    subst e
    iapply Hk; iexact H

/-! ## The groups of a chunk -/

/-- The table's row and the state after `n` groups of a chunk. -/
def grp (i : grid1.Coords) (z : Elt F .f32) (I : ℕ → BitVec 32) (R : ℕ → Fin 64 → Elt F .f32) (p : BitVec 32) (σ : St F) : ℕ → BitVec 32 × St F
  | 0 => (p, σ)
  | n + 1 => (groupRow i (fun j => I (16 * n + j)) (grp i z I R p σ n).1,
      groupSt i z (fun j => I (16 * n + j)) (fun j => R (16 * n + j)) (grp i z I R p σ n).1 (grp i z I R p σ n).2)

theorem groupRow_le (i : grid1.Coords) (w : ℕ → BitVec 32) (p : BitVec 32) (hp : p.toNat ≤ 320) : (groupRow i w p).toNat ≤ 320 := by
  unfold groupRow
  split
  · exact hp
  · exact before_lt i w p hp 16

theorem grp_le (i : grid1.Coords) (z : Elt F .f32) (I : ℕ → BitVec 32) (R : ℕ → Fin 64 → Elt F .f32) (p : BitVec 32) (σ : St F) (hp : p.toNat ≤ 320) :
    ∀ n, (grp i z I R p σ n).1.toNat ≤ 320 := by
  intro n
  induction n with
  | zero => exact hp
  | succ n ih => exact groupRow_le i (fun j => I (16 * n + j)) (grp i z I R p σ n).1 ih

theorem words_eq {E : Type} (t : Fin k1_t3_loop.trips) (I : ℕ → E) : words t I = fun j => I (16 * t.val + j) := by
  funext n; unfold words; rw [off8_eq]

theorem slow_congr (i : grid1.Coords) (z : Elt F .f32) (w : ℕ → BitVec 32) {r r' : ℕ → Fin 64 → Elt F .f32} (p : BitVec 32) (σ : St F) :
    ∀ n, (∀ j < n, r j = r' j) → slow i z w r p σ n = slow i z w r' p σ n
  | 0, _ => rfl
  | n + 1, h => by
    unfold slow
    rw [slow_congr i z w p σ n fun j hj => h j (by omega), h n (by omega)]

theorem bal_congr {α : Type} (op : α → α → α) {f g : ℕ → α} (h : ∀ j < 16, f j = g j) : bal op f = bal op g := by
  unfold bal
  rw [h 0, h 1, h 2, h 3, h 4, h 5, h 6, h 7, h 8, h 9, h 10, h 11, h 12, h 13, h 14, h 15] <;> omega

theorem groupSt_congr (i : grid1.Coords) (z : Elt F .f32) (w : ℕ → BitVec 32) {r r' : ℕ → Fin 64 → Elt F .f32} (p : BitVec 32) (σ : St F)
    (h : ∀ j < 16, r j = r' j) : groupSt i z w r p σ = groupSt i z w r' p σ := by
  unfold groupSt
  rw [slow_congr i z w p σ 16 h]
  congr 1
  unfold fast
  congr 1
  funext c
  exact bal_congr _ fun j hj => by rw [h j hj]

theorem does_chunk (d : Dev nD) (i : grid1.Coords) (arg2 : Memref sig .scVector .hbm S640000x64 .f32) (harg2 : arg2.IsWhole) (arg3 : Memref sig .scVector .hbm S640000 .i32) (harg3 : arg3.IsWhole) (arg4 : Memref sig .scVector .hbm S48 .i32) (harg4 : arg4.IsWhole) (arg5 : Memref sig .scVector .hbm S10240x64 .f32) (harg5 : arg5.IsWhole) (arg6 : Memref sig .scVector .vmem S48 .i32) (harg6 : arg6.IsWhole) (arg7 : Memref sig .scVector .vmem S512 .i32) (harg7 : arg7.IsWhole) (arg8 : Memref sig .scVector .vmem S512x64 .f32) (harg8 : arg8.IsWhole) (arg9 : Memref sig .scVector .vmem S336x64 .f32) (harg9 : arg9.IsWhole) (arg10 : Memref sig .scVector .vmem S8x64 .f32) (harg10 : arg10.IsWhole) (v99_r0 : DmaSems sig S_) (v105_r1 : DmaSems sig S_) (v105_r2 : DmaSems sig S_) (v105_r3 : DmaSems sig S_) (v105_r4 : DmaSems sig S_) (v99_r5 : DmaSems sig S_)
    (v6 v8 : BitVec 32) (k1_hw1 : k1_chk1 v6 v8) (v9 v30 : BitVec 32) (z : Elt F .f32) (p : BitVec 32) (σ : St F)
    (I : ℕ → Elt F .i32) (R : ℕ → Fin 64 → Elt F .f32) (hp : p.toNat ≤ 320) :
    Does d i arg7 arg8 arg9 arg10 I R σ
      (Scf.Loop.for k1_t3_loop k1_t3_ok p (k1_t3_body i arg2 harg2 arg3 harg3 arg4 harg4 arg5 harg5 arg6 harg6 arg7 harg7 arg8 harg8 arg9 harg9 arg10 harg10 v99_r0 v105_r1 v105_r2 v105_r3 v105_r4 v99_r5 v6 v8 k1_hw1 v9 (base i) v30 (fun _ => z)))
      (grp i z I R p σ 32).1 (grp i z I R p σ 32).2 := by
  refine does_for (l := k1_t3_loop) (grp i z I R p σ) rfl fun k => ?_
  have h := does_group d i arg2 harg2 arg3 harg3 arg4 harg4 arg5 harg5 arg6 harg6 arg7 harg7 arg8 harg8 arg9 harg9 arg10 harg10 v99_r0 v105_r1 v105_r2 v105_r3 v105_r4 v99_r5 v6 v8 k1_hw1 v9 v30 z k (grp i z I R p σ k.val).1 I R (grp i z I R p σ k.val).2 (grp_le i z I R p σ hp k.val)
  rw [words_eq, groupSt_congr (r := lines k R) (r' := fun j => R (16 * k.val + j)) _ _ _ _ _ fun j hj => congrArg R (rowIx_eq k j hj)] at h
  exact h

/-! ## The table cleared -/

theorem off2_eq (t : Fin k1_t1_loop.trips) : rowOf (Scf.iv 0#32 1#32 t) = t.val := by
  have ht : t.val < 336 := t.isLt
  simp only [rowOf, Scalar.indexCast, Scf.iv]
  simp
  omega

/-- The first `n` rows of a table set to `z`. -/
def clear (z : Elt F .f32) (T : ℕ → Fin 64 → Elt F .f32) (n : ℕ) : ℕ → Fin 64 → Elt F .f32 := fun r => if r < n then fun _ => z else T r

theorem clear_succ (z : Elt F .f32) (T : ℕ → Fin 64 → Elt F .f32) (n : ℕ) (w : S1x16.Idx → Elt F .f32) (hw : ∀ k, w k = z) :
    putT (putT (putT (putT (clear z T n) n 0 w) n 16 w) n 32 w) n 48 w = clear z T (n + 1) := by
  have e : putT (clear z T n) n 0 w = Function.update (clear z T n) n (put (clear z T n n) 0 w) := rfl
  rw [e, putT_upd, putT_upd, putT_upd, put4_const _ z w hw]
  funext r
  unfold clear Function.update
  by_cases h : r = n
  · subst h; simp
  · by_cases h2 : r < n
    · simp [h, h2, show r < n + 1 by omega]
    · simp [h, h2, show ¬ r < n + 1 by omega]

theorem does_clear (d : Dev nD) (i : grid1.Coords) (arg2 : Memref sig .scVector .hbm S640000x64 .f32) (harg2 : arg2.IsWhole) (arg3 : Memref sig .scVector .hbm S640000 .i32) (harg3 : arg3.IsWhole) (arg4 : Memref sig .scVector .hbm S48 .i32) (harg4 : arg4.IsWhole) (arg5 : Memref sig .scVector .hbm S10240x64 .f32) (harg5 : arg5.IsWhole) (arg6 : Memref sig .scVector .vmem S48 .i32) (harg6 : arg6.IsWhole) (arg7 : Memref sig .scVector .vmem S512 .i32) (harg7 : arg7.IsWhole) (arg8 : Memref sig .scVector .vmem S512x64 .f32) (harg8 : arg8.IsWhole) (arg9 : Memref sig .scVector .vmem S336x64 .f32) (harg9 : arg9.IsWhole) (arg10 : Memref sig .scVector .vmem S8x64 .f32) (harg10 : arg10.IsWhole) (v99_r0 : DmaSems sig S_) (v105_r1 : DmaSems sig S_) (v105_r2 : DmaSems sig S_) (v105_r3 : DmaSems sig S_) (v105_r4 : DmaSems sig S_) (v99_r5 : DmaSems sig S_)
    (T : ℕ → Fin 64 → Elt F .f32) (A : Fin 64 → Elt F .f32) (I : ℕ → Elt F .i32) (R : ℕ → Fin 64 → Elt F .f32) :
    Does d i arg7 arg8 arg9 arg10 I R ⟨T, A⟩ (Scf.Loop.for k1_t1_loop k1_t1_ok ⟨⟩ (k1_t1_body i arg2 harg2 arg3 harg3 arg4 harg4 arg5 harg5 arg6 harg6 arg7 harg7 arg8 harg8 arg9 harg9 arg10 harg10 v99_r0 v105_r1 v105_r2 v105_r3 v105_r4 v99_r5))
      ⟨⟩ ⟨clear (Scalar.ofBits .f32 0x00000000#32) T 336, A⟩ := by
  refine does_for (α := Unit) (l := k1_t1_loop) (fun n => ((), (⟨clear (Scalar.ofBits .f32 0x00000000#32) T n, A⟩ : St F))) ?_ fun k => ?_
  · exact Prod.ext rfl (St.ext (by funext r; simp [clear]) rfl)
  · unfold k1_t1_body
    repeat (first
    | with_reducible refine does_bind loadT ?_
    | with_reducible refine does_bind storeT ?_)
    with_reducible refine does_done (F := F) ?_ ?_
    · rfl
    · refine St.ext ?_ rfl
      show putT (putT (putT (putT (clear _ T k.val) (rowOf (Scf.iv 0#32 1#32 k)) 0 (k1_pay570 (F := F))) (rowOf (Scf.iv 0#32 1#32 k)) 16 (k1_pay570 (F := F)))
        (rowOf (Scf.iv 0#32 1#32 k)) 32 (k1_pay570 (F := F))) (rowOf (Scf.iv 0#32 1#32 k)) 48 (k1_pay570 (F := F)) = _
      rw [off2_eq k]
      exact clear_succ _ T k.val (k1_pay570 (F := F)) fun _ => rfl

end Cert.Proof.Pool
-- ==== Proof.Chunk.lean ====
module
public import proofs.«01_k».proof.Proof.Loops
@[expose] public section
/-! One chunk of a tile: the copies of its ids and of its rows, and its groups. -/
noncomputable section
namespace Cert.Proof.Pool
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}

local notation "𝕄" => MT nD τ sig (HIx 1) (Elt F) ℕ UU ℕ

local notation "xV" => (Memref.whole Cert.KernelIdeal.main_v25_scv : Memref Cert.KernelIdeal.sig Kind.scVector Space.hbm Cert.KernelIdeal.S640000x64 EltTy.f32)
local notation "cV'" => (Memref.whole Cert.KernelIdeal.main_arg2_scv : Memref Cert.KernelIdeal.sig Kind.scVector Space.hbm Cert.KernelIdeal.S640000 EltTy.i32)
local notation "bV" => (Memref.whole Cert.KernelIdeal.main_v6_scv : Memref Cert.KernelIdeal.sig Kind.scVector Space.hbm Cert.KernelIdeal.S48 EltTy.i32)
local notation "oV" => (Memref.whole Cert.KernelIdeal.main_v26_scv : Memref Cert.KernelIdeal.sig Kind.scVector Space.hbm Cert.KernelIdeal.S10240x64 EltTy.f32)
local notation "s0" => (Memref.whole Cert.KernelIdeal.cc1_scratch0 : Memref Cert.KernelIdeal.sig Kind.scVector Space.vmem Cert.KernelIdeal.S48 EltTy.i32)
local notation "s1" => (Memref.whole Cert.KernelIdeal.cc1_scratch1 : Memref Cert.KernelIdeal.sig Kind.scVector Space.vmem Cert.KernelIdeal.S512 EltTy.i32)
local notation "s2" => (Memref.whole Cert.KernelIdeal.cc1_scratch2 : Memref Cert.KernelIdeal.sig Kind.scVector Space.vmem Cert.KernelIdeal.S512x64 EltTy.f32)
local notation "s3" => (Memref.whole Cert.KernelIdeal.cc1_scratch3 : Memref Cert.KernelIdeal.sig Kind.scVector Space.vmem Cert.KernelIdeal.S336x64 EltTy.f32)
local notation "s4" => (Memref.whole Cert.KernelIdeal.cc1_scratch4 : Memref Cert.KernelIdeal.sig Kind.scVector Space.vmem Cert.KernelIdeal.S8x64 EltTy.f32)
local notation "wh" => Memref.isWhole_whole _

abbrev xLoc (d : Dev nD) : Loc nD τ sig := (T d : Thread nD τ).loc main_v25
abbrev iLoc (d : Dev nD) : Loc nD τ sig := (T d : Thread nD τ).loc main_arg2
abbrev bLoc (d : Dev nD) : Loc nD τ sig := (T d : Thread nD τ).loc main_v6
abbrev oLoc (d : Dev nD) : Loc nD τ sig := (T d : Thread nD τ).loc main_v26

variable (d : Dev nD) (i : grid1.Coords) (q : PosShare TreeShare)
  (X : Buf (Elt F) (xLoc d)) (C : Buf (Elt F) (iLoc d)) (B : Buf (Elt F) (bLoc d))

/-- The word at a place of the ids, and the row at a place of the rows. -/
def idAt (C : S640000.Idx → BitVec 32) (n : ℕ) : BitVec 32 := C (fun a => match a with | 0 => (Fin.ofNat 640000 n : Fin 640000))
def rowAt {E : Type} (X : S640000x64.Idx → E) (n : ℕ) (c : Fin 64) : E :=
  X (fun a => match a with | 0 => (Fin.ofNat 640000 n : Fin 640000) | 1 => c)

abbrev cell1 : GSem nD τ sig := (thr d i, .dma cc1_scoped1.sem)
abbrev cell2 : GSem nD τ sig := (thr d i, .dma cc1_scoped2.sem)

/-- What a tile holds beside its four buffers while it goes through its chunks. -/
def Beside (O : CellTallies nD τ sig (HIx 1)) (W : Waits sig (HIx 1)) : sProp 𝕄 :=
  iprop((xLoc d ↦{q} X) ∗ (iLoc d ↦{q} C) ∗ semVal (cell1 d i) 0 ∗ semVal (cell2 d i) 0
    ∗ ∃ W', ⌜∀ p ∈ W', p ∈ W ∨ p.2 = none⌝ ∗ owes (thr d i) O W')

variable [FloatOps F]

/-- The table and the running maximum held, beside the chunk's two buffers. -/
def Tab (σ : St F) : sProp 𝕄 :=
  iprop((∃ fT : Buf (Elt F) ((s3).view.loc (thr d i)), ((s3).view.loc (thr d i) ↦[(s3).view.set]{fullShare} fT) ∗ ⌜∀ y : S336x64.Idx, (s3).view.read (Elt F) fT y = σ.T (y 0).val (y 1)⌝)
    ∗ (∃ fA : Buf (Elt F) ((s4).view.loc (thr d i)), ((s4).view.loc (thr d i) ↦[(s4).view.set]{fullShare} fA) ∗ ⌜∀ y : S8x64.Idx, (y 0).val = 0 → (s4).view.read (Elt F) fA y = σ.A (y 1)⌝))

def Ids (I : ℕ → Elt F .i32) : sProp 𝕄 :=
  iprop(∃ fI : Buf (Elt F) ((s1).view.loc (thr d i)), ((s1).view.loc (thr d i) ↦[(s1).view.set]{fullShare} fI) ∗ ⌜∀ y : S512.Idx, (s1).view.read (Elt F) fI y = I (y 0).val⌝)

def Rows (R : ℕ → Fin 64 → Elt F .f32) : sProp 𝕄 :=
  iprop(∃ fR : Buf (Elt F) ((s2).view.loc (thr d i)), ((s2).view.loc (thr d i) ↦[(s2).view.set]{fullShare} fR) ∗ ⌜∀ y : S512x64.Idx, (s2).view.read (Elt F) fR y = R (y 0).val (y 1)⌝)

theorem holds_eq (I : ℕ → Elt F .i32) (R : ℕ → Fin 64 → Elt F .f32) (σ : St F) :
    (Holds d i s1 s2 s3 s4 I R σ : sProp 𝕄) = iprop(Ids d i I ∗ Rows d i R ∗ Tab d i σ) := rfl

set_option maxHeartbeats 4000000 in
theorem chunk_step (O : CellTallies nD τ sig (HIx 1)) (W : Waits sig (HIx 1))
    {v6 v8 : BitVec 32} (hab : v6.toNat ≤ v8.toNat) (hb : v8.toNat ≤ 640000) (k1_hw1 : k1_chk1 v6 v8) (v9 v30 : BitVec 32) (z : Elt F .f32)
    (k : Fin (k1_t2_loop v6 v8).trips) (p : BitVec 32) (hp : p.toNat ≤ 320) (σ : St F) (I : ℕ → Elt F .i32) (R : ℕ → Fin 64 → Elt F .f32) :
    iprop(Transfers.MayWaits (thr d i) (default : HIx 1) O ∗ Holds d i s1 s2 s3 s4 I R σ ∗ Beside d i q X C O W)
      ⊢ wp frame (wpE (defs₀ (F := F)) 𝒱₀ (thr d i) none) Set.univ
          (k1_t2_body i xV wh cV' wh bV wh oV wh s0 wh s1 wh s2 wh s3 wh s4 wh cc1_scoped0 cc1_scoped1 cc1_scoped2 cc1_scoped3 cc1_scoped4 cc1_scoped5
            v6 v8 k1_hw1 v9 (base i) v30 (fun _ => z) k p)
          fun r => iprop(⌜r = (grp i z (fun n => idAt C (chunkAt v6.toNat k.val + n)) (fun n => rowAt X (chunkAt v6.toNat k.val + n)) p σ 32).1⌝
            ∗ (∃ I R, Holds d i s1 s2 s3 s4 I R (grp i z (fun n => idAt C (chunkAt v6.toNat k.val + n)) (fun n => rowAt X (chunkAt v6.toNat k.val + n)) p σ 32).2)
            ∗ Beside d i q X C O W) := by
  unfold k1_t2_body Beside
  iintro ⟨#Hmw, HH, Hx, Hc, Hm1, Hm2, %W', %hW, HO⟩
  ihave HH := (Entails.of_eq (holds_eq d i I R σ)) $$ HH
  unfold Ids Rows
  icases HH with ⟨⟨%f1, H1, %h1⟩, ⟨%f2, H2, %h2⟩, HT⟩
  ihave Hx' := (Entails.of_eq (show (xLoc d ↦{q} X : sProp 𝕄) = (xV).view.loc (thr d i) ↦{q} X from rfl)) $$ Hx
  ihave Hc' := (Entails.of_eq (show (iLoc d ↦{q} C : sProp 𝕄) = (cV').view.loc (thr d i) ↦{q} C from rfl)) $$ Hc
  sl_exec
  have e1 : chunk_step.sl.dma0 d C k1_hw1 k = fun y => idAt C (chunkAt v6.toNat k.val + (y 0).val) := by
    funext y
    have hm := mult1 hab hb k
    have hy : (y 0).val < 512 := (y 0).isLt
    have hc : chunkAt v6.toNat k.val ≤ 639488 := Nat.min_le_right _ _
    show C _ = C _
    congr 1
    funext a
    match a with
    | 0 =>
      refine Fin.ext ?_
      show (k1_mult1 v6 v8 k).toNat + 1 * (y 0).val = (chunkAt v6.toNat k.val + (y 0).val) % 640000
      rw [hm, Nat.one_mul, Nat.mod_eq_of_lt (by omega)]
  have e2 : chunk_step.sl.dma0_1 d X k1_hw1 k = fun y => rowAt X (chunkAt v6.toNat k.val + (y 0).val) (y 1) := by
    funext y
    have hm := mult1 hab hb k
    have hy : (y 0).val < 512 := (y 0).isLt
    have hc : chunkAt v6.toNat k.val ≤ 639488 := Nat.min_le_right _ _
    show X _ = X _
    congr 1
    funext a
    match a with
    | 0 =>
      refine Fin.ext ?_
      show (k1_mult1 v6 v8 k).toNat + 1 * (y 0).val = (chunkAt v6.toNat k.val + (y 0).val) % 640000
      rw [hm, Nat.one_mul, Nat.mod_eq_of_lt (by omega)]
    | 1 =>
      refine Fin.ext ?_
      show 0 + 1 * (y 1).val = (y 1).val
      omega
  rw [e1, e2]
  have g1 := fun y => View.read_writes_cons_hit (Val := Elt F) (s1).view (View.junk (s1).view) (Rect.whole cc1_scratch1.ty.shape) (fun y => idAt C (chunkAt v6.toNat k.val + (y 0).val)) [] y y (by funext a; refine Fin.ext ?_; show 0 + 1 * _ = _; omega)
  have g2 := fun y => View.read_writes_cons_hit (Val := Elt F) (s2).view (View.junk (s2).view) (Rect.whole cc1_scratch2.ty.shape) (fun y => rowAt X (chunkAt v6.toNat k.val + (y 0).val) (y 1)) [] y y (by funext a; refine Fin.ext ?_; show 0 + 1 * _ = _; omega)
  ihave HH := (Entails.of_eq (holds_eq d i (fun n => idAt C (chunkAt v6.toNat k.val + n)) (fun n => rowAt X (chunkAt v6.toNat k.val + n)) σ).symm) $$ [H1 H2 HT]
  · unfold Ids Rows
    isplitl [H1]
    · iexists _; isplitl [H1]
      · iexact H1
      · ipureintro; exact g1
    isplitl [H2]
    · iexists _; isplitl [H2]
      · iexact H2
      · ipureintro; exact g2
    iexact HT
  iapply (wp_wand_r frame (wpE (defs₀ (F := F)) 𝒱₀ (thr d i) none) Set.univ (Q := fun r => iprop(⌜r = (grp i z (fun n => idAt C (chunkAt v6.toNat k.val + n)) (fun n => rowAt X (chunkAt v6.toNat k.val + n)) p σ 32).1⌝
    ∗ Holds d i s1 s2 s3 s4 (fun n => idAt C (chunkAt v6.toNat k.val + n)) (fun n => rowAt X (chunkAt v6.toNat k.val + n)) (grp i z (fun n => idAt C (chunkAt v6.toNat k.val + n)) (fun n => rowAt X (chunkAt v6.toNat k.val + n)) p σ 32).2)))
  isplitl [HH]
  · iapply (does_bind (does_chunk (F := F) d i xV wh cV' wh bV wh oV wh s0 wh s1 wh s2 wh s3 wh s4 wh cc1_scoped0 cc1_scoped1 cc1_scoped2 cc1_scoped3 cc1_scoped4 cc1_scoped5
      v6 v8 k1_hw1 v9 v30 z p σ _ _ hp) (does_ret _ _)).run
    iexact HH
  iintro %r ⟨%hr, HH⟩
  isplitr
  · ipureintro; exact hr
  isplitl [HH]
  · iexists _; iexists _; iexact HH
  isplitl [Hx']; · iexact Hx'
  isplitl [Hc']; · iexact Hc'
  isplitl [Hm1]; · iexact Hm1
  isplitl [Hm2]; · iexact Hm2
  iexists _; isplitr
  swap; · iexact HO
  ipureintro; intro w hw
  rcases Finset.mem_insert.mp hw with hw | hw; · exact .inr (hw ▸ rfl)
  rcases Finset.mem_insert.mp hw with hw | hw; · exact .inr (hw ▸ rfl)
  exact hW w hw

end Cert.Proof.Pool
-- ==== Proof.Parts.lean ====
module
public import proofs.«01_k».proof.Proof.Chunk
@[expose] public section
/-! All the chunks of a tile, and the last flush's first half. -/
noncomputable section
namespace Cert.Proof.Pool
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}

local notation "𝕄" => MT nD τ sig (HIx 1) (Elt F) ℕ UU ℕ

local notation "xV" => (Memref.whole Cert.KernelIdeal.main_v25_scv : Memref Cert.KernelIdeal.sig Kind.scVector Space.hbm Cert.KernelIdeal.S640000x64 EltTy.f32)
local notation "cV'" => (Memref.whole Cert.KernelIdeal.main_arg2_scv : Memref Cert.KernelIdeal.sig Kind.scVector Space.hbm Cert.KernelIdeal.S640000 EltTy.i32)
local notation "bV" => (Memref.whole Cert.KernelIdeal.main_v6_scv : Memref Cert.KernelIdeal.sig Kind.scVector Space.hbm Cert.KernelIdeal.S48 EltTy.i32)
local notation "oV" => (Memref.whole Cert.KernelIdeal.main_v26_scv : Memref Cert.KernelIdeal.sig Kind.scVector Space.hbm Cert.KernelIdeal.S10240x64 EltTy.f32)
local notation "s0" => (Memref.whole Cert.KernelIdeal.cc1_scratch0 : Memref Cert.KernelIdeal.sig Kind.scVector Space.vmem Cert.KernelIdeal.S48 EltTy.i32)
local notation "s1" => (Memref.whole Cert.KernelIdeal.cc1_scratch1 : Memref Cert.KernelIdeal.sig Kind.scVector Space.vmem Cert.KernelIdeal.S512 EltTy.i32)
local notation "s2" => (Memref.whole Cert.KernelIdeal.cc1_scratch2 : Memref Cert.KernelIdeal.sig Kind.scVector Space.vmem Cert.KernelIdeal.S512x64 EltTy.f32)
local notation "s3" => (Memref.whole Cert.KernelIdeal.cc1_scratch3 : Memref Cert.KernelIdeal.sig Kind.scVector Space.vmem Cert.KernelIdeal.S336x64 EltTy.f32)
local notation "s4" => (Memref.whole Cert.KernelIdeal.cc1_scratch4 : Memref Cert.KernelIdeal.sig Kind.scVector Space.vmem Cert.KernelIdeal.S8x64 EltTy.f32)
local notation "wh" => Memref.isWhole_whole _

variable (d : Dev nD) (i : grid1.Coords) (q : PosShare TreeShare)
  (X : Buf (Elt F) (xLoc d)) (C : Buf (Elt F) (iLoc d)) (B : Buf (Elt F) (bLoc d))

/-- The number of a tile, and the tile of a number. -/
def tileNo (i : grid1.Coords) : ℕ := 2 * (i 1).val + (i 0).val
def tileOf (w : ℕ) : grid1.Coords :=
  fun | 0 => (⟨w % 2, Nat.mod_lt _ (by decide)⟩ : Fin 2) | 1 => (⟨w / 2 % 16, Nat.mod_lt _ (by decide)⟩ : Fin 16) | ⟨_ + 2, h⟩ => absurd h (Nat.not_lt.2 (Nat.le_add_left _ _))

theorem tileOf_tileNo (i : grid1.Coords) : tileOf (tileNo i) = i := by
  have h0 : (i 0).val < 2 := (i 0).isLt
  have h1 : (i 1).val < 16 := (i 1).isLt
  funext a
  match a with
  | 0 => exact Fin.ext (show (2 * (i 1).val + (i 0).val) % 2 = (i 0).val by omega)
  | 1 => exact Fin.ext (show (2 * (i 1).val + (i 0).val) / 2 % 16 = (i 1).val by omega)
  | ⟨_ + 2, h⟩ => exact absurd h (Nat.not_lt.2 (Nat.le_add_left _ _))

/-- A word of the bounds. -/
def bound (B : S48.Idx → BitVec 32) (w : ℕ) : BitVec 32 := B (fun a => match a with | 0 => (Fin.ofNat 48 w : Fin 48))

section Model
variable [FloatOps F]

/-- The table's row and the state after `k` chunks. -/
def chunks (i : grid1.Coords) (z : Elt F .f32) (a : ℕ) (C : S640000.Idx → BitVec 32) (X : S640000x64.Idx → Elt F .f32) : ℕ → BitVec 32 × St F
  | 0 => (320#32, ⟨fun _ _ => z, fun _ => z⟩)
  | k + 1 => grp i z (fun n => idAt C (chunkAt a k + n)) (fun n => rowAt X (chunkAt a k + n)) (chunks i z a C X k).1 (chunks i z a C X k).2 32

theorem chunks_le (i : grid1.Coords) (z : Elt F .f32) (a : ℕ) (C : S640000.Idx → BitVec 32) (X : S640000x64.Idx → Elt F .f32) (k : ℕ) :
    (chunks i z a C X k).1.toNat ≤ 320 := by
  cases k with
  | zero => exact le_refl 320
  | succ k =>
    induction k with
    | zero => exact grp_le i z _ _ _ _ (le_refl 320) 32
    | succ k ih => exact grp_le i z _ _ _ _ ih 32

/-- The table a tile writes out: its chunks from the row `a` to the row `b`, then the last flush. -/
def tileT (i : grid1.Coords) (z : Elt F .f32) (a b : ℕ) (C : S640000.Idx → BitVec 32) (X : S640000x64.Idx → Elt F .f32) : ℕ → Fin 64 → Elt F .f32 :=
  (flush z (chunks i z a C X (nChunks a b)).1 (chunks i z a C X (nChunks a b)).2).T

/-- The 32 tiles' tables one below the other. -/
def outOf (X : S640000x64.Idx → Elt F .f32) (C : S640000.Idx → BitVec 32) (B : S48.Idx → BitVec 32) : S10240x64.Idx → Elt F .f32 :=
  fun j => tileT (tileOf ((j 0).val / 320)) (Scalar.ofBits .f32 0x00000000#32) (bound B ((j 0).val / 320)).toNat (bound B ((j 0).val / 320 + 1)).toNat C X
    ((j 0).val % 320) (j 1)

end Model

variable [FloatOps F]

theorem holds_clear {I : ℕ → Elt F .i32} {R : ℕ → Fin 64 → Elt F .f32} {z : Elt F .f32} {T : ℕ → Fin 64 → Elt F .f32} {A : Fin 64 → Elt F .f32} :
    (Holds d i s1 s2 s3 s4 I R ⟨clear z T 336, A⟩ : sProp 𝕄) ⊢ Holds d i s1 s2 s3 s4 I R ⟨fun _ _ => z, A⟩ := by
  rw [holds_eq, holds_eq]
  unfold Tab
  iintro ⟨HI, HR, ⟨%fT, HT, %hT⟩, HA⟩
  isplitl [HI]; · iexact HI
  isplitl [HR]; · iexact HR
  isplitl [HT]
  · iexists fT; isplitl [HT]
    · iexact HT
    · ipureintro; intro y; rw [hT y]; exact congrFun (if_pos (y 0).isLt) _
  · iexact HA

/-- The table and the running maximum with the first slice of the last flush done. -/
def half (p : BitVec 32) (σ : St F) : ℕ → Fin 64 → Elt F .f32 := putT σ.T (rowOf p) 0 (vmax (cut (σ.T (rowOf p)) 0) (cut σ.A 0))

theorem chunk_loop (O : CellTallies nD τ sig (HIx 1)) (W : Waits sig (HIx 1))
    {v6 v8 : BitVec 32} (hab : v6.toNat ≤ v8.toNat) (hb : v8.toNat ≤ 640000) (k1_hw1 : k1_chk1 v6 v8) (v9 v30 : BitVec 32) (z : Elt F .f32)
    (I : ℕ → Elt F .i32) (R : ℕ → Fin 64 → Elt F .f32) :
    iprop(Transfers.MayWaits (thr d i) (default : HIx 1) O ∗ Holds d i s1 s2 s3 s4 I R ⟨fun _ _ => z, fun _ => z⟩ ∗ Beside d i q X C O W)
      ⊢ wp frame (wpE (defs₀ (F := F)) 𝒱₀ (thr d i) none) Set.univ
          (Scf.Loop.for (k1_t2_loop v6 v8) (k1_t2_ok v6 v8 k1_hw1) 320#32 (k1_t2_body i xV wh cV' wh bV wh oV wh s0 wh s1 wh s2 wh s3 wh s4 wh cc1_scoped0 cc1_scoped1 cc1_scoped2 cc1_scoped3 cc1_scoped4 cc1_scoped5 v6 v8 k1_hw1 v9 (base i) v30 (fun _ => z)))
          fun r => iprop(⌜r = (chunks i z v6.toNat C X (nChunks v6.toNat v8.toNat)).1⌝
            ∗ (∃ I R, Holds d i s1 s2 s3 s4 I R (chunks i z v6.toNat C X (nChunks v6.toNat v8.toNat)).2)
            ∗ Beside d i q X C O W) := by
  iintro ⟨#Hmw, HH, HB⟩
  iapply (Scf.wp_for frame (wpE (defs₀ (F := F)) 𝒱₀ (thr d i) none) Set.univ (k1_t2_loop v6 v8).lb (k1_t2_loop v6 v8).ub (k1_t2_loop v6 v8).st (k1_t2_ok v6 v8 k1_hw1) 320#32 _
    (fun k a => iprop(Transfers.MayWaits (thr d i) (default : HIx 1) O ∗ ⌜a = (chunks i z v6.toNat C X k).1⌝ ∗ (∃ I R, Holds d i s1 s2 s3 s4 I R (chunks i z v6.toNat C X k).2) ∗ Beside d i q X C O W)) (fun k a => ?_))
  · iintro ⟨#Hmw, %ha, ⟨%I, %R, HH⟩, HB⟩
    subst ha
    iapply (wp_wand_r frame (wpE (defs₀ (F := F)) 𝒱₀ (thr d i) none) Set.univ (Q := fun r => iprop(⌜r = (chunks i z v6.toNat C X (k.val + 1)).1⌝
            ∗ (∃ I R, Holds d i s1 s2 s3 s4 I R (chunks i z v6.toNat C X (k.val + 1)).2) ∗ Beside d i q X C O W)))
    isplitl [HH HB]
    · iapply (chunk_step d i q X C O W hab hb k1_hw1 v9 v30 z k (chunks i z v6.toNat C X k.val).1 (chunks_le i z v6.toNat C X k.val) (chunks i z v6.toNat C X k.val).2 I R)
      isplitr; · iexact Hmw
      isplitl [HH]; · iexact HH
      iexact HB
    · iintro %r H
      isplitr; · iexact Hmw
      iexact H
  · isplitl [HH HB]
    · isplitr; · iexact Hmw
      isplitr; · ipureintro; rfl
      isplitl [HH]
      · iexists I; iexists R; iexact HH
      · iexact HB
    · rw [show Scf.trips (k1_t2_loop v6 v8).lb (k1_t2_loop v6 v8).ub (k1_t2_loop v6 v8).st = nChunks v6.toNat v8.toNat from t2_trips hab hb]
      iintro %a ⟨-, H⟩; iexact H

theorem chk34_all (p : BitVec 32) (hp : p.toNat ≤ 320) : k1_chk34 p :=
  ⟨row_inb p hp 0 (by omega), row_inb p hp 16 (by omega), row_inb p hp 32 (by omega), row_inb p hp 48 (by omega)⟩

theorem part98 (O : CellTallies nD τ sig (HIx 1)) (W : Waits sig (HIx 1))
    {v6 v8 : BitVec 32} (hab : v6.toNat ≤ v8.toNat) (hb : v8.toNat ≤ 640000) (k1_hw1 : k1_chk1 v6 v8) (v9 v30 : BitVec 32) (z : Elt F .f32)
    (I : ℕ → Elt F .i32) (R : ℕ → Fin 64 → Elt F .f32) (A : Fin 64 → Elt F .f32) (p : BitVec 32) (σ : St F)
    (hp : (p, σ) = chunks i z v6.toNat C X (nChunks v6.toNat v8.toNat)) (hk : k1_chk34 p) :
    iprop(Transfers.MayWaits (thr d i) (default : HIx 1) O ∗ Holds d i s1 s2 s3 s4 I R ⟨fun _ _ => z, A⟩ ∗ Beside d i q X C O W)
      ⊢ wp frame (wpE (defs₀ (F := F)) 𝒱₀ (thr d i) none) Set.univ (k1_part98 i xV wh cV' wh bV wh oV wh s0 wh s1 wh s2 wh s3 wh s4 wh cc1_scoped0 cc1_scoped1 cc1_scoped2 cc1_scoped3 cc1_scoped4 cc1_scoped5 v6 v8 k1_hw1 v9 (base i) v30 (fun _ => z))
          fun r => iprop(⌜r = ⟨p, hk, k1_pay594 (cut (half p σ (rowOf p)) 16), cut σ.A 16⟩⌝
            ∗ (∃ I R, Holds d i s1 s2 s3 s4 I R ⟨half p σ, σ.A⟩) ∗ Beside d i q X C O W) := by
  rw [k1_part98_eq_skeleton]; unfold k1_part98_skel
  iintro ⟨#Hmw, HH, HB⟩
  rw [wp_bind]; iapply (Does.step (storeA rfl)) $$ HH; iintro HH
  rw [wp_bind]; iapply (Does.step (loadA rfl)) $$ HH; iintro HH
  rw [wp_bind]; iapply (Does.step (storeA rfl)) $$ HH; iintro HH
  rw [wp_bind]; iapply (Does.step (loadA rfl)) $$ HH; iintro HH
  rw [wp_bind]; iapply (Does.step (storeA rfl)) $$ HH; iintro HH
  rw [wp_bind]; iapply (Does.step (loadA rfl)) $$ HH; iintro HH
  rw [wp_bind]; iapply (Does.step (storeA rfl)) $$ HH; iintro HH
  have hA : put (put (put (put A ((![0, 0] : Fin 2 → ℕ) 1) (k1_pay575 fun _ => z)) ((![0, 16] : Fin 2 → ℕ) 1) (k1_pay576 fun _ => z)) ((![0, 32] : Fin 2 → ℕ) 1)
      (k1_pay577 fun _ => z)) ((![0, 48] : Fin 2 → ℕ) 1) (k1_pay578 fun _ => z) = fun _ => z := put4_const A z (k1_pay575 fun _ => z) fun _ => rfl
  rw [hA]
  rw [wp_bind]
  iapply (wp_wand_r frame (wpE (defs₀ (F := F)) 𝒱₀ (thr d i) none) Set.univ (Q := fun r => iprop(⌜r = p⌝
            ∗ (∃ I R, Holds d i s1 s2 s3 s4 I R σ) ∗ Beside d i q X C O W)))
  isplitl [HH HB]
  · have h := chunk_loop d i q X C O W hab hb k1_hw1 v9 v30 z I R
    rw [← hp] at h
    iapply h
    isplitr; · iexact Hmw
    isplitl [HH]; · iexact HH
    iexact HB
  clear I R
  iintro %r ⟨%hr, ⟨%I, %R, HH⟩, HB⟩
  subst hr
  rw [wp_bind]
  iapply (wp_wand_r frame (wpE (defs₀ (F := F)) 𝒱₀ (thr d i) none) Set.univ (Q := fun r' => iprop(⌜r' = r⌝ ∗ Holds d i s1 s2 s3 s4 I R σ)))
  isplitl [HH]
  · iapply (Scf.wp_for frame (wpE (defs₀ (F := F)) 𝒱₀ (thr d i) none) Set.univ (k1_t4_loop v6 v8).lb (k1_t4_loop v6 v8).ub (k1_t4_loop v6 v8).st (k1_t4_ok v6 v8 k1_hw1) r _
      (fun k a => iprop(⌜a = r⌝ ∗ Holds d i s1 s2 s3 s4 I R σ)) (fun k a => absurd (lt_of_lt_of_eq k.isLt (t4_trips hab hb)) (by omega)))
    isplitl [HH]
    · isplitr; · ipureintro; rfl
      iexact HH
    · iintro %a H; iexact H
  iintro %r' ⟨%hr, HH⟩
  subst hr
  rw [wp_bind]; iapply (Does.step (does_assume hk)) $$ HH; iintro HH
  rw [wp_bind]; iapply (Does.step loadT) $$ HH; iintro HH
  rw [wp_bind]; iapply (Does.step (loadA rfl)) $$ HH; iintro HH
  rw [wp_bind]; iapply (Does.step loadT) $$ HH; iintro HH
  rw [wp_bind]; iapply (Does.step storeT) $$ HH; iintro HH
  rw [wp_bind]; iapply (Does.step loadT) $$ HH; iintro HH
  rw [wp_bind]; iapply (Does.step (loadA rfl)) $$ HH; iintro HH
  rw [wp_pure]; imodintro
  isplitr
  · ipureintro; rfl
  isplitl [HH]
  · iexists I; iexists R; iexact HH
  · iexact HB

end Cert.Proof.Pool
-- ==== Proof.Tile.lean ====
module
public import proofs.«01_k».proof.Proof.Parts
@[expose] public section
/-! A tile's task: its bounds fetched, its table cleared, its chunks, the last flush, and the table written out. -/
noncomputable section
namespace Cert.Proof.Pool
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}

local notation "𝕄" => MT nD τ sig (HIx 1) (Elt F) ℕ UU ℕ

local notation "xV" => (Memref.whole Cert.KernelIdeal.main_v25_scv : Memref Cert.KernelIdeal.sig Kind.scVector Space.hbm Cert.KernelIdeal.S640000x64 EltTy.f32)
local notation "cV'" => (Memref.whole Cert.KernelIdeal.main_arg2_scv : Memref Cert.KernelIdeal.sig Kind.scVector Space.hbm Cert.KernelIdeal.S640000 EltTy.i32)
local notation "bV" => (Memref.whole Cert.KernelIdeal.main_v6_scv : Memref Cert.KernelIdeal.sig Kind.scVector Space.hbm Cert.KernelIdeal.S48 EltTy.i32)
local notation "oV" => (Memref.whole Cert.KernelIdeal.main_v26_scv : Memref Cert.KernelIdeal.sig Kind.scVector Space.hbm Cert.KernelIdeal.S10240x64 EltTy.f32)
local notation "s0" => (Memref.whole Cert.KernelIdeal.cc1_scratch0 : Memref Cert.KernelIdeal.sig Kind.scVector Space.vmem Cert.KernelIdeal.S48 EltTy.i32)
local notation "s1" => (Memref.whole Cert.KernelIdeal.cc1_scratch1 : Memref Cert.KernelIdeal.sig Kind.scVector Space.vmem Cert.KernelIdeal.S512 EltTy.i32)
local notation "s2" => (Memref.whole Cert.KernelIdeal.cc1_scratch2 : Memref Cert.KernelIdeal.sig Kind.scVector Space.vmem Cert.KernelIdeal.S512x64 EltTy.f32)
local notation "s3" => (Memref.whole Cert.KernelIdeal.cc1_scratch3 : Memref Cert.KernelIdeal.sig Kind.scVector Space.vmem Cert.KernelIdeal.S336x64 EltTy.f32)
local notation "s4" => (Memref.whole Cert.KernelIdeal.cc1_scratch4 : Memref Cert.KernelIdeal.sig Kind.scVector Space.vmem Cert.KernelIdeal.S8x64 EltTy.f32)
local notation "wh" => Memref.isWhole_whole _

variable (d : Dev nD) (i : grid1.Coords) (q : PosShare TreeShare)
  (X : Buf (Elt F) (xLoc d)) (C : Buf (Elt F) (iLoc d)) (B : Buf (Elt F) (bLoc d))

/-- The bounds of the runs of ids are in order and in range. -/
def BoundsOk (B : S48.Idx → BitVec 32) : Prop :=
  ∀ w < 32, (bound B w).toNat ≤ (bound B (w + 1)).toNat ∧ (bound B (w + 1)).toNat ≤ 640000

/-- The tile's block of the result. -/
abbrev blk (i : grid1.Coords) : Rect S10240x64 := Rect.unit (s := S10240x64) (k1_off280 i) S320x64.size (k1_off280_inb i)
abbrev oBlk (i : grid1.Coords) : Memref sig .scVector .hbm S320x64 .f32 := (oV).slice (blk i) (fun _ => rfl)
abbrev blkSet (i : grid1.Coords) : Finset S10240x64.Idx := (oBlk i).view.set

abbrev scell (sm : DmaSems sig S_) : GSem nD τ sig := (thr d i, .dma sm.sem)

theorem ownSems0_V :
    (ownSems0 (thr d i) : sProp 𝕄)
      = iprop(semVal (scell d i cc1_scoped0) 0 ∗ semVal (scell d i cc1_scoped1) 0 ∗ semVal (scell d i cc1_scoped2) 0 ∗ semVal (scell d i cc1_scoped5) 0
          ∗ bigSep (((((ownCells (thr d i)).erase (scell d i cc1_scoped0)).erase (scell d i cc1_scoped1)).erase (scell d i cc1_scoped2)).erase (scell d i cc1_scoped5)) fun g => semVal g 0) := by
  have mem (sm : DmaSems sig S_) (h : (SemLoc.dma sm.sem : SemLoc sig).isScoped .scVector = true) : scell d i sm ∈ ownCells (thr d i) :=
    (mem_ownCells (g := scell d i sm)).mpr ⟨rfl, h⟩
  have ne {a b : DmaSems sig S_} (h : a.sem ≠ b.sem) : scell d i a ≠ scell d i b := fun e => h (by simpa [scell] using e)
  unfold SparseCore.Cfg.ownSems0
  rw [SparseCore.bigSep_erase' (mem cc1_scoped0 (by decide)),
    SparseCore.bigSep_erase' (Finset.mem_erase.mpr ⟨ne (a := cc1_scoped1) (b := cc1_scoped0) (by decide), mem cc1_scoped1 (by decide)⟩),
    SparseCore.bigSep_erase' (Finset.mem_erase.mpr ⟨ne (a := cc1_scoped2) (b := cc1_scoped1) (by decide), Finset.mem_erase.mpr ⟨ne (a := cc1_scoped2) (b := cc1_scoped0) (by decide), mem cc1_scoped2 (by decide)⟩⟩),
    SparseCore.bigSep_erase' (Finset.mem_erase.mpr ⟨ne (a := cc1_scoped5) (b := cc1_scoped2) (by decide), Finset.mem_erase.mpr ⟨ne (a := cc1_scoped5) (b := cc1_scoped1) (by decide),
      Finset.mem_erase.mpr ⟨ne (a := cc1_scoped5) (b := cc1_scoped0) (by decide), mem cc1_scoped5 (by decide)⟩⟩⟩)]

abbrev sref (i : grid1.Coords) (b : Ref sig .scVector) : DevRef τ sig := (Proc.scVector (cV i) (sV i)).devRef b

theorem ownBufs_V :
    (ownBufs (thr d i) : sProp 𝕄)
      = iprop((∃ f, (thr d i).loc cc1_scratch0 ↦{fullShare} f) ∗ (∃ f, (thr d i).loc cc1_scratch1 ↦{fullShare} f) ∗ (∃ f, (thr d i).loc cc1_scratch2 ↦{fullShare} f)
          ∗ (∃ f, (thr d i).loc cc1_scratch3 ↦{fullShare} f) ∗ (∃ f, (thr d i).loc cc1_scratch4 ↦{fullShare} f)
          ∗ bigSep ((((((ownRefs (τ := τ) (.scVector (cV i) (sV i))).erase (sref i cc1_scratch0)).erase (sref i cc1_scratch1)).erase (sref i cc1_scratch2)).erase (sref i cc1_scratch3)).erase (sref i cc1_scratch4))
              fun b => iprop(∃ f, ((d, b) : Loc nD τ sig) ↦{fullShare} f)) := by
  have ne {a b : Ref sig .scVector} (h : a ≠ b) : sref i a ≠ sref i b := fun e => h (Proc.devRef_injective _ e)
  have mem (b : Ref sig .scVector) (h : (sref i b).owner = _) : sref i b ∈ ownRefs (τ := τ) (.scVector (cV i) (sV i)) :=
    SparseCore.Cfg.mem_ownRefs_of_owner (p := Proc.scVector (cV i) (sV i)) (b := sref i b) h
  unfold SparseCore.Cfg.ownBufs
  refine (SparseCore.bigSep_erase' (mem cc1_scratch0 rfl)).trans ?_
  rw [SparseCore.bigSep_erase' (Finset.mem_erase.mpr ⟨ne (a := cc1_scratch1) (b := cc1_scratch0) (by decide), mem cc1_scratch1 rfl⟩),
    SparseCore.bigSep_erase' (Finset.mem_erase.mpr ⟨ne (a := cc1_scratch2) (b := cc1_scratch1) (by decide), Finset.mem_erase.mpr ⟨ne (a := cc1_scratch2) (b := cc1_scratch0) (by decide), mem cc1_scratch2 rfl⟩⟩),
    SparseCore.bigSep_erase' (Finset.mem_erase.mpr ⟨ne (a := cc1_scratch3) (b := cc1_scratch2) (by decide), Finset.mem_erase.mpr ⟨ne (a := cc1_scratch3) (b := cc1_scratch1) (by decide),
      Finset.mem_erase.mpr ⟨ne (a := cc1_scratch3) (b := cc1_scratch0) (by decide), mem cc1_scratch3 rfl⟩⟩⟩),
    SparseCore.bigSep_erase' (Finset.mem_erase.mpr ⟨ne (a := cc1_scratch4) (b := cc1_scratch3) (by decide), Finset.mem_erase.mpr ⟨ne (a := cc1_scratch4) (b := cc1_scratch2) (by decide),
      Finset.mem_erase.mpr ⟨ne (a := cc1_scratch4) (b := cc1_scratch1) (by decide), Finset.mem_erase.mpr ⟨ne (a := cc1_scratch4) (b := cc1_scratch0) (by decide), mem cc1_scratch4 rfl⟩⟩⟩⟩)]

variable [FloatOps F]

theorem tileNo_lt (i : grid1.Coords) : tileNo i < 32 := by
  have h0 : (i 0).val < 2 := (i 0).isLt
  have h1 : (i 1).val < 16 := (i 1).isLt
  unfold tileNo; omega

theorem off1_eq (i : grid1.Coords) : k1_off1 i = ![tileNo i] := by
  have h0 : (i 0).val < 2 := (i 0).isLt
  have h1 : (i 1).val < 16 := (i 1).isLt
  simp only [k1_off1, Scalar.indexCast, Scalar.addi, Scalar.muli, tileNo]
  simp [IntOp.addi, IntOp.muli]
  omega

theorem off280_eq (i : grid1.Coords) : k1_off280 i = ![320 * tileNo i, 0] := by
  have h0 : (i 0).val < 2 := (i 0).isLt
  have h1 : (i 1).val < 16 := (i 1).isLt
  simp only [k1_off280, Scalar.addi, Scalar.muli, tileNo]
  simp [IntOp.addi, IntOp.muli]
  omega

/-- A word of the sixteen that a tile loads from the bounds. -/
theorem bounds_word {B : S48.Idx → BitVec 32} (i : grid1.Coords) (n : ℕ) (hn : n < 16) {x : BitVec 32}
    (h : ∃ ix : S48.Idx, x = B ix ∧ (ix 0).val = k1_off1 i 0 + 1 * n) : x = bound B (tileNo i + n) := by
  have ht := tileNo_lt i
  obtain ⟨ix, rfl, hx⟩ := h
  rw [off1_eq] at hx
  replace hx : (ix 0).val = tileNo i + 1 * n := hx
  unfold bound
  congr 1
  funext a
  match a with
  | 0 =>
    refine Fin.ext ?_
    show (ix 0).val = (tileNo i + n) % 48
    omega

theorem pay568 [FloatOps F] (w : Vec F S16 .i32) : extractAt ![0] (k1_pay568 (F := F) w) inpos_S1_p0 = w (fun a => match a with | 0 => (0 : Fin 16)) := by
  unfold k1_pay568 k1_pay567
  rw [shapeCast_self]
  show w _ = w _
  congr 1
  funext a
  match a with
  | 0 => rfl

theorem pay569 [FloatOps F] (w : Vec F S16 .i32) : extractAt ![0] (k1_pay569 (F := F) w) inpos_S1_p0 = w (fun a => match a with | 0 => (1 : Fin 16)) := by
  unfold k1_pay569 k1_pay567
  rw [shapeCast_self]
  show w _ = w _
  congr 1
  funext a
  match a with
  | 0 => rfl

/-- A scratch buffer held whole, as its view holds it. -/
theorem pts_whole (b : Ref sig .scVector) (f : Buf (Elt F) ((thr d i).loc b)) :
    ((thr d i).loc b ↦{fullShare} f : sProp 𝕄) = ((View.whole b).loc (thr d i) ↦[(View.whole b).set]{fullShare} f) := by
  rw [View.set_whole]

/-- The four buffers at whatever they contain. -/
theorem holds_junk (f1 : Buf (Elt F) ((s1).view.loc (thr d i))) (f2 : Buf (Elt F) ((s2).view.loc (thr d i))) (f3 : Buf (Elt F) ((s3).view.loc (thr d i)))
    (f4 : Buf (Elt F) ((s4).view.loc (thr d i))) :
    (iprop(((s1).view.loc (thr d i) ↦[(s1).view.set]{fullShare} f1) ∗ ((s2).view.loc (thr d i) ↦[(s2).view.set]{fullShare} f2)
      ∗ ((s3).view.loc (thr d i) ↦[(s3).view.set]{fullShare} f3) ∗ ((s4).view.loc (thr d i) ↦[(s4).view.set]{fullShare} f4)) : sProp 𝕄)
      ⊢ iprop(∃ I R T A, Holds d i s1 s2 s3 s4 I R ⟨T, A⟩) := by
  iintro ⟨H1, H2, H3, H4⟩
  iexists (fun n => f1 (fun a => match a with | 0 => (Fin.ofNat 512 n : Fin 512)))
  iexists (fun n c => f2 (fun a => match a with | 0 => (Fin.ofNat 512 n : Fin 512) | 1 => c))
  iexists (fun n c => f3 (fun a => match a with | 0 => (Fin.ofNat 336 n : Fin 336) | 1 => c))
  iexists (fun c => f4 (fun a => match a with | 0 => (0 : Fin 8) | 1 => c))
  iapply (Entails.of_eq (holds_eq d i _ _ _).symm)
  unfold Ids Rows Tab
  isplitl [H1]
  · iexists f1; isplitl [H1]
    · iexact H1
    · ipureintro; intro y; show f1 _ = f1 _; congr 1; funext a
      match a with
      | 0 => exact Fin.ext (Nat.mod_eq_of_lt (y 0).isLt).symm
  isplitl [H2]
  · iexists f2; isplitl [H2]
    · iexact H2
    · ipureintro; intro y; show f2 _ = f2 _; congr 1; funext a
      match a with
      | 0 => exact Fin.ext (Nat.mod_eq_of_lt (y 0).isLt).symm
      | 1 => rfl
  isplitl [H3]
  · iexists f3; isplitl [H3]
    · iexact H3
    · ipureintro; intro y; show f3 _ = f3 _; congr 1; funext a
      match a with
      | 0 => exact Fin.ext (Nat.mod_eq_of_lt (y 0).isLt).symm
      | 1 => rfl
  · iexists f4; isplitl [H4]
    · iexact H4
    · ipureintro; intro y hy; show f4 _ = f4 _; congr 1; funext a
      match a with
      | 0 => exact Fin.ext hy
      | 1 => rfl

/-- What the tile takes and brings back beside its own scratch. -/
abbrev Given (f : Buf (Elt F) (oLoc d)) : sProp 𝕄 :=
  iprop((xLoc d ↦{q} X) ∗ (iLoc d ↦{q} C) ∗ (bLoc d ↦{q} B) ∗ oLoc d ↦[blkSet i]{fullShare} f)

/-- The last flush's table as its four slices leave it. -/
theorem tab_close (σ : St F) (p : BitVec 32) (T₂ T₃ T₄ : ℕ → Fin 64 → Elt F .f32)
    (h₂ : T₂ = (putT (half p σ) (k1_off277 p 0) (k1_off277 p 1) (k1_pay595 (k1_pay594 (cut (half p σ (rowOf p)) 16)) (cut σ.A 16))))
    (h₃ : T₃ = (putT T₂ (k1_off278 p 0) (k1_off278 p 1) (k1_pay596 (cut (T₂ (k1_off278 p 0)) (k1_off278 p 1)) (cut σ.A ((![0, 32] : Fin 2 → ℕ) 1)))))
    (h₄ : T₄ = (putT T₃ (k1_off279 p 0) (k1_off279 p 1) (k1_pay597 (cut (T₃ (k1_off279 p 0)) (k1_off279 p 1)) (cut σ.A ((![0, 48] : Fin 2 → ℕ) 1)))))
    (z : Elt F .f32) : T₄ = (flush z p σ).T := by
  subst h₂ h₃ h₄
  exact tab4_eq σ (rowOf p)

set_option maxHeartbeats 400000 in
/-- The rest of the last flush, and the table's first 320 rows written out to the tile's block. -/
theorem finish (f₀ : Buf (Elt F) (oLoc d)) (O : CellTallies nD τ sig (HIx 1)) (W : Waits sig (HIx 1)) (z : Elt F .f32)
    (p : BitVec 32) (hk : k1_chk34 p) (σ : St F) (I : ℕ → Elt F .i32) (R : ℕ → Fin 64 → Elt F .f32) :
    iprop(Transfers.MayWaits (thr d i) (default : HIx 1) O ∗ Holds d i s1 s2 s3 s4 I R ⟨half p σ, σ.A⟩ ∗ Beside d i q X C O W
        ∗ ((oBlk i).view.loc (thr d i) ↦[blkSet i]{fullShare} f₀) ∗ semVal (scell d i cc1_scoped5) 0)
      ⊢ wp frame (wpE (defs₀ (F := F)) 𝒱₀ (thr d i) none) Set.univ
          (do
            k1_part99 i xV wh cV' wh bV wh oV wh s0 wh s1 wh s2 wh s3 wh s4 wh cc1_scoped0 cc1_scoped1 cc1_scoped2 cc1_scoped3 cc1_scoped4 cc1_scoped5 p hk (k1_pay594 (cut (half p σ (rowOf p)) 16)) (cut σ.A 16)
            let v107 : Memref sig .scVector .vmem S320x64 .f32 := (s3).slice (Rect.unit (s := S336x64) ![0, 0] S320x64.size inb_S336x64_S320x64_0_0) (fun _ => rfl)
            let v106 : Memref sig .scVector .hbm S320x64 .f32 := (oV).slice (Rect.unit (s := S10240x64) (k1_off280 i) S320x64.size (k1_off280_inb i)) (fun _ => rfl)
            Prog.lift (.waitDma2 cc1_scoped5.sem v107 v106 (View.wordExact_bits rfl) (View.wordExact_bits rfl))
            pure (PUnit.unit : PUnit.{1}))
          fun _ => iprop((∃ f, (thr d i).loc cc1_scratch1 ↦{fullShare} f) ∗ (∃ f, (thr d i).loc cc1_scratch2 ↦{fullShare} f)
            ∗ (∃ f, (thr d i).loc cc1_scratch3 ↦{fullShare} f) ∗ (∃ f, (thr d i).loc cc1_scratch4 ↦{fullShare} f)
            ∗ Beside d i q X C O W ∗ semVal (scell d i cc1_scoped5) 0
            ∗ ∃ g, ((oBlk i).view.loc (thr d i) ↦[blkSet i]{fullShare} g) ∗ ⌜∀ y : S320x64.Idx, (oBlk i).view.read (Elt F) g y = (flush z p σ).T (y 0).val (y 1)⌝) := by
  rw [k1_part99_eq_skeleton]; unfold k1_part99_skel
  iintro ⟨#Hmw, HH, HB, Ho, Hm5⟩
  rw [bind_assoc, wp_bind]; iapply (Does.step loadT) $$ HH; iintro HH
  rw [bind_assoc, wp_bind]; iapply (Does.step storeT) $$ HH; iintro HH
  rw [bind_assoc, wp_bind]; iapply (Does.step loadT) $$ HH; iintro HH
  rw [bind_assoc, wp_bind]; iapply (Does.step (loadA rfl)) $$ HH; iintro HH
  rw [bind_assoc, wp_bind]; iapply (Does.step loadT) $$ HH; iintro HH
  rw [bind_assoc, wp_bind]; iapply (Does.step storeT) $$ HH; iintro HH
  rw [bind_assoc, wp_bind]; iapply (Does.step loadT) $$ HH; iintro HH
  rw [bind_assoc, wp_bind]; iapply (Does.step (loadA rfl)) $$ HH; iintro HH
  rw [bind_assoc, wp_bind]; iapply (Does.step loadT) $$ HH; iintro HH
  rw [bind_assoc, wp_bind]; iapply (Does.step storeT) $$ HH; iintro HH
  ihave HH := (Entails.of_eq (holds_eq d i _ _ _)) $$ HH
  unfold Ids Rows Tab Beside
  icases HH with ⟨⟨%f1, H1, -⟩, ⟨%f2, H2, -⟩, ⟨%f3, H3, %h3⟩, ⟨%f4, H4, -⟩⟩
  icases HB with ⟨Hx, Hc, Hm1, Hm2, %W', %hW, HO⟩
  have h3' : ∀ y : S336x64.Idx, (s3).view.read (Elt F) f3 y = (flush z p σ).T (y 0).val (y 1) := fun y =>
    (h3 y).trans (congrFun (congrFun (tab_close σ p _ _ _ rfl rfl rfl z) _) _)
  clear h3
  ihave H3' := (Entails.of_eq (show ((s3).view.loc (thr d i) ↦[(s3).view.set]{fullShare} f3 : sProp 𝕄) = (s3).view.loc (thr d i) ↦{fullShare} f3 from
    (pts_whole d i cc1_scratch3 f3).symm)) $$ H3
  ihave Ho' := (Entails.of_eq (show ((oBlk i).view.loc (thr d i) ↦[blkSet i]{fullShare} f₀ : sProp 𝕄) =
    (((oV).slice (Rect.unit (s := S10240x64) (k1_off280 i) S320x64.size (k1_off280_inb i)) (fun _ => rfl)).view.loc (thr d i) ↦[((oV).slice (Rect.unit (s := S10240x64) (k1_off280 i) S320x64.size (k1_off280_inb i)) (fun _ => rfl)).view.set]{fullShare} f₀) from rfl)) $$ Ho
  ihave Hm5' := (Entails.of_eq (show (semVal (scell d i cc1_scoped5) 0 : sProp 𝕄) = semVal (thr d i, .dma cc1_scoped5.sem) 0 from rfl)) $$ Hm5
  sl_exec
  sl_step
  have g1 : ∀ y : S320x64.Idx, (oBlk i).view.read (Elt F) ((oBlk i).view.writes (Elt F) f₀
      [⟨Rect.whole (blk i).shape, finish.sl.dma0 d i f3⟩]) y = (flush z p σ).T (y 0).val (y 1) := fun y =>
    (View.read_writes_cons_hit (Val := Elt F) (oBlk i).view f₀ (Rect.whole (blk i).shape) (finish.sl.dma0 d i f3) [] y y
      (by funext a; refine Fin.ext ?_; show 0 + 1 * _ = _; omega)).trans (by
        have hy0 : (y 0).val < 320 := (y 0).isLt
        refine Eq.trans ?_ (h3' (fun a => match a with | 0 => (⟨(y 0).val, by omega⟩ : Fin 336) | 1 => (y 1 : Fin 64)))
        unfold finish.sl.dma0
        show f3 _ = f3 _
        congr 1
        funext a
        match a with
        | 0 => refine Fin.ext ?_; show 0 + 1 * (y 0).val = (y 0).val; omega
        | 1 => refine Fin.ext ?_; show 0 + 1 * (y 1).val = (y 1).val; omega)
  isplitl [H1]; · iexists f1; iapply (Entails.of_eq (pts_whole d i cc1_scratch1 f1).symm); iexact H1
  isplitl [H2]; · iexists f2; iapply (Entails.of_eq (pts_whole d i cc1_scratch2 f2).symm); iexact H2
  isplitl [H3']; · iexists f3; iexact H3'
  isplitl [H4]; · iexists f4; iapply (Entails.of_eq (pts_whole d i cc1_scratch4 f4).symm); iexact H4
  isplitl [Hx Hc Hm1 Hm2 HO]
  · isplitl [Hx]; · iexact Hx
    isplitl [Hc]; · iexact Hc
    isplitl [Hm1]; · iexact Hm1
    isplitl [Hm2]; · iexact Hm2
    iexists _; isplitr
    swap; · iexact HO
    ipureintro; intro w hw
    rcases Finset.mem_insert.mp hw with hw | hw; · exact .inr (hw ▸ rfl)
    exact hW w hw
  isplitl [Hm5']; · iexact Hm5'
  iexists _; isplitl [Ho']
  · iexact Ho'
  · ipureintro; exact g1

end Cert.Proof.Pool
-- ==== Proof.Bounds.lean ====
module
public import proofs.«01_k».proof.Proof.HostOps
public import proofs.«01_k».proof.Proof.Tile
public import Idealize.ShloMosaic.Lib.StableHlo.Predicate
public import Idealize.ShloMosaic.Lib.KernelVsHost
public import Idealize.ShloMosaic.Lib.ValueIdxCore
@[expose] public section
/-! The bounds that the tiles read: bound `w` is the number of rows whose cluster is below cluster `320 w` (or below cluster 10000 where that is less).
    They grow with `w` and none is more than the number of rows, whatever the clusters are. -/
noncomputable section
namespace Cert.Proof.Pool
open Cert.KernelIdeal Cert.KernelIdeal.Gen
open Idealize.ShloMosaic Idealize.ShloMosaic.ValueIdx
variable {F : FTy → Type} [FloatOps F]

/-- The first cluster of tile `w`, as the host computes it. -/
def firstOf : IVec S33 32 :=
  minsi (muli (iotaInDim S33 32 0) (broadcastInDim S33 ![] bcast_S_S33 (constantI S_ 32 320#32))) (broadcastInDim S33 ![] bcast_S_S33 (constantI S_ 32 10000#32))

/-- Row by tile: is the row's cluster below the tile's first? -/
def belowOf (ids : IVec S640000 32) : IVec S640000x33 1 :=
  cmpi .slt (broadcastInDim S640000x33 ![0, 1] bcast_S640000x1_S640000x33_0_1 (broadcastInDim S640000x1 ![0] bcast_S640000_S640000x1_0 ids))
    (broadcastInDim S640000x33 ![0, 1] bcast_S1x33_S640000x33_0_1 (broadcastInDim S1x33 ![1] bcast_S33_S1x33_1 firstOf))

/-- The counts of rows below each tile's first cluster. -/
def countsOf (ids : IVec S640000 32) : IVec S33 32 :=
  Host.reduce IntOp.addi (extui 32 (belowOf ids) natLt_1_32) (constantI S_ 32 0#32) reducesTo_S640000x33_S33_d0 h_S_

/-- The bounds: the counts, and 15 words of padding. -/
def boundsOf (ids : IVec S640000 32) : IVec S48 32 :=
  pad S48 ![0] ![15] ![0] (countsOf ids) (constantI S_ 32 0#32) pads_S33_S48_0150 h_S_

/-- Tile `w`'s first cluster as a number. -/
theorem firstOf_at (k : S33.Idx) : (firstOf k).toInt = ((min (320 * (k 0).val) 10000 : ℕ) : ℤ) := by
  have h : ∀ n : Fin 33, (IntOp.minsi (IntOp.muli (BitVec.ofNat 32 n.val) 320#32) 10000#32).toInt = ((min (320 * n.val) 10000 : ℕ) : ℤ) := by decide
  exact h (k 0)

/-- The comparison at row `p` and tile `w`. -/
theorem belowOf_at (ids : IVec S640000 32) (p : Fin 640000) (q : Fin 33) :
    belowOf ids (StableHlo.Predicate.ij p q) = 1#1 ↔ (ids (ix1 p)).toInt < ((min (320 * q.val) 10000 : ℕ) : ℤ) := by
  have h1 : (broadcastInDim S640000x33 ![0, 1] bcast_S640000x1_S640000x33_0_1 (broadcastInDim S640000x1 ![0] bcast_S640000_S640000x1_0 ids)) (StableHlo.Predicate.ij p q)
      = ids (ix1 p) := by
    refine congrArg ids (funext fun a => ?_)
    match a with
    | ⟨0, _⟩ => rfl
  have h2 : (broadcastInDim S640000x33 ![0, 1] bcast_S1x33_S640000x33_0_1 (broadcastInDim S1x33 ![1] bcast_S33_S1x33_1 firstOf)) (StableHlo.Predicate.ij p q)
      = firstOf (ix1 q) := by
    refine congrArg firstOf (funext fun a => ?_)
    match a with
    | ⟨0, _⟩ => rfl
  show IntOp.cmpi .slt _ _ = 1#1 ↔ _
  rw [h1, h2]
  have h3 := firstOf_at (ix1 q)
  change _ = ((min (320 * q.val) 10000 : ℕ) : ℤ) at h3
  rw [← h3]
  show BitVec.ofBool (decide _) = 1#1 ↔ _
  by_cases hlt : (ids (ix1 p)).toInt < (firstOf (ix1 q)).toInt
  · rw [decide_eq_true hlt]; exact ⟨fun _ => hlt, fun _ => rfl⟩
  · rw [decide_eq_false hlt]; exact ⟨fun h => absurd h (by decide), fun h => absurd h hlt⟩

/-- The number of rows below tile `w`'s first cluster. -/
def below (ids : IVec S640000 32) (w : ℕ) : ℕ :=
  (Finset.univ.filter fun p : Fin 640000 => (ids (ix1 p)).toInt < ((min (320 * w) 10000 : ℕ) : ℤ)).card

theorem bound_boundsOf (ids : IVec S640000 32) (w : ℕ) (hw : w ≤ 32) : (bound (boundsOf ids) w).toNat = below ids w := by
  have e : bound (boundsOf ids) w = countsOf ids (ix1 (Fin.ofNat 33 w : Fin 33)) := by
    unfold bound boundsOf
    refine pad_apply_of_inside ![0] ![15] ![0] (countsOf ids) (constantI S_ 32 0#32) pads_S33_S48_0150 h_S_ _ (ix1 (Fin.ofNat 33 w : Fin 33)) fun a => ?_
    match a with
    | ⟨0, _⟩ =>
      show w % 48 = 0 + w % 33 * (0 + 1)
      omega
  rw [e, countsOf, StableHlo.Predicate.toNat_reduce_count_rows (by decide)]
  have hv : (Fin.ofNat 33 w : Fin 33).val = w := Nat.mod_eq_of_lt (by omega)
  refine congrArg Finset.card (Finset.filter_congr fun p _ => ?_)
  refine (belowOf_at ids p _).trans ?_
  show _ < ((min (320 * (Fin.ofNat 33 w : Fin 33).val) 10000 : ℕ) : ℤ) ↔ _
  rw [hv]

theorem below_le (ids : IVec S640000 32) (w : ℕ) : below ids w ≤ 640000 :=
  (Finset.card_le_univ _).trans (by simp)

theorem below_mono (ids : IVec S640000 32) {v w : ℕ} (h : v ≤ w) : below ids v ≤ below ids w := by
  refine Finset.card_le_card (Finset.monotone_filter_right _ fun p _ hp => lt_of_lt_of_le hp ?_)
  exact_mod_cast min_le_min_right _ (Nat.mul_le_mul_left 320 h)

theorem boundsOk (ids : IVec S640000 32) : BoundsOk (boundsOf ids) := fun w hw => by
  rw [bound_boundsOf ids w (by omega), bound_boundsOf ids (w + 1) (by omega)]
  exact ⟨below_mono ids (by omega), below_le ids _⟩

end Cert.Proof.Pool
end
-- ==== Proof.HostReads.lean ====
module
public import proofs.«01_k».proof.Proof.Bounds
@[expose] public section
/-! What the host's operations leave: the arguments as they were, and the bounds. -/
noncomputable section
namespace Cert.Proof.Pool
open Cert.KernelIdeal Cert.KernelIdeal.Gen
open Idealize.ShloMosaic
open Idealize.ShloMosaic.TcCoe
variable {F : FTy → Type} [FloatOps F]

/-- The references that the host's operations write, in order. -/
def hostWrites : List (Ref sig .tc) :=
  [main_v0, main_c, main_v1, main_v2, main_c_0, main_v3, main_v4, main_call0_call0_v0, main_call0_call0_v1, main_call0_call0_v2, main_call0_call0_v3, main_call0_call0_v4,
   main_call0_call0_v5, main_call0_call0_c, main_v5, main_c_1, main_call1_v0, main_v6, main_v7, main_v8, main_v9, main_v10, main_v11, main_v12, main_v13, main_v14, main_v15,
   main_v16, main_c_2, main_call2_v0, main_v17, main_c_3, main_call3_v0, main_v18, main_v19, main_v20, main_c_4, main_v21, main_v22, main_v23, main_v24]

theorem hostOps_writes : (hostOps (F := F)).map HloOp.writes = hostWrites.map fun w => {Proc.devRef .tc w} := rfl

/-- A buffer that no host operation writes keeps its contents. -/
theorem after_kept {r : Ref sig .tc} (hr : r ∉ hostWrites) (V) : StableHlo.after (hostOps (F := F)) V (Proc.devRef .tc r) = V (Proc.devRef .tc r) :=
  StableHlo.after_unwritten hostWrites hostOps_writes hr V

set_option maxRecDepth 8192 in
theorem after_bounds (V) : StableHlo.after (hostOps (F := F)) V (Proc.devRef .tc main_v6) = boundsOf (V (Proc.devRef .tc main_arg2)) := by
  after_reads_simp
  all_goals try simp -implicitDefEqProofs only [StableHlo.TRef.toBuf, StableHlo.TRef.ofBuf, cast_cast, cast_eq]
  all_goals rfl

end Cert.Proof.Pool
end
-- ==== Proof.Mlp.lean ====
module
public import proofs.«01_k».proof.Proof.Setup
public import proofs.«01_k».proof.Proof.Gen.KernelIdeal.Launch
public import proofs.«01_k».proof.Proof.Gen.KernelIdeal.Points
public import Idealize.ShloMosaic.Lib.Pipeline.Regions
public import Idealize.ShloMosaic.Lib.Pipeline.FrameBody
public import Idealize.ShloMosaic.Lib.VecWindow
@[expose] public section
/-! The two TensorCore kernels' bodies: each loads its blocks, computes, and stores one block. -/
noncomputable section
namespace Cert.Proof.Pool
open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
variable {F : FTy → Type} [FloatOps F]

local notation "𝕄" => MT nD τ sig (HIx 1) (Elt F) ℕ UU ℕ

/-- The first row of an eight-row block. -/
def topRow64 (x : S8x64.Idx → Elt F .f32) : Vec F S1x64 .f32 :=
  fun y => x ((Rect.unit (s := S8x64) ![0, 0] S1x64.size inb_S8x64_S1x64_0_0).toLoadRect.idx y)
def topRow8 (x : S8x8.Idx → Elt F .f32) : Vec F S1x8 .f32 :=
  fun y => x ((Rect.unit (s := S8x8) ![0, 0] S1x8.size inb_S8x8_S1x8_0_0).toLoadRect.idx y)
def topRowIds (x : S8x10240.Idx → Elt F .i32) : Vec F S1x10240 .i32 :=
  fun y => x ((Rect.unit (s := S8x10240) ![0, 0] S1x10240.size inb_S8x10240_S1x10240_0_0).toLoadRect.idx y)

/-- The MLP's block from the blocks of its operands. -/
def mlpBlock (x : S7x5120.Idx → Elt F .bf16) (w1 : S7x64.Idx → Elt F .bf16) (b1 : S8x64.Idx → Elt F .f32)
    (w2 : S64x64.Idx → Elt F .bf16) (b2 : S8x64.Idx → Elt F .f32) : S5120x64.Idx → Elt F .f32 :=
  k0_pay1 x w1 (topRow64 b1) w2 (topRow64 b2)

/-- The head's block from its operands. -/
def headBlock (x : S10240x64.Idx → Elt F .f32) (w3 : S64x8.Idx → Elt F .f32) (b3 : S8x8.Idx → Elt F .f32)
    (cb : S8x10240.Idx → Elt F .i32) : S16x4.Idx → Elt F .f32 :=
  k2_pay1 x w3 (topRow8 b3) (topRowIds cb)

abbrev held (c : Dev nD) {sp : Space} {S : Shape} {e : EltTy} (M : Memref sig .tc sp S e) (f : Buf (Elt F) (M.view.loc (c : Thread nD τ))) : sProp 𝕄 :=
  M.view.loc (c : Thread nD τ) ↦{fullShare} f

set_option maxHeartbeats 400000 in
/-- The MLP's body stores the MLP of its blocks. -/
theorem mlp_run (c : Dev nD) (i : grid0.Coords) (M1 : Memref sig .tc .vmem S7x5120 .bf16) (h1 : M1.IsWhole) (M2 : Memref sig .tc .vmem S7x64 .bf16) (h2 : M2.IsWhole)
    (M3 : Memref sig .tc .vmem S8x64 .f32) (h3 : M3.IsWhole) (M4 : Memref sig .tc .vmem S64x64 .bf16) (h4 : M4.IsWhole)
    (M5 : Memref sig .tc .vmem S8x64 .f32) (h5 : M5.IsWhole) (M6 : Memref sig .tc .vmem S5120x64 .f32) (h6 : M6.IsWhole)
    (f1 : Buf (Elt F) (M1.view.loc (c : Thread nD τ))) (f2 : Buf (Elt F) (M2.view.loc (c : Thread nD τ))) (f3 : Buf (Elt F) (M3.view.loc (c : Thread nD τ)))
    (f4 : Buf (Elt F) (M4.view.loc (c : Thread nD τ))) (f5 : Buf (Elt F) (M5.view.loc (c : Thread nD τ))) (f6 : Buf (Elt F) (M6.view.loc (c : Thread nD τ)))
    (Q : PUnit → sProp 𝕄) :
    iprop(held c M1 f1 ∗ held c M2 f2 ∗ held c M3 f3 ∗ held c M4 f4 ∗ held c M5 f5 ∗ held c M6 f6
        ∗ (iprop(held c M1 f1 ∗ held c M2 f2 ∗ held c M3 f3 ∗ held c M4 f4 ∗ held c M5 f5
            ∗ ∃ g, ⌜M6.view.read (Elt F) g = mlpBlock (M1.view.read (Elt F) f1) (M2.view.read (Elt F) f2) (M3.view.read (Elt F) f3) (M4.view.read (Elt F) f4) (M5.view.read (Elt F) f5)⌝
              ∗ held c M6 g) -∗ Q ⟨⟩))
      ⊢ wp frame (wpE (defs₀ (F := F)) Variants.none c none) Set.univ (cc0__mlp_body i M1 h1 M2 h2 M3 h3 M4 h4 M5 h5 M6 h6) Q := by
  rw [cc0__mlp_body_eq_skeleton]
  unfold cc0__mlp_body_skel
  iintro ⟨H1, H2, H3, H4, H5, H6, Hk⟩
  sl_exec!
  sl_step
  iapply Hk
  isplitl [H1]; · iexact H1
  isplitl [H2]; · iexact H2
  isplitl [H3]; · iexact H3
  isplitl [H4]; · iexact H4
  isplitl [H5]; · iexact H5
  iexists _; isplitr; swap; · iexact H6
  ipureintro
  unfold mlp_run.sl.H6_1
  rw [View.read_writes_full]
  unfold mlpBlock
  rw [← View.readAt_full M1.view f1 inb_S7x5120_S7x5120_0_0, ← View.readAt_full M2.view f2 inb_S7x64_S7x64_0_0, ← View.readAt_full M4.view f4 inb_S64x64_S64x64_0_0]
  rfl

set_option maxHeartbeats 400000 in
/-- The head's body stores the head of its operands. -/
theorem head_run (c : Dev nD) (M1 : Memref sig .tc .vmem S10240x64 .f32) (h1 : M1.IsWhole) (M2 : Memref sig .tc .vmem S64x8 .f32) (h2 : M2.IsWhole)
    (M3 : Memref sig .tc .vmem S8x8 .f32) (h3 : M3.IsWhole) (M4 : Memref sig .tc .vmem S8x10240 .i32) (h4 : M4.IsWhole)
    (M5 : Memref sig .tc .vmem S16x4 .f32) (h5 : M5.IsWhole)
    (f1 : Buf (Elt F) (M1.view.loc (c : Thread nD τ))) (f2 : Buf (Elt F) (M2.view.loc (c : Thread nD τ))) (f3 : Buf (Elt F) (M3.view.loc (c : Thread nD τ)))
    (f4 : Buf (Elt F) (M4.view.loc (c : Thread nD τ))) (f5 : Buf (Elt F) (M5.view.loc (c : Thread nD τ)))
    (Q : PUnit → sProp 𝕄) :
    iprop(held c M1 f1 ∗ held c M2 f2 ∗ held c M3 f3 ∗ held c M4 f4 ∗ held c M5 f5
        ∗ (iprop(held c M1 f1 ∗ held c M2 f2 ∗ held c M3 f3 ∗ held c M4 f4
            ∗ ∃ g, ⌜M5.view.read (Elt F) g = headBlock (M1.view.read (Elt F) f1) (M2.view.read (Elt F) f2) (M3.view.read (Elt F) f3) (M4.view.read (Elt F) f4)⌝
              ∗ held c M5 g) -∗ Q ⟨⟩))
      ⊢ wp frame (wpE (defs₀ (F := F)) Variants.none c none) Set.univ (cc2__head_body M1 h1 M2 h2 M3 h3 M4 h4 M5 h5) Q := by
  rw [cc2__head_body_eq_skeleton]
  unfold cc2__head_body_skel
  iintro ⟨H1, H2, H3, H4, H5, Hk⟩
  sl_exec!
  sl_step
  iapply Hk
  isplitl [H1]; · iexact H1
  isplitl [H2]; · iexact H2
  isplitl [H3]; · iexact H3
  isplitl [H4]; · iexact H4
  iexists _; isplitr; swap; · iexact H5
  ipureintro
  unfold head_run.sl.H5_1
  rw [View.read_writes_full]
  unfold headBlock
  rw [← View.readAt_full M1.view f1 inb_S10240x64_S10240x64_0_0, ← View.readAt_full M2.view f2 inb_S64x8_S64x8_0_0]
  rfl

theorem owns_held (c : Dev nD) {sp : Space} {S : Shape} {e : EltTy} (M : Memref sig .tc sp S e) (h : M.IsWhole) (x : S.Idx → Elt F e) :
    (owns (c : Thread nD τ) M fullShare x : sProp 𝕄) = iprop(∃ f, ⌜M.view.read (Elt F) f = x⌝ ∗ held c M f) := by
  unfold owns held; rw [Memref.IsWhole.set_eq_univ h]

/-- The MLP's body over blocks read through the memrefs. -/
theorem mlp_owns (c : Dev nD) (i : grid0.Coords) (M1 : Memref sig .tc .vmem S7x5120 .bf16) (h1 : M1.IsWhole) (M2 : Memref sig .tc .vmem S7x64 .bf16) (h2 : M2.IsWhole)
    (M3 : Memref sig .tc .vmem S8x64 .f32) (h3 : M3.IsWhole) (M4 : Memref sig .tc .vmem S64x64 .bf16) (h4 : M4.IsWhole)
    (M5 : Memref sig .tc .vmem S8x64 .f32) (h5 : M5.IsWhole) (M6 : Memref sig .tc .vmem S5120x64 .f32) (h6 : M6.IsWhole)
    (x1 : S7x5120.Idx → Elt F .bf16) (x2 : S7x64.Idx → Elt F .bf16) (x3 : S8x64.Idx → Elt F .f32) (x4 : S64x64.Idx → Elt F .bf16)
    (x5 : S8x64.Idx → Elt F .f32) (x6 : S5120x64.Idx → Elt F .f32) (Q : PUnit → sProp 𝕄) :
    iprop(owns (c : Thread nD τ) M1 fullShare x1 ∗ owns (c : Thread nD τ) M2 fullShare x2 ∗ owns (c : Thread nD τ) M3 fullShare x3
        ∗ owns (c : Thread nD τ) M4 fullShare x4 ∗ owns (c : Thread nD τ) M5 fullShare x5 ∗ owns (c : Thread nD τ) M6 fullShare x6
        ∗ (iprop(owns (c : Thread nD τ) M1 fullShare x1 ∗ owns (c : Thread nD τ) M2 fullShare x2 ∗ owns (c : Thread nD τ) M3 fullShare x3
            ∗ owns (c : Thread nD τ) M4 fullShare x4 ∗ owns (c : Thread nD τ) M5 fullShare x5 ∗ owns (c : Thread nD τ) M6 fullShare (mlpBlock x1 x2 x3 x4 x5)) -∗ Q ⟨⟩))
      ⊢ wp frame (wpE (defs₀ (F := F)) Variants.none c none) Set.univ (cc0__mlp_body i M1 h1 M2 h2 M3 h3 M4 h4 M5 h5 M6 h6) Q := by
  rw [owns_held c M1 h1, owns_held c M2 h2, owns_held c M3 h3, owns_held c M4 h4, owns_held c M5 h5, owns_held c M6 h6, owns_held c M6 h6]
  iintro ⟨⟨%f1, %e1, H1⟩, ⟨%f2, %e2, H2⟩, ⟨%f3, %e3, H3⟩, ⟨%f4, %e4, H4⟩, ⟨%f5, %e5, H5⟩, ⟨%f6, %e6, H6⟩, Hk⟩
  iapply (mlp_run c i M1 h1 M2 h2 M3 h3 M4 h4 M5 h5 M6 h6 f1 f2 f3 f4 f5 f6 Q)
  isplitl [H1]; · iexact H1
  isplitl [H2]; · iexact H2
  isplitl [H3]; · iexact H3
  isplitl [H4]; · iexact H4
  isplitl [H5]; · iexact H5
  isplitl [H6]; · iexact H6
  iintro ⟨H1, H2, H3, H4, H5, ⟨%g, %hg, H6⟩⟩
  iapply Hk
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  isplitl [H5]; · iexists f5; isplitr; swap; (· iexact H5); ipureintro; exact e5
  iexists g; isplitr; swap; (· iexact H6); ipureintro
  rw [hg, e1, e2, e3, e4, e5]

/-- The head's body over blocks read through the memrefs. -/
theorem head_owns (c : Dev nD) (M1 : Memref sig .tc .vmem S10240x64 .f32) (h1 : M1.IsWhole) (M2 : Memref sig .tc .vmem S64x8 .f32) (h2 : M2.IsWhole)
    (M3 : Memref sig .tc .vmem S8x8 .f32) (h3 : M3.IsWhole) (M4 : Memref sig .tc .vmem S8x10240 .i32) (h4 : M4.IsWhole)
    (M5 : Memref sig .tc .vmem S16x4 .f32) (h5 : M5.IsWhole)
    (x1 : S10240x64.Idx → Elt F .f32) (x2 : S64x8.Idx → Elt F .f32) (x3 : S8x8.Idx → Elt F .f32) (x4 : S8x10240.Idx → Elt F .i32)
    (x5 : S16x4.Idx → Elt F .f32) (Q : PUnit → sProp 𝕄) :
    iprop(owns (c : Thread nD τ) M1 fullShare x1 ∗ owns (c : Thread nD τ) M2 fullShare x2 ∗ owns (c : Thread nD τ) M3 fullShare x3
        ∗ owns (c : Thread nD τ) M4 fullShare x4 ∗ owns (c : Thread nD τ) M5 fullShare x5
        ∗ (iprop(owns (c : Thread nD τ) M1 fullShare x1 ∗ owns (c : Thread nD τ) M2 fullShare x2 ∗ owns (c : Thread nD τ) M3 fullShare x3
            ∗ owns (c : Thread nD τ) M4 fullShare x4 ∗ owns (c : Thread nD τ) M5 fullShare (headBlock x1 x2 x3 x4)) -∗ Q ⟨⟩))
      ⊢ wp frame (wpE (defs₀ (F := F)) Variants.none c none) Set.univ (cc2__head_body M1 h1 M2 h2 M3 h3 M4 h4 M5 h5) Q := by
  rw [owns_held c M1 h1, owns_held c M2 h2, owns_held c M3 h3, owns_held c M4 h4, owns_held c M5 h5, owns_held c M5 h5]
  iintro ⟨⟨%f1, %e1, H1⟩, ⟨%f2, %e2, H2⟩, ⟨%f3, %e3, H3⟩, ⟨%f4, %e4, H4⟩, ⟨%f5, %e5, H5⟩, Hk⟩
  iapply (head_run c M1 h1 M2 h2 M3 h3 M4 h4 M5 h5 f1 f2 f3 f4 f5 Q)
  isplitl [H1]; · iexact H1
  isplitl [H2]; · iexact H2
  isplitl [H3]; · iexact H3
  isplitl [H4]; · iexact H4
  isplitl [H5]; · iexact H5
  iintro ⟨H1, H2, H3, H4, ⟨%g, %hg, H5⟩⟩
  iapply Hk
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  iexists g; isplitr; swap; (· iexact H5); ipureintro
  rw [hg, e1, e2, e3, e4]

end Cert.Proof.Pool
end
-- ==== Proof.RegionMlp.lean ====
module
public import proofs.«01_k».proof.Proof.Mlp
public import Idealize.ShloMosaic.Lib.SparseCore.Quiescent
public import Idealize.ShloMosaic.Lib.Pipeline.RegionsLoop
@[expose] public section
/-! The MLP as a region of the launch: entered with every array at a valuation, left with its result written. -/
noncomputable section
namespace Cert.Proof.Pool
open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
variable {F : FTy → Type} [FloatOps F]

local notation "𝕄" => MT nD τ sig (HIx 1) (Elt F) ℕ UU ℕ

/-- The pipelines' rounds within the algebra. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-- The pipelines have no tables. -/
abbrev adm : (p : Fin 2) → (pcfgs (F := F) p).Adm := fun p => (cfgs p).toPCfg_adm

/-- Proof data for the pipeline a region does not run. -/
def junkDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-- Contents of a core's buffers. -/
abbrev Vals : Type := (c : Dev nD) → (b : Ref sig .tc) → Buf (Elt F) ((c : Thread nD τ).loc b)

/-- What a core owes and may have recorded around a region. -/
abbrev Owing (O : Dev nD → CellTallies nD τ sig (HIx 1)) (R : Set (SemLoc sig × HIx 1)) (c : Dev nD) : sProp 𝕄 :=
  iprop(∃ W, ⌜∀ p ∈ W, p ∈ R ∨ p.2 = none⌝ ∗ owes (c : Thread nD τ) (O c) W)

variable (V : Vals (F := F)) (O : Dev nD → CellTallies nD τ sig (HIx 1)) (R : Set (SemLoc sig × HIx 1))

/-- The MLP's proof data at entry contents `V`. -/
def mlpDat (c : Dev nD) : Dat τ (Elt F) (HIx 1) ℕ UU ℕ cfg0 c where
  A w := V c (Pipeline.arrRef spec0 w)
  after w t := match w with
    | ⟨0, _⟩ => ((cfg0.win 0).blk t).view.read (Elt F) (V c main_v10)
    | ⟨1, _⟩ => ((cfg0.win 1).blk t).view.read (Elt F) (V c main_v11)
    | ⟨2, _⟩ => ((cfg0.win 2).blk t).view.read (Elt F) (V c main_v13)
    | ⟨3, _⟩ => ((cfg0.win 3).blk t).view.read (Elt F) (V c main_v14)
    | ⟨4, _⟩ => ((cfg0.win 4).blk t).view.read (Elt F) (V c main_v16)
    | ⟨5, _⟩ => mlpBlock (((cfg0.win 0).blk t).view.read (Elt F) (V c main_v10)) (((cfg0.win 1).blk t).view.read (Elt F) (V c main_v11))
        (((cfg0.win 2).blk t).view.read (Elt F) (V c main_v13)) (((cfg0.win 3).blk t).view.read (Elt F) (V c main_v14)) (((cfg0.win 4).blk t).view.read (Elt F) (V c main_v16))
  Φ _ := Pipeline.scopedRest (Ix := HIx 1) (Name := ℕ) (U := UU) (Lvl := ℕ) (Val := Elt F) spec0 c
  q _ := fullShare
  owed _ := O c
  recorded _ := {p | p ∈ R ∨ p.2 = none}

def mlpDats : (p : Fin 2) → (c : Dev nD) → Dat τ (Elt F) (HIx 1) ℕ UU ℕ (Pipeline.pin (pcfgs (F := F)) adm p) c
  | ⟨0, _⟩ => fun c => mlpDat V O R c
  | ⟨1, _⟩ => fun c => junkDat c

/-- The MLP's result: its blocks written back, one after the other. -/
def mlpOut (c : Dev nD) : Buf (Elt F) ((c : Thread nD τ).loc main_v25) := (mlpDat V (fun _ => 0) ∅ c).arrAt 5 cfg0.N

theorem mlp_before0 (c : Dev nD) (t : Fin cfg0.N) (d : (cfg0.win 0).block.Idx → Elt F (cfg0.win 0).elt) :
    (mlpDat V O R c).before 0 t d = ((cfg0.win 0).blk t).view.read (Elt F) (V c main_v10) :=
  Dat.before_in_eq_fetched (mlpDat V O R c) 0 rfl (fun _ => rfl) (fun _ _ _ => rfl) (fun _ => rfl) t d
theorem mlp_before1 (c : Dev nD) (t : Fin cfg0.N) (d : (cfg0.win 1).block.Idx → Elt F (cfg0.win 1).elt) :
    (mlpDat V O R c).before 1 t d = ((cfg0.win 1).blk t).view.read (Elt F) (V c main_v11) :=
  Dat.before_in_eq_fetched (mlpDat V O R c) 1 rfl (fun _ => rfl) (fun _ _ _ => rfl) (fun _ => rfl) t d
theorem mlp_before2 (c : Dev nD) (t : Fin cfg0.N) (d : (cfg0.win 2).block.Idx → Elt F (cfg0.win 2).elt) :
    (mlpDat V O R c).before 2 t d = ((cfg0.win 2).blk t).view.read (Elt F) (V c main_v13) :=
  Dat.before_in_eq_fetched (mlpDat V O R c) 2 rfl (fun _ => rfl) (fun _ _ _ => rfl) (fun _ => rfl) t d
theorem mlp_before3 (c : Dev nD) (t : Fin cfg0.N) (d : (cfg0.win 3).block.Idx → Elt F (cfg0.win 3).elt) :
    (mlpDat V O R c).before 3 t d = ((cfg0.win 3).blk t).view.read (Elt F) (V c main_v14) :=
  Dat.before_in_eq_fetched (mlpDat V O R c) 3 rfl (fun _ => rfl) (fun _ _ _ => rfl) (fun _ => rfl) t d
theorem mlp_before4 (c : Dev nD) (t : Fin cfg0.N) (d : (cfg0.win 4).block.Idx → Elt F (cfg0.win 4).elt) :
    (mlpDat V O R c).before 4 t d = ((cfg0.win 4).blk t).view.read (Elt F) (V c main_v16) :=
  Dat.before_in_eq_fetched (mlpDat V O R c) 4 rfl (fun _ => rfl) (fun _ _ _ => rfl) (fun _ => rfl) t d

/-- The body at a point: its operands' blocks as fetched, its result's block the MLP of them. -/
theorem mlp_obligation (c : Dev nD) : BodyObligation (mlpDat V O R c) (defs₀ (F := F)) 𝒱₀ none Set.univ := fun t => by
  rw [bigSep_W0, bigSep_W0]
  rw [show (mlpDat V O R c).Φ t.castSucc = (mlpDat V O R c).Φ t.succ from rfl,
    show (mlpDat V O R c).owesAt none t.succ = (mlpDat V O R c).owesAt none t.castSucc from rfl]
  iintro ⟨HΦ, Howes, ⟨%d0, H0⟩, ⟨%d1, H1⟩, ⟨%d2, H2⟩, ⟨%d3, H3⟩, ⟨%d4, H4⟩, ⟨%d5, H5⟩⟩
  rw [mlp_before0, mlp_before1, mlp_before2, mlp_before3, mlp_before4]
  iapply (mlp_owns c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5)) _ _ _ _ _ _ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  iexact H5

/-- A window's array depends on its first contents and on what the body leaves there only. -/
theorem arrAt_ext {cfg : Pipeline.Cfg sig Λ₀} {c : Dev nD} (a b : Dat τ (Elt F) (HIx 1) ℕ UU ℕ cfg c) (w : Fin cfg.W)
    (hA : a.A w = b.A w) (hafter : a.after w = b.after w) (n : ℕ) : a.arrAt w n = b.arrAt w n := by
  induction n with
  | zero => exact hA
  | succ n ih => simp only [Dat.arrAt, ih, Dat.flushed, hafter]

/-- The result's array does not depend on what the core owes. -/
theorem mlp_arrAt (c : Dev nD) (n : ℕ) : (mlpDat V O R c).arrAt 5 n = (mlpDat V (fun _ => 0) ∅ c).arrAt 5 n :=
  arrAt_ext (mlpDat V O R c) (mlpDat V (fun _ => 0) ∅ c) 5 rfl rfl n

variable (Vp : Vals (F := F))

set_option backward.isDefEq.respectTransparency.types false in
/-- The MLP's region: entered with every array at `V`, left with them at `Vp`, which differs from `V` by the result only. -/
def mlpReg (hO : ∀ c g, O c g none = 0) (hVp_out : ∀ c, Vp c main_v25 = (mlpDat V O R c).arrAt 5 cfg0.N)
    (hVp_ne : ∀ c (b : Ref sig .tc), b ≠ main_v25 → Vp c b = V c b) :
    Pipeline.RegionSeg (pcfgs (F := F)) adm (mlpDats V O R) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (mlp_obligation V O R c).loose
  hwaits c := Pipeline.cellsWaits_intro _ _ _ _ c fun w s t => (K (F := F)).mayWait_none _ (hO c)
  pre c := iprop(unscopedBufs c (V c) ∗ Owing O R c)
  post c := iprop(unscopedBufs c (Vp c) ∗ Owing O R c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (mlpDats V O R) launch0.win launch0.arr_whole c
      ((mlpDats V O R 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (mlpDats V O R 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (mlpDats V O R 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (mlpDats V O R) ((mlpDats V O R 0 c).share_full fun _ => rfl) (V c) (Vp c) ((mlpDats V O R 0 c).arrAt · cfg0.N)
      (fun w => by
        fin_cases w
        · exact ((mlpDats V O R 0 c).arrAt_in 0 rfl _).trans (hVp_ne c main_v10 (by decide)).symm
        · exact ((mlpDats V O R 0 c).arrAt_in 1 rfl _).trans (hVp_ne c main_v11 (by decide)).symm
        · exact ((mlpDats V O R 0 c).arrAt_in 2 rfl _).trans (hVp_ne c main_v13 (by decide)).symm
        · exact ((mlpDats V O R 0 c).arrAt_in 3 rfl _).trans (hVp_ne c main_v14 (by decide)).symm
        · exact ((mlpDats V O R 0 c).arrAt_in 4 rfl _).trans (hVp_ne c main_v16 (by decide)).symm
        · exact (hVp_out c).symm)
      (fun b hb => hVp_ne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; swap; · iexact HO
    ipureintro
    intro p hp
    rcases hW hp with h | ⟨w, s, rfl⟩
    · exact h
    · exact Or.inr rfl

end Cert.Proof.Pool
end
-- ==== Proof.RegionHead.lean ====
module
public import proofs.«01_k».proof.Proof.RegionMlp
public import Idealize.ShloMosaic.Lib.SparseCore.Quiescent
public import Idealize.ShloMosaic.Lib.Pipeline.RegionsLoop
@[expose] public section
/-! The head as a region of the launch: entered with every array at a valuation, left with its result written. -/
noncomputable section
namespace Cert.Proof.Pool
open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
variable {F : FTy → Type} [FloatOps F]

local notation "𝕄" => MT nD τ sig (HIx 1) (Elt F) ℕ UU ℕ

variable (V : Vals (F := F)) (O : Dev nD → CellTallies nD τ sig (HIx 1)) (R : Set (SemLoc sig × HIx 1))

/-- The head's proof data at entry contents `V`. -/
def headDat (c : Dev nD) : Dat τ (Elt F) (HIx 1) ℕ UU ℕ cfg2 c where
  A w := V c (Pipeline.arrRef spec2 w)
  after w t := match w with
    | ⟨0, _⟩ => ((cfg2.win 0).blk t).view.read (Elt F) (V c main_v26)
    | ⟨1, _⟩ => ((cfg2.win 1).blk t).view.read (Elt F) (V c main_v17)
    | ⟨2, _⟩ => ((cfg2.win 2).blk t).view.read (Elt F) (V c main_v20)
    | ⟨3, _⟩ => ((cfg2.win 3).blk t).view.read (Elt F) (V c main_v24)
    | ⟨4, _⟩ => headBlock (((cfg2.win 0).blk t).view.read (Elt F) (V c main_v26)) (((cfg2.win 1).blk t).view.read (Elt F) (V c main_v17)) (((cfg2.win 2).blk t).view.read (Elt F) (V c main_v20)) (((cfg2.win 3).blk t).view.read (Elt F) (V c main_v24))
  Φ _ := Pipeline.scopedRest (Ix := HIx 1) (Name := ℕ) (U := UU) (Lvl := ℕ) (Val := Elt F) spec2 c
  q _ := fullShare
  owed _ := O c
  recorded _ := {p | p ∈ R ∨ p.2 = none}

def headDats : (p : Fin 2) → (c : Dev nD) → Dat τ (Elt F) (HIx 1) ℕ UU ℕ (Pipeline.pin (pcfgs (F := F)) adm p) c
  | ⟨0, _⟩ => fun c => junkDat c
  | ⟨1, _⟩ => fun c => headDat V O R c

/-- The head's result. -/
def headOut (c : Dev nD) : Buf (Elt F) ((c : Thread nD τ).loc main_v27) := (headDat V (fun _ => 0) ∅ c).arrAt 4 cfg2.N

theorem head_before0 (c : Dev nD) (t : Fin cfg2.N) (d : (cfg2.win 0).block.Idx → Elt F (cfg2.win 0).elt) :
    (headDat V O R c).before 0 t d = ((cfg2.win 0).blk t).view.read (Elt F) (V c main_v26) :=
  Dat.before_in_eq_fetched (headDat V O R c) 0 rfl (fun _ => rfl) (fun _ _ _ => rfl) (fun _ => rfl) t d
theorem head_before1 (c : Dev nD) (t : Fin cfg2.N) (d : (cfg2.win 1).block.Idx → Elt F (cfg2.win 1).elt) :
    (headDat V O R c).before 1 t d = ((cfg2.win 1).blk t).view.read (Elt F) (V c main_v17) :=
  Dat.before_in_eq_fetched (headDat V O R c) 1 rfl (fun _ => rfl) (fun _ _ _ => rfl) (fun _ => rfl) t d
theorem head_before2 (c : Dev nD) (t : Fin cfg2.N) (d : (cfg2.win 2).block.Idx → Elt F (cfg2.win 2).elt) :
    (headDat V O R c).before 2 t d = ((cfg2.win 2).blk t).view.read (Elt F) (V c main_v20) :=
  Dat.before_in_eq_fetched (headDat V O R c) 2 rfl (fun _ => rfl) (fun _ _ _ => rfl) (fun _ => rfl) t d
theorem head_before3 (c : Dev nD) (t : Fin cfg2.N) (d : (cfg2.win 3).block.Idx → Elt F (cfg2.win 3).elt) :
    (headDat V O R c).before 3 t d = ((cfg2.win 3).blk t).view.read (Elt F) (V c main_v24) :=
  Dat.before_in_eq_fetched (headDat V O R c) 3 rfl (fun _ => rfl) (fun _ _ _ => rfl) (fun _ => rfl) t d

/-- The body at a point: its operands' blocks as fetched, its result's block the head of them. -/
theorem head_obligation (c : Dev nD) : BodyObligation (headDat V O R c) (defs₀ (F := F)) 𝒱₀ none Set.univ := fun t => by
  rw [bigSep_W2, bigSep_W2]
  rw [show (headDat V O R c).Φ t.castSucc = (headDat V O R c).Φ t.succ from rfl,
    show (headDat V O R c).owesAt none t.succ = (headDat V O R c).owesAt none t.castSucc from rfl]
  iintro ⟨HΦ, Howes, ⟨%d0, H0⟩, ⟨%d1, H1⟩, ⟨%d2, H2⟩, ⟨%d3, H3⟩, ⟨%d4, H4⟩⟩
  rw [head_before0, head_before1, head_before2, head_before3]
  iapply (head_owns c (win2_0.stage (cfg2.slots t 0)) (hstage2_0 0) (win2_1.stage (cfg2.slots t 1)) (hstage2_1 0)
    (win2_2.stage (cfg2.slots t 2)) (hstage2_2 0) (win2_3.stage (cfg2.slots t 3)) (hstage2_3 0)
    (win2_4.stage (cfg2.slots t 4)) (hstage2_4 0) _ _ _ _ _ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-- The result's array does not depend on what the core owes. -/
theorem head_arrAt (c : Dev nD) (n : ℕ) : (headDat V O R c).arrAt 4 n = (headDat V (fun _ => 0) ∅ c).arrAt 4 n :=
  arrAt_ext (headDat V O R c) (headDat V (fun _ => 0) ∅ c) 4 rfl rfl n

variable (Vp : Vals (F := F))

set_option backward.isDefEq.respectTransparency.types false in
/-- The head's region: entered with every array at `V`, left with them at `Vp`, which differs from `V` by the result only. -/
def headReg (hO : ∀ c g, O c g none = 0) (hVp_out : ∀ c, Vp c main_v27 = (headDat V O R c).arrAt 4 cfg2.N)
    (hVp_ne : ∀ c (b : Ref sig .tc), b ≠ main_v27 → Vp c b = V c b) :
    Pipeline.RegionSeg (pcfgs (F := F)) adm (headDats V O R) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (head_obligation V O R c).loose
  hwaits c := Pipeline.cellsWaits_intro _ _ _ _ c fun w s t => (K (F := F)).mayWait_none _ (hO c)
  pre c := iprop(unscopedBufs c (V c) ∗ Owing O R c)
  post c := iprop(unscopedBufs c (Vp c) ∗ Owing O R c)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (headDats V O R) launch2.win launch2.arr_whole c
      ((headDats V O R 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (headDats V O R 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (headDats V O R 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (headDats V O R) ((headDats V O R 1 c).share_full fun _ => rfl) (V c) (Vp c) ((headDats V O R 1 c).arrAt · cfg2.N)
      (fun w => by
        fin_cases w
        · exact ((headDats V O R 1 c).arrAt_in 0 rfl _).trans (hVp_ne c main_v26 (by decide)).symm
        · exact ((headDats V O R 1 c).arrAt_in 1 rfl _).trans (hVp_ne c main_v17 (by decide)).symm
        · exact ((headDats V O R 1 c).arrAt_in 2 rfl _).trans (hVp_ne c main_v20 (by decide)).symm
        · exact ((headDats V O R 1 c).arrAt_in 3 rfl _).trans (hVp_ne c main_v24 (by decide)).symm
        · exact (hVp_out c).symm)
      (fun b hb => hVp_ne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; swap; · iexact HO
    ipureintro
    intro p hp
    rcases hW hp with h | ⟨w, s, rfl⟩
    · exact h
    · exact Or.inr rfl

end Cert.Proof.Pool
end
-- ==== Proof.RegionRun.lean ====
module
public import proofs.«01_k».proof.Proof.RegionHead
@[expose] public section
/-! The two TensorCore calls as @main makes them: from a valuation of the arrays to the valuation with the call's result. -/
noncomputable section
namespace Cert.Proof.Pool
open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
variable {F : FTy → Type} [FloatOps F]

local notation "𝕄" => MT nD τ sig (HIx 1) (Elt F) ℕ UU ℕ

/-- What a core keeps of a pipeline's ghost state. -/
abbrev ghostOf (p : Fin 2) (d : Dev nD) : sProp 𝕄 :=
  iprop(Pipeline.cellsGhost (Pipeline.pin (pcfgs (F := F)) adm) (EP (F := F)) p d ∗ Pipeline.toksInit (Pipeline.pin (pcfgs (F := F)) adm) (EP (F := F)) p d)

/-- A region entered under the pipelines' own labels. -/
theorem region_inner (dats : (p : Fin 2) → (c : Dev nD) → Dat τ (Elt F) (HIx 1) ℕ UU ℕ (Pipeline.pin (pcfgs (F := F)) adm p) c) (p : Fin 2)
    (G : Pipeline.RegionSeg (pcfgs (F := F)) adm dats none defs₀ 𝒱₀ (K (F := F)).L (K (F := F)).lev p) (d : Dev nD) (Q : PUnit → sProp 𝕄) :
    iprop((iprop(boundary (d : Thread nD τ) ∗ G.post d) -∗ Q ⟨⟩) ∗ boundary (d : Thread nD τ) ∗ G.pre d ∗ levAts (K (F := F)).L (K (F := F)).lev ∗ ghostOf p d)
      ⊢ wp frame (wpE (D (F := F)) 𝒱 (d : Thread nD τ) none) Set.univ (.op (.customCall (Pipeline.entry p) ()) fun _ => .ret ⟨⟩) Q := by
  have h := Pipeline.RegionSeg.wp (pcfgs (F := F)) adm dats none cellOf_inj (EP (F := F)) defs₀ 𝒱₀ (K (F := F)).L (K (F := F)).lev G d none (fun _ h => nomatch h) (fun _ => .ret ⟨⟩) Q
  iintro ⟨Hk, Hb, Hpre, Hlev, Hg, Ht⟩
  iapply h
  isplitl [Hk]
  · iintro H
    rw [wp_ret]; imodintro
    iapply Hk; iexact H
  isplitl [Hb]; · iexact Hb
  isplitl [Hpre]; · iexact Hpre
  isplitl [Hlev]; · iexact Hlev
  isplitl [Hg]; · iexact Hg
  iexact Ht

/-- A region entered from @main's own labels. -/
theorem region_call (dats : (p : Fin 2) → (c : Dev nD) → Dat τ (Elt F) (HIx 1) ℕ UU ℕ (Pipeline.pin (pcfgs (F := F)) adm p) c) (p : Fin 2)
    (G : Pipeline.RegionSeg (pcfgs (F := F)) adm dats none defs₀ 𝒱₀ (K (F := F)).L (K (F := F)).lev p) (d : Dev nD) (Q : PUnit → sProp 𝕄) :
    iprop((iprop(boundary (T d) ∗ G.post d) -∗ Q ⟨⟩) ∗ boundary (T d) ∗ G.pre d ∗ levAts (K (F := F)).L (K (F := F)).lev ∗ ghostOf p d)
      ⊢ wp frame (wpE ((K (F := F)).defs (D (F := F))) 𝒱 (T d) none) Set.univ (Prog.lift (.customCall (SparseCore.inner (Pipeline.entry p)) ())) Q := by
  change _ ⊢ wp frame _ Set.univ (SparseCore.liftProg (Prog.lift (.customCall (Pipeline.entry p) ()))) Q
  refine BI.Entails.trans ?_ ((K (F := F)).wp_liftProg (D (F := F)) 𝒱 (T d) Set.univ none _ Q)
  exact region_inner dats p G d Q

variable (V : Vals (F := F)) (O : Dev nD → CellTallies nD τ sig (HIx 1)) (R : Set (SemLoc sig × HIx 1))

/-- The contents after the MLP. -/
def afterMlp : Vals (F := F) := fun c => Function.update (V c) main_v25 (mlpOut V c)
/-- The contents after the head. -/
def afterHead : Vals (F := F) := fun c => Function.update (V c) main_v27 (headOut V c)

theorem mlp_call (hO : ∀ c g, O c g none = 0) (d : Dev nD) (Q : PUnit → sProp 𝕄) :
    iprop((iprop(boundary (T d) ∗ unscopedBufs d (afterMlp V d) ∗ Owing O R d) -∗ Q ⟨⟩) ∗ boundary (T d) ∗ (unscopedBufs d (V d) ∗ Owing O R d)
        ∗ levAts (K (F := F)).L (K (F := F)).lev ∗ ghostOf 0 d)
      ⊢ wp frame (wpE ((K (F := F)).defs (D (F := F))) 𝒱 (T d) none) Set.univ (Prog.lift (.customCall (SparseCore.inner (Pipeline.entry 0)) ())) Q :=
  region_call _ 0 (mlpReg V O R (afterMlp V) hO (fun c => by rw [mlp_arrAt]; exact Function.update_self ..) (fun c b hb => Function.update_of_ne hb ..)) d Q

theorem head_call (hO : ∀ c g, O c g none = 0) (d : Dev nD) (Q : PUnit → sProp 𝕄) :
    iprop((iprop(boundary (T d) ∗ unscopedBufs d (afterHead V d) ∗ Owing O R d) -∗ Q ⟨⟩) ∗ boundary (T d) ∗ (unscopedBufs d (V d) ∗ Owing O R d)
        ∗ levAts (K (F := F)).L (K (F := F)).lev ∗ ghostOf 1 d)
      ⊢ wp frame (wpE ((K (F := F)).defs (D (F := F))) 𝒱 (T d) none) Set.univ (Prog.lift (.customCall (SparseCore.inner (Pipeline.entry 1)) ())) Q :=
  region_call _ 1 (headReg V O R (afterHead V) hO (fun c => by rw [head_arrAt]; exact Function.update_self ..) (fun c b hb => Function.update_of_ne hb ..)) d Q

end Cert.Proof.Pool
end
-- ==== Proof.Body.lean ====
module
public import proofs.«01_k».proof.Proof.Tile
@[expose] public section
/-! A tile's whole task. -/
noncomputable section
namespace Cert.Proof.Pool
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}

local notation "𝕄" => MT nD τ sig (HIx 1) (Elt F) ℕ UU ℕ

local notation "xV" => (Memref.whole Cert.KernelIdeal.main_v25_scv : Memref Cert.KernelIdeal.sig Kind.scVector Space.hbm Cert.KernelIdeal.S640000x64 EltTy.f32)
local notation "cV'" => (Memref.whole Cert.KernelIdeal.main_arg2_scv : Memref Cert.KernelIdeal.sig Kind.scVector Space.hbm Cert.KernelIdeal.S640000 EltTy.i32)
local notation "bV" => (Memref.whole Cert.KernelIdeal.main_v6_scv : Memref Cert.KernelIdeal.sig Kind.scVector Space.hbm Cert.KernelIdeal.S48 EltTy.i32)
local notation "oV" => (Memref.whole Cert.KernelIdeal.main_v26_scv : Memref Cert.KernelIdeal.sig Kind.scVector Space.hbm Cert.KernelIdeal.S10240x64 EltTy.f32)
local notation "s0" => (Memref.whole Cert.KernelIdeal.cc1_scratch0 : Memref Cert.KernelIdeal.sig Kind.scVector Space.vmem Cert.KernelIdeal.S48 EltTy.i32)
local notation "s1" => (Memref.whole Cert.KernelIdeal.cc1_scratch1 : Memref Cert.KernelIdeal.sig Kind.scVector Space.vmem Cert.KernelIdeal.S512 EltTy.i32)
local notation "s2" => (Memref.whole Cert.KernelIdeal.cc1_scratch2 : Memref Cert.KernelIdeal.sig Kind.scVector Space.vmem Cert.KernelIdeal.S512x64 EltTy.f32)
local notation "s3" => (Memref.whole Cert.KernelIdeal.cc1_scratch3 : Memref Cert.KernelIdeal.sig Kind.scVector Space.vmem Cert.KernelIdeal.S336x64 EltTy.f32)
local notation "s4" => (Memref.whole Cert.KernelIdeal.cc1_scratch4 : Memref Cert.KernelIdeal.sig Kind.scVector Space.vmem Cert.KernelIdeal.S8x64 EltTy.f32)
local notation "wh" => Memref.isWhole_whole _

variable (d : Dev nD) (i : grid1.Coords) (q : PosShare TreeShare)
  (X : Buf (Elt F) (xLoc d)) (C : Buf (Elt F) (iLoc d)) (B : Buf (Elt F) (bLoc d))

variable [FloatOps F]

/-- The tile's block of the 32 tables is its own table. -/
theorem outOf_block (y : S320x64.Idx) :
    outOf X C B ((oBlk i).view.emb y)
      = tileT i (Scalar.ofBits .f32 0x00000000#32) (bound B (tileNo i)).toNat (bound B (tileNo i + 1)).toNat C X (y 0).val (y 1) := by
  have hy : (y 0).val < 320 := (y 0).isLt
  have e0 : (((oBlk i).view.emb y : S10240x64.Idx) 0).val = 320 * tileNo i + (y 0).val := by
    show k1_off280 i 0 + 1 * (y 0).val = _
    rw [off280_eq]
    show 320 * tileNo i + 1 * (y 0).val = _
    omega
  have e1 : ((oBlk i).view.emb y : S10240x64.Idx) 1 = y 1 := by
    refine Fin.ext ?_
    show k1_off280 i 1 + 1 * (y 1).val = _
    rw [off280_eq]
    show 0 + 1 * (y 1).val = _
    omega
  unfold outOf
  rw [e0, e1, show (320 * tileNo i + (y 0).val) / 320 = tileNo i by omega, show (320 * tileNo i + (y 0).val) % 320 = (y 0).val by omega, tileOf_tileNo]

set_option maxHeartbeats 400000 in
/-- The tile's task brings back what it took, with its block of the result filled. -/
theorem tile_body (hF : (K (F := F)).Facts) (hB : BoundsOk B) (f₀ : Buf (Elt F) (oLoc d)) (O : CellTallies nD τ sig (HIx 1)) (W : Waits sig (HIx 1)) (hO : ∀ g, O g none = 0) :
    iprop(levAts (K (F := F)).L (K (F := F)).lev ∗ emp ∗ Given d i q X C B f₀
        ∗ scopedBufs (thr d i) ∗ scopedSems0 (thr d i) ∗ owes (thr d i) O W)
      ⊢ wp frame (wpE (defs₀ (F := F)) 𝒱₀ (thr d i) none) Set.univ
          (cc1__segmax_body i xV wh cV' wh bV wh oV wh s0 wh s1 wh s2 wh s3 wh s4 wh cc1_scoped0 cc1_scoped1 cc1_scoped2 cc1_scoped3 cc1_scoped4 cc1_scoped5)
          fun _ => iprop(Given d i q X C B (outOf X C B)
            ∗ scopedBufs (thr d i) ∗ scopedSems0 (thr d i)
            ∗ ∃ W', ⌜∀ p ∈ W', p ∈ W ∨ p.2 = none⌝ ∗ owes (thr d i) O W') := by
  rw [cc1__segmax_body_eq_skeleton]; unfold cc1__segmax_body_skel
  rw [(K (F := F)).scopedBufs_V hF d (cV i) (sV i), SparseCore.Cfg.scopedSems0_V (Val := Elt F) d (cV i) (sV i), ownSems0_V, ownBufs_V]
  iintro ⟨#Hlv, -, ⟨Hx, Hc, Hb, Ho⟩, ⟨⟨%f0, H0⟩, ⟨%f1, H1⟩, ⟨%f2, H2⟩, ⟨%f3, H3⟩, ⟨%f4, H4⟩, Hbufs⟩, ⟨Hm0, Hm1, Hm2, Hm5, Hsems⟩, HO⟩
  ihave #Hmw := (show levAts (K (F := F)).L (K (F := F)).lev ⊢ Transfers.MayWaits (thr d i) (default : HIx 1) O from
    (K (F := F)).mayWaits_none (thr := thr d i) hO) $$ Hlv
  ihave Hb' := (Entails.of_eq (show (bLoc d ↦{q} B : sProp 𝕄) = (bV).view.loc (thr d i) ↦{q} B from rfl)) $$ Hb
  ihave H0' := (Entails.of_eq (show ((thr d i).loc cc1_scratch0 ↦{fullShare} f0 : sProp 𝕄) = (s0).view.loc (thr d i) ↦{fullShare} f0 from rfl)) $$ H0
  rw [k1_part97_eq_skeleton]; unfold k1_part97_skel
  sl_exec
  have e6 : tile_body.sl.v6 d i B f0 = bound B (tileNo i) := by
    unfold tile_body.sl.v6
    rw [View.write_whole_univ, View.readAt_rect, pay568]
    exact bounds_word i 0 (by omega) ⟨_, rfl, rfl⟩
  have e8 : tile_body.sl.v8 d i B f0 = bound B (tileNo i + 1) := by
    unfold tile_body.sl.v8
    rw [View.write_whole_univ, View.readAt_rect, pay569]
    exact bounds_word i 1 (by omega) ⟨_, rfl, rfl⟩
  have ht := tileNo_lt i
  obtain ⟨hab, hb⟩ := hB (tileNo i) ht
  rw [← e6, ← e8] at hab
  rw [← e8] at hb
  have hw := check_bounds hab hb
  sl_exec
  ihave HH := (holds_junk d i f1 f2 f3 f4) $$ [H1 H2 H3 H4]
  · isplitl [H1]
    · iapply (Entails.of_eq (pts_whole d i cc1_scratch1 f1)); iexact H1
    isplitl [H2]
    · iapply (Entails.of_eq (pts_whole d i cc1_scratch2 f2)); iexact H2
    isplitl [H3]
    · iapply (Entails.of_eq (pts_whole d i cc1_scratch3 f3)); iexact H3
    · iapply (Entails.of_eq (pts_whole d i cc1_scratch4 f4)); iexact H4
  icases HH with ⟨%I, %R, %T, %A, HH⟩
  rw [wp_bind, wp_bind]
  iapply (Does.step (does_clear (F := F) d i xV wh cV' wh bV wh oV wh s0 wh s1 wh s2 wh s3 wh s4 wh cc1_scoped0 cc1_scoped1 cc1_scoped2 cc1_scoped3 cc1_scoped4 cc1_scoped5 T A I R)) $$ HH
  iintro HH
  ihave HH := (holds_clear d i) $$ HH
  rw [wp_bind]
  iapply (Does.step (loadA rfl)) $$ HH
  iintro HH
  rw [wp_pure]; imodintro
  rw [wp_bind]
  have hpc := chunks_le i (Scalar.ofBits .f32 0x00000000#32) (tile_body.sl.v6 d i B f0).toNat C X (nChunks (tile_body.sl.v6 d i B f0).toNat (tile_body.sl.v8 d i B f0).toNat)
  obtain ⟨p, σ, hp⟩ : ∃ p σ, (p, σ) = chunks i (Scalar.ofBits .f32 0x00000000#32) (tile_body.sl.v6 d i B f0).toNat C X (nChunks (tile_body.sl.v6 d i B f0).toNat (tile_body.sl.v8 d i B f0).toNat) :=
    ⟨_, _, rfl⟩
  rw [← hp] at hpc
  have hk : k1_chk34 p := chk34_all _ hpc
  iapply (wp_wand_r frame (wpE (defs₀ (F := F)) 𝒱₀ (thr d i) none) Set.univ (Q := fun r => iprop(⌜r = ⟨p, hk, k1_pay594 (cut (half p σ (rowOf p)) 16), cut σ.A 16⟩⌝
            ∗ (∃ I R, Holds d i s1 s2 s3 s4 I R ⟨half p σ, σ.A⟩) ∗ Beside d i q X C O W)))
  isplitl [HH Hx Hc Hm1 Hm2 HO]
  · iapply (part98 d i q X C O W hab hb hw _ _ (Scalar.ofBits .f32 0x00000000#32) I R A p σ hp hk)
    isplitr; · iexact Hmw
    isplitl [HH]; · iexact HH
    unfold Beside
    isplitl [Hx]; · iexact Hx
    isplitl [Hc]; · iexact Hc
    isplitl [Hm1]; · iexact Hm1
    isplitl [Hm2]; · iexact Hm2
    iexists _; isplitr
    swap; · iexact HO
    ipureintro; intro w hw
    rcases Finset.mem_insert.mp hw with hw | hw; · exact .inr (hw ▸ rfl)
    exact .inl hw
  clear I R
  iintro %r ⟨%hr, ⟨%I, %R, HH⟩, HB⟩
  subst hr
  iapply (wp_wand_r frame (wpE (defs₀ (F := F)) 𝒱₀ (thr d i) none) Set.univ)
  isplitl [HH HB Ho Hm5]
  · iapply (finish d i q X C f₀ O W (Scalar.ofBits .f32 0x00000000#32) p hk σ I R)
    isplitr; · iexact Hmw
    isplitl [HH]; · iexact HH
    isplitl [HB]; · iexact HB
    isplitl [Ho]; · iexact Ho
    iexact Hm5
  unfold Beside
  iintro %r ⟨H1, H2, H3, H4, ⟨Hx, Hc, Hm1, Hm2, HO⟩, Hm5, %g, Ho, %hg⟩
  have hgo : ∀ x ∈ blkSet i, g x = outOf X C B x := by
    intro x hx
    obtain ⟨y, -, rfl⟩ := Finset.mem_map.mp hx
    refine (hg y).trans ?_
    rw [outOf_block, ← e6, ← e8]
    unfold tileT
    rw [← hp]
  isplitl [Hx Hc Hb' Ho]
  · isplitl [Hx]; · iexact Hx
    isplitl [Hc]; · iexact Hc
    isplitl [Hb']; · iexact Hb'
    iapply (Entails.of_eq (pointsTo_congr hgo)); iexact Ho
  isplitl [H0' H1 H2 H3 H4 Hbufs]
  · isplitl [H0']; · iexists _; iexact H0'
    isplitl [H1]; · iexact H1
    isplitl [H2]; · iexact H2
    isplitl [H3]; · iexact H3
    isplitl [H4]; · iexact H4
    iexact Hbufs
  isplitl [Hm0 Hm1 Hm2 Hm5 Hsems]
  · isplitl [Hm0]; · iexact Hm0
    isplitl [Hm1]; · iexact Hm1
    isplitl [Hm2]; · iexact Hm2
    isplitl [Hm5]; · iexact Hm5
    iexact Hsems
  iexact HO

end Cert.Proof.Pool
-- ==== Proof.Pay.lean ====
module
public import proofs.«01_k».proof.Proof.Body
public import Idealize.ShloMosaic.Lib.SparseCore.Quiescent
public import Idealize.ShloMosaic.Lib.ShareLeaves
@[expose] public section
/-! What the SparseCore call hands its cores and tiles and has back: read shares of its operands and the tiles' blocks of its result. -/
noncomputable section
namespace Cert.Proof.Pool
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
variable {F : FTy → Type} [FloatOps F]

local notation "𝕄" => MT nD τ sig (HIx 1) (Elt F) ℕ UU ℕ

/-- The handshakes' rounds within the algebra. -/
abbrev EH : Emb UH (MT nD τ sig (HIx 1) (Elt F) ℕ UU ℕ) := embL

/-- A tile's coordinates from its core and its place on it. -/
def tileAt (c : Fin 2) (s : Fin 16) : grid1.Coords :=
  fun | 0 => c | 1 => s | ⟨_ + 2, h⟩ => absurd h (Nat.not_lt.2 (Nat.le_add_left _ _))

theorem tileNo_tileAt (c : Fin 2) (s : Fin 16) : tileNo (tileAt c s) = 2 * s.val + c.val := rfl

variable (X : (d : Dev nD) → Buf (Elt F) (xLoc d)) (C : (d : Dev nD) → Buf (Elt F) (iLoc d)) (B : (d : Dev nD) → Buf (Elt F) (bLoc d))
  (f₀ : (d : Dev nD) → Buf (Elt F) (oLoc d))

/-- The result. -/
abbrev res (d : Dev nD) : Buf (Elt F) (oLoc d) := outOf (X d) (C d) (B d)

/-- A core's share of an operand, and a tile's of its core's. -/
abbrev coreShare (c : Fin 2) : PosShare TreeShare := leaf 1 fullShare c
abbrev tileShare (c : Fin 2) (s : Fin 16) : PosShare TreeShare := leaf 4 (coreShare c) s

/-- What a core takes, its blocks of the result at `f`. -/
abbrev CoreGiven (f : (d : Dev nD) → Buf (Elt F) (oLoc d)) (d : Dev nD) (c : Fin 2) : sProp 𝕄 :=
  iprop((xLoc d ↦{coreShare c} X d) ∗ (iLoc d ↦{coreShare c} C d) ∗ (bLoc d ↦{coreShare c} B d)
    ∗ bigSep Finset.univ fun s : Fin 16 => oLoc d ↦[blkSet (tileAt c s)]{fullShare} f d)

/-- What a tile takes. -/
abbrev TileGiven (f : (d : Dev nD) → Buf (Elt F) (oLoc d)) (d : Dev nD) (c : Fin 2) (s : Fin 16) : sProp 𝕄 :=
  Given d (tileAt c s) (tileShare c s) (X d) (C d) (B d) (f d)

theorem core_cast : (K (F := F)).nCore 0 = 2 := rfl
theorem sub_cast : (K (F := F)).nSub 0 = 16 := rfl

def P : (K (F := F)).Pay (nD := nD) (Val := Elt F) (Name := ℕ) (U := UU) where
  st := fun q d c => match q with | 0 => CoreGiven X C B f₀ d (Fin.cast core_cast c)
  dn := fun q d c => match q with | 0 => CoreGiven X C B (res X C B) d (Fin.cast core_cast c)
  go := fun q d c i => match q with | 0 => TileGiven X C B f₀ d (Fin.cast core_cast c) (Fin.cast sub_cast i)
  td := fun q d c i => match q with | 0 => TileGiven X C B (res X C B) d (Fin.cast core_cast c) (Fin.cast sub_cast i)
  x := fun _ _ => iprop(emp)

instance P_storable : (P X C B f₀).IsStorable where
  st q d c := match q with
    | 0 => (inferInstance : BI.Storable (upEmb : UEmb _ 𝕄) (CoreGiven X C B f₀ d (Fin.cast core_cast c)))
  dn q d c := match q with
    | 0 => (inferInstance : BI.Storable (upEmb : UEmb _ 𝕄) (CoreGiven X C B (res X C B) d (Fin.cast core_cast c)))
  go q d c i := match q with
    | 0 => (inferInstance : BI.Storable (upEmb : UEmb _ 𝕄) (TileGiven X C B f₀ d (Fin.cast core_cast c) (Fin.cast sub_cast i)))
  td q d c i := match q with
    | 0 => (inferInstance : BI.Storable (upEmb : UEmb _ 𝕄) (TileGiven X C B (res X C B) d (Fin.cast core_cast c) (Fin.cast sub_cast i)))

/-- A core's operands are its tiles'. -/
theorem core_tiles (f : (d : Dev nD) → Buf (Elt F) (oLoc d)) (d : Dev nD) (c : Fin 2) :
    CoreGiven X C B f d c = bigSep Finset.univ fun s : Fin 16 => TileGiven X C B f d c s := by
  unfold CoreGiven TileGiven Given
  rw [bigSep_sep', bigSep_sep', bigSep_sep', pointsTo_leaves Finset.univ (X d) 4 (coreShare c), pointsTo_leaves Finset.univ (C d) 4 (coreShare c),
    pointsTo_leaves Finset.univ (B d) 4 (coreShare c)]
  rfl

theorem bigSep_tasks (Φ : Fin 16 → sProp 𝕄) :
    (bigSep Finset.univ fun i : Fin ((K (F := F)).nSub 0) => Φ (Fin.cast sub_cast i)) = bigSep Finset.univ Φ :=
  bigSep_congr fun _ _ => congrArg Φ (Fin.ext rfl)

theorem vecSplit : (K (F := F)).VecSplit' (P X C B f₀) 0 := by
  intro d c
  show CoreGiven X C B f₀ d (Fin.cast core_cast c) ⊢ |={Set.univ}=> iprop(
      (bigSep Finset.univ fun i : Fin ((K (F := F)).nSub 0) => TileGiven X C B f₀ d (Fin.cast core_cast c) (Fin.cast sub_cast i))
      ∗ ((bigSep Finset.univ fun i : Fin ((K (F := F)).nSub 0) => TileGiven X C B (res X C B) d (Fin.cast core_cast c) (Fin.cast sub_cast i))
          -∗ CoreGiven X C B (res X C B) d (Fin.cast core_cast c)))
  rw [bigSep_tasks (F := F) (fun i => TileGiven X C B f₀ d (Fin.cast core_cast c) i),
    bigSep_tasks (F := F) (fun i => TileGiven X C B (res X C B) d (Fin.cast core_cast c) i), core_tiles, core_tiles]
  iintro H; imodintro
  isplitl [H]; · iexact H
  iintro H; iexact H

/-! ## The tiles' blocks of the result -/

theorem mem_blkSet (i : grid1.Coords) (j : S10240x64.Idx) : j ∈ blkSet i ↔ (j 0).val / 320 = tileNo i := by
  have h : blkSet i = (blk i).set := by
    show ((View.whole (main_v26_scv : Ref sig .scVector)).slice (blk i)).set = _
    rw [View.set_slice]; exact Finset.map_refl
  rw [h, Rect.mem_set_unit, off280_eq]
  have h1 : (j 1).val < 64 := (j 1).isLt
  constructor
  · intro H
    have := H 0
    replace this : 320 * tileNo i ≤ (j 0).val ∧ (j 0).val < 320 * tileNo i + 320 := this
    omega
  · intro H a
    match a with
    | 0 => show 320 * tileNo i ≤ (j 0).val ∧ (j 0).val < 320 * tileNo i + 320; omega
    | 1 => exact ⟨Nat.zero_le _, by show (j 1).val < 0 + 64; omega⟩

theorem blk_cover : ((Finset.univ : Finset (Fin 2)).biUnion fun c => (Finset.univ : Finset (Fin 16)).biUnion fun s => blkSet (tileAt c s)) = Finset.univ := by
  refine Finset.eq_univ_iff_forall.mpr fun (j : S10240x64.Idx) => ?_
  have hj : (j 0).val < 10240 := (j 0).isLt
  refine Finset.mem_biUnion.mpr ⟨⟨(j 0).val / 320 % 2, by omega⟩, Finset.mem_univ _, Finset.mem_biUnion.mpr ⟨⟨(j 0).val / 320 / 2, by omega⟩, Finset.mem_univ _, (mem_blkSet _ j).mpr ?_⟩⟩
  rw [tileNo_tileAt]; show _ = 2 * ((j 0).val / 320 / 2) + (j 0).val / 320 % 2; omega

/-- The result whole is its blocks, core by core. -/
theorem out_blocks (d : Dev nD) (f : Buf (Elt F) (oLoc d)) :
    (oLoc d ↦{fullShare} f : sProp 𝕄) = bigSep Finset.univ fun c : Fin 2 => bigSep Finset.univ fun s : Fin 16 => oLoc d ↦[blkSet (tileAt c s)]{fullShare} f := by
  have hs : ∀ c : Fin 2, (bigSep Finset.univ fun s : Fin 16 => (oLoc d ↦[blkSet (tileAt c s)]{fullShare} f : sProp 𝕄))
      = (oLoc d ↦[(Finset.univ : Finset (Fin 16)).biUnion fun s => blkSet (tileAt c s)]{fullShare} f) := fun c =>
    (pointsTo_biUnion Finset.univ (ℓ := oLoc d) (fun s => blkSet (tileAt c s)) fun s _ s' _ hne => Finset.disjoint_left.mpr fun j hj hj' => hne (by
      have := ((mem_blkSet _ j).mp hj).symm.trans ((mem_blkSet _ j).mp hj')
      rw [tileNo_tileAt, tileNo_tileAt] at this
      exact Fin.ext (by omega))).symm
  rw [bigSep_congr fun c _ => hs c, ← pointsTo_biUnion Finset.univ (ℓ := oLoc d) (fun c : Fin 2 => (Finset.univ : Finset (Fin 16)).biUnion fun s => blkSet (tileAt c s))
    (fun c _ c' _ hne => Finset.disjoint_left.mpr fun j hj hj' => hne (by
      obtain ⟨s, -, hs⟩ := Finset.mem_biUnion.mp hj
      obtain ⟨s', -, hs'⟩ := Finset.mem_biUnion.mp hj'
      have := ((mem_blkSet _ j).mp hs).symm.trans ((mem_blkSet _ j).mp hs')
      rw [tileNo_tileAt, tileNo_tileAt] at this
      exact Fin.ext (by omega)))]
  have hcov : ((Finset.univ : Finset (Fin 2)).biUnion fun c => (Finset.univ : Finset (Fin 16)).biUnion fun s => blkSet (tileAt c s)) = Finset.univ := blk_cover
  exact congrArg (fun I => (oLoc d ↦[I]{fullShare} f : sProp 𝕄)) hcov.symm

/-- The call's operands whole are its cores'. -/
theorem call_cores (f : (d : Dev nD) → Buf (Elt F) (oLoc d)) (d : Dev nD) :
    (bigSep Finset.univ fun c : Fin 2 => CoreGiven X C B f d c)
      = iprop((xLoc d ↦{fullShare} X d) ∗ (iLoc d ↦{fullShare} C d) ∗ (bLoc d ↦{fullShare} B d) ∗ oLoc d ↦{fullShare} f d) := by
  unfold CoreGiven
  rw [bigSep_sep', bigSep_sep', bigSep_sep', out_blocks, pointsTo_leaves Finset.univ (X d) 1 fullShare, pointsTo_leaves Finset.univ (C d) 1 fullShare,
    pointsTo_leaves Finset.univ (B d) 1 fullShare]
  rfl

theorem st_eq (d : Dev nD) : (bigSep Finset.univ fun c : Fin ((K (F := F)).nCore 0) => (P X C B f₀).st 0 d c)
    = iprop((xLoc d ↦{fullShare} X d) ∗ (iLoc d ↦{fullShare} C d) ∗ (bLoc d ↦{fullShare} B d) ∗ oLoc d ↦{fullShare} f₀ d) :=
  (bigSep_congr fun _ _ => rfl : _ = bigSep Finset.univ fun c : Fin 2 => CoreGiven X C B f₀ d c).trans (call_cores X C B f₀ d)
theorem dn_eq (d : Dev nD) : (bigSep Finset.univ fun c : Fin ((K (F := F)).nCore 0) => (P X C B f₀).dn 0 d c)
    = iprop((xLoc d ↦{fullShare} X d) ∗ (iLoc d ↦{fullShare} C d) ∗ (bLoc d ↦{fullShare} B d) ∗ oLoc d ↦{fullShare} res X C B d) :=
  (bigSep_congr fun _ _ => rfl : _ = bigSep Finset.univ fun c : Fin 2 => CoreGiven X C B (res X C B) d c).trans (call_cores X C B (res X C B) d)

/-! ## A tile's task -/

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector (c : Fin τ.nSC) (s : Fin τ.nSub) :
    defs₀ (F := F) (.scVector c s) 1 ()
      = SparseCore.onTile hcore1 hsub1 (fun c s => cc1__segmax_body (tileAt c s) (Memref.whole main_v25_scv) (Memref.isWhole_whole _)
          (Memref.whole main_arg2_scv) (Memref.isWhole_whole _) (Memref.whole main_v6_scv) (Memref.isWhole_whole _) (Memref.whole main_v26_scv) (Memref.isWhole_whole _)
          (Memref.whole cc1_scratch0) (Memref.isWhole_whole _) (Memref.whole cc1_scratch1) (Memref.isWhole_whole _) (Memref.whole cc1_scratch2) (Memref.isWhole_whole _)
          (Memref.whole cc1_scratch3) (Memref.isWhole_whole _) (Memref.whole cc1_scratch4) (Memref.isWhole_whole _)
          cc1_scoped0 cc1_scoped1 cc1_scoped2 cc1_scoped3 cc1_scoped4 cc1_scoped5) ⟨⟩ c s := rfl

set_option maxRecDepth 16384 in
theorem tileObl (hF : (K (F := F)).Facts) (hB : ∀ d, BoundsOk (B d)) : (K (F := F)).TileObl (D (F := F)) 𝒱 (P X C B f₀) v₀ 0 := by
  intro d c i O W hO _ _
  simp only [show (P X C B f₀).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (tileAt ⟨_, hci.1⟩ ⟨_, hci.2⟩) (tileShare ⟨_, hci.1⟩ ⟨_, hci.2⟩) (X d) (C d) (B d) hF (hB d) (f₀ d) O W hO).trans (wp_mono frame _ _ fun _ => obl_post)

end Cert.Proof.Pool
end
-- ==== Proof.Launch.lean ====
module
public import proofs.«01_k».proof.Proof.HostReads
public import proofs.«01_k».proof.Proof.RegionRun
public import proofs.«01_k».proof.Proof.Pay
@[expose] public section
/-! The whole program's run: the host's operations, the MLP, the SparseCore call and the head, and the contents it leaves. -/
noncomputable section
namespace Cert.Proof.Pool
open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]

local notation "𝕄" => MT nD τ sig (HIx 1) (Elt F) ℕ UU ℕ

variable (m : (ℓ : Loc nD τ sig) → Buf (Elt F) ℓ) (ρ : Dev nD → PrngReg)

/-! ## The contents -/

/-- After the host's operations. -/
def V₁ : Vals (F := F) := fun d b => StableHlo.after (hostOps (F := F)) (fun b' => m (d, b')) (Proc.devRef .tc b)
/-- After the MLP. -/
def V₂ : Vals (F := F) := afterMlp (V₁ m)
/-- The table of maxima. -/
def pooled (d : Dev nD) : Buf (Elt F) (oLoc d) :=
  outOf (mlpOut (V₁ m) d) (m ((SparseCore.T d).loc main_arg2)) (boundsOf (m ((SparseCore.T d).loc main_arg2)))
/-- After the SparseCore call. -/
def V₃ : Vals (F := F) := fun d => Function.update (V₂ m d) main_v26 (pooled m d)
/-- At the end. -/
def V₄ : Vals (F := F) := afterHead (V₃ m)

theorem V₁_kept {r : Ref sig .tc} (hr : r ∉ hostWrites) (d : Dev nD) : V₁ m d r = m ((SparseCore.T d).loc r) := after_kept hr _

theorem V₄_kept {r : Ref sig .tc} (hr : r ∉ hostWrites) (h25 : r ≠ main_v25) (h26 : r ≠ main_v26) (h27 : r ≠ main_v27) (d : Dev nD) : V₄ m d r = m ((SparseCore.T d).loc r) := by
  unfold V₄ afterHead V₃ V₂ afterMlp
  rw [Function.update_of_ne h27, Function.update_of_ne h26, Function.update_of_ne h25]
  exact V₁_kept m hr d

/-- What the SparseCore call is given and gives back. -/
abbrev PP : (K (F := F)).Pay (nD := nD) (Val := Elt F) (Name := ℕ) (U := UU) :=
  P (fun d => mlpOut (V₁ m) d) (fun d => m ((SparseCore.T d).loc main_arg2)) (fun d => boundsOf (m ((SparseCore.T d).loc main_arg2))) (fun d => V₂ m d main_v26)

/-! ## The launch element -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem own_parts (a : UH) (b : UP) : (ownU ((a, (b, 1)) : UU) : sProp 𝕄) ⊢ iprop(BI.own (EH (F := F) a) ∗ BI.own (EP (F := F) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem no_tokens {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (F := F) (initOf (K (F := F)).hsCells (K (F := F)).hsToks)) ∗ (bigSep Finset.univ fun d : Dev nD => iprop(ghostOf 0 d ∗ ghostOf 1 d))
        ∗ bigSep Finset.univ fun thr : Thread nD τ => bigSep Finset.univ fun q : Fin 1 => (PP m).x q thr) := by
  unfold u₀
  iintro Hu
  ihave H := (own_parts (F := F) _ _) $$ Hu
  icases H with ⟨HH, HP⟩
  imod (Pipeline.fund_ghost (Pipeline.pin (pcfgs (F := F)) adm) (EP (F := F)) cellOf_inj) $$ HP with ⟨Hg, Ht⟩
  imodintro
  isplitl [HH]; · iexact HH
  isplitl [Hg Ht]
  · have e : (bigSep Finset.univ fun d : Dev nD => iprop(ghostOf (F := F) 0 d ∗ ghostOf 1 d))
        = iprop((bigSep Finset.univ fun c : Dev nD => bigSep Finset.univ fun p => Pipeline.cellsGhost (Pipeline.pin (pcfgs (F := F)) adm) (EP (F := F)) p c)
          ∗ (bigSep Finset.univ fun c : Dev nD => bigSep Finset.univ fun p => (Pipeline.toksInit (Pipeline.pin (pcfgs (F := F)) adm) (EP (F := F)) p c : sProp 𝕄))) := by
      rw [← bigSep_sep']
      refine bigSep_congr fun d _ => ?_
      exact (bigSep_fin_two (fun p => ghostOf (F := F) p d)).symm.trans (bigSep_sep' _ _ _)
    rw [e]
    isplitl [Hg] <;> iassumption
  rw [show (bigSep Finset.univ fun thr : Thread nD τ => bigSep Finset.univ fun q : Fin 1 => (PP m).x q thr) = bigSep Finset.univ fun _ => iprop(emp) from
    bigSep_congr fun _ _ => bigSep_univ_of_subsingleton (0 : Fin 1)]
  rw [no_tokens]
  iempintro

/-! ## The arrays of the SparseCore call, apart from the others -/

abbrev callRefs : Finset (Ref sig .tc) := {main_v25, main_arg2, main_v6, main_v26}

theorem callRefs_sub : callRefs ⊆ Finset.univ.filter fun b : Ref sig .tc => ¬ b.isScoped := by decide

/-- The other arrays. -/
abbrev others (d : Dev nD) (W : (b : Ref sig .tc) → Buf (Elt F) ((d.tc : Thread nD τ).loc b)) : sProp 𝕄 :=
  bigSep ((Finset.univ.filter fun b : Ref sig .tc => ¬ b.isScoped) \ callRefs) fun b => (d.tc : Thread nD τ).loc b ↦{fullShare} W b

theorem unscoped_call (d : Dev nD) (W : (b : Ref sig .tc) → Buf (Elt F) ((d.tc : Thread nD τ).loc b)) :
    (unscopedBufs d W : sProp 𝕄) = iprop(others d W
      ∗ (xLoc d ↦{fullShare} W main_v25) ∗ (iLoc d ↦{fullShare} W main_arg2) ∗ (bLoc d ↦{fullShare} W main_v6) ∗ oLoc d ↦{fullShare} W main_v26) := by
  unfold unscopedBufs others
  conv_lhs => rw [← Finset.sdiff_union_of_subset callRefs_sub]
  rw [BI.bigSep_union Finset.sdiff_disjoint, callRefs, SparseCore.bigSep_insert' (by decide), SparseCore.bigSep_insert' (by decide), SparseCore.bigSep_insert' (by decide),
    bigSep_singleton]
  rfl

theorem others_congr (d : Dev nD) (W W' : (b : Ref sig .tc) → Buf (Elt F) ((d.tc : Thread nD τ).loc b)) (h : ∀ b, b ≠ main_v26 → W b = W' b) : others d W = others d W' :=
  bigSep_congr fun b hb => by
    rw [h b fun e => (Finset.mem_sdiff.mp hb).2 (by rw [e]; decide)]

theorem V₂_other (d : Dev nD) {b : Ref sig .tc} (h : b ≠ main_v25) : V₂ m d b = V₁ m d b := Function.update_of_ne h ..
theorem V₃_other (d : Dev nD) {b : Ref sig .tc} (h : b ≠ main_v26) : V₃ m d b = V₂ m d b := Function.update_of_ne h ..

theorem V₂_call (d : Dev nD) : V₂ m d main_v25 = mlpOut (V₁ m) d ∧ V₂ m d main_arg2 = m ((SparseCore.T d).loc main_arg2) ∧ V₂ m d main_v6 = boundsOf (m ((SparseCore.T d).loc main_arg2)) := by
  refine ⟨?_, ?_, ?_⟩
  · show Function.update (V₁ m d) main_v25 (mlpOut (V₁ m) d) main_v25 = _
    rw [Function.update_self]
  · rw [V₂_other m d (by decide : main_arg2 ≠ main_v25)]; exact V₁_kept m (by decide) d
  · rw [V₂_other m d (by decide : main_v6 ≠ main_v25)]; exact after_bounds _

theorem V₃_call (d : Dev nD) : V₃ m d main_v25 = mlpOut (V₁ m) d ∧ V₃ m d main_arg2 = m ((SparseCore.T d).loc main_arg2) ∧ V₃ m d main_v6 = boundsOf (m ((SparseCore.T d).loc main_arg2))
    ∧ V₃ m d main_v26 = pooled m d := by
  rw [V₃_other m d (by decide : main_v25 ≠ main_v26), V₃_other m d (by decide : main_arg2 ≠ main_v26), V₃_other m d (by decide : main_v6 ≠ main_v26)]
  refine ⟨(V₂_call m d).1, (V₂_call m d).2.1, (V₂_call m d).2.2, ?_⟩
  show Function.update (V₂ m d) main_v26 (pooled m d) main_v26 = _
  rw [Function.update_self]

/-- What the call gives back. -/
theorem dn_back (d : Dev nD) : (bigSep Finset.univ fun c : Fin ((K (F := F)).nCore 0) => (PP m).dn 0 d c)
    = iprop((xLoc d ↦{fullShare} mlpOut (V₁ m) d) ∗ (iLoc d ↦{fullShare} m ((SparseCore.T d).loc main_arg2)) ∗ (bLoc d ↦{fullShare} boundsOf (m ((SparseCore.T d).loc main_arg2)))
      ∗ oLoc d ↦{fullShare} pooled m d) := dn_eq _ _ _ _ d

theorem call_back (d : Dev nD) : (iprop(others d (V₂ m d) ∗ (xLoc d ↦{fullShare} mlpOut (V₁ m) d) ∗ (iLoc d ↦{fullShare} m ((SparseCore.T d).loc main_arg2))
      ∗ (bLoc d ↦{fullShare} boundsOf (m ((SparseCore.T d).loc main_arg2))) ∗ oLoc d ↦{fullShare} pooled m d) : sProp 𝕄) = unscopedBufs d (V₃ m d) := by
  rw [unscoped_call, (V₃_call m d).1, (V₃_call m d).2.1, (V₃_call m d).2.2.1, (V₃_call m d).2.2.2, others_congr d (V₃ m d) (V₂ m d) fun b hb => V₃_other m d hb]

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## @main -/

theorem Otc_none (d : Dev nD) (n : ℕ) (g : GSem nD τ sig) : (K (F := F)).Otc d n g (none : HIx 1) = 0 := by
  by_contra h
  have := SparseCore.Cfg.lev_of_Otc_pos (K := K (F := F)) (Nat.pos_of_ne_zero h)
  rw [SparseCore.Cfg.lev_none] at this; omega

/-- What the core's waits may be before call `n`. -/
def waitsAt (d : Dev nD) (n : ℕ) : Set (SemLoc sig × HIx 1) := {p | (K (F := F)).lev (SparseCore.T d, p.1) p.2 ≤ 8 * SparseCore.Cfg.Blocks.fst 1 1 n}

/-- The core's state, with what it owes apart. -/
theorem tcSt_owing (d : Dev nD) (n : ℕ) :
    (K (F := F)).tcSt (EH (F := F)) d n ⊢ iprop(Owing (F := F) (fun d => (K (F := F)).Otc d n) (waitsAt (F := F) d n) d
      ∗ (Owing (F := F) (fun d => (K (F := F)).Otc d n) (waitsAt (F := F) d n) d -∗ (K (F := F)).tcSt (EH (F := F)) d n)) := by
  unfold SparseCore.Cfg.tcSt
  iintro ⟨⟨%W, %hW, HO⟩, Hr⟩
  isplitl [HO]
  · iexists W; isplitr
    · ipureintro; exact fun p hp => Or.inl (hW p hp)
    · iexact HO
  iintro ⟨%W', %hW', HO⟩
  isplitl [HO]
  · iexists W'; isplitr
    · ipureintro
      intro p hp
      rcases hW' p hp with h | h
      · exact h
      · rw [h, SparseCore.Cfg.lev_none]; exact Nat.zero_le _
    · iexact HO
  iexact Hr

theorem hmain (κ : GSem nD τ sig → ℕ) (d : Dev nD) :
    iprop((K (F := F)).ctx EH (PP m) κ ∗ (K (F := F)).tcSt (EH (F := F)) d 0 ∗ (K (F := F)).tcRes m ρ d ∗ ghostOf 0 d ∗ ghostOf 1 d)
      ⊢ wp frame (wpE ((K (F := F)).defs (D (F := F))) 𝒱 (SparseCore.T d) none) Set.univ (main d)
          fun _ => iprop((K (F := F)).tcSt (EH (F := F)) d 1 ∗ unscopedBufs d (V₄ m d) ∗ (K (F := F)).tcEnd d) := by
  unfold SparseCore.Cfg.tcRes SparseCore.Cfg.tcEnd
  rw [main_eq]
  iintro ⟨#Hctx, Hst, ⟨Hb, Hu, Hts, -⟩, Hg0, Hg1⟩
  ihave Hu' := (Entails.of_eq (Pipeline.unscopedBufs_held (Ix := HIx 1) (Name := ℕ) (U := UU) (Lvl := ℕ) d (fun b => m (d, b)))) $$ Hu
  ihave #Hlev := (SparseCore.Cfg.ctx_levAts κ) $$ Hctx
  iapply (StableHlo.wp_seq 𝒱 none Set.univ d (Pipeline.ucRefs τ sig) _ hostOps (fun op h => hostOps_unscoped op h) (fun op h => hostOps_fresh op h) _) $$ [Hb Hu']
  · isplitl [Hb] <;> iassumption
  iintro ⟨Hb, Hu⟩
  ihave Hu := (Entails.of_eq (Pipeline.unscopedBufs_held (Ix := HIx 1) (Name := ℕ) (U := UU) (Lvl := ℕ) d (StableHlo.after (hostOps (F := F)) (fun b' => m (d, b')))).symm) $$ Hu
  rw [wp_bind]
  ihave Hst' := (tcSt_owing (F := F) d 0) $$ Hst
  icases Hst' with ⟨HO, Hback⟩
  iapply (mlp_call (V₁ m) (fun d => (K (F := F)).Otc d 0) (waitsAt (F := F) d 0) (fun c g => Otc_none c 0 g) d)
  isplitr [Hb Hu HO Hg0]
  swap
  · isplitl [Hb]; · iexact Hb
    isplitl [Hu HO]
    · isplitl [Hu]; · iexact Hu
      iexact HO
    isplitr; · iexact Hlev
    iexact Hg0
  iintro ⟨Hb, Hu, HO⟩
  ihave Hst := Hback $$ HO
  rw [wp_bind]
  iapply ((K (F := F)).wp_run (D (F := F)) 𝒱 (EH := EH) (P := PP m) κ d 0)
  ihave Hu' := (Entails.of_eq (show unscopedBufs d (afterMlp (V₁ m) d) = _ from unscoped_call d (V₂ m d))) $$ Hu
  icases Hu' with ⟨Hrest, Hcall⟩
  isplitr; · iexact Hctx
  isplitl [Hst]; · iexact Hst
  isplitl [Hcall]
  · rw [st_eq, ← (V₂_call m d).2.2, ← (V₂_call m d).2.1, ← (V₂_call m d).1]
    iexact Hcall
  iintro ⟨Hst, Hdn⟩
  ihave Hst := (Entails.of_eq (show (K (F := F)).tcSt (EH (F := F)) d ((0 : Fin 1).val + 1) = (K (F := F)).tcSt (EH (F := F)) d 1 from rfl)) $$ Hst
  ihave Hdn' := (Entails.of_eq (dn_back m d)) $$ Hdn
  ihave Hu := (Entails.of_eq (call_back m d)) $$ [Hrest Hdn']
  · isplitl [Hrest]; · iexact Hrest
    iexact Hdn'
  rw [wp_bind]
  ihave Hst' := (tcSt_owing (F := F) d 1) $$ Hst
  icases Hst' with ⟨HO, Hback⟩
  iapply (head_call (V₃ m) (fun d => (K (F := F)).Otc d 1) (waitsAt (F := F) d 1) (fun c g => Otc_none c 1 g) d)
  isplitr [Hb Hu HO Hg1]
  swap
  · isplitl [Hb]; · iexact Hb
    isplitl [Hu HO]
    · isplitl [Hu]; · iexact Hu
      iexact HO
    isplitr; · iexact Hlev
    iexact Hg1
  iintro ⟨Hb, Hu, HO⟩
  ihave Hst := Hback $$ HO
  rw [wp_pure]
  imodintro
  isplitl [Hst]; · iexact Hst
  isplitl [Hu]; · iexact Hu
  isplitl [Hb] <;> iassumption

/-! ## The final state -/

def fq (d : Dev nD) (s' : Phys nD τ sig (Elt F)) : Prop := ∀ b : Ref sig .tc, ¬ b.isScoped → s'.mem.mem ((SparseCore.T d).loc b) = V₄ m d b

theorem unscoped_one (d : Dev nD) (W : (b : Ref sig .tc) → Buf (Elt F) ((d.tc : Thread nD τ).loc b)) (b : Ref sig .tc) (hb : ¬ b.isScoped) :
    (unscopedBufs d W : sProp 𝕄) = iprop(((d.tc : Thread nD τ).loc b ↦{fullShare} W b)
      ∗ bigSep ((Finset.univ.filter fun b : Ref sig .tc => ¬ b.isScoped).erase b) fun b => (d.tc : Thread nD τ).loc b ↦{fullShare} W b) := by
  unfold unscopedBufs
  conv_lhs => rw [← Finset.insert_erase (Finset.mem_filter.mpr ⟨Finset.mem_univ b, hb⟩)]
  rw [SparseCore.bigSep_insert' (Finset.notMem_erase _ _)]

theorem hfin (d : Dev nD) (s' : Phys nD τ sig (Elt F)) : iprop(unscopedBufs d (V₄ m d) ∗ SI s') ⊢ (⌜fq m d s'⌝ : sProp 𝕄) := by
  have one (b : Ref sig .tc) : iprop(unscopedBufs d (V₄ m d) ∗ SI s') ⊢ (⌜¬ b.isScoped → s'.mem.mem ((SparseCore.T d).loc b) = V₄ m d b⌝ : sProp 𝕄) := by
    by_cases hb : b.isScoped
    · iintro -; ipureintro; exact fun h => absurd hb h
    rw [unscoped_one d (V₄ m d) b hb]
    iintro ⟨⟨H, -⟩, HSI⟩
    ihave H := (SI_pointsTo_agree (st := s') (ℓ := (SparseCore.T d).loc b) (I := Finset.univ) (q := fullShare) (f := V₄ m d b)) $$ [HSI H]
    · isplitl [HSI] <;> iassumption
    icases H with %h
    ipureintro; exact fun _ => funext fun i => h i (Finset.mem_univ i)
  exact (Laws.forall_intro one).trans pure_forall.2

/-! ## The run -/

/-- Every array at the end. -/
def QC : PUnit × MemSt nD τ sig (Elt F) → Prop := fun r => (∀ d : Dev nD, ∀ b : Ref sig .tc, ¬ b.isScoped → r.2.mem ((SparseCore.T d).loc b) = V₄ m d b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) scFacts v₀
    (fun q hq => match q with | 0 => nomatch hq)
    (fun q _ => match q with | 0 => tileObl _ _ _ _ scFacts fun _ => boundsOk _)
    (fun q _ => match q with | 0 => SparseCore.Cfg.VecSplit.of_plain (vecSplit _ _ _ _))
    m ρ main (fun d => iprop(ghostOf 0 d ∗ ghostOf 1 d)) (fun d => unscopedBufs d (V₄ m d)) (u₀ (F := F)) (sep_elim_left.trans (hu₀ m)) (hmain m ρ) (fq m) (hfin m) (QC m) (fun _ h hz => ⟨h, hz⟩)

end Cert.Proof.Pool
end
-- ==== Proof.Same.lean ====
module
public import proofs.«01_k».proof.Proof.Setup
public import proofs.«01_k».proof.Proof.Gen.Kernel
@[expose] public section
/-! The two programs have the same text: their tables of functions and their threads are the same terms. -/
noncomputable section
namespace Cert.Proof.Pool
open Idealize.ShloMosaic
variable {F : FTy → Type} [FloatOps F]

set_option maxHeartbeats 8000000 in
theorem same_segmax : Cert.Kernel.cc1__segmax_body (F := F) = Cert.KernelIdeal.cc1__segmax_body (F := F) := rfl

set_option maxHeartbeats 1000000 in
theorem same_defs₀ : Cert.Kernel.defs₀ (F := F) = Cert.KernelIdeal.defs₀ (F := F) := by
  funext p ℓ a
  rcases p with _ | _ | ⟨c, s⟩ <;> rcases ℓ with ⟨_ | _ | _ | n, h⟩
  case scVector.succ.zero =>
    unfold Cert.Kernel.defs₀ Cert.KernelIdeal.defs₀
    dsimp only
    rw [same_segmax]
    rfl
  all_goals first
    | exact absurd h (by omega)
    | rfl

set_option maxHeartbeats 4000000 in
theorem same_defs : Cert.Kernel.defs (F := F) = Cert.KernelIdeal.defs (F := F) :=
  congrArg (fun D => (Cert.KernelIdeal.sc (F := F)).defs (Pipeline.defs Cert.KernelIdeal.pcfgs D)) same_defs₀

set_option maxHeartbeats 4000000 in
theorem same_threads : Cert.Kernel.threads (F := F) = Cert.KernelIdeal.threads (F := F) := rfl

end Cert.Proof.Pool
end
-- ==== Proof.Frames.lean ====
module
public import proofs.«01_k».proof.Proof.Launch
public import proofs.«01_k».proof.Proof.Same
public import proofs.«01_k».proof.Proof.Gen.ReferenceIdeal.Run
@[expose] public section
/-! The frames: the run with its values dropped. -/
noncomputable section
namespace Cert.Proof.Pool
open Cert.KernelIdeal Cert.KernelIdeal.Gen
open Idealize.ShloMosaic
variable {F : FTy → Type} [FloatOps F]

/-- An argument is as at the start. -/
theorem arg_kept {m : (ℓ : Loc nD τ sig) → Buf (Elt F) ℓ} {r : PUnit × MemSt nD τ sig (Elt F)} (h : QC m r) (d : Dev nD) (b : Ref sig .tc) (hs : ¬ b.isScoped)
    (hb : b ∉ hostWrites) (h25 : b ≠ main_v25) (h26 : b ≠ main_v26) (h27 : b ≠ main_v27) : r.2.mem ((SparseCore.T d).loc b) = m ((SparseCore.T d).loc b) :=
  (h.1 d b hs).trans (V₄_kept m hb h25 h26 h27 d)

/-- Every argument is as at the start. -/
theorem args_kept {m : (ℓ : Loc nD τ sig) → Buf (Elt F) ℓ} {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) := by
  refine ⟨?_, ?_, ?_, ?_, ?_, ?_, ?_, ?_, ?_, ?_⟩ <;> exact arg_kept h c _ (by decide) (by decide) (by decide) (by decide) (by decide)

/-- The run, its values dropped. -/
def Kept (m : (ℓ : Loc nD τ sig) → Buf (Elt F) ℓ) : PUnit × MemSt nD τ sig (Elt F) → Prop := fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9))
  ∧ r.2.sem = fun _ => 0

theorem run_kept [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩ (Kept m) :=
  (θ_run Cert.KernelIdeal.defs _ _).mono (fun _ h => ⟨fun c => args_kept h c, h.2⟩) (run_main m ρ)

theorem frame_kernelIdeal : Cert.quiescent_KernelIdeal := fun m ρ _ => run_kept (F := Ideal) m ρ

/-- The same run over the word floats: the two programs are the same terms. -/
theorem frame_kernel : Cert.quiescent_Kernel (hKernel := Cert.Kernel.Gen.facts) := by
  intro m ρ _
  rw [same_defs, same_threads]
  exact run_kept (F := Bits) m ρ

/-- The reference runs through, and declares no semaphore. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

end Cert.Proof.Pool
end
-- ==== Proof.Spec.lean ====
module
public import Idealize.ShloMosaic.Lib.IdealHost
public import Idealize.ShloMosaic.Lib.ValueIdx
@[expose] public section
/-! The network's mathematics on extended reals, without shapes or programs: the two layers of a point, the maximum over a cluster's points, the
    classes of a cluster, their mean over a batch's clusters, and the logarithm of the softmax. -/
noncomputable section
namespace Cert.Proof.Pool
open Idealize.ShloMosaic Idealize.ShloMosaic.ValueIdx

/-- The inputs of point `p`: four locations, then three positions. -/
def feat (a : (⟨2, ![640000, 4]⟩ : Shape).Idx → EReal) (b : (⟨2, ![640000, 3]⟩ : Shape).Idx → EReal) (p : Fin 640000) (k : Fin 7) : EReal :=
  if h : k.val < 4 then a (ix2 p ⟨k.val, h⟩) else b (ix2 p ⟨k.val - 4, by omega⟩)

/-- The hidden layer's number: seven inputs `x`, the layer's column `w` and its bias `b`. -/
def hid (x w : Fin 7 → EReal) (b : EReal) : EReal := max (∑ k, x k * w k + b) 0

/-- The second layer's number from the hidden layer's numbers. -/
def lay (u w : Fin 64 → EReal) (b : EReal) : EReal := max (∑ k, u k * w k + b) 0

/-- A class's number from a cluster's 64 numbers. -/
def cls (u w : Fin 64 → EReal) (b : EReal) : EReal := ∑ k, u k * w k + b

/-- The mean of `f` over those of `n` places that `P` holds at; the sum, where there is none. -/
def mean {n : ℕ} (P : Fin n → Prop) [DecidablePred P] (f : Fin n → EReal) : EReal :=
  Ideal.div (∑ k, if P k then f k else 0) (max (∑ k, if P k then (1 : EReal) else 0) 1)

/-- The greatest of four numbers. -/
def most (l : Fin 4 → EReal) : EReal := Finset.univ.fold max ⊥ l

/-- The logarithm of the softmax of four numbers. -/
def lsm (l : Fin 4 → EReal) (j : Fin 4) : EReal := (l j - most l) - Ideal.log (∑ i, Ideal.exp (l i - most l))

theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]

end Cert.Proof.Pool
-- ==== Proof.HostValues.lean ====
module
public import proofs.«01_k».proof.Proof.HostReads
public import proofs.«01_k».proof.Proof.Spec
public import Idealize.ShloMosaic.Lib.Pipeline.Value
public import Idealize.ShloMosaic.Lib.ValueIdx
@[expose] public section
/-! The host's packed operands, read at an index. -/
noncomputable section
namespace Cert.Proof.Pool
open Cert.KernelIdeal Cert.KernelIdeal.Gen
open Idealize.ShloMosaic Idealize.ShloMosaic.ValueIdx
variable {F : FTy → Type} [FloatOps F]

/-- The seven inputs of each point, four locations and three positions, in rows. -/
def packed (a : FVec F S640000x4 .f32) (b : FVec F S640000x3 .f32) : FVec F S7x640000 .bf16 :=
  truncf .bf16 (concatenate S7x640000 0 [⟨S4x640000, transpose S4x640000 [1, 0] a transposes_S640000x4_S4x640000_1_0⟩,
    ⟨S3x640000, transpose S3x640000 [1, 0] b transposes_S640000x3_S3x640000_1_0⟩] concatenates_S4x640000_S3x640000_S7x640000_d0) bitsLt_bf16_f32
/-- A bias in eight equal rows. -/
def bias8 (a : FVec F S64 .f32) : FVec F S8x64 .f32 := broadcastInDim S8x64 ![0, 1] bcast_S1x64_S8x64_0_1 (broadcastInDim S1x64 ![1] bcast_S64_S1x64_1 a)
/-- The last layer's matrix and bias with four more columns. -/
def padW (a : FVec F S64x4 .f32) : FVec F S64x8 .f32 := pad S64x8 ![0, 0] ![0, 4] ![0, 0] a (sitofp (F := F) .f32 (constantI S_ 32 0#32)) pads_S64x4_S64x8_000_040 h_S_
def padB (a : FVec F S4 .f32) : FVec F S8x8 .f32 :=
  broadcastInDim S8x8 ![0, 1] bcast_S1x8_S8x8_0_1 (broadcastInDim S1x8 ![1] bcast_S8_S1x8_1 (pad S8 ![0] ![4] ![0] a (sitofp (F := F) .f32 (constantI S_ 32 0#32)) pads_S4_S8_040 h_S_))
/-- The clusters' batches, and −1 for the 240 clusters of padding. -/
def batch8 (a : IVec S10000 32) : IVec S8x10240 32 :=
  broadcastInDim S8x10240 ![0, 1] bcast_S1x10240_S8x10240_0_1 (broadcastInDim S1x10240 ![1] bcast_S10240_S1x10240_1
    (concatenate S10240 0 [⟨S10000, a⟩, ⟨S240, broadcastInDim S240 ![] bcast_S_S240 (constantI S_ 32 4294967295#32)⟩] concatenates_S10000_S240_S10240_d0))

/-! What the host leaves in each operand's array. -/

set_option maxRecDepth 8192 in
theorem after_v10 (V) : StableHlo.after (hostOps (F := F)) V (Proc.devRef .tc main_v10) = packed (V (Proc.devRef .tc main_arg0)) (V (Proc.devRef .tc main_arg1)) := by
  after_reads_simp
  all_goals try simp -implicitDefEqProofs only [StableHlo.TRef.toBuf, StableHlo.TRef.ofBuf, cast_cast, cast_eq]
  all_goals rfl
set_option maxRecDepth 8192 in
theorem after_v11 (V) : StableHlo.after (hostOps (F := F)) V (Proc.devRef .tc main_v11) = (truncf .bf16 (V (Proc.devRef .tc main_arg4) : FVec F S7x64 .f32) bitsLt_bf16_f32 : FVec F S7x64 .bf16) := by
  after_reads_simp
  all_goals try simp -implicitDefEqProofs only [StableHlo.TRef.toBuf, StableHlo.TRef.ofBuf, cast_cast, cast_eq]
  all_goals rfl
set_option maxRecDepth 8192 in
theorem after_v13 (V) : StableHlo.after (hostOps (F := F)) V (Proc.devRef .tc main_v13) = bias8 (V (Proc.devRef .tc main_arg5)) := by
  after_reads_simp
  all_goals try simp -implicitDefEqProofs only [StableHlo.TRef.toBuf, StableHlo.TRef.ofBuf, cast_cast, cast_eq]
  all_goals rfl
set_option maxRecDepth 8192 in
theorem after_v14 (V) : StableHlo.after (hostOps (F := F)) V (Proc.devRef .tc main_v14) = (truncf .bf16 (V (Proc.devRef .tc main_arg6) : FVec F S64x64 .f32) bitsLt_bf16_f32 : FVec F S64x64 .bf16) := by
  after_reads_simp
  all_goals try simp -implicitDefEqProofs only [StableHlo.TRef.toBuf, StableHlo.TRef.ofBuf, cast_cast, cast_eq]
  all_goals rfl
set_option maxRecDepth 8192 in
theorem after_v16 (V) : StableHlo.after (hostOps (F := F)) V (Proc.devRef .tc main_v16) = bias8 (V (Proc.devRef .tc main_arg7)) := by
  after_reads_simp
  all_goals try simp -implicitDefEqProofs only [StableHlo.TRef.toBuf, StableHlo.TRef.ofBuf, cast_cast, cast_eq]
  all_goals rfl
set_option maxRecDepth 8192 in
theorem after_v17 (V) : StableHlo.after (hostOps (F := F)) V (Proc.devRef .tc main_v17) = padW (V (Proc.devRef .tc main_arg8)) := by
  after_reads_simp
  all_goals try simp -implicitDefEqProofs only [StableHlo.TRef.toBuf, StableHlo.TRef.ofBuf, cast_cast, cast_eq]
  all_goals rfl
set_option maxRecDepth 8192 in
theorem after_v20 (V) : StableHlo.after (hostOps (F := F)) V (Proc.devRef .tc main_v20) = padB (V (Proc.devRef .tc main_arg9)) := by
  after_reads_simp
  all_goals try simp -implicitDefEqProofs only [StableHlo.TRef.toBuf, StableHlo.TRef.ofBuf, cast_cast, cast_eq]
  all_goals rfl
set_option maxRecDepth 8192 in
theorem after_v24 (V) : StableHlo.after (hostOps (F := F)) V (Proc.devRef .tc main_v24) = batch8 (V (Proc.devRef .tc main_arg3)) := by
  after_reads_simp
  all_goals try simp -implicitDefEqProofs only [StableHlo.TRef.toBuf, StableHlo.TRef.ofBuf, cast_cast, cast_eq]
  all_goals rfl

theorem packed_apply (a : S640000x4.Idx → EReal) (b : S640000x3.Idx → EReal) (k : Fin 7) (p : Fin 640000) : packed (F := Ideal) a b (ix2 k p) = feat a b p k := by
  unfold packed feat
  rw [truncf_apply]
  by_cases h : k.val < 4
  · rw [dif_pos h]
    refine (concatenate_pair_apply_left (t := S7x640000) (s₁ := S4x640000) (s₂ := S3x640000) 0 _ _ _ (ix2 k p) rfl (ix2 ⟨k.val, h⟩ p) fun b => ?_).trans ?_
    · match b with
      | 0 => rfl
      | 1 => rfl
    · refine transpose_apply _ _ _ _ _ fun b => ?_
      match b with
      | 0 => rfl
      | 1 => rfl
  · rw [dif_neg h]
    refine (concatenate_pair_apply_right (t := S7x640000) (s₁ := S4x640000) (s₂ := S3x640000) 0 _ _ _ (ix2 k p) rfl rfl (ix2 ⟨k.val - 4, by omega⟩ p) (fun b hb => ?_) ?_).trans ?_
    · match b with
      | 0 => exact absurd rfl hb
      | 1 => rfl
    · show k.val - 4 + 4 = k.val
      omega
    · refine transpose_apply _ _ _ _ _ fun b => ?_
      match b with
      | 0 => rfl
      | 1 => rfl

theorem bias8_apply (a : S64.Idx → EReal) (r : Fin 8) (j : Fin 64) : bias8 (F := Ideal) a (ix2 r j) = a (ix1 j) := by
  refine congrArg a (funext fun c => ?_)
  match c with
  | 0 => rfl

theorem padW_apply (a : S64x4.Idx → EReal) (k : Fin 64) (j : Fin 4) : padW (F := Ideal) a (ix2 k (Fin.castLE (by decide) j)) = a (ix2 k j) := by
  unfold padW
  refine pad_apply_of_inside ![0, 0] ![0, 4] ![0, 0] a _ pads_S64x4_S64x8_000_040 h_S_ _ (ix2 k j) fun c => ?_
  match c with
  | 0 => show k.val = 0 + k.val * (0 + 1); omega
  | 1 => show j.val = 0 + j.val * (0 + 1); omega

/-- Eight copies of a vector of 8 hold it in every row. -/
theorem rows8_apply {α : Type} (x : S8.Idx → α) (r l : Fin 8) :
    broadcastInDim S8x8 ![0, 1] bcast_S1x8_S8x8_0_1 (broadcastInDim S1x8 ![1] bcast_S8_S1x8_1 x) (ix2 r l) = x (ix1 l) := by
  refine congrArg x (funext fun c => ?_)
  match c with
  | 0 => rfl

/-- Eight copies of a vector of 10240 hold it in every row. -/
theorem rows10240_apply {α : Type} (x : S10240.Idx → α) (r : Fin 8) (l : Fin 10240) :
    broadcastInDim S8x10240 ![0, 1] bcast_S1x10240_S8x10240_0_1 (broadcastInDim S1x10240 ![1] bcast_S10240_S1x10240_1 x) (ix2 r l) = x (ix1 l) := by
  refine congrArg x (funext fun c => ?_)
  match c with
  | 0 => rfl

theorem padB_apply (a : S4.Idx → EReal) (r : Fin 8) (j : Fin 4) : padB (F := Ideal) a (ix2 r (Fin.castLE (by decide) j)) = a (ix1 j) := by
  unfold padB
  refine (rows8_apply _ _ _).trans ?_
  refine pad_apply_of_inside ![0] ![4] ![0] a _ pads_S4_S8_040 h_S_ _ (ix1 j) fun c => ?_
  match c with
  | 0 => show j.val = 0 + j.val * (0 + 1); omega

theorem batch8_apply (a : S10000.Idx → BitVec 32) (r : Fin 8) (k : Fin 10240) :
    batch8 a (ix2 r k) = if h : k.val < 10000 then a (ix1 ⟨k.val, h⟩) else 4294967295#32 := by
  have e : batch8 a (ix2 r k) = concatenate S10240 0 [⟨S10000, a⟩, ⟨S240, broadcastInDim S240 ![] bcast_S_S240 (constantI S_ 32 4294967295#32)⟩] concatenates_S10000_S240_S10240_d0 (ix1 k) := by
    unfold batch8
    exact rows10240_apply _ _ _
  rw [e]
  by_cases h : k.val < 10000
  · rw [dif_pos h]
    refine concatenate_pair_apply_left (t := S10240) (s₁ := S10000) (s₂ := S240) 0 _ _ _ (ix1 k) rfl (ix1 ⟨k.val, h⟩) fun b => ?_
    match b with
    | 0 => rfl
  · rw [dif_neg h]
    refine (concatenate_pair_apply_right (t := S10240) (s₁ := S10000) (s₂ := S240) 0 _ _ _ (ix1 k) rfl rfl (ix1 ⟨k.val - 10000, by omega⟩) (fun b hb => ?_) ?_).trans rfl
    · match b with
      | 0 => exact absurd rfl hb
    · show k.val - 10000 + 10000 = k.val
      omega

end Cert.Proof.Pool
-- ==== Proof.MlpValue.lean ====
module
public import proofs.«01_k».proof.Proof.Mlp
public import proofs.«01_k».proof.Proof.Spec
public import Idealize.ShloMosaic.Lib.MatmulPlain
public import Idealize.ShloMosaic.Lib.ValueIdx
public import Idealize.ShloMosaic.Lib.Pipeline.Value
@[expose] public section
/-! A number of the MLP's block. -/
noncomputable section
namespace Cert.Proof.Pool
open Cert.KernelIdeal Cert.KernelIdeal.Gen
open Idealize.ShloMosaic Idealize.ShloMosaic.ValueIdx

theorem first_matmul (x : S7x5120.Idx → EReal) (w : S7x64.Idx → EReal) (r : Fin 5120) (c : Fin 64) :
    matmul (F := Ideal) (φ₁ := .bf16) (φ₂ := .bf16) dot_S7x5120_S7x64_S5120x64_0_0_1_1_n_n none x w (constant S5120x64 .f32 0x00000000#32) (ix2 r c)
      = ∑ k : Fin 7, x (ix2 k r) * w (ix2 k c) := by
  simp only [matmul]
  rw [Ideal.matmul_constant_zero_apply]
  refine Fintype.sum_equiv (contrEquiv1 dot_S7x5120_S7x64_S5120x64_0_0_1_1_n_n 7 rfl rfl) _ _ fun k => ?_
  congr 1
  · refine congrArg x (funext fun a => ?_)
    match a with
    | 0 => rfl
    | 1 => rfl
  · refine congrArg w (funext fun a => ?_)
    match a with
    | 0 => rfl
    | 1 => rfl

theorem second_matmul (x : S5120x64.Idx → EReal) (w : S64x64.Idx → EReal) (r : Fin 5120) (c : Fin 64) :
    matmul (F := Ideal) (φ₁ := .bf16) (φ₂ := .bf16) dot_S5120x64_S64x64_S5120x64_1_0_0_1_n_n none x w (constant S5120x64 .f32 0x00000000#32) (ix2 r c)
      = ∑ k : Fin 64, x (ix2 r k) * w (ix2 k c) := by
  simp only [matmul]
  refine (Ideal.matmul_plain_apply (M := 5120) (K := 64) (N := 64) none x w _ r c).trans ?_
  rw [show (constant (F := Ideal) S5120x64 .f32 0x00000000#32 (ix2 r c) : EReal) = 0 from Ideal.ofBits_zero_f32, zero_add]

/-- A row of eight spread over the block's rows. -/
theorem bias_apply (b : S8x64.Idx → EReal) (r : Fin 5120) (c : Fin 64) :
    broadcastTo S5120x64 (shapeCast S1x64 (topRow64 (F := Ideal) b) shapeCasts_S1x64_S1x64) broadcasts_S1x64_S5120x64 (ix2 r c) = b (ix2 0 c) := by
  rw [shapeCast_self]
  refine congrArg b (funext fun a => ?_)
  match a with
  | 0 => rfl
  | 1 => exact Fin.ext (by show 0 + 1 * c.val = c.val; omega)

theorem mlpBlock_apply (x : S7x5120.Idx → EReal) (w1 : S7x64.Idx → EReal) (b1 : S8x64.Idx → EReal) (w2 : S64x64.Idx → EReal) (b2 : S8x64.Idx → EReal)
    (r : Fin 5120) (c : Fin 64) :
    mlpBlock (F := Ideal) x w1 b1 w2 b2 (ix2 r c)
      = lay (fun j => hid (fun k => x (ix2 k r)) (fun k => w1 (ix2 k j)) (b1 (ix2 0 j))) (fun j => w2 (ix2 j c)) (b2 (ix2 0 c)) := by
  have z (j : S5120x64.Idx) : (broadcast S5120x64 (Scalar.ofBits (F := Ideal) .f32 0x00000000#32) j : EReal) = 0 := Ideal.ofBits_zero_f32
  unfold mlpBlock k0_pay1
  rw [maximumf_apply, addf_apply, bias_apply, z, shapeCast_self, shapeCast_self, second_matmul]
  unfold lay
  show max ((∑ k : Fin 64, _ * _) + _) (0 : EReal) = _
  congr 2
  refine Finset.sum_congr rfl fun k _ => ?_
  congr 1
  · rw [truncf_apply, maximumf_apply, addf_apply, bias_apply, z, first_matmul]
    rfl
  · rw [shapeCast_self]

end Cert.Proof.Pool
-- ==== Proof.MlpOut.lean ====
module
public import proofs.«01_k».proof.Proof.MlpValue
public import proofs.«01_k».proof.Proof.RegionMlp
public import proofs.«01_k».proof.Proof.RegionHead
public import Idealize.ShloMosaic.Lib.Pipeline.ValueKit
@[expose] public section
/-! What the two regions of the tensor core leave: the MLP's rows, and the head's block. -/
noncomputable section
namespace Cert.Proof.Pool
open Cert.KernelIdeal Cert.KernelIdeal.Gen
open Idealize.ShloMosaic hiding ix0 ix1 ix2 ix3
open Idealize.ShloMosaic.ValueIdx
open Idealize.ShloMosaic.TcCoe
open Idealize.ShloMosaic.Pipeline (Dat Cfg Window)

/-- The MLP of a row of the packed inputs. -/
def mlpRows (x : S7x640000.Idx → EReal) (w1 : S7x64.Idx → EReal) (b1 : S8x64.Idx → EReal) (w2 : S64x64.Idx → EReal) (b2 : S8x64.Idx → EReal) :
    S640000x64.Idx → EReal :=
  fun i => lay (fun j => hid (fun k => x (ix2 k (i 0))) (fun k => w1 (ix2 k j)) (b1 (ix2 0 j))) (fun j => w2 (ix2 j (i 1))) (b2 (ix2 0 (i 1)))

theorem at0 : ∀ t : Fin cfg0.N, win0_0.index t 0 = 0 ∧ win0_0.index t 1 = t.val := by decide +kernel
theorem at1 : ∀ t : Fin cfg0.N, win0_1.index t 0 = 0 ∧ win0_1.index t 1 = 0 := by decide +kernel
theorem at2 : ∀ t : Fin cfg0.N, win0_2.index t 0 = 0 ∧ win0_2.index t 1 = 0 := by decide +kernel
theorem at3 : ∀ t : Fin cfg0.N, win0_3.index t 0 = 0 ∧ win0_3.index t 1 = 0 := by decide +kernel
theorem at4 : ∀ t : Fin cfg0.N, win0_4.index t 0 = 0 ∧ win0_4.index t 1 = 0 := by decide +kernel
theorem at5 : ∀ t : Fin cfg0.N, win0_5.index t 0 = t.val ∧ win0_5.index t 1 = 0 := by decide +kernel

/-- Where a block's column of packed inputs lies. -/
theorem emb0 (t : Fin cfg0.N) (y : S5120x64.Idx) (k : Fin 7) : (win0_0.blk t).view.emb (ix2 k (y 0)) = ix2 k ((win0_5.blk t).view.emb y 0) := by
  funext a
  match a with
  | 0 => refine Fin.ext ?_; blk_simp; rw [(at0 t).1, Nat.zero_mul, Nat.zero_add]; rfl
  | 1 => refine Fin.ext ?_; blk_simp; rw [(at0 t).2]; show _ = ((win0_5.blk t).view.emb y 0).val; blk_simp; rw [(at5 t).1]; rfl
theorem emb1 (t : Fin cfg0.N) (k : Fin 7) (j : Fin 64) : (win0_1.blk t).view.emb (ix2 k j) = ix2 k j := by
  funext a
  match a with
  | 0 => refine Fin.ext ?_; blk_simp; rw [(at1 t).1]; simp
  | 1 => refine Fin.ext ?_; blk_simp; rw [(at1 t).2]; simp
theorem emb2 (t : Fin cfg0.N) (j : Fin 64) : (win0_2.blk t).view.emb (ix2 0 j) = ix2 0 j := by
  funext a
  match a with
  | 0 => refine Fin.ext ?_; blk_simp; rw [(at2 t).1]; simp
  | 1 => refine Fin.ext ?_; blk_simp; rw [(at2 t).2]; simp
theorem emb3 (t : Fin cfg0.N) (y : S5120x64.Idx) (j : Fin 64) : (win0_3.blk t).view.emb (ix2 j (y 1)) = ix2 j ((win0_5.blk t).view.emb y 1) := by
  funext a
  match a with
  | 0 => refine Fin.ext ?_; blk_simp; rw [(at3 t).1, Nat.zero_mul, Nat.zero_add]; rfl
  | 1 => refine Fin.ext ?_; blk_simp; rw [(at3 t).2]; show _ = ((win0_5.blk t).view.emb y 1).val; blk_simp; rw [(at5 t).2, Nat.zero_mul, Nat.zero_add]; rfl
theorem emb4 (t : Fin cfg0.N) (y : S5120x64.Idx) : (win0_4.blk t).view.emb (ix2 0 (y 1)) = ix2 0 ((win0_5.blk t).view.emb y 1) := by
  funext a
  match a with
  | 0 => refine Fin.ext ?_; blk_simp; rw [(at4 t).1, Nat.zero_mul, Nat.zero_add]; rfl
  | 1 => refine Fin.ext ?_; blk_simp; rw [(at4 t).2]; show _ = ((win0_5.blk t).view.emb y 1).val; blk_simp; rw [(at5 t).2, Nat.zero_mul, Nat.zero_add]; rfl

set_option maxHeartbeats 400000 in
theorem mlpOut_eq (V : Vals (F := Ideal)) (c : Dev nD) :
    mlpOut V c = mlpRows (V c main_v10) (V c main_v11) (V c main_v13) (V c main_v14) (V c main_v16) := by
  refine (mlpDat V (fun _ => 0) ∅ c).arrAt_eq_of_covers 5 _ (by decide +kernel) fun t hf y => ?_
  blk_simp
  have key : ∀ y : S5120x64.Idx, mlpBlock (F := Ideal) (((cfg0.win 0).blk t).view.read (Elt Ideal) (V c main_v10)) (((cfg0.win 1).blk t).view.read (Elt Ideal) (V c main_v11))
        (((cfg0.win 2).blk t).view.read (Elt Ideal) (V c main_v13)) (((cfg0.win 3).blk t).view.read (Elt Ideal) (V c main_v14)) (((cfg0.win 4).blk t).view.read (Elt Ideal) (V c main_v16)) y
      = mlpRows (V c main_v10) (V c main_v11) (V c main_v13) (V c main_v14) (V c main_v16) ((win0_5.blk t).view.emb y) := by
    intro y
    refine ((congrArg _ (ValueIdx.eq_ix2 y)).trans (mlpBlock_apply _ _ _ _ _ _ _)).trans ?_
    unfold mlpRows
    congr 1
    · funext j
      congr 1
      · funext k
        exact congrArg (V c main_v10) (emb0 t y k)
      · funext k
        exact congrArg (V c main_v11) (emb1 t k j)
      · exact congrArg (V c main_v13) (emb2 t j)
    · funext j
      exact congrArg (V c main_v14) (emb3 t y j)
    · exact congrArg (V c main_v16) (emb4 t y)
  exact key y

theorem hat0 : ∀ t : Fin cfg2.N, win2_0.index t 0 = 0 ∧ win2_0.index t 1 = 0 := by decide +kernel
theorem hat1 : ∀ t : Fin cfg2.N, win2_1.index t 0 = 0 ∧ win2_1.index t 1 = 0 := by decide +kernel
theorem hat2 : ∀ t : Fin cfg2.N, win2_2.index t 0 = 0 ∧ win2_2.index t 1 = 0 := by decide +kernel
theorem hat3 : ∀ t : Fin cfg2.N, win2_3.index t 0 = 0 ∧ win2_3.index t 1 = 0 := by decide +kernel
theorem hat4 : ∀ t : Fin cfg2.N, win2_4.index t 0 = 0 ∧ win2_4.index t 1 = 0 := by decide +kernel

theorem hemb0 (t : Fin cfg2.N) (y : S10240x64.Idx) : (win2_0.blk t).view.emb y = y := by
  funext a
  match a with
  | 0 => refine Fin.ext ?_; blk_simp; rw [(hat0 t).1, Nat.zero_mul, Nat.zero_add]
  | 1 => refine Fin.ext ?_; blk_simp; rw [(hat0 t).2, Nat.zero_mul, Nat.zero_add]
theorem hemb1 (t : Fin cfg2.N) (y : S64x8.Idx) : (win2_1.blk t).view.emb y = y := by
  funext a
  match a with
  | 0 => refine Fin.ext ?_; blk_simp; rw [(hat1 t).1, Nat.zero_mul, Nat.zero_add]
  | 1 => refine Fin.ext ?_; blk_simp; rw [(hat1 t).2, Nat.zero_mul, Nat.zero_add]
theorem hemb2 (t : Fin cfg2.N) (y : S8x8.Idx) : (win2_2.blk t).view.emb y = y := by
  funext a
  match a with
  | 0 => refine Fin.ext ?_; blk_simp; rw [(hat2 t).1, Nat.zero_mul, Nat.zero_add]
  | 1 => refine Fin.ext ?_; blk_simp; rw [(hat2 t).2, Nat.zero_mul, Nat.zero_add]
theorem hemb3 (t : Fin cfg2.N) (y : S8x10240.Idx) : (win2_3.blk t).view.emb y = y := by
  funext a
  match a with
  | 0 => refine Fin.ext ?_; blk_simp; rw [(hat3 t).1, Nat.zero_mul, Nat.zero_add]
  | 1 => refine Fin.ext ?_; blk_simp; rw [(hat3 t).2, Nat.zero_mul, Nat.zero_add]
theorem hemb4 (t : Fin cfg2.N) (y : S16x4.Idx) : (win2_4.blk t).view.emb y = y := by
  funext a
  match a with
  | 0 => refine Fin.ext ?_; blk_simp; rw [(hat4 t).1, Nat.zero_mul, Nat.zero_add]
  | 1 => refine Fin.ext ?_; blk_simp; rw [(hat4 t).2, Nat.zero_mul, Nat.zero_add]

set_option maxHeartbeats 400000 in
theorem headOut_eq (V : Vals (F := Ideal)) (c : Dev nD) :
    headOut V c = headBlock (F := Ideal) (V c main_v26) (V c main_v17) (V c main_v20) (V c main_v24) := by
  refine (headDat V (fun _ => 0) ∅ c).arrAt_eq_of_covers 4 _ (by decide +kernel) fun t hf y => ?_
  blk_simp
  have key : ∀ y : S16x4.Idx, headBlock (F := Ideal) (((cfg2.win 0).blk t).view.read (Elt Ideal) (V c main_v26)) (((cfg2.win 1).blk t).view.read (Elt Ideal) (V c main_v17))
        (((cfg2.win 2).blk t).view.read (Elt Ideal) (V c main_v20)) (((cfg2.win 3).blk t).view.read (Elt Ideal) (V c main_v24)) y
      = headBlock (F := Ideal) (V c main_v26) (V c main_v17) (V c main_v20) (V c main_v24) ((win2_4.blk t).view.emb y) := by
    intro y
    have e0 : ((cfg2.win 0).blk t).view.read (Elt Ideal) (V c main_v26) = V c main_v26 := funext fun y => congrArg (V c main_v26) (hemb0 t y)
    have e1 : ((cfg2.win 1).blk t).view.read (Elt Ideal) (V c main_v17) = V c main_v17 := funext fun y => congrArg (V c main_v17) (hemb1 t y)
    have e2 : ((cfg2.win 2).blk t).view.read (Elt Ideal) (V c main_v20) = V c main_v20 := funext fun y => congrArg (V c main_v20) (hemb2 t y)
    have e3 : ((cfg2.win 3).blk t).view.read (Elt Ideal) (V c main_v24) = V c main_v24 := funext fun y => congrArg (V c main_v24) (hemb3 t y)
    rw [e0, e1, e2, e3, hemb4]
  exact key y

end Cert.Proof.Pool
-- ==== Proof.HeadValue.lean ====
module
public import proofs.«01_k».proof.Proof.Mlp
public import proofs.«01_k».proof.Proof.Spec
public import Idealize.ShloMosaic.Lib.MatmulPlain
public import Idealize.ShloMosaic.Lib.ValueLayoutCasts
public import Idealize.ShloMosaic.Lib.Pipeline.Value
@[expose] public section
/-! A number of the head's block. -/
noncomputable section
namespace Cert.Proof.Pool
open Cert.KernelIdeal Cert.KernelIdeal.Gen
open Idealize.ShloMosaic Idealize.ShloMosaic.ValueIdx

/-- The classes of the clusters, as the head computes them. -/
def headCls (x : S10240x64.Idx → EReal) (w3 : S64x8.Idx → EReal) (b3 : S8x8.Idx → EReal) : S10240x8.Idx → EReal :=
  addf (F := Ideal) (φ := .f32) (matmul (F := Ideal) (φ₁ := .f32) (φ₂ := .f32) dot_S10240x64_S64x8_S10240x8_1_0_0_1_n_n none (shapeCast S10240x64 x shapeCasts_S10240x64_S10240x64)
    (shapeCast S64x8 w3 shapeCasts_S64x8_S64x8) (constant S10240x8 .f32 0x00000000#32))
    (broadcastTo S10240x8 (shapeCast S1x8 (topRow8 (F := Ideal) b3) shapeCasts_S1x8_S1x8) broadcasts_S1x8_S10240x8)

theorem headCls_apply (x : S10240x64.Idx → EReal) (w3 : S64x8.Idx → EReal) (b3 : S8x8.Idx → EReal) (k : Fin 10240) (j : Fin 8) :
    headCls x w3 b3 (ix2 k j) = cls (fun c => x (ix2 k c)) (fun c => w3 (ix2 c j)) (b3 (ix2 0 j)) := by
  unfold headCls cls
  rw [addf_apply, shapeCast_self, shapeCast_self, shapeCast_self]
  congr 1
  · simp only [matmul]
    refine (Ideal.matmul_plain_apply (M := 10240) (K := 64) (N := 8) none x w3 _ k j).trans ?_
    rw [show (constant (F := Ideal) S10240x8 .f32 0x00000000#32 (ix2 k j) : EReal) = 0 from Ideal.ofBits_zero_f32, zero_add]
  · refine congrArg b3 (funext fun a => ?_)
    match a with
    | 0 => rfl
    | 1 => exact Fin.ext (by show 0 + 1 * j.val = j.val; omega)

/-- Which clusters belong to which batch: 1 or 0. -/
def headHot (cb : S8x10240.Idx → BitVec 32) : S16x10240.Idx → EReal :=
  sitofp (F := Ideal) .f32 (extui 32 (cmpi .eq (iota .tc S16x10240 32 [0] iota_S16x10240_d0_w32)
    (broadcastTo S16x10240 (shapeCast S1x10240 (topRowIds (F := Ideal) cb) shapeCasts_S1x10240_S1x10240) broadcasts_S1x10240_S16x10240)) natLt_1_32)

theorem headHot_apply (cb : S8x10240.Idx → BitVec 32) (v : Fin 16) (k : Fin 10240) :
    headHot cb (ix2 v k) = if cb (ix2 0 k) = BitVec.ofNat 32 v.val then 1 else 0 := by
  have e1 : iota .tc S16x10240 32 [0] iota_S16x10240_d0_w32 (ix2 v k) = BitVec.ofNat 32 v.val := iota_single_apply ..
  have e2 : broadcastTo S16x10240 (shapeCast S1x10240 (topRowIds (F := Ideal) cb) shapeCasts_S1x10240_S1x10240) broadcasts_S1x10240_S16x10240 (ix2 v k) = cb (ix2 0 k) := by
    rw [shapeCast_self]
    refine congrArg cb (funext fun a => ?_)
    match a with
    | 0 => rfl
    | 1 => exact Fin.ext (by show 0 + 1 * k.val = k.val; omega)
  show ((((IntOp.cmpi .eq (iota .tc S16x10240 32 [0] iota_S16x10240_d0_w32 (ix2 v k))
    (broadcastTo S16x10240 (shapeCast S1x10240 (topRowIds (F := Ideal) cb) shapeCasts_S1x10240_S1x10240) broadcasts_S1x10240_S16x10240 (ix2 v k))).setWidth 32).toInt : ℝ) : EReal) = _
  rw [e1, e2]
  by_cases h : cb (ix2 0 k) = BitVec.ofNat 32 v.val
  · rw [if_pos h, h]; simp [IntOp.cmpi]
  · rw [if_neg h]
    have h' : ¬ BitVec.ofNat 32 v.val = cb (ix2 0 k) := fun e => h e.symm
    simp [IntOp.cmpi, beq_eq_false_iff_ne.mpr h']

/-- How many clusters a batch has. -/
def hotSum (cb : S8x10240.Idx → BitVec 32) : S16.Idx → EReal := multiReduction (F := Ideal) (φ := .f32) .add [1] S16 (headHot cb) 0x00000000#32 reduces_S16x10240_S16 (.inl rfl) rfl

theorem hotSum_apply (cb : S8x10240.Idx → BitVec 32) (v : Fin 16) :
    hotSum cb (ix1 v) = ∑ k : Fin 10240, if cb (ix2 0 k) = BitVec.ofNat 32 v.val then (1 : EReal) else 0 := by
  refine (Ideal.multiReduction_add_single _ _ _ _ _ _).trans (Finset.sum_congr rfl fun k _ => ?_)
  refine (congrArg (headHot cb) (funext fun a => ?_)).trans (headHot_apply cb v k)
  match a with
  | 0 => rfl
  | 1 => rfl

/-- The means over each batch's clusters, eight columns of which four count. -/
def headMean (x : S10240x64.Idx → EReal) (w3 : S64x8.Idx → EReal) (b3 : S8x8.Idx → EReal) (cb : S8x10240.Idx → BitVec 32) : S16x8.Idx → EReal :=
  divf (F := Ideal) (φ := .f32)
    (matmul (F := Ideal) (φ₁ := .f32) (φ₂ := .f32) dot_S16x10240_S10240x8_S16x8_1_0_0_1_n_n none (headHot cb) (headCls x w3 b3) (constant S16x8 .f32 0x00000000#32))
    (broadcastTo S16x8 (maximumf (F := Ideal) (φ := .f32) (shapeCast S16x1 (hotSum cb) shapeCasts_S16_S16x1)
      (broadcast S16x1 (Scalar.ofBits (F := Ideal) .f32 0x3F800000#32))) broadcasts_S16x1_S16x8)

theorem headMean_apply (x : S10240x64.Idx → EReal) (w3 : S64x8.Idx → EReal) (b3 : S8x8.Idx → EReal) (cb : S8x10240.Idx → BitVec 32) (v : Fin 16) (j : Fin 8) :
    headMean x w3 b3 cb (ix2 v j)
      = mean (fun k : Fin 10240 => cb (ix2 0 k) = BitVec.ofNat 32 v.val) (fun k => cls (fun c => x (ix2 k c)) (fun c => w3 (ix2 c j)) (b3 (ix2 0 j))) := by
  unfold headMean mean
  rw [divf_apply]
  refine congrArg₂ Ideal.div ?_ ?_
  · simp only [matmul]
    refine (Ideal.matmul_plain_apply (M := 16) (K := 10240) (N := 8) none (headHot cb) (headCls x w3 b3) _ v j).trans ?_
    rw [show (constant (F := Ideal) S16x8 .f32 0x00000000#32 (ix2 v j) : EReal) = 0 from Ideal.ofBits_zero_f32, zero_add]
    refine Finset.sum_congr rfl fun k _ => ?_
    rw [headHot_apply, headCls_apply]
    split
    · rw [one_mul]
    · rw [zero_mul]
  · refine (broadcastTo_apply _ _ (ix2 v j) (ix2 v 0) fun a => ?_).trans ?_
    · match a with
      | 0 => rfl
      | 1 => rfl
    · rw [maximumf_apply]
      refine congrArg₂ max ?_ ?_
      · exact (shapeCast_a_a1_apply _ _ _ _).trans (hotSum_apply cb v)
      · exact Ideal.ofBits_one_f32

/-- The greatest and the sum of each row of four. -/
def rowMax (l : S16x4.Idx → EReal) : S16.Idx → EReal := multiReduction (F := Ideal) (φ := .f32) .maximumf [1] S16 l 0xFF800000#32 reduces_S16x4_S16 (.inl rfl) rfl
def rowSum (l : S16x4.Idx → EReal) : S16.Idx → EReal := multiReduction (F := Ideal) (φ := .f32) .add [1] S16 l 0x00000000#32 reduces_S16x4_S16 (.inl rfl) rfl

theorem lift4 (v : Fin 16) (k : Fin 4) : reduces_S16x4_S16.lift (ix1 v) k = ix2 v k := funext fun a => by
  match a with
  | 0 => rfl
  | 1 => rfl

theorem rowMax_apply (l : S16x4.Idx → EReal) (v : Fin 16) : rowMax l (ix1 v) = most fun i => l (ix2 v i) := by
  refine (Ideal.multiReduction_maximumf_single _ _ _ _ _ _).trans ?_
  rw [show (FloatOps.ofBits (F := Ideal) .f32 0xFF800000#32 : EReal) = ⊥ from ofBits_bot]
  exact congrArg (Finset.univ.fold max ⊥) (funext fun k => congrArg l (lift4 v k))

theorem rowSum_apply (l : S16x4.Idx → EReal) (v : Fin 16) : rowSum l (ix1 v) = ∑ i, l (ix2 v i) :=
  (Ideal.multiReduction_add_single _ _ _ _ _ _).trans (Finset.sum_congr rfl fun k _ => congrArg l (lift4 v k))

/-- The last step on four columns. -/
def headLsm (l : S16x4.Idx → EReal) : S16x4.Idx → EReal :=
  have m : FVec Ideal S16x4 .f32 := broadcastTo S16x4 (shapeCast S16x1 (rowMax l) shapeCasts_S16_S16x1) broadcasts_S16x1_S16x4
  subf (F := Ideal) (φ := .f32) (subf (F := Ideal) (φ := .f32) l m)
    (broadcastTo S16x4 (log (F := Ideal) (φ := .f32) (shapeCast S16x1 (rowSum (exp (F := Ideal) (φ := .f32) (subf (F := Ideal) (φ := .f32) l m))) shapeCasts_S16_S16x1)) broadcasts_S16x1_S16x4)

theorem spread_apply (y : S16.Idx → EReal) (v : Fin 16) (j : Fin 4) :
    broadcastTo S16x4 (shapeCast S16x1 y shapeCasts_S16_S16x1) broadcasts_S16x1_S16x4 (ix2 v j) = y (ix1 v) := by
  refine (broadcastTo_apply _ _ (ix2 v j) (ix2 v 0) fun a => ?_).trans (shapeCast_a_a1_apply _ _ _ _)
  match a with
  | 0 => rfl
  | 1 => rfl

theorem headLsm_apply (l : S16x4.Idx → EReal) (v : Fin 16) (j : Fin 4) : headLsm l (ix2 v j) = lsm (fun i => l (ix2 v i)) j := by
  have hm (j : Fin 4) : broadcastTo S16x4 (shapeCast S16x1 (rowMax l) shapeCasts_S16_S16x1) broadcasts_S16x1_S16x4 (ix2 v j) = most fun i => l (ix2 v i) :=
    (spread_apply _ _ _).trans (rowMax_apply l v)
  unfold headLsm lsm
  dsimp only
  rw [subf_apply, subf_apply, hm]
  refine congrArg (fun z : EReal => (l (ix2 v j) - most fun i => l (ix2 v i)) - z) ?_
  show Ideal.log (broadcastTo S16x4 (shapeCast S16x1 _ shapeCasts_S16_S16x1) broadcasts_S16x1_S16x4 (ix2 v j)) = _
  rw [spread_apply, rowSum_apply]
  refine congrArg Ideal.log (Finset.sum_congr rfl fun k _ => ?_)
  show Ideal.exp (_ - _) = _
  rw [hm]

theorem headBlock_apply (x : S10240x64.Idx → EReal) (w3 : S64x8.Idx → EReal) (b3 : S8x8.Idx → EReal) (cb : S8x10240.Idx → BitVec 32) (v : Fin 16) (j : Fin 4) :
    headBlock (F := Ideal) x w3 b3 cb (ix2 v j)
      = lsm (fun i => mean (fun k : Fin 10240 => cb (ix2 0 k) = BitVec.ofNat 32 v.val)
          (fun k => cls (fun c => x (ix2 k c)) (fun c => w3 (ix2 c (Fin.castLE (by decide) i))) (b3 (ix2 0 (Fin.castLE (by decide) i))))) j := by
  have e : headBlock (F := Ideal) x w3 b3 cb = headLsm (extractStridedSlice S16x4 ![0, 0] (headMean x w3 b3 cb) slices_S16x8_o0_0_S16x4) := rfl
  rw [e, headLsm_apply]
  refine congrArg (fun f => lsm f j) (funext fun i => ?_)
  refine Eq.trans ?_ (headMean_apply x w3 b3 cb v (Fin.castLE (by decide) i))
  refine congrArg (headMean x w3 b3 cb) (funext fun a => ?_)
  match a with
  | 0 => exact Fin.ext (by show 0 + v.val = v.val; omega)
  | 1 => exact Fin.ext (by show 0 + i.val = i.val; omega)

end Cert.Proof.Pool
-- ==== Proof.RefScatter.lean ====
module
public import proofs.«01_k».proof.Proof.Gen.ReferenceIdeal.Run
public import Idealize.ShloMosaic.Lib.Routing.OpsPair
public import Idealize.ShloMosaic.Lib.IdealHost
public import Idealize.ShloMosaic.Lib.ValueIdx
@[expose] public section
/-! The reference's two sums by batch: each cluster's row, and a one, are added at the cluster's batch. A batch that is not one of the 16 adds nowhere. -/
noncomputable section
namespace Cert.Proof.Pool
open Cert.ReferenceIdeal Cert.ReferenceIdeal.Gen
open Idealize.ShloMosaic Idealize.ShloMosaic.ValueIdx

/-- A word, read signed, is a small number exactly when it is that number's word. -/
theorem toInt_eq_small (x : BitVec 32) (n : ℕ) (h : n < 2 ^ 31) : x.toInt = (n : ℤ) ↔ x = BitVec.ofNat 32 n := by
  have e : (BitVec.ofNat 32 n).toInt = (n : ℤ) := by
    rw [BitVec.toInt_eq_toNat_of_lt (by rw [BitVec.toNat_ofNat]; omega), BitVec.toNat_ofNat]
    omega
  rw [← e]
  exact BitVec.toInt_inj

abbrev dRows := scatter_S16x4_S10000x1_S10000x4_1_0_0_1
abbrev dOnes := scatter_S16_S10000x1_S10000_n_0_0_1

theorem rows_lands (idx : IVec S10000x1 32) (k : Fin 10000) (j i : Fin 4) (v : Fin 16) :
    dRows.resultIdx? (ix2 k j) idx = some (ix2 v i) ↔ idx (ix2 k 0) = BitVec.ofNat 32 v.val ∧ j = i := by
  have hs0 : dRows.start (ix2 k j) idx 0 = (idx (ix2 k 0)).toInt := by
    unfold ScatterDims.start
    rw [dif_pos (by decide)]
    refine congrArg (fun a => (idx a).toInt) (funext fun b => ?_)
    match b with
    | 0 => rfl
    | 1 => exact Subsingleton.elim (α := Fin 1) _ _
  have hs1 : dRows.start (ix2 k j) idx 1 = 0 := by
    unfold ScatterDims.start
    rw [dif_neg (by decide)]
  have hw0 : dRows.window (ix2 k j) 0 = 0 := by
    unfold ScatterDims.window
    rw [dif_neg (by decide)]
  have hw1 : dRows.window (ix2 k j) 1 = j.val := by
    unfold ScatterDims.window
    rw [dif_pos (by decide)]
    rfl
  refine (Routing.resultIdx?_ix2 dRows (ix2 k j) idx v i).trans ?_
  rw [hs0, hs1, hw0, hw1, ← toInt_eq_small _ _ (by omega), Fin.ext_iff]
  omega

theorem ones_lands (idx : IVec S10000x1 32) (k : Fin 10000) (v : Fin 16) :
    dOnes.resultIdx? (ix1 k) idx = some (ix1 v) ↔ idx (ix2 k 0) = BitVec.ofNat 32 v.val := by
  have hs0 : dOnes.start (ix1 k) idx 0 = (idx (ix2 k 0)).toInt := by
    unfold ScatterDims.start
    rw [dif_pos (by decide)]
    refine congrArg (fun a => (idx a).toInt) (funext fun b => ?_)
    match b with
    | 0 => rfl
    | 1 => exact Subsingleton.elim (α := Fin 1) _ _
  have hw0 : dOnes.window (ix1 k) 0 = 0 := by
    unfold ScatterDims.window
    rw [dif_neg (by decide)]
  refine (Routing.resultIdx?_ix1 dOnes (ix1 k) idx v).trans ?_
  rw [hs0, hw0, ← toInt_eq_small _ _ (by omega)]
  omega

/-- Rows added by batch, from nought. -/
theorem rows_sum (z : S16x4.Idx → EReal) (hz : ∀ i, z i = 0) (idx : IVec S10000x1 32) (u : S10000x4.Idx → EReal) (v : Fin 16) (i : Fin 4) :
    Host.scatterAdd (F := Ideal) (φ := .f32) dRows z idx u (ix2 v i) = ∑ k : Fin 10000, if idx (ix2 k 0) = BitVec.ofNat 32 v.val then u (ix2 k i) else 0 := by
  show z _ + ∑ j ∈ Finset.univ.filter (fun j => dRows.resultIdx? j idx = some (ix2 v i)), u j = _
  rw [hz, zero_add, ← Finset.sum_filter]
  refine Finset.sum_nbij' (fun j => j 0) (fun k => ix2 k i) ?_ ?_ ?_ ?_ ?_
  · intro j hj
    obtain ⟨k, l, rfl⟩ : ∃ (k : Fin 10000) (l : Fin 4), j = ix2 k l := ⟨j 0, j 1, eq_ix2 j⟩
    exact Finset.mem_filter.2 ⟨Finset.mem_univ _, ((rows_lands idx k l i v).1 (Finset.mem_filter.1 hj).2).1⟩
  · intro k hk
    exact Finset.mem_filter.2 ⟨Finset.mem_univ _, (rows_lands idx k i i v).2 ⟨(Finset.mem_filter.1 hk).2, rfl⟩⟩
  · intro j hj
    obtain ⟨k, l, rfl⟩ : ∃ (k : Fin 10000) (l : Fin 4), j = ix2 k l := ⟨j 0, j 1, eq_ix2 j⟩
    rw [((rows_lands idx k l i v).1 (Finset.mem_filter.1 hj).2).2]
  · intro k _; rfl
  · intro j hj
    obtain ⟨k, l, rfl⟩ : ∃ (k : Fin 10000) (l : Fin 4), j = ix2 k l := ⟨j 0, j 1, eq_ix2 j⟩
    rw [((rows_lands idx k l i v).1 (Finset.mem_filter.1 hj).2).2]

/-- Ones added by batch, from nought. -/
theorem ones_sum (z : S16.Idx → EReal) (hz : ∀ i, z i = 0) (idx : IVec S10000x1 32) (u : S10000.Idx → EReal) (v : Fin 16) :
    Host.scatterAdd (F := Ideal) (φ := .f32) dOnes z idx u (ix1 v) = ∑ k : Fin 10000, if idx (ix2 k 0) = BitVec.ofNat 32 v.val then u (ix1 k) else 0 := by
  show z _ + ∑ j ∈ Finset.univ.filter (fun j => dOnes.resultIdx? j idx = some (ix1 v)), u j = _
  rw [hz, zero_add, ← Finset.sum_filter]
  refine Finset.sum_nbij' (fun j => j 0) (fun k => ix1 k) ?_ ?_ ?_ ?_ ?_
  · intro j hj
    obtain ⟨k, rfl⟩ : ∃ (k : Fin 10000), j = ix1 k := ⟨j 0, eq_ix1 j⟩
    exact Finset.mem_filter.2 ⟨Finset.mem_univ _, (ones_lands idx k v).1 (Finset.mem_filter.1 hj).2⟩
  · intro k hk
    exact Finset.mem_filter.2 ⟨Finset.mem_univ _, (ones_lands idx k v).2 (Finset.mem_filter.1 hk).2⟩
  · intro j _
    exact (eq_ix1 j).symm
  · intro k _; rfl
  · intro j _
    exact congrArg u (eq_ix1 j)

end Cert.Proof.Pool
-- ==== Proof.RefMlp.lean ====
module
public import proofs.«01_k».proof.Proof.Gen.ReferenceIdeal.Run
public import proofs.«01_k».proof.Proof.Spec
public import Idealize.ShloMosaic.Lib.StackMember
public import Idealize.ShloMosaic.Lib.Pipeline.Value
@[expose] public section
/-! The reference's two layers at a point. -/
noncomputable section
namespace Cert.Proof.Pool
open Cert.ReferenceIdeal Cert.ReferenceIdeal.Gen
open Idealize.ShloMosaic Idealize.ShloMosaic.ValueIdx Idealize.ShloMosaic.StackMember

/-- The points' inputs, side by side. -/
def refIn (a : FVec Ideal S640000x4 .f32) (b : FVec Ideal S640000x3 .f32) : FVec Ideal S640000x7 .f32 :=
  concatenate S640000x7 1 [⟨S640000x4, a⟩, ⟨S640000x3, b⟩] concatenates_S640000x4_S640000x3_S640000x7_d1
/-- A bias and the rectifier. -/
def refAct (y : FVec Ideal S640000x64 .f32) (b : FVec Ideal S64 .f32) : FVec Ideal S640000x64 .f32 :=
  maximumf (addf y (broadcastInDim S640000x64 ![0, 1] bcast_S1x64_S640000x64_0_1 (broadcastInDim S1x64 ![1] bcast_S64_S1x64_1 b)))
    (broadcastInDim S640000x64 ![] bcast_S_S640000x64 (constant S_ .f32 0x00000000#32))
/-- Both layers. -/
def refMlp (a : FVec Ideal S640000x4 .f32) (b : FVec Ideal S640000x3 .f32) (w1 : FVec Ideal S7x64 .f32) (b1 : FVec Ideal S64 .f32) (w2 : FVec Ideal S64x64 .f32) (b2 : FVec Ideal S64 .f32) :
    FVec Ideal S640000x64 .f32 :=
  refAct (Host.dotGeneral dot_S640000x64_S64x64_S640000x64_1_0_0_1_n_n none
    (refAct (Host.dotGeneral dot_S640000x7_S7x64_S640000x64_1_0_0_1_n_n none (refIn a b) w1) b1) w2) b2

theorem refIn_apply (a : S640000x4.Idx → EReal) (b : S640000x3.Idx → EReal) (p : Fin 640000) (k : Fin 7) : refIn a b (ix2 p k) = feat a b p k := by
  unfold refIn feat
  by_cases h : k.val < 4
  · rw [dif_pos h]
    refine concatenate_pair_apply_left (t := S640000x7) (s₁ := S640000x4) (s₂ := S640000x3) 1 _ _ _ (ix2 p k) rfl (ix2 p ⟨k.val, h⟩) fun b => ?_
    match b with
    | 0 => rfl
    | 1 => rfl
  · rw [dif_neg h]
    refine concatenate_pair_apply_right (t := S640000x7) (s₁ := S640000x4) (s₂ := S640000x3) 1 _ _ _ (ix2 p k) rfl rfl (ix2 p ⟨k.val - 4, by omega⟩) (fun b hb => ?_) ?_
    · match b with
      | 0 => rfl
      | 1 => exact absurd rfl hb
    · show k.val - 4 + 4 = k.val
      omega

theorem refAct_apply (y : S640000x64.Idx → EReal) (b : S64.Idx → EReal) (p : Fin 640000) (j : Fin 64) : refAct y b (ix2 p j) = max (y (ix2 p j) + b (ix1 j)) 0 := by
  unfold refAct
  rw [maximumf_apply, addf_apply]
  refine congrArg₂ max (congrArg (y (ix2 p j) + ·) ?_) Ideal.ofBits_zero_f32
  refine congrArg b (funext fun c => ?_)
  match c with
  | 0 => rfl

theorem refMlp_apply (a : S640000x4.Idx → EReal) (b : S640000x3.Idx → EReal) (w1 : S7x64.Idx → EReal) (b1 : S64.Idx → EReal) (w2 : S64x64.Idx → EReal) (b2 : S64.Idx → EReal)
    (p : Fin 640000) (c : Fin 64) :
    refMlp a b w1 b1 w2 b2 (ix2 p c) = lay (fun j => hid (feat a b p) (fun k => w1 (ix2 k j)) (b1 (ix1 j))) (fun j => w2 (ix2 j c)) (b2 (ix1 c)) := by
  unfold refMlp lay
  rw [refAct_apply]
  refine congrArg (fun s => max (s + b2 (ix1 c)) 0) ?_
  refine (dotGeneral_plain_apply (m := 640000) (k := 64) (n := 64) none _ w2 p c).trans ?_
  refine Finset.sum_congr rfl fun j _ => congrArg (· * w2 (ix2 j c)) ?_
  unfold hid
  rw [refAct_apply]
  refine congrArg (fun s => max (s + b1 (ix1 j)) 0) ?_
  refine (dotGeneral_plain_apply (m := 640000) (k := 7) (n := 64) none _ w1 p j).trans ?_
  refine Finset.sum_congr rfl fun k _ => congrArg (· * w1 (ix2 k j)) ?_
  exact refIn_apply a b p k

end Cert.Proof.Pool
-- ==== Proof.Finite.lean ====
module
public import proofs.«01_k».proof.Proof.Spec
@[expose] public section
/-! Finite numbers: both layers keep them, and give nothing below nought. -/
noncomputable section
namespace Cert.Proof.Pool
open Idealize.ShloMosaic Idealize.ShloMosaic.ValueIdx

/-- `x` is neither infinity. -/
def Finite (x : EReal) : Prop := ∃ r : ℝ, x = (r : EReal)

theorem Finite.zero : Finite 0 := ⟨0, rfl⟩
theorem Finite.add {x y : EReal} : Finite x → Finite y → Finite (x + y) := fun ⟨a, ha⟩ ⟨b, hb⟩ => ⟨a + b, by rw [ha, hb, EReal.coe_add]⟩
theorem Finite.mul {x y : EReal} : Finite x → Finite y → Finite (x * y) := fun ⟨a, ha⟩ ⟨b, hb⟩ => ⟨a * b, by rw [ha, hb, EReal.coe_mul]⟩
theorem Finite.max {x y : EReal} (hx : Finite x) (hy : Finite y) : Finite (max x y) := by
  rcases max_choice x y with h | h <;> rw [h] <;> assumption
theorem Finite.sum {n : ℕ} (f : Fin n → EReal) (h : ∀ k, Finite (f k)) : Finite (∑ k, f k) :=
  Finset.sum_induction f Finite (fun _ _ => Finite.add) Finite.zero fun k _ => h k
theorem Finite.lt_top {x : EReal} : Finite x → x < ⊤ := fun ⟨r, h⟩ => h ▸ EReal.coe_lt_top r

/-- A number whose magnitude is below +∞ is finite. -/
theorem Finite.of_abs {x : EReal} (h : Max.max x (-x) < ⊤) : Finite x := by
  have h1 : x ≠ ⊤ := fun e => absurd h (by rw [e]; simp)
  have h2 : x ≠ ⊥ := fun e => absurd h (by rw [e]; simp)
  exact ⟨x.toReal, (EReal.coe_toReal h1 h2).symm⟩

theorem hid_finite {x w : Fin 7 → EReal} {b : EReal} (hx : ∀ k, Finite (x k)) (hw : ∀ k, Finite (w k)) (hb : Finite b) : Finite (hid x w b) :=
  ((Finite.sum _ fun k => (hx k).mul (hw k)).add hb).max Finite.zero
theorem lay_finite {u w : Fin 64 → EReal} {b : EReal} (hu : ∀ k, Finite (u k)) (hw : ∀ k, Finite (w k)) (hb : Finite b) : Finite (lay u w b) :=
  ((Finite.sum _ fun k => (hu k).mul (hw k)).add hb).max Finite.zero
theorem lay_nonneg (u w : Fin 64 → EReal) (b : EReal) : 0 ≤ lay u w b := le_max_right _ _

end Cert.Proof.Pool
-- ==== Proof.RefPool.lean ====
module
public import proofs.«01_k».proof.Proof.Gen.ReferenceIdeal.Run
public import proofs.«01_k».proof.Proof.Finite
public import Idealize.ShloMosaic.Lib.WordCmp
public import Idealize.ShloMosaic.Lib.IdealHost
@[expose] public section
/-! The reference's maximum over each cluster's rows, with nought where a cluster has none. -/
noncomputable section
namespace Cert.Proof.Pool
open Cert.ReferenceIdeal Cert.ReferenceIdeal.Gen
open Idealize.ShloMosaic Idealize.ShloMosaic.ValueIdx

/-- Row `p`'s numbers at cluster `k`: the row's own where its cluster is `k`, −∞ elsewhere. -/
def refMask (h : FVec Ideal S640000x64 .f32) (ids : IVec S640000 32) : FVec Ideal S10000x640000x64 .f32 :=
  select (broadcastInDim S10000x640000x64 ![0, 1, 2] bcast_S10000x640000x1_S10000x640000x64_0_1_2
      (broadcastInDim S10000x640000x1 ![0, 1] bcast_S10000x640000_S10000x640000x1_0_1
        (cmpi .eq (broadcastInDim S10000x640000 ![0, 1] bcast_S1x640000_S10000x640000_0_1 (broadcastInDim S1x640000 ![1] bcast_S640000_S1x640000_1 ids))
          (broadcastInDim S10000x640000 ![0, 1] bcast_S10000x1_S10000x640000_0_1 (broadcastInDim S10000x1 ![0] bcast_S10000_S10000x1_0 (iotaInDim S10000 32 0))))))
    (broadcastInDim S10000x640000x64 ![0, 1, 2] bcast_S1x640000x64_S10000x640000x64_0_1_2 (broadcastInDim S1x640000x64 ![1, 2] bcast_S640000x64_S1x640000x64_1_2 h))
    (broadcastInDim S10000x640000x64 ![] bcast_S_S10000x640000x64 (id (constant S_ .f32 0xFF800000#32)))
/-- The maximum over the rows. -/
def refMax (h : FVec Ideal S640000x64 .f32) (ids : IVec S640000 32) : FVec Ideal S10000x64 .f32 :=
  Host.reduce FloatOps.maximumf (refMask h ids) (constant S_ .f32 0xFF800000#32) reducesTo_S10000x640000x64_S10000x64_d1 h_S_
/-- A block with nought where it is infinite. -/
def noInf (y : FVec Ideal S10000x64 .f32) : FVec Ideal S10000x64 .f32 :=
  select (cmpf .olt (Host.absf y) (broadcastInDim S10000x64 ![] bcast_S_S10000x64 (constant S_ .f32 0x7F800000#32))) y
    (broadcastInDim S10000x64 ![] bcast_S_S10000x64 (id (constant S_ .f32 0x00000000#32)))
/-- The maximum, with nought where that is infinite. -/
def refPool (h : FVec Ideal S640000x64 .f32) (ids : IVec S640000 32) : FVec Ideal S10000x64 .f32 := noInf (refMax h ids)

theorem refMask_apply (h : S640000x64.Idx → EReal) (ids : IVec S640000 32) (k : Fin 10000) (p : Fin 640000) (c : Fin 64) :
    refMask h ids (ix3 k p c) = if ids (ix1 p) = BitVec.ofNat 32 k.val then h (ix2 p c) else ⊥ := by
  unfold refMask
  rw [select_apply]
  have e1 : (broadcastInDim S10000x640000x64 ![0, 1, 2] bcast_S10000x640000x1_S10000x640000x64_0_1_2
      (broadcastInDim S10000x640000x1 ![0, 1] bcast_S10000x640000_S10000x640000x1_0_1
        (cmpi .eq (broadcastInDim S10000x640000 ![0, 1] bcast_S1x640000_S10000x640000_0_1 (broadcastInDim S1x640000 ![1] bcast_S640000_S1x640000_1 ids))
          (broadcastInDim S10000x640000 ![0, 1] bcast_S10000x1_S10000x640000_0_1 (broadcastInDim S10000x1 ![0] bcast_S10000_S10000x1_0 (iotaInDim S10000 32 0))))))
      (ix3 k p c) = IntOp.cmpi .eq (ids (ix1 p)) (BitVec.ofNat 32 k.val) := by
    refine congrArg₂ (IntOp.cmpi .eq) (congrArg ids (funext fun a => ?_)) rfl
    match a with
    | 0 => rfl
  have e2 : (broadcastInDim S10000x640000x64 ![0, 1, 2] bcast_S1x640000x64_S10000x640000x64_0_1_2 (broadcastInDim S1x640000x64 ![1, 2] bcast_S640000x64_S1x640000x64_1_2 h))
      (ix3 k p c) = h (ix2 p c) := by
    refine congrArg h (funext fun a => ?_)
    match a with
    | 0 => rfl
    | 1 => rfl
  rw [e1, e2, WordCmp.cmpi_eq_eq, WordCmp.select_decide]
  exact if_congr Iff.rfl rfl ofBits_bot

theorem reduces_pool : S10000x640000x64.Reduces [1] S10000x64 := by decide

theorem lift_pool (k : Fin 10000) (c : Fin 64) (p : Fin 640000) : reduces_pool.lift (ix2 k c) p = ix3 k p c := funext fun a => by
  match a with
  | 0 => rfl
  | 1 => rfl
  | 2 => rfl

theorem refMax_eq (h : S640000x64.Idx → EReal) (ids : IVec S640000 32) (k : Fin 10000) (c : Fin 64) :
    refMax h ids (ix2 k c) = Finset.univ.fold max ⊥ fun p : Fin 640000 => if ids (ix1 p) = BitVec.ofNat 32 k.val then h (ix2 p c) else ⊥ := by
  unfold refMax
  refine (Host.reduce_eq_fold_single _ _ _ _ reduces_pool _ _).trans ?_
  rw [show (constant (F := Ideal) S_ .f32 0xFF800000#32 (Shape.Idx.first h_S_) : EReal) = ⊥ from ofBits_bot]
  exact congrArg (Finset.univ.fold max ⊥) (funext fun p => (congrArg (refMask h ids) (lift_pool k c p)).trans (refMask_apply h ids k p c))

theorem refMax_le (h : S640000x64.Idx → EReal) (ids : IVec S640000 32) (k : Fin 10000) (c : Fin 64) (M : EReal) :
    refMax h ids (ix2 k c) ≤ M ↔ ∀ p : Fin 640000, ids (ix1 p) = BitVec.ofNat 32 k.val → h (ix2 p c) ≤ M := by
  rw [refMax_eq, Finset.fold_max_le]
  constructor
  · intro q p hp
    have := q.2 p (Finset.mem_univ _)
    rwa [if_pos hp] at this
  · refine fun q => ⟨bot_le, fun p _ => ?_⟩
    by_cases hp : ids (ix1 p) = BitVec.ofNat 32 k.val
    · rw [if_pos hp]; exact q p hp
    · rw [if_neg hp]; exact bot_le

theorem refMax_lt_top (h : S640000x64.Idx → EReal) (hf : ∀ i, Finite (h i)) (ids : IVec S640000 32) (k : Fin 10000) (c : Fin 64) : refMax h ids (ix2 k c) < ⊤ := by
  rw [refMax_eq, Finset.fold_max_lt]
  refine ⟨bot_lt_top, fun p _ => ?_⟩
  by_cases hp : ids (ix1 p) = BitVec.ofNat 32 k.val
  · rw [if_pos hp]; exact (hf _).lt_top
  · rw [if_neg hp]; exact bot_lt_top

theorem noInf_apply (y : S10000x64.Idx → EReal) (i : S10000x64.Idx) : noInf y i = if max (y i) (-(y i)) < ⊤ then y i else 0 := by
  have e : noInf y i = Scalar.select (Ideal.cmp .olt (max (y i) (-(y i))) (Ideal.ofBits .f32 0x7F800000#32)) (y i) (Ideal.ofBits .f32 0x00000000#32) := rfl
  rw [e, ofBits_top, Ideal.ofBits_zero_f32]
  exact WordCmp.select_decide _ _ _

theorem refPool_apply (h : S640000x64.Idx → EReal) (ids : IVec S640000 32) (i : S10000x64.Idx) :
    refPool h ids i = if max (refMax h ids i) (-(refMax h ids i)) < ⊤ then refMax h ids i else 0 := noInf_apply (refMax h ids) i

/-- The reference's pooled number is below `M` exactly when nought and the cluster's rows are, when no row is below nought or infinite. -/
theorem refPool_le (h : S640000x64.Idx → EReal) (hf : ∀ i, Finite (h i)) (h0 : ∀ i, 0 ≤ h i) (ids : IVec S640000 32) (k : Fin 10000) (c : Fin 64) (M : EReal) :
    refPool h ids (ix2 k c) ≤ M ↔ 0 ≤ M ∧ ∀ p : Fin 640000, ids (ix1 p) = BitVec.ofNat 32 k.val → h (ix2 p c) ≤ M := by
  rw [refPool_apply, ← refMax_le]
  by_cases hp : ∃ p : Fin 640000, ids (ix1 p) = BitVec.ofNat 32 k.val
  · obtain ⟨p, hp⟩ := hp
    have hge : 0 ≤ refMax h ids (ix2 k c) := (h0 (ix2 p c)).trans ((refMax_le h ids k c _).1 le_rfl p hp)
    have hn : -(refMax h ids (ix2 k c)) ≤ 0 := by rw [EReal.neg_le]; simpa using hge
    rw [if_pos (max_lt (refMax_lt_top h hf ids k c) (lt_of_le_of_lt hn EReal.zero_lt_top))]
    exact ⟨fun q => ⟨hge.trans q, q⟩, fun q => q.2⟩
  · have e : refMax h ids (ix2 k c) = ⊥ := le_bot_iff.1 ((refMax_le h ids k c _).2 fun p q => absurd ⟨p, q⟩ hp)
    rw [e, if_neg (by simp)]
    exact ⟨fun q => ⟨q, bot_le⟩, fun q => q.1⟩

end Cert.Proof.Pool
-- ==== Proof.RefHead.lean ====
module
public import proofs.«01_k».proof.Proof.RefScatter
public import proofs.«01_k».proof.Proof.RefMlp
public import proofs.«01_k».proof.Proof.RefPool
@[expose] public section
/-! The reference's last steps: classes, means by batch, and the logarithm of the softmax; and the whole reference at an index. -/
noncomputable section
namespace Cert.Proof.Pool
open Cert.ReferenceIdeal Cert.ReferenceIdeal.Gen
open Idealize.ShloMosaic Idealize.ShloMosaic.ValueIdx Idealize.ShloMosaic.StackMember

/-- The clusters' classes. -/
def refCls (x : FVec Ideal S10000x64 .f32) (w3 : FVec Ideal S64x4 .f32) (b3 : FVec Ideal S4 .f32) : FVec Ideal S10000x4 .f32 :=
  addf (Host.dotGeneral dot_S10000x64_S64x4_S10000x4_1_0_0_1_n_n none x w3)
    (broadcastInDim S10000x4 ![0, 1] bcast_S1x4_S10000x4_0_1 (broadcastInDim S1x4 ![1] bcast_S4_S1x4_1 b3))
/-- The batches as one column. -/
def refCol (cb : IVec S10000 32) : IVec S10000x1 32 := broadcastInDim S10000x1 ![0] bcast_S10000_S10000x1_0 cb
/-- A number per batch, in four columns. -/
def refSpread (y : FVec Ideal S16 .f32) : FVec Ideal S16x4 .f32 := broadcastInDim S16x4 ![0, 1] bcast_S16x1_S16x4_0_1 (broadcastInDim S16x1 ![0] bcast_S16_S16x1_0 y)
/-- The means by batch. -/
def refMean (l : FVec Ideal S10000x4 .f32) (cb : IVec S10000 32) : FVec Ideal S16x4 .f32 :=
  Host.divf (Host.scatterAdd scatter_S16x4_S10000x1_S10000x4_1_0_0_1 (broadcastInDim S16x4 ![] bcast_S_S16x4 (constant S_ .f32 0x00000000#32)) (refCol cb) l)
    (refSpread (maximumf (broadcastInDim S16 ![] bcast_S_S16 (id (constant S_ .f32 0x3F800000#32)))
      (Host.scatterAdd scatter_S16_S10000x1_S10000_n_0_0_1 (broadcastInDim S16 ![] bcast_S_S16 (constant S_ .f32 0x00000000#32)) (refCol cb)
        (broadcastInDim S10000 ![] bcast_S_S10000 (constant S_ .f32 0x3F800000#32)))))
/-- The greatest of each row of four. -/
def refTop (l : FVec Ideal S16x4 .f32) : FVec Ideal S16 .f32 :=
  maximumf (broadcastInDim S16 ![] bcast_S_S16 (constant S_ .f32 0xFF800000#32)) (Host.reduce FloatOps.maximumf l (constant S_ .f32 0xFF800000#32) reducesTo_S16x4_S16_d1 h_S_)
/-- The sum of each row of four. -/
def refSum (l : FVec Ideal S16x4 .f32) : FVec Ideal S16 .f32 := Host.reduceAdd l (constant S_ .f32 0x00000000#32) reducesTo_S16x4_S16_d1 h_S_
/-- The last step. -/
def refLsm (l : FVec Ideal S16x4 .f32) : FVec Ideal S16x4 .f32 :=
  subf (subf l (refSpread (refTop l)))
    (broadcastInDim S16x4 ![0, 1] bcast_S16x1_S16x4_0_1 (Host.log (broadcastInDim S16x1 ![0] bcast_S16_S16x1_0 (refSum (Host.exp (subf l (refSpread (refTop l))))))))

theorem refCls_apply (x : S10000x64.Idx → EReal) (w3 : S64x4.Idx → EReal) (b3 : S4.Idx → EReal) (k : Fin 10000) (j : Fin 4) :
    refCls x w3 b3 (ix2 k j) = cls (fun c => x (ix2 k c)) (fun c => w3 (ix2 c j)) (b3 (ix1 j)) := by
  unfold refCls cls
  rw [addf_apply]
  refine congrArg₂ (· + ·) (dotGeneral_plain_apply (m := 10000) (k := 64) (n := 4) none x w3 k j) (congrArg b3 (funext fun a => ?_))
  match a with
  | 0 => rfl

theorem refCol_apply (cb : IVec S10000 32) (k : Fin 10000) : refCol cb (ix2 k 0) = cb (ix1 k) := by
  refine congrArg cb (funext fun a => ?_)
  match a with
  | 0 => rfl

theorem refSpread_apply (y : S16.Idx → EReal) (v : Fin 16) (j : Fin 4) : refSpread y (ix2 v j) = y (ix1 v) := by
  refine congrArg y (funext fun a => ?_)
  match a with
  | 0 => rfl

theorem refMean_apply (l : S10000x4.Idx → EReal) (cb : IVec S10000 32) (v : Fin 16) (i : Fin 4) :
    refMean l cb (ix2 v i) = mean (fun k : Fin 10000 => cb (ix1 k) = BitVec.ofNat 32 v.val) (fun k => l (ix2 k i)) := by
  unfold refMean mean
  refine (hostDivf_apply _ _ _).trans ?_
  rw [refSpread_apply, maximumf_apply]
  refine congrArg₂ Ideal.div ?_ ?_
  · refine (rows_sum _ (fun _ => Ideal.ofBits_zero_f32) _ l v i).trans (Finset.sum_congr rfl fun k _ => ?_)
    rw [refCol_apply]
  · refine (max_comm _ _).trans (congrArg₂ max ?_ Ideal.ofBits_one_f32)
    refine (ones_sum _ (fun _ => Ideal.ofBits_zero_f32) _ _ v).trans (Finset.sum_congr rfl fun k _ => ?_)
    rw [refCol_apply]
    exact if_congr Iff.rfl Ideal.ofBits_one_f32 rfl

theorem reduces_four : S16x4.Reduces [1] S16 := by decide

theorem lift_four (v : Fin 16) (k : Fin 4) : reduces_four.lift (ix1 v) k = ix2 v k := funext fun a => by
  match a with
  | 0 => rfl
  | 1 => rfl

theorem refTop_apply (l : S16x4.Idx → EReal) (v : Fin 16) : refTop l (ix1 v) = most fun i => l (ix2 v i) := by
  unfold refTop
  rw [maximumf_apply]
  have e : Host.reduce (FloatOps.maximumf (F := Ideal) (φ := .f32)) l (constant (F := Ideal) S_ .f32 0xFF800000#32) reducesTo_S16x4_S16_d1 h_S_ (ix1 v) = most fun i => l (ix2 v i) := by
    refine (Host.reduce_eq_fold_single _ _ _ _ reduces_four _ _).trans ?_
    rw [show (constant (F := Ideal) S_ .f32 0xFF800000#32 (Shape.Idx.first h_S_) : EReal) = ⊥ from ofBits_bot]
    exact congrArg (Finset.univ.fold max ⊥) (funext fun k => congrArg l (lift_four v k))
  rw [e]
  refine max_eq_right ?_
  show Ideal.ofBits .f32 0xFF800000#32 ≤ _
  rw [ofBits_bot]
  exact bot_le

theorem refSum_apply (l : S16x4.Idx → EReal) (v : Fin 16) : refSum l (ix1 v) = ∑ i, l (ix2 v i) := by
  refine (Ideal.hostReduceAdd_single reducesTo_S16x4_S16_d1 reduces_four l _ (ix1 v)).trans ?_
  rw [show (constant (F := Ideal) S_ .f32 0x00000000#32 (Shape.Idx.first h_S_) : EReal) = 0 from Ideal.ofBits_zero_f32, zero_add]
  exact Finset.sum_congr rfl fun k _ => congrArg l (lift_four v k)

theorem refLsm_apply (l : S16x4.Idx → EReal) (v : Fin 16) (j : Fin 4) : refLsm l (ix2 v j) = lsm (fun i => l (ix2 v i)) j := by
  unfold refLsm lsm
  rw [subf_apply, subf_apply, refSpread_apply, refTop_apply]
  refine congrArg (fun z : EReal => (l (ix2 v j) - most fun i => l (ix2 v i)) - z) ?_
  have e : broadcastInDim S16x4 ![0, 1] bcast_S16x1_S16x4_0_1 (Host.log (F := Ideal) (φ := .f32) (broadcastInDim S16x1 ![0] bcast_S16_S16x1_0 (refSum (Host.exp (subf l (refSpread (refTop l))))))) (ix2 v j)
      = Ideal.log (refSpread (refSum (Host.exp (subf l (refSpread (refTop l))))) (ix2 v j)) := rfl
  rw [e, refSpread_apply, refSum_apply]
  refine congrArg Ideal.log (Finset.sum_congr rfl fun k _ => ?_)
  show Ideal.exp (l (ix2 v k) - refSpread (refTop l) (ix2 v k)) = _
  rw [refSpread_apply, refTop_apply]

/-- The whole reference. -/
def refAll (a : FVec Ideal S640000x4 .f32) (b : FVec Ideal S640000x3 .f32) (ids : IVec S640000 32) (cb : IVec S10000 32) (w1 : FVec Ideal S7x64 .f32) (b1 : FVec Ideal S64 .f32)
    (w2 : FVec Ideal S64x64 .f32) (b2 : FVec Ideal S64 .f32) (w3 : FVec Ideal S64x4 .f32) (b3 : FVec Ideal S4 .f32) : FVec Ideal S16x4 .f32 :=
  refLsm (refMean (refCls (refPool (refMlp a b w1 b1 w2 b2) ids) w3 b3) cb)

set_option maxRecDepth 8192 in
theorem res_eq (m : (ℓ : Loc nD τ sig) → Buf (Elt Ideal) ℓ) (c : Dev nD) :
    Cert.ReferenceIdeal.Value.res_main_v40 m c
      = refAll (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) := by
  unfold Cert.ReferenceIdeal.Value.res_main_v40 refAll refLsm refTop refSum refMean refSpread refCol refCls refPool noInf refMax refMask refMlp refAct refIn
  rfl

theorem refAll_apply (a : S640000x4.Idx → EReal) (b : S640000x3.Idx → EReal) (ids : IVec S640000 32) (cb : IVec S10000 32) (w1 : S7x64.Idx → EReal) (b1 : S64.Idx → EReal)
    (w2 : S64x64.Idx → EReal) (b2 : S64.Idx → EReal) (w3 : S64x4.Idx → EReal) (b3 : S4.Idx → EReal) (v : Fin 16) (j : Fin 4) :
    refAll a b ids cb w1 b1 w2 b2 w3 b3 (ix2 v j)
      = lsm (fun i => mean (fun k : Fin 10000 => cb (ix1 k) = BitVec.ofNat 32 v.val)
          (fun k => cls (fun c => refPool (refMlp a b w1 b1 w2 b2) ids (ix2 k c)) (fun c => w3 (ix2 c i)) (b3 (ix1 i)))) j := by
  unfold refAll
  rw [refLsm_apply]
  refine congrArg (fun f => lsm f j) (funext fun i => ?_)
  rw [refMean_apply]
  exact congrArg (mean _) (funext fun k => refCls_apply _ w3 b3 k i)

end Cert.Proof.Pool
-- ==== Proof.TileMath.lean ====
module
public import proofs.«01_k».proof.Proof.Parts
@[expose] public section
/-! What a tile's table holds, as numbers: the table's row of a cluster, joined with the running maximum when that is the cluster's, is at most
    `M` exactly when nothing is above `M` among nought and the rows of that cluster taken so far. -/
noncomputable section
namespace Cert.Proof.Pool
open Cert.KernelIdeal Cert.KernelIdeal.Gen
open Idealize.ShloMosaic

/-- The state `(p, σ)` is what the rows in `P` leave: `G` gives each row's cluster, `X` its numbers. -/
structure Taken (i : grid1.Coords) (G : ℕ → BitVec 32) (X : ℕ → Fin 64 → EReal) (P : ℕ → Prop) (p : BitVec 32) (σ : St Ideal) : Prop where
  posT : ∀ q c, (0 : EReal) ≤ σ.T q c
  posA : ∀ c, (0 : EReal) ≤ σ.A c
  bnd : ∀ q c (M : EReal), max (σ.T q c) (if q = rowOf p then σ.A c else (0 : EReal)) ≤ M ↔ 0 ≤ M ∧ ∀ n, P n → rowOf (rel i (G n)) = q → X n c ≤ M

variable {i : grid1.Coords} {G : ℕ → BitVec 32} {X : ℕ → Fin 64 → EReal} {P Q : ℕ → Prop} {p : BitVec 32} {σ : St Ideal}

theorem Taken.congr (h : Taken i G X P p σ) (e : ∀ n, P n ↔ Q n) : Taken i G X Q p σ := by
  obtain rfl : P = Q := funext fun n => propext (e n)
  exact h

/-- Before any row. -/
theorem Taken.start : Taken i G X (fun _ => False) p (⟨fun _ _ => (0 : EReal), fun _ => (0 : EReal)⟩ : St Ideal) where
  posT _ _ := le_refl _
  posA _ := le_refl _
  bnd q c M := by simp

/-- Flushing changes nothing that is said, and any cluster may come next. -/
theorem Taken.flushed (h : Taken i G X P p σ) (p' : BitVec 32) : Taken i G X P p' (flush (F := Ideal) (0 : EReal) p σ) := by
  have hT : ∀ q c, (flush (F := Ideal) (0 : EReal) p σ).T q c = if q = rowOf p then max (σ.T q c) (σ.A c) else σ.T q c := fun q c => by
    unfold Pool.flush
    by_cases e : q = rowOf p
    · subst e; simp only [Function.update_self, if_pos]; rfl
    · simp only [Function.update_of_ne e, if_neg e]
  refine ⟨fun q c => ?_, fun c => le_refl _, fun q c M => ?_⟩
  · rw [hT]; split
    · exact le_max_of_le_left (h.posT q c)
    · exact h.posT q c
  · rw [hT, ← h.bnd]
    have hA : (if q = rowOf p' then (flush (F := Ideal) (0 : EReal) p σ).A c else (0 : EReal)) = 0 := by split <;> rfl
    rw [hA]
    by_cases e : q = rowOf p
    · rw [if_pos e, if_pos e, max_eq_left (le_max_of_le_left (h.posT q c))]
    · rw [if_neg e, if_neg e]

/-- Numbers of rows of the current cluster join the running maximum. -/
theorem Taken.joined (h : Taken i G X P p σ) (r : Fin 64 → EReal)
    (hQ : ∀ n, Q n → rowOf (rel i (G n)) = rowOf p) (hr : ∀ c M, r c ≤ M ↔ ∀ n, Q n → X n c ≤ M) :
    Taken i G X (fun n => P n ∨ Q n) p (join (F := Ideal) σ r) := by
  refine ⟨h.posT, fun c => le_max_of_le_left (h.posA c), fun q c M => ?_⟩
  have hb := h.bnd q c M
  show max (σ.T q c) (if q = rowOf p then max (σ.A c) (r c) else (0 : EReal)) ≤ M ↔ _
  by_cases e : q = rowOf p
  · rw [if_pos e] at hb ⊢
    rw [← max_assoc, max_le_iff, hb, hr]
    constructor
    · rintro ⟨⟨h0, h1⟩, h2⟩
      exact ⟨h0, fun n hn hq => hn.elim (fun a => h1 n a hq) (fun a => h2 n a)⟩
    · rintro ⟨h0, h1⟩
      exact ⟨⟨h0, fun n hn hq => h1 n (.inl hn) hq⟩, fun n hn => h1 n (.inr hn) ((hQ n hn).trans e.symm)⟩
  · rw [if_neg e] at hb ⊢
    rw [hb]
    refine and_congr_right fun _ => ⟨fun h1 n hn hq => hn.elim (fun a => h1 n a hq) (fun a => absurd (hq.symm.trans (hQ n a)) e), fun h1 n hn hq => h1 n (.inl hn) hq⟩

/-- One row. -/
theorem Taken.step (h : Taken i G X P p σ) (n : ℕ) :
    Taken i G X (fun m => P m ∨ m = n) (rel i (G n)) (Pool.join (F := Ideal) (flushIf (F := Ideal) (differ (rel i (G n)) p) (0 : EReal) p σ) (X n)) := by
  have hf : Taken i G X P (rel i (G n)) (flushIf (F := Ideal) (differ (rel i (G n)) p) (0 : EReal) p σ) := by
    unfold flushIf
    split
    · exact h.flushed _
    · rename_i hd
      rw [differ_iff, not_not] at hd
      rw [hd]; exact h
  exact hf.joined (X n) (fun m hm => by rw [hm]) (fun c M => ⟨fun e m hm => hm ▸ e, fun e => e n rfl⟩)

/-- Sixteen rows one by one. -/
theorem Taken.oneByOne (h : Taken i G X P p σ) (s : ℕ) (k : ℕ) :
    Taken i G X (fun m => P m ∨ (s ≤ m ∧ m < s + k)) (before i (fun j => G (s + j)) p k)
      (slow (F := Ideal) i (0 : EReal) (fun j => G (s + j)) (fun j => X (s + j)) p σ k) := by
  induction k with
  | zero => exact h.congr fun n => ⟨.inl, fun e => e.elim id fun a => by omega⟩
  | succ k ih =>
    refine (ih.step (s + k)).congr fun n => ?_
    constructor
    · rintro ((a | a) | a)
      · exact .inl a
      · exact .inr (by omega)
      · exact .inr (by omega)
    · rintro (a | a)
      · exact .inl (.inl a)
      · by_cases e : n = s + k
        · exact .inr e
        · exact .inl (.inr (by omega))

theorem uniform_iff (a b x p : BitVec 32) : uniform a b x p = 1#1 ↔ a = b ∧ x = p := by
  have e (x y : BitVec 32) : (x == y) = decide (x = y) := rfl
  simp only [uniform, Scalar.cmpi, Scalar.extui, Scalar.andi, IntOp.cmpi, IntOp.andi, e]
  by_cases h1 : a = b <;> by_cases h2 : x = p <;> simp only [h1, h2, decide_true, decide_false] <;> decide

theorem top_le (r : ℕ → Fin 64 → EReal) (c : Fin 64) (M : EReal) : top (F := Ideal) r c ≤ M ↔ ∀ j, j < 16 → r j c ≤ M := by
  have e : top (F := Ideal) r c ≤ M ↔ (r 0 c ≤ M ∧ r 1 c ≤ M ∧ r 2 c ≤ M ∧ r 3 c ≤ M ∧ r 4 c ≤ M ∧ r 5 c ≤ M ∧ r 6 c ≤ M ∧ r 7 c ≤ M
      ∧ r 8 c ≤ M ∧ r 9 c ≤ M ∧ r 10 c ≤ M ∧ r 11 c ≤ M ∧ r 12 c ≤ M ∧ r 13 c ≤ M ∧ r 14 c ≤ M ∧ r 15 c ≤ M) := by
    show bal (fun x y : EReal => max x y) (fun j => r j c) ≤ M ↔ _
    simp only [bal, max_le_iff, and_assoc]
  rw [e]
  constructor
  · rintro ⟨h0, h1, h2, h3, h4, h5, h6, h7, h8, h9, h10, h11, h12, h13, h14, h15⟩ j hj
    interval_cases j <;> assumption
  · intro h
    exact ⟨h 0 (by decide), h 1 (by decide), h 2 (by decide), h 3 (by decide), h 4 (by decide), h 5 (by decide), h 6 (by decide), h 7 (by decide),
      h 8 (by decide), h 9 (by decide), h 10 (by decide), h 11 (by decide), h 12 (by decide), h 13 (by decide), h 14 (by decide), h 15 (by decide)⟩

/-- A group of sixteen rows whose clusters do not decrease. -/
theorem Taken.group (h : Taken i G X P p σ) (s : ℕ) (hs : ∀ m n, s ≤ m → m ≤ n → n < s + 16 → (G m).toInt ≤ (G n).toInt) :
    Taken i G X (fun m => P m ∨ (s ≤ m ∧ m < s + 16)) (groupRow i (fun j => G (s + j)) p)
      (groupSt (F := Ideal) i (0 : EReal) (fun j => G (s + j)) (fun j => X (s + j)) p σ) := by
  unfold groupRow groupSt
  by_cases hu : uniform (G (s + 0)) (G (s + 15)) (rel i (G (s + 0))) p = 1#1
  · rw [if_pos hu, if_pos hu]
    rw [uniform_iff] at hu
    obtain ⟨h1, h2⟩ := hu
    refine h.joined _ (fun n hn => ?_) (fun c M => ?_)
    · have e : G n = G (s + 0) := by
        refine BitVec.toInt_inj.mp (le_antisymm ?_ (hs _ _ (by omega) (by omega) (by omega)))
        rw [h1]
        exact hs _ _ (by omega) (by omega) (by omega)
      rw [e, h2]
    · rw [top_le]
      refine ⟨fun e n hn => ?_, fun e j hj => e (s + j) (by omega)⟩
      have := e (n - s) (by omega)
      rwa [show s + (n - s) = n by omega] at this
  · rw [if_neg hu, if_neg hu]
    exact h.oneByOne s 16

/-- Groups one after another. -/
theorem Taken.groups (h : Taken i G X P p σ) (s : ℕ) (k : ℕ) (hs : ∀ m n, s ≤ m → m ≤ n → n < s + 16 * k → (G m).toInt ≤ (G n).toInt) :
    Taken i G X (fun m => P m ∨ (s ≤ m ∧ m < s + 16 * k)) (grp (F := Ideal) i (0 : EReal) (fun j => G (s + j)) (fun j => X (s + j)) p σ k).1
      (grp (F := Ideal) i (0 : EReal) (fun j => G (s + j)) (fun j => X (s + j)) p σ k).2 := by
  induction k with
  | zero => exact h.congr fun n => ⟨.inl, fun e => e.elim id fun a => by omega⟩
  | succ k ih =>
    have h1 := (ih fun m n a b c => hs m n a b (by omega)).group (s + 16 * k) (fun m n a b c => hs m n (by omega) b (by omega))
    have e1 : (fun j => G (s + 16 * k + j)) = fun j => G (s + (16 * k + j)) := funext fun j => by rw [Nat.add_assoc]
    have e2 : (fun j => X (s + 16 * k + j)) = fun j => X (s + (16 * k + j)) := funext fun j => by rw [Nat.add_assoc]
    rw [e1, e2] at h1
    refine h1.congr fun n => ?_
    constructor
    · rintro ((a | a) | a)
      · exact .inl a
      · exact .inr (by omega)
      · exact .inr (by omega)
    · rintro (a | a)
      · exact .inl (.inl a)
      · by_cases e : n < s + 16 * k
        · exact .inl (.inr (by omega))
        · exact .inr (by omega)

/-- The chunks of a tile. -/
theorem taken_chunks (i : grid1.Coords) (a : ℕ) (C : S640000.Idx → BitVec 32) (R : S640000x64.Idx → EReal)
    (hs : ∀ m n, m ≤ n → n < 640000 → (idAt C m).toInt ≤ (idAt C n).toInt) (k : ℕ) :
    Taken i (idAt C) (rowAt R) (fun m => ∃ j, j < k ∧ chunkAt a j ≤ m ∧ m < chunkAt a j + 512)
      (chunks (F := Ideal) i (0 : EReal) a C R k).1 (chunks (F := Ideal) i (0 : EReal) a C R k).2 := by
  induction k with
  | zero => exact Taken.start.congr fun n => ⟨False.elim, fun ⟨j, hj, _⟩ => absurd hj (Nat.not_lt_zero j)⟩
  | succ k ih =>
    have hc : chunkAt a k ≤ 639488 := Nat.min_le_right _ _
    refine (ih.groups (chunkAt a k) 32 (fun m n _ h2 h3 => hs m n h2 (by omega))).congr fun n => ?_
    constructor
    · rintro (⟨j, hj, h1⟩ | h1)
      · exact ⟨j, by omega, h1⟩
      · exact ⟨k, by omega, by omega, by omega⟩
    · rintro ⟨j, hj, h1⟩
      by_cases e : j < k
      · exact .inl ⟨j, e, h1⟩
      · obtain rfl : j = k := by omega
        exact .inr ⟨by omega, by omega⟩

/-- A number of the table that a tile writes out. -/
theorem tileT_le (i : grid1.Coords) (a b : ℕ) (C : S640000.Idx → BitVec 32) (R : S640000x64.Idx → EReal)
    (hs : ∀ m n, m ≤ n → n < 640000 → (idAt C m).toInt ≤ (idAt C n).toInt) (q : ℕ) (c : Fin 64) (M : EReal) :
    tileT (F := Ideal) i (0 : EReal) a b C R q c ≤ M ↔
      0 ≤ M ∧ ∀ n, (∃ j, j < nChunks a b ∧ chunkAt a j ≤ n ∧ n < chunkAt a j + 512) → rowOf (rel i (idAt C n)) = q → rowAt R n c ≤ M := by
  have h := (taken_chunks i a C R hs (nChunks a b)).flushed (chunks (F := Ideal) i (0 : EReal) a C R (nChunks a b)).1
  rw [← h.bnd]
  show _ ↔ max (tileT (F := Ideal) i (0 : EReal) a b C R q c) _ ≤ M
  have h0 : (0 : EReal) ≤ tileT (F := Ideal) i (0 : EReal) a b C R q c := h.posT q c
  have e0 : (if q = rowOf (chunks (F := Ideal) i (0 : EReal) a C R (nChunks a b)).1 then (flush (F := Ideal) (0 : EReal) (chunks (F := Ideal) i (0 : EReal) a C R (nChunks a b)).1 (chunks (F := Ideal) i (0 : EReal) a C R (nChunks a b)).2).A c else (0 : EReal)) = 0 := by
    split <;> rfl
  rw [e0, max_eq_left h0]

end Cert.Proof.Pool
-- ==== Proof.Pooled.lean ====
module
public import proofs.«01_k».proof.Proof.TileMath
public import proofs.«01_k».proof.Proof.Bounds
@[expose] public section
/-! What the 32 tiles write out: at a cluster's row, the maximum of nought and the rows whose cluster it is, when the clusters are sorted. -/
noncomputable section
namespace Cert.Proof.Pool
open Cert.KernelIdeal Cert.KernelIdeal.Gen
open Idealize.ShloMosaic Idealize.ShloMosaic.ValueIdx

/-- The rows' clusters do not decrease. -/
def Sorted (ids : IVec S640000 32) : Prop := ∀ m n : Fin 640000, m ≤ n → (ids (ix1 m)).toInt ≤ (ids (ix1 n)).toInt

theorem idAt_eq (ids : IVec S640000 32) (n : Fin 640000) : idAt ids n.val = ids (ix1 n) := by
  unfold idAt
  refine congrArg ids (funext fun a => ?_)
  match a with
  | 0 => exact Fin.ext (Nat.mod_eq_of_lt n.isLt)

theorem rowAt_eq {E : Type} (X : S640000x64.Idx → E) (n : Fin 640000) (c : Fin 64) : rowAt X n.val c = X (ix2 n c) := by
  unfold rowAt
  refine congrArg X (funext fun a => ?_)
  match a with
  | 0 => exact Fin.ext (Nat.mod_eq_of_lt n.isLt)
  | 1 => rfl

/-- With sorted clusters, a row whose cluster is at or above tile `w`'s first does not lie before the tile's bound. -/
theorem below_le_of {ids : IVec S640000 32} (hs : Sorted ids) (w : ℕ) (p : Fin 640000) (h : ((min (320 * w) 10000 : ℕ) : ℤ) ≤ (ids (ix1 p)).toInt) :
    below ids w ≤ p.val := by
  have h1 : (Finset.univ.filter fun p : Fin 640000 => (ids (ix1 p)).toInt < ((min (320 * w) 10000 : ℕ) : ℤ)) ⊆ Finset.Iio p := by
    intro q hq
    rw [Finset.mem_filter] at hq
    rw [Finset.mem_Iio]
    by_contra hc
    have := hs p q (not_lt.mp hc)
    omega
  have h2 := Finset.card_le_card h1
  rw [Fin.card_Iio] at h2
  exact h2

/-- A row whose cluster is below tile `w`'s first lies before the tile's bound. -/
theorem lt_below_of {ids : IVec S640000 32} (hs : Sorted ids) (w : ℕ) (p : Fin 640000) (h : (ids (ix1 p)).toInt < ((min (320 * w) 10000 : ℕ) : ℤ)) :
    p.val < below ids w := by
  have h1 : Finset.Iic p ⊆ (Finset.univ.filter fun p : Fin 640000 => (ids (ix1 p)).toInt < ((min (320 * w) 10000 : ℕ) : ℤ)) := by
    intro q hq
    rw [Finset.mem_Iic] at hq
    rw [Finset.mem_filter]
    exact ⟨Finset.mem_univ q, lt_of_le_of_lt (hs q p hq) h⟩
  have h2 := Finset.card_le_card h1
  rw [Fin.card_Iic] at h2
  exact h2

theorem base_tileOf (w : ℕ) (hw : w < 32) : base (tileOf w) = BitVec.ofNat 32 (320 * w) := by
  have h : ∀ w : Fin 32, base (tileOf w.val) = BitVec.ofNat 32 (320 * w.val) := by decide
  exact h ⟨w, hw⟩

theorem rowOf_eq (p : BitVec 32) (hp : p.toNat ≤ 320) : rowOf p = p.toNat := by
  unfold rowOf Scalar.indexCast
  rfl

/-- The table's row of a cluster. -/
theorem rel_row (w q : ℕ) (hw : w < 32) (hq : q < 320) (x : BitVec 32) : rowOf (rel (tileOf w) x) = q ↔ x = BitVec.ofNat 32 (320 * w + q) := by
  rw [rowOf_eq _ (rel_lt _ _), rel_eq, base_tileOf w hw]
  constructor
  · intro h
    split at h
    · have h1 := congrArg (BitVec.ofNat 32) h
      rw [BitVec.ofNat_toNat, BitVec.setWidth_eq] at h1
      rw [Nat.add_comm, BitVec.ofNat_add, ← h1, BitVec.sub_add_cancel]
    · change 320 = q at h; omega
  · rintro rfl
    have e : BitVec.ofNat 32 (320 * w + q) - BitVec.ofNat 32 (320 * w) = BitVec.ofNat 32 q := by
      rw [Nat.add_comm, BitVec.ofNat_add, BitVec.add_sub_cancel]
    have e2 : (BitVec.ofNat 32 q).toNat = q := by rw [BitVec.toNat_ofNat]; omega
    rw [e, e2, if_pos hq, e2]

/-- A row between a tile's bounds is in one of its chunks. -/
theorem in_chunks (a b n : ℕ) (h1 : a ≤ n) (h2 : n < b) (hb : b ≤ 640000) : ∃ j, j < nChunks a b ∧ chunkAt a j ≤ n ∧ n < chunkAt a j + 512 := by
  refine ⟨(n - first a) / 512, ?_, ?_, ?_⟩ <;> simp only [nChunks, chunkAt, first] at * <;> omega

/-- The tiles' result at a cluster's row. -/
theorem outOf_le {ids : IVec S640000 32} (hs : Sorted ids) (X : S640000x64.Idx → EReal) (k : Fin 10240) (hk : k.val < 10000) (c : Fin 64) (M : EReal) :
    outOf (F := Ideal) X ids (boundsOf ids) (ix2 k c) ≤ M ↔ 0 ≤ M ∧ ∀ p : Fin 640000, ids (ix1 p) = BitVec.ofNat 32 k.val → X (ix2 p c) ≤ M := by
  have hw : k.val / 320 < 32 := by omega
  have hz : Scalar.ofBits (F := Ideal) .f32 0x00000000#32 = (0 : EReal) := Ideal.ofBits_zero_f32
  show tileT (F := Ideal) (tileOf (k.val / 320)) (Scalar.ofBits (F := Ideal) .f32 0x00000000#32) (bound (boundsOf ids) (k.val / 320)).toNat
    (bound (boundsOf ids) (k.val / 320 + 1)).toNat ids X (k.val % 320) c ≤ M ↔ _
  rw [hz, bound_boundsOf ids _ (by omega), bound_boundsOf ids _ (by omega), tileT_le]
  · refine and_congr_right fun _ => ⟨fun h p hp => ?_, fun h n hn hq => ?_⟩
    · rw [← rowAt_eq X]
      have hi : (ids (ix1 p)).toInt = (k.val : ℤ) := by
        rw [hp, BitVec.toInt_eq_toNat_cond, BitVec.toNat_ofNat]
        have : k.val % 2 ^ 32 = k.val := by omega
        rw [this, if_pos (by omega)]
      refine h p.val (in_chunks _ _ _ (below_le_of hs _ p ?_) (lt_below_of hs _ p ?_) (below_le ids _)) ?_
      · rw [hi]; exact_mod_cast (by omega : min (320 * (k.val / 320)) 10000 ≤ k.val)
      · rw [hi]; exact_mod_cast (by omega : k.val < min (320 * (k.val / 320 + 1)) 10000)
      · rw [idAt_eq, rel_row _ _ hw (by omega), hp]
        congr 1
        omega
    · obtain ⟨j, _, h1, h2⟩ := hn
      have hc : chunkAt (below ids (k.val / 320)) j ≤ 639488 := Nat.min_le_right _ _
      have hn : n < 640000 := by omega
      have ei := idAt_eq ids ⟨n, hn⟩
      have er := rowAt_eq X ⟨n, hn⟩ c
      change idAt ids n = _ at ei
      change rowAt X n c = _ at er
      rw [er]
      rw [ei, rel_row _ _ hw (by omega)] at hq
      refine h _ (hq.trans ?_)
      congr 1
      omega
  · intro m n hmn hn
    have em := idAt_eq ids ⟨m, by omega⟩
    have en := idAt_eq ids ⟨n, hn⟩
    change idAt ids m = _ at em
    change idAt ids n = _ at en
    rw [em, en]
    exact hs _ _ hmn

end Cert.Proof.Pool
-- ==== Proof.Pre.lean ====
module
public import proofs.«01_k».proof.Defs
public import proofs.«01_k».proof.Proof.Pooled
public import proofs.«01_k».proof.Proof.Finite
public import Idealize.ShloMosaic.Lib.ReduceAll
public import Idealize.ShloMosaic.Lib.WordCmp
@[expose] public section
/-! What the precondition says: the points' clusters do not decrease, and the points and both layers' weights are finite. -/
noncomputable section
namespace Cert.Proof.Pool
open Cert.Pre_sorted_and_finite
open Idealize.ShloMosaic Idealize.ShloMosaic.ValueIdx

/-- The precondition's side conditions. -/
instance preFacts : Cert.Pre_sorted_and_finite.Facts where
  slices_S640000_S639999_1 := by decide
  slices_S640000_S639999_0 := by decide
  bcast_S_S640000x4 := by decide
  reducesTo_S640000x4_S_d0_1 := by decide
  h_S_ := by decide
  bcast_S_S640000x3 := by decide
  reducesTo_S640000x3_S_d0_1 := by decide
  bcast_S_S7x64 := by decide
  reducesTo_S7x64_S_d0_1 := by decide
  bcast_S_S64 := by decide
  reducesTo_S64_S_d0 := by decide
  bcast_S_S64x64 := by decide
  reducesTo_S64x64_S_d0_1 := by decide

theorem ofBool_one {p : Prop} [Decidable p] (h : BitVec.ofBool (decide p) = 1#1) : p := by
  by_contra hp
  rw [decide_eq_false hp] at h
  exact absurd h (by decide)

/-- An array whose magnitudes are all below +∞ holds finite numbers. -/
theorem finite_of_all {s : Shape} {axes : List (Fin s.rank)} (x : FVec Ideal s .f32) (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32))) (constantI S_ 1 1#1) hr hu = fun _ => 1#1)
    (i : s.Idx) : Finite (x i) := by
  haveI : Subsingleton S_.Idx := ⟨fun a b => funext fun k => k.elim0⟩
  have h := Host.reduce_andi_all _ _ hr hu (Shape.Idx.first hu) (congrFun e _) i
  change BitVec.ofBool (decide (max (x i) (-(x i)) < Ideal.ofBits .f32 0x7F800000#32)) = 1#1 at h
  rw [ofBits_top] at h
  exact Finite.of_abs (ofBool_one h)

/-- Clusters none of which is below the one before it are sorted. -/
theorem sorted_of_steps (ids : IVec S640000 32)
    (e : cmpi .sge (extractStridedSlice S639999 ![1] ids Facts.slices_S640000_S639999_1) (extractStridedSlice S639999 ![0] ids Facts.slices_S640000_S639999_0) = fun _ => 1#1) : Sorted ids := by
  have step (n : ℕ) (h : n + 1 < 640000) : (ids (ix1 ⟨n, by omega⟩)).toInt ≤ (ids (ix1 ⟨n + 1, h⟩)).toInt := by
    have q := congrFun e (ix1 ⟨n, by omega⟩)
    have e1 : extractStridedSlice S639999 ![1] ids Facts.slices_S640000_S639999_1 (ix1 ⟨n, by omega⟩) = ids (ix1 ⟨n + 1, h⟩) := by
      refine congrArg ids (funext fun a => Fin.ext ?_)
      match a with
      | 0 => show 1 + n = n + 1; omega
    have e0 : extractStridedSlice S639999 ![0] ids Facts.slices_S640000_S639999_0 (ix1 ⟨n, by omega⟩) = ids (ix1 ⟨n, by omega⟩) := by
      refine congrArg ids (funext fun a => Fin.ext ?_)
      match a with
      | 0 => show 0 + n = n; omega
    change IntOp.cmpi .sge (extractStridedSlice S639999 ![1] ids _ (ix1 ⟨n, by omega⟩)) (extractStridedSlice S639999 ![0] ids _ (ix1 ⟨n, by omega⟩)) = 1#1 at q
    rw [e1, e0, WordCmp.cmpi_sge_eq] at q
    exact ofBool_one q
  have far (n d : ℕ) : (h : n + d < 640000) → (ids (ix1 ⟨n, by omega⟩)).toInt ≤ (ids (ix1 ⟨n + d, h⟩)).toInt := by
    induction d with
    | zero => exact fun _ => le_rfl
    | succ d ih => exact fun h => (ih (by omega)).trans (step (n + d) h)
  intro m n hmn
  have hv : m.val ≤ n.val := hmn
  have := far m.val (n.val - m.val) (by omega)
  have e2 : (⟨m.val + (n.val - m.val), by omega⟩ : Fin 640000) = n := Fin.ext (by show m.val + (n.val - m.val) = n.val; omega)
  rwa [e2] at this

/-- What is known of a device's arguments. -/
structure Known (a : S640000x4.Idx → EReal) (b : S640000x3.Idx → EReal) (ids : IVec S640000 32) (w1 : S7x64.Idx → EReal) (b1 : S64.Idx → EReal) (w2 : S64x64.Idx → EReal) (b2 : S64.Idx → EReal) : Prop where
  sorted : Sorted ids
  a : ∀ i, Finite (a i)
  b : ∀ i, Finite (b i)
  w1 : ∀ i, Finite (w1 i)
  b1 : ∀ i, Finite (b1 i)
  w2 : ∀ i, Finite (w2 i)
  b2 : ∀ i, Finite (b2 i)

theorem known (m : (ℓ : Loc Cert.KernelIdeal.nD Cert.KernelIdeal.τ Cert.KernelIdeal.sig) → Buf (Elt Ideal) ℓ) (h : Cert.Pre_KernelIdeal_sorted_and_finite m) (c : Dev Cert.KernelIdeal.nD) :
    Known (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) := by
  have q := h c
  unfold Cert.Pre_sorted_and_finite.fn Cert.Pre_sorted_and_finite.fn_part1 at q
  dsimp only at q
  obtain ⟨h0, h1, h2, h3, h4, h5, h6⟩ := q
  exact ⟨sorted_of_steps _ h0, finite_of_all _ _ _ _ h1, finite_of_all _ _ _ _ h2, finite_of_all _ _ _ _ h3, finite_of_all _ _ _ _ h4, finite_of_all _ _ _ _ h5, finite_of_all _ _ _ _ h6⟩

end Cert.Proof.Pool
-- ==== Proof.Algebraic.lean ====
module
public import proofs.«01_k».proof.Proof.Frames
public import proofs.«01_k».proof.Proof.HostValues
public import proofs.«01_k».proof.Proof.MlpOut
public import proofs.«01_k».proof.Proof.HeadValue
public import proofs.«01_k».proof.Proof.RefHead
public import proofs.«01_k».proof.Proof.Pre
@[expose] public section
/-! The kernel's result is the reference's: the layers of a point agree, so do the clusters' maxima, and the means over 10240 clusters are those over the first 10000. -/
noncomputable section
namespace Cert.Proof.Pool
open Cert.KernelIdeal Cert.KernelIdeal.Gen
open Idealize.ShloMosaic hiding ix0 ix1 ix2 ix3
open Idealize.ShloMosaic.ValueIdx

/-- A mean over `a + b` places of which the last `b` do not count is the mean over the first `a`. -/
theorem mean_cut {a b : ℕ} (P : Fin (a + b) → Prop) [DecidablePred P] (Q : Fin a → Prop) [DecidablePred Q] (f : Fin (a + b) → EReal) (g : Fin a → EReal)
    (hP : ∀ k, P (Fin.castAdd b k) ↔ Q k) (hn : ∀ k, ¬ P (Fin.natAdd a k)) (hf : ∀ k, f (Fin.castAdd b k) = g k) : mean P f = mean Q g := by
  have cut (u : Fin (a + b) → EReal) (w : Fin a → EReal) (h : ∀ k, u (Fin.castAdd b k) = w k) : (∑ k, if P k then u k else 0) = ∑ k, if Q k then w k else 0 := by
    rw [Fin.sum_univ_add, Finset.sum_eq_zero (s := (Finset.univ : Finset (Fin b))) fun k _ => if_neg (hn k), add_zero]
    exact Finset.sum_congr rfl fun k _ => if_congr (hP k) (h k) rfl
  unfold mean
  rw [cut f g hf, cut (fun _ => 1) (fun _ => 1) fun _ => rfl]

section Values
variable (m : (ℓ : Loc nD τ sig) → Buf (Elt Ideal) ℓ) (d : Dev nD)

/-- The arguments, as arrays. -/
abbrev argA : S640000x4.Idx → EReal := m ((SparseCore.T d).loc main_arg0)
abbrev argB : S640000x3.Idx → EReal := m ((SparseCore.T d).loc main_arg1)
abbrev argIds : IVec S640000 32 := m ((SparseCore.T d).loc main_arg2)
abbrev argBatch : IVec S10000 32 := m ((SparseCore.T d).loc main_arg3)
abbrev argW1 : S7x64.Idx → EReal := m ((SparseCore.T d).loc main_arg4)
abbrev argB1 : S64.Idx → EReal := m ((SparseCore.T d).loc main_arg5)
abbrev argW2 : S64x64.Idx → EReal := m ((SparseCore.T d).loc main_arg6)
abbrev argB2 : S64.Idx → EReal := m ((SparseCore.T d).loc main_arg7)
abbrev argW3 : S64x4.Idx → EReal := m ((SparseCore.T d).loc main_arg8)
abbrev argB3 : S4.Idx → EReal := m ((SparseCore.T d).loc main_arg9)

/-- The kernel's rows are the reference's. -/
theorem mlpRows_apply (x : S7x640000.Idx → EReal) (w1 : S7x64.Idx → EReal) (b1 : S8x64.Idx → EReal) (w2 : S64x64.Idx → EReal) (b2 : S8x64.Idx → EReal) (p : Fin 640000) (c : Fin 64) :
    mlpRows x w1 b1 w2 b2 (ix2 p c) = lay (fun j => hid (fun k => x (ix2 k p)) (fun k => w1 (ix2 k j)) (b1 (ix2 0 j))) (fun j => w2 (ix2 j c)) (b2 (ix2 0 c)) := rfl

theorem rows_eq (p : Fin 640000) (c : Fin 64) :
    mlpOut (V₁ m) d (ix2 p c) = refMlp (argA m d) (argB m d) (argW1 m d) (argB1 m d) (argW2 m d) (argB2 m d) (ix2 p c) := by
  rw [refMlp_apply, mlpOut_eq]
  have e10 : V₁ m d main_v10 = packed (F := Ideal) (argA m d) (argB m d) := after_v10 _
  have e11 : V₁ m d main_v11 = (argW1 m d) := after_v11 _
  have e13 : V₁ m d main_v13 = bias8 (F := Ideal) (argB1 m d) := after_v13 _
  have e14 : V₁ m d main_v14 = (argW2 m d) := after_v14 _
  have e16 : V₁ m d main_v16 = bias8 (F := Ideal) (argB2 m d) := after_v16 _
  rw [e10, e11, e13, e14, e16]
  refine (mlpRows_apply _ _ _ _ _ p c).trans ?_
  rw [bias8_apply]
  refine congrArg (fun u => lay u (fun j => argW2 m d (ix2 j c)) (argB2 m d (ix1 c))) (funext fun j => ?_)
  rw [bias8_apply]
  exact congrArg (fun x => hid x (fun k => argW1 m d (ix2 k j)) (argB1 m d (ix1 j))) (funext fun k => packed_apply _ _ k p)

/-- The clusters' maxima agree. -/
theorem pooled_eq (h : Known (argA m d) (argB m d) (argIds m d) (argW1 m d) (argB1 m d) (argW2 m d) (argB2 m d)) (k : Fin 10000) (q : Fin 10240) (hq : q.val = k.val) (c : Fin 64) :
    pooled m d (ix2 q c) = refPool (refMlp (argA m d) (argB m d) (argW1 m d) (argB1 m d) (argW2 m d) (argB2 m d)) (argIds m d) (ix2 k c) := by
  have hr (i : S640000x64.Idx) : Finite (refMlp (argA m d) (argB m d) (argW1 m d) (argB1 m d) (argW2 m d) (argB2 m d) i) ∧ 0 ≤ refMlp (argA m d) (argB m d) (argW1 m d) (argB1 m d) (argW2 m d) (argB2 m d) i := by
    obtain ⟨p, c, rfl⟩ : ∃ (p : Fin 640000) (c : Fin 64), i = ix2 p c := ⟨i 0, i 1, ValueIdx.eq_ix2 i⟩
    rw [refMlp_apply]
    refine ⟨lay_finite (fun j => hid_finite (fun k => ?_) (fun k => h.w1 _) (h.b1 _)) (fun j => h.w2 _) (h.b2 _), lay_nonneg _ _ _⟩
    unfold feat
    split
    · exact h.a _
    · exact h.b _
  refine eq_of_forall_ge_iff (α := EReal) fun M => ?_
  refine (outOf_le h.sorted (mlpOut (V₁ m) d) q (by rw [hq]; exact k.isLt) c M).trans (Iff.trans ?_ (refPool_le _ (fun i => (hr i).1) (fun i => (hr i).2) (argIds m d) k c M).symm)
  rw [hq]
  exact and_congr_right fun _ => forall_congr' fun p => imp_congr_right fun _ => by rw [rows_eq]

/-- The kernel's result at an index. -/
theorem result_eq (h : Known (argA m d) (argB m d) (argIds m d) (argW1 m d) (argB1 m d) (argW2 m d) (argB2 m d)) :
    V₄ m d main_v27 = refAll (argA m d) (argB m d) (argIds m d) (argBatch m d) (argW1 m d) (argB1 m d) (argW2 m d) (argB2 m d) (argW3 m d) (argB3 m d) := by
  have e : V₄ m d main_v27 = headOut (V₃ m) d := by
    show Function.update (V₃ m d) main_v27 (headOut (V₃ m) d) main_v27 = _
    rw [Function.update_self]
  have e26 : V₃ m d main_v26 = pooled m d := (V₃_call m d).2.2.2
  have e17 : V₃ m d main_v17 = padW (F := Ideal) (argW3 m d) := ((V₃_other m d (by decide)).trans (V₂_other m d (by decide))).trans (after_v17 _)
  have e20 : V₃ m d main_v20 = padB (F := Ideal) (argB3 m d) := ((V₃_other m d (by decide)).trans (V₂_other m d (by decide))).trans (after_v20 _)
  have e24 : V₃ m d main_v24 = batch8 (argBatch m d) := ((V₃_other m d (by decide)).trans (V₂_other m d (by decide))).trans (after_v24 _)
  rw [e, headOut_eq, e26, e17, e20, e24]
  funext i
  obtain ⟨v, j, rfl⟩ : ∃ (v : Fin 16) (j : Fin 4), i = ix2 v j := ⟨i 0, i 1, ValueIdx.eq_ix2 i⟩
  rw [refAll_apply]
  refine (headBlock_apply _ _ _ _ v j).trans (congrArg (fun f => lsm f j) (funext fun i => ?_))
  refine mean_cut (a := 10000) (b := 240) _ _ _ _ (fun k => ?_) (fun k => ?_) (fun k => ?_)
  · have q := batch8_apply (argBatch m d) 0 (Fin.castAdd 240 k)
    rw [dif_pos (by show k.val < 10000; exact k.isLt)] at q
    rw [q]; rfl
  · have q := batch8_apply (argBatch m d) 0 (Fin.natAdd 10000 k)
    rw [dif_neg (by show ¬ 10000 + k.val < 10000; omega)] at q
    rw [q]
    exact (by decide : ∀ v : Fin 16, ¬ 4294967295#32 = BitVec.ofNat 32 v.val) v
  · rw [padB_apply]
    refine congrArg₂ (fun u w => cls u w (argB3 m d (ix1 i))) (funext fun c => ?_) (funext fun c => padW_apply _ c i)
    exact pooled_eq m d h k (Fin.castAdd 240 k) rfl c
end Values

set_option maxRecDepth 8192 in
theorem algebraic : Cert.algebraic_KernelIdeal_ReferenceIdeal_pre_sorted_and_finite := by
  intro m g m' g' hp hm
  refine ⟨fun c => V₄ m c main_v27, (θ_run Cert.KernelIdeal.defs _ _).mono (fun r h c => ⟨h.1 c main_v27 (by decide), args_kept h c⟩) (run_main (F := Ideal) m g), ?_⟩
  refine (θ_run Cert.ReferenceIdeal.defs _ _).mono (fun r h c => ⟨(h c).1.trans ?_, (h c).2⟩) (Cert.ReferenceIdeal.Value.run (F := Ideal) m' g')
  obtain ⟨h0, h1, h2, h3, h4, h5, h6, h7, h8, h9⟩ := hm c
  refine (res_eq m' c).trans ((congr (congr (congr (congr (congr (congr (congr (congr (congr (congrArg refAll h0) h1) h2) h3) h4) h5) h6) h7) h8) h9).trans ?_)
  exact (result_eq m c (known m hp c)).symm

end Cert.Proof.Pool
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Pool.preFacts,
  Pool.frame_kernel, Pool.frame_kernelIdeal, fun m ρ _ => Pool.frame_kernelIdeal m ρ trivial, Pool.frame_reference, fun m ρ _ => Pool.frame_reference m ρ trivial, trivial,
  Pool.algebraic⟩

end Cert.Proof

end
